-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishRefIdeal (m : (ℓ : Loc Cert.FinishRefIdeal.nD Cert.FinishRefIdeal.τ Cert.FinishRefIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_FinishSample (m : (ℓ : Loc Cert.FinishSample.nD Cert.FinishSample.τ Cert.FinishSample.sig) → Buf (Elt Bits) ℓ) : Prop :=
  True

def Pre_FinishSampleIdeal (m : (ℓ : Loc Cert.FinishSampleIdeal.nD Cert.FinishSampleIdeal.τ Cert.FinishSampleIdeal.sig) → Buf (Elt Ideal) ℓ) : Prop :=
  True

def Pre_FinishSampleRefIdeal (m : (ℓ : Loc Cert.FinishSampleRefIdeal.nD Cert.FinishSampleRefIdeal.τ Cert.FinishSampleRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5))
      ∧ r.2.sem = fun _ => 0)

def quiescent_FinishRefIdeal [hFinishRefIdeal : Cert.FinishRefIdeal.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1)
      ∧ r.2.mem ((c.tc : Thread Cert.FinishRefIdeal.nD Cert.FinishRefIdeal.τ).loc Cert.FinishRefIdeal.main_arg2) = m ((c.tc : Thread Cert.FinishRefIdeal.nD Cert.FinishRefIdeal.τ).loc Cert.FinishRefIdeal.main_arg2)
      ∧ r.2.mem ((c.tc : Thread Cert.FinishRefIdeal.nD Cert.FinishRefIdeal.τ).loc Cert.FinishRefIdeal.main_arg3) = m ((c.tc : Thread Cert.FinishRefIdeal.nD Cert.FinishRefIdeal.τ).loc Cert.FinishRefIdeal.main_arg3)
      ∧ r.2.mem ((c.tc : Thread Cert.FinishRefIdeal.nD Cert.FinishRefIdeal.τ).loc Cert.FinishRefIdeal.main_arg4) = m ((c.tc : Thread Cert.FinishRefIdeal.nD Cert.FinishRefIdeal.τ).loc Cert.FinishRefIdeal.main_arg4)
      ∧ r.2.mem ((c.tc : Thread Cert.FinishRefIdeal.nD Cert.FinishRefIdeal.τ).loc Cert.FinishRefIdeal.main_arg5) = m ((c.tc : Thread Cert.FinishRefIdeal.nD Cert.FinishRefIdeal.τ).loc Cert.FinishRefIdeal.main_arg5))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7)
      ∧ r.2.mem ((c.tc : Thread Cert.Dense.nD Cert.Dense.τ).loc Cert.Dense.main_arg8) = m ((c.tc : Thread Cert.Dense.nD Cert.Dense.τ).loc Cert.Dense.main_arg8))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
      ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5)
      ∧ r.2.mem ((c.tc : Thread Cert.DenseRefIdeal.nD Cert.DenseRefIdeal.τ).loc Cert.DenseRefIdeal.main_arg6) = m ((c.tc : Thread Cert.DenseRefIdeal.nD Cert.DenseRefIdeal.τ).loc Cert.DenseRefIdeal.main_arg6)
      ∧ r.2.mem ((c.tc : Thread Cert.DenseRefIdeal.nD Cert.DenseRefIdeal.τ).loc Cert.DenseRefIdeal.main_arg7) = m ((c.tc : Thread Cert.DenseRefIdeal.nD Cert.DenseRefIdeal.τ).loc Cert.DenseRefIdeal.main_arg7)
      ∧ r.2.mem ((c.tc : Thread Cert.DenseRefIdeal.nD Cert.DenseRefIdeal.τ).loc Cert.DenseRefIdeal.main_arg8) = m ((c.tc : Thread Cert.DenseRefIdeal.nD Cert.DenseRefIdeal.τ).loc Cert.DenseRefIdeal.main_arg8))
      ∧ r.2.sem = fun _ => 0)

def quiescent_FinishSample [hFinishSample : Cert.FinishSample.Facts] : Prop :=
  ∀ (m : (ℓ : Loc Cert.FinishSample.nD Cert.FinishSample.τ Cert.FinishSample.sig) → Buf (Elt Bits) ℓ) (g : Dev Cert.FinishSample.nD → PrngReg), Pre_FinishSample m →
    θ_run (Cert.FinishSample.defs (F := Bits)) (onTc (τ := Cert.FinishSample.τ) (Cert.FinishSample.main (F := Bits))) ⟨m, fun _ => 0, g⟩ (fun r => (∀ c : Dev Cert.FinishSample.nD,
      r.2.mem ((c.tc : Thread Cert.FinishSample.nD Cert.FinishSample.τ).loc Cert.FinishSample.main_arg0) = m ((c.tc : Thread Cert.FinishSample.nD Cert.FinishSample.τ).loc Cert.FinishSample.main_arg0)
      ∧ r.2.mem ((c.tc : Thread Cert.FinishSample.nD Cert.FinishSample.τ).loc Cert.FinishSample.main_arg1) = m ((c.tc : Thread Cert.FinishSample.nD Cert.FinishSample.τ).loc Cert.FinishSample.main_arg1)
      ∧ r.2.mem ((c.tc : Thread Cert.FinishSample.nD Cert.FinishSample.τ).loc Cert.FinishSample.main_arg2) = m ((c.tc : Thread Cert.FinishSample.nD Cert.FinishSample.τ).loc Cert.FinishSample.main_arg2)
      ∧ r.2.mem ((c.tc : Thread Cert.FinishSample.nD Cert.FinishSample.τ).loc Cert.FinishSample.main_arg3) = m ((c.tc : Thread Cert.FinishSample.nD Cert.FinishSample.τ).loc Cert.FinishSample.main_arg3)
      ∧ r.2.mem ((c.tc : Thread Cert.FinishSample.nD Cert.FinishSample.τ).loc Cert.FinishSample.main_arg4) = m ((c.tc : Thread Cert.FinishSample.nD Cert.FinishSample.τ).loc Cert.FinishSample.main_arg4)
      ∧ r.2.mem ((c.tc : Thread Cert.FinishSample.nD Cert.FinishSample.τ).loc Cert.FinishSample.main_arg5) = m ((c.tc : Thread Cert.FinishSample.nD Cert.FinishSample.τ).loc Cert.FinishSample.main_arg5))
      ∧ r.2.sem = fun _ => 0)

def quiescent_FinishSampleIdeal [hFinishSampleIdeal : Cert.FinishSampleIdeal.Facts] : Prop :=
  ∀ (m : (ℓ : Loc Cert.FinishSampleIdeal.nD Cert.FinishSampleIdeal.τ Cert.FinishSampleIdeal.sig) → Buf (Elt Ideal) ℓ) (g : Dev Cert.FinishSampleIdeal.nD → PrngReg), Pre_FinishSampleIdeal m →
    θ_run (Cert.FinishSampleIdeal.defs (F := Ideal)) (onTc (τ := Cert.FinishSampleIdeal.τ) (Cert.FinishSampleIdeal.main (F := Ideal))) ⟨m, fun _ => 0, g⟩ (fun r => (∀ c : Dev Cert.FinishSampleIdeal.nD,
      r.2.mem ((c.tc : Thread Cert.FinishSampleIdeal.nD Cert.FinishSampleIdeal.τ).loc Cert.FinishSampleIdeal.main_arg0) = m ((c.tc : Thread Cert.FinishSampleIdeal.nD Cert.FinishSampleIdeal.τ).loc Cert.FinishSampleIdeal.main_arg0)
      ∧ r.2.mem ((c.tc : Thread Cert.FinishSampleIdeal.nD Cert.FinishSampleIdeal.τ).loc Cert.FinishSampleIdeal.main_arg1) = m ((c.tc : Thread Cert.FinishSampleIdeal.nD Cert.FinishSampleIdeal.τ).loc Cert.FinishSampleIdeal.main_arg1)
      ∧ r.2.mem ((c.tc : Thread Cert.FinishSampleIdeal.nD Cert.FinishSampleIdeal.τ).loc Cert.FinishSampleIdeal.main_arg2) = m ((c.tc : Thread Cert.FinishSampleIdeal.nD Cert.FinishSampleIdeal.τ).loc Cert.FinishSampleIdeal.main_arg2)
      ∧ r.2.mem ((c.tc : Thread Cert.FinishSampleIdeal.nD Cert.FinishSampleIdeal.τ).loc Cert.FinishSampleIdeal.main_arg3) = m ((c.tc : Thread Cert.FinishSampleIdeal.nD Cert.FinishSampleIdeal.τ).loc Cert.FinishSampleIdeal.main_arg3)
      ∧ r.2.mem ((c.tc : Thread Cert.FinishSampleIdeal.nD Cert.FinishSampleIdeal.τ).loc Cert.FinishSampleIdeal.main_arg4) = m ((c.tc : Thread Cert.FinishSampleIdeal.nD Cert.FinishSampleIdeal.τ).loc Cert.FinishSampleIdeal.main_arg4)
      ∧ r.2.mem ((c.tc : Thread Cert.FinishSampleIdeal.nD Cert.FinishSampleIdeal.τ).loc Cert.FinishSampleIdeal.main_arg5) = m ((c.tc : Thread Cert.FinishSampleIdeal.nD Cert.FinishSampleIdeal.τ).loc Cert.FinishSampleIdeal.main_arg5))
      ∧ r.2.sem = fun _ => 0)

def quiescent_FinishSampleRefIdeal [hFinishSampleRefIdeal : Cert.FinishSampleRefIdeal.Facts] : Prop :=
  ∀ (m : (ℓ : Loc Cert.FinishSampleRefIdeal.nD Cert.FinishSampleRefIdeal.τ Cert.FinishSampleRefIdeal.sig) → Buf (Elt Ideal) ℓ) (g : Dev Cert.FinishSampleRefIdeal.nD → PrngReg), Pre_FinishSampleRefIdeal m →
    θ_run (Cert.FinishSampleRefIdeal.defs (F := Ideal)) (onTc (τ := Cert.FinishSampleRefIdeal.τ) (Cert.FinishSampleRefIdeal.main (F := Ideal))) ⟨m, fun _ => 0, g⟩ (fun r => (∀ c : Dev Cert.FinishSampleRefIdeal.nD,
      r.2.mem ((c.tc : Thread Cert.FinishSampleRefIdeal.nD Cert.FinishSampleRefIdeal.τ).loc Cert.FinishSampleRefIdeal.main_arg0) = m ((c.tc : Thread Cert.FinishSampleRefIdeal.nD Cert.FinishSampleRefIdeal.τ).loc Cert.FinishSampleRefIdeal.main_arg0)
      ∧ r.2.mem ((c.tc : Thread Cert.FinishSampleRefIdeal.nD Cert.FinishSampleRefIdeal.τ).loc Cert.FinishSampleRefIdeal.main_arg1) = m ((c.tc : Thread Cert.FinishSampleRefIdeal.nD Cert.FinishSampleRefIdeal.τ).loc Cert.FinishSampleRefIdeal.main_arg1)
      ∧ r.2.mem ((c.tc : Thread Cert.FinishSampleRefIdeal.nD Cert.FinishSampleRefIdeal.τ).loc Cert.FinishSampleRefIdeal.main_arg2) = m ((c.tc : Thread Cert.FinishSampleRefIdeal.nD Cert.FinishSampleRefIdeal.τ).loc Cert.FinishSampleRefIdeal.main_arg2)
      ∧ r.2.mem ((c.tc : Thread Cert.FinishSampleRefIdeal.nD Cert.FinishSampleRefIdeal.τ).loc Cert.FinishSampleRefIdeal.main_arg3) = m ((c.tc : Thread Cert.FinishSampleRefIdeal.nD Cert.FinishSampleRefIdeal.τ).loc Cert.FinishSampleRefIdeal.main_arg3)
      ∧ r.2.mem ((c.tc : Thread Cert.FinishSampleRefIdeal.nD Cert.FinishSampleRefIdeal.τ).loc Cert.FinishSampleRefIdeal.main_arg4) = m ((c.tc : Thread Cert.FinishSampleRefIdeal.nD Cert.FinishSampleRefIdeal.τ).loc Cert.FinishSampleRefIdeal.main_arg4)
      ∧ r.2.mem ((c.tc : Thread Cert.FinishSampleRefIdeal.nD Cert.FinishSampleRefIdeal.τ).loc Cert.FinishSampleRefIdeal.main_arg5) = m ((c.tc : Thread Cert.FinishSampleRefIdeal.nD Cert.FinishSampleRefIdeal.τ).loc Cert.FinishSampleRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Finish_FinishIdeal : Prop :=
  True

def algebraic_FinishIdeal_FinishRefIdeal [hFinishIdeal : Cert.FinishIdeal.Facts] [hFinishRefIdeal : Cert.FinishRefIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishRefIdeal.nD Cert.FinishRefIdeal.τ Cert.FinishRefIdeal.sig) → Buf (Elt Ideal) ℓ) (g' : Dev Cert.FinishRefIdeal.nD → PrngReg), Pre_FinishIdeal m →
    (∀ c : Dev Cert.FinishIdeal.nD,
      m' ((c.tc : Thread Cert.FinishRefIdeal.nD Cert.FinishRefIdeal.τ).loc Cert.FinishRefIdeal.main_arg0) = m ((c.tc : Thread Cert.FinishIdeal.nD Cert.FinishIdeal.τ).loc Cert.FinishIdeal.main_arg0)
      ∧ m' ((c.tc : Thread Cert.FinishRefIdeal.nD Cert.FinishRefIdeal.τ).loc Cert.FinishRefIdeal.main_arg1) = m ((c.tc : Thread Cert.FinishIdeal.nD Cert.FinishIdeal.τ).loc Cert.FinishIdeal.main_arg1)
      ∧ m' ((c.tc : Thread Cert.FinishRefIdeal.nD Cert.FinishRefIdeal.τ).loc Cert.FinishRefIdeal.main_arg2) = m ((c.tc : Thread Cert.FinishIdeal.nD Cert.FinishIdeal.τ).loc Cert.FinishIdeal.main_arg2)
      ∧ m' ((c.tc : Thread Cert.FinishRefIdeal.nD Cert.FinishRefIdeal.τ).loc Cert.FinishRefIdeal.main_arg3) = m ((c.tc : Thread Cert.FinishIdeal.nD Cert.FinishIdeal.τ).loc Cert.FinishIdeal.main_arg3)
      ∧ m' ((c.tc : Thread Cert.FinishRefIdeal.nD Cert.FinishRefIdeal.τ).loc Cert.FinishRefIdeal.main_arg4) = m ((c.tc : Thread Cert.FinishIdeal.nD Cert.FinishIdeal.τ).loc Cert.FinishIdeal.main_arg4)
      ∧ m' ((c.tc : Thread Cert.FinishRefIdeal.nD Cert.FinishRefIdeal.τ).loc Cert.FinishRefIdeal.main_arg5) = m ((c.tc : Thread Cert.FinishIdeal.nD Cert.FinishIdeal.τ).loc Cert.FinishIdeal.main_arg5)) →
    ∃ (v0 : (c : Dev Cert.FinishIdeal.nD) → Buf (Elt Ideal) ((c.tc : Thread Cert.FinishIdeal.nD Cert.FinishIdeal.τ).loc Cert.FinishIdeal.main_v0)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v0) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5))
      ∧ θ_run (Cert.FinishRefIdeal.defs (F := Ideal)) (onTc (τ := Cert.FinishRefIdeal.τ) (Cert.FinishRefIdeal.main (F := Ideal))) ⟨m', fun _ => 0, g'⟩ (fun r => ∀ c : Dev Cert.FinishRefIdeal.nD,
          r.2.mem ((c.tc : Thread Cert.FinishRefIdeal.nD Cert.FinishRefIdeal.τ).loc Cert.FinishRefIdeal.main_v37) = v0 c
          ∧ r.2.mem ((c.tc : Thread Cert.FinishRefIdeal.nD Cert.FinishRefIdeal.τ).loc Cert.FinishRefIdeal.main_arg0) = m' ((c.tc : Thread Cert.FinishRefIdeal.nD Cert.FinishRefIdeal.τ).loc Cert.FinishRefIdeal.main_arg0)
          ∧ r.2.mem ((c.tc : Thread Cert.FinishRefIdeal.nD Cert.FinishRefIdeal.τ).loc Cert.FinishRefIdeal.main_arg1) = m' ((c.tc : Thread Cert.FinishRefIdeal.nD Cert.FinishRefIdeal.τ).loc Cert.FinishRefIdeal.main_arg1)
          ∧ r.2.mem ((c.tc : Thread Cert.FinishRefIdeal.nD Cert.FinishRefIdeal.τ).loc Cert.FinishRefIdeal.main_arg2) = m' ((c.tc : Thread Cert.FinishRefIdeal.nD Cert.FinishRefIdeal.τ).loc Cert.FinishRefIdeal.main_arg2)
          ∧ r.2.mem ((c.tc : Thread Cert.FinishRefIdeal.nD Cert.FinishRefIdeal.τ).loc Cert.FinishRefIdeal.main_arg3) = m' ((c.tc : Thread Cert.FinishRefIdeal.nD Cert.FinishRefIdeal.τ).loc Cert.FinishRefIdeal.main_arg3)
          ∧ r.2.mem ((c.tc : Thread Cert.FinishRefIdeal.nD Cert.FinishRefIdeal.τ).loc Cert.FinishRefIdeal.main_arg4) = m' ((c.tc : Thread Cert.FinishRefIdeal.nD Cert.FinishRefIdeal.τ).loc Cert.FinishRefIdeal.main_arg4)
          ∧ r.2.mem ((c.tc : Thread Cert.FinishRefIdeal.nD Cert.FinishRefIdeal.τ).loc Cert.FinishRefIdeal.main_arg5) = m' ((c.tc : Thread Cert.FinishRefIdeal.nD Cert.FinishRefIdeal.τ).loc Cert.FinishRefIdeal.main_arg5))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)
      ∧ m' ((c.tc : Thread Cert.DenseRefIdeal.nD Cert.DenseRefIdeal.τ).loc Cert.DenseRefIdeal.main_arg5) = m ((c.tc : Thread Cert.DenseIdeal.nD Cert.DenseIdeal.τ).loc Cert.DenseIdeal.main_arg5)
      ∧ m' ((c.tc : Thread Cert.DenseRefIdeal.nD Cert.DenseRefIdeal.τ).loc Cert.DenseRefIdeal.main_arg6) = m ((c.tc : Thread Cert.DenseIdeal.nD Cert.DenseIdeal.τ).loc Cert.DenseIdeal.main_arg6)
      ∧ m' ((c.tc : Thread Cert.DenseRefIdeal.nD Cert.DenseRefIdeal.τ).loc Cert.DenseRefIdeal.main_arg7) = m ((c.tc : Thread Cert.DenseIdeal.nD Cert.DenseIdeal.τ).loc Cert.DenseIdeal.main_arg7)
      ∧ m' ((c.tc : Thread Cert.DenseRefIdeal.nD Cert.DenseRefIdeal.τ).loc Cert.DenseRefIdeal.main_arg8) = m ((c.tc : Thread Cert.DenseIdeal.nD Cert.DenseIdeal.τ).loc Cert.DenseIdeal.main_arg8)) →
    ∃ (v0 : (c : Dev Cert.DenseIdeal.nD) → Buf (Elt Ideal) ((c.tc : Thread Cert.DenseIdeal.nD Cert.DenseIdeal.τ).loc Cert.DenseIdeal.main_v0)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v0) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
          ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v46) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4)
          ∧ r.2.mem ((c.tc : Thread Cert.DenseRefIdeal.nD Cert.DenseRefIdeal.τ).loc Cert.DenseRefIdeal.main_arg5) = m' ((c.tc : Thread Cert.DenseRefIdeal.nD Cert.DenseRefIdeal.τ).loc Cert.DenseRefIdeal.main_arg5)
          ∧ r.2.mem ((c.tc : Thread Cert.DenseRefIdeal.nD Cert.DenseRefIdeal.τ).loc Cert.DenseRefIdeal.main_arg6) = m' ((c.tc : Thread Cert.DenseRefIdeal.nD Cert.DenseRefIdeal.τ).loc Cert.DenseRefIdeal.main_arg6)
          ∧ r.2.mem ((c.tc : Thread Cert.DenseRefIdeal.nD Cert.DenseRefIdeal.τ).loc Cert.DenseRefIdeal.main_arg7) = m' ((c.tc : Thread Cert.DenseRefIdeal.nD Cert.DenseRefIdeal.τ).loc Cert.DenseRefIdeal.main_arg7)
          ∧ r.2.mem ((c.tc : Thread Cert.DenseRefIdeal.nD Cert.DenseRefIdeal.τ).loc Cert.DenseRefIdeal.main_arg8) = m' ((c.tc : Thread Cert.DenseRefIdeal.nD Cert.DenseRefIdeal.τ).loc Cert.DenseRefIdeal.main_arg8))

def preserves_FinishSample_FinishSampleIdeal : Prop :=
  True

def algebraic_FinishSampleIdeal_FinishSampleRefIdeal [hFinishSampleIdeal : Cert.FinishSampleIdeal.Facts] [hFinishSampleRefIdeal : Cert.FinishSampleRefIdeal.Facts] : Prop :=
  ∀ (m : (ℓ : Loc Cert.FinishSampleIdeal.nD Cert.FinishSampleIdeal.τ Cert.FinishSampleIdeal.sig) → Buf (Elt Ideal) ℓ) (g : Dev Cert.FinishSampleIdeal.nD → PrngReg)
    (m' : (ℓ : Loc Cert.FinishSampleRefIdeal.nD Cert.FinishSampleRefIdeal.τ Cert.FinishSampleRefIdeal.sig) → Buf (Elt Ideal) ℓ) (g' : Dev Cert.FinishSampleRefIdeal.nD → PrngReg), Pre_FinishSampleIdeal m →
    (∀ c : Dev Cert.FinishSampleIdeal.nD,
      m' ((c.tc : Thread Cert.FinishSampleRefIdeal.nD Cert.FinishSampleRefIdeal.τ).loc Cert.FinishSampleRefIdeal.main_arg0) = m ((c.tc : Thread Cert.FinishSampleIdeal.nD Cert.FinishSampleIdeal.τ).loc Cert.FinishSampleIdeal.main_arg0)
      ∧ m' ((c.tc : Thread Cert.FinishSampleRefIdeal.nD Cert.FinishSampleRefIdeal.τ).loc Cert.FinishSampleRefIdeal.main_arg1) = m ((c.tc : Thread Cert.FinishSampleIdeal.nD Cert.FinishSampleIdeal.τ).loc Cert.FinishSampleIdeal.main_arg1)
      ∧ m' ((c.tc : Thread Cert.FinishSampleRefIdeal.nD Cert.FinishSampleRefIdeal.τ).loc Cert.FinishSampleRefIdeal.main_arg2) = m ((c.tc : Thread Cert.FinishSampleIdeal.nD Cert.FinishSampleIdeal.τ).loc Cert.FinishSampleIdeal.main_arg2)
      ∧ m' ((c.tc : Thread Cert.FinishSampleRefIdeal.nD Cert.FinishSampleRefIdeal.τ).loc Cert.FinishSampleRefIdeal.main_arg3) = m ((c.tc : Thread Cert.FinishSampleIdeal.nD Cert.FinishSampleIdeal.τ).loc Cert.FinishSampleIdeal.main_arg3)
      ∧ m' ((c.tc : Thread Cert.FinishSampleRefIdeal.nD Cert.FinishSampleRefIdeal.τ).loc Cert.FinishSampleRefIdeal.main_arg4) = m ((c.tc : Thread Cert.FinishSampleIdeal.nD Cert.FinishSampleIdeal.τ).loc Cert.FinishSampleIdeal.main_arg4)
      ∧ m' ((c.tc : Thread Cert.FinishSampleRefIdeal.nD Cert.FinishSampleRefIdeal.τ).loc Cert.FinishSampleRefIdeal.main_arg5) = m ((c.tc : Thread Cert.FinishSampleIdeal.nD Cert.FinishSampleIdeal.τ).loc Cert.FinishSampleIdeal.main_arg5)) →
    ∃ (v0 : (c : Dev Cert.FinishSampleIdeal.nD) → Buf (Elt Ideal) ((c.tc : Thread Cert.FinishSampleIdeal.nD Cert.FinishSampleIdeal.τ).loc Cert.FinishSampleIdeal.main_v0)),
      θ_run (Cert.FinishSampleIdeal.defs (F := Ideal)) (onTc (τ := Cert.FinishSampleIdeal.τ) (Cert.FinishSampleIdeal.main (F := Ideal))) ⟨m, fun _ => 0, g⟩ (fun r => ∀ c : Dev Cert.FinishSampleIdeal.nD,
          r.2.mem ((c.tc : Thread Cert.FinishSampleIdeal.nD Cert.FinishSampleIdeal.τ).loc Cert.FinishSampleIdeal.main_v0) = v0 c
          ∧ r.2.mem ((c.tc : Thread Cert.FinishSampleIdeal.nD Cert.FinishSampleIdeal.τ).loc Cert.FinishSampleIdeal.main_arg0) = m ((c.tc : Thread Cert.FinishSampleIdeal.nD Cert.FinishSampleIdeal.τ).loc Cert.FinishSampleIdeal.main_arg0)
          ∧ r.2.mem ((c.tc : Thread Cert.FinishSampleIdeal.nD Cert.FinishSampleIdeal.τ).loc Cert.FinishSampleIdeal.main_arg1) = m ((c.tc : Thread Cert.FinishSampleIdeal.nD Cert.FinishSampleIdeal.τ).loc Cert.FinishSampleIdeal.main_arg1)
          ∧ r.2.mem ((c.tc : Thread Cert.FinishSampleIdeal.nD Cert.FinishSampleIdeal.τ).loc Cert.FinishSampleIdeal.main_arg2) = m ((c.tc : Thread Cert.FinishSampleIdeal.nD Cert.FinishSampleIdeal.τ).loc Cert.FinishSampleIdeal.main_arg2)
          ∧ r.2.mem ((c.tc : Thread Cert.FinishSampleIdeal.nD Cert.FinishSampleIdeal.τ).loc Cert.FinishSampleIdeal.main_arg3) = m ((c.tc : Thread Cert.FinishSampleIdeal.nD Cert.FinishSampleIdeal.τ).loc Cert.FinishSampleIdeal.main_arg3)
          ∧ r.2.mem ((c.tc : Thread Cert.FinishSampleIdeal.nD Cert.FinishSampleIdeal.τ).loc Cert.FinishSampleIdeal.main_arg4) = m ((c.tc : Thread Cert.FinishSampleIdeal.nD Cert.FinishSampleIdeal.τ).loc Cert.FinishSampleIdeal.main_arg4)
          ∧ r.2.mem ((c.tc : Thread Cert.FinishSampleIdeal.nD Cert.FinishSampleIdeal.τ).loc Cert.FinishSampleIdeal.main_arg5) = m ((c.tc : Thread Cert.FinishSampleIdeal.nD Cert.FinishSampleIdeal.τ).loc Cert.FinishSampleIdeal.main_arg5))
      ∧ θ_run (Cert.FinishSampleRefIdeal.defs (F := Ideal)) (onTc (τ := Cert.FinishSampleRefIdeal.τ) (Cert.FinishSampleRefIdeal.main (F := Ideal))) ⟨m', fun _ => 0, g'⟩ (fun r => ∀ c : Dev Cert.FinishSampleRefIdeal.nD,
          r.2.mem ((c.tc : Thread Cert.FinishSampleRefIdeal.nD Cert.FinishSampleRefIdeal.τ).loc Cert.FinishSampleRefIdeal.main_v37) = v0 c
          ∧ r.2.mem ((c.tc : Thread Cert.FinishSampleRefIdeal.nD Cert.FinishSampleRefIdeal.τ).loc Cert.FinishSampleRefIdeal.main_arg0) = m' ((c.tc : Thread Cert.FinishSampleRefIdeal.nD Cert.FinishSampleRefIdeal.τ).loc Cert.FinishSampleRefIdeal.main_arg0)
          ∧ r.2.mem ((c.tc : Thread Cert.FinishSampleRefIdeal.nD Cert.FinishSampleRefIdeal.τ).loc Cert.FinishSampleRefIdeal.main_arg1) = m' ((c.tc : Thread Cert.FinishSampleRefIdeal.nD Cert.FinishSampleRefIdeal.τ).loc Cert.FinishSampleRefIdeal.main_arg1)
          ∧ r.2.mem ((c.tc : Thread Cert.FinishSampleRefIdeal.nD Cert.FinishSampleRefIdeal.τ).loc Cert.FinishSampleRefIdeal.main_arg2) = m' ((c.tc : Thread Cert.FinishSampleRefIdeal.nD Cert.FinishSampleRefIdeal.τ).loc Cert.FinishSampleRefIdeal.main_arg2)
          ∧ r.2.mem ((c.tc : Thread Cert.FinishSampleRefIdeal.nD Cert.FinishSampleRefIdeal.τ).loc Cert.FinishSampleRefIdeal.main_arg3) = m' ((c.tc : Thread Cert.FinishSampleRefIdeal.nD Cert.FinishSampleRefIdeal.τ).loc Cert.FinishSampleRefIdeal.main_arg3)
          ∧ r.2.mem ((c.tc : Thread Cert.FinishSampleRefIdeal.nD Cert.FinishSampleRefIdeal.τ).loc Cert.FinishSampleRefIdeal.main_arg4) = m' ((c.tc : Thread Cert.FinishSampleRefIdeal.nD Cert.FinishSampleRefIdeal.τ).loc Cert.FinishSampleRefIdeal.main_arg4)
          ∧ r.2.mem ((c.tc : Thread Cert.FinishSampleRefIdeal.nD Cert.FinishSampleRefIdeal.τ).loc Cert.FinishSampleRefIdeal.main_arg5) = m' ((c.tc : Thread Cert.FinishSampleRefIdeal.nD Cert.FinishSampleRefIdeal.τ).loc Cert.FinishSampleRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v19_0)) (v1 : (c : Dev Cert.QkvIdeal.nD) → Buf (Elt Ideal) ((c.tc : Thread Cert.QkvIdeal.nD Cert.QkvIdeal.τ).loc Cert.QkvIdeal.main_v19_1)) (v2 : (c : Dev Cert.QkvIdeal.nD) → Buf (Elt Ideal) ((c.tc : Thread Cert.QkvIdeal.nD Cert.QkvIdeal.τ).loc Cert.QkvIdeal.main_v19_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v19_0) = v0 c
          ∧ r.2.mem ((c.tc : Thread Cert.QkvIdeal.nD Cert.QkvIdeal.τ).loc Cert.QkvIdeal.main_v19_1) = v1 c
          ∧ r.2.mem ((c.tc : Thread Cert.QkvIdeal.nD Cert.QkvIdeal.τ).loc Cert.QkvIdeal.main_v19_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v84) = v0 c
          ∧ r.2.mem ((c.tc : Thread Cert.QkvRefIdeal.nD Cert.QkvRefIdeal.τ).loc Cert.QkvRefIdeal.main_v85) = v1 c
          ∧ r.2.mem ((c.tc : Thread Cert.QkvRefIdeal.nD Cert.QkvRefIdeal.τ).loc Cert.QkvRefIdeal.main_v86) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def Claim : Prop :=
  ∃ (hKernel : Cert.Kernel.Facts) (hKernelIdeal : Cert.KernelIdeal.Facts) (hReferenceIdeal : Cert.ReferenceIdeal.Facts) (hFinish : Cert.Finish.Facts) (hFinishIdeal : Cert.FinishIdeal.Facts) (hFinishRefIdeal : Cert.FinishRefIdeal.Facts) (hDense : Cert.Dense.Facts) (hDenseIdeal : Cert.DenseIdeal.Facts) (hDenseRefIdeal : Cert.DenseRefIdeal.Facts) (hFinishSample : Cert.FinishSample.Facts) (hFinishSampleIdeal : Cert.FinishSampleIdeal.Facts) (hFinishSampleRefIdeal : Cert.FinishSampleRefIdeal.Facts) (hQkv : Cert.Qkv.Facts) (hQkvIdeal : Cert.QkvIdeal.Facts) (hQkvRefIdeal : Cert.QkvRefIdeal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Finish (hFinish := hFinish)
    ∧ quiescent_FinishIdeal (hFinishIdeal := hFinishIdeal)
    ∧ quiescent_FinishRefIdeal (hFinishRefIdeal := hFinishRefIdeal)
    ∧ quiescent_Dense (hDense := hDense)
    ∧ quiescent_DenseIdeal (hDenseIdeal := hDenseIdeal)
    ∧ quiescent_DenseRefIdeal (hDenseRefIdeal := hDenseRefIdeal)
    ∧ quiescent_FinishSample (hFinishSample := hFinishSample)
    ∧ quiescent_FinishSampleIdeal (hFinishSampleIdeal := hFinishSampleIdeal)
    ∧ quiescent_FinishSampleRefIdeal (hFinishSampleRefIdeal := hFinishSampleRefIdeal)
    ∧ quiescent_Qkv (hQkv := hQkv)
    ∧ quiescent_QkvIdeal (hQkvIdeal := hQkvIdeal)
    ∧ quiescent_QkvRefIdeal (hQkvRefIdeal := hQkvRefIdeal)
    ∧ preserves_Kernel_KernelIdeal
    ∧ algebraic_KernelIdeal_ReferenceIdeal (hKernelIdeal := hKernelIdeal) (hReferenceIdeal := hReferenceIdeal) (hPre_routed := hPre_routed)
    ∧ preserves_Finish_FinishIdeal
    ∧ algebraic_FinishIdeal_FinishRefIdeal (hFinishIdeal := hFinishIdeal) (hFinishRefIdeal := hFinishRefIdeal)
    ∧ preserves_Dense_DenseIdeal
    ∧ algebraic_DenseIdeal_DenseRefIdeal (hDenseIdeal := hDenseIdeal) (hDenseRefIdeal := hDenseRefIdeal)
    ∧ preserves_FinishSample_FinishSampleIdeal
    ∧ algebraic_FinishSampleIdeal_FinishSampleRefIdeal (hFinishSampleIdeal := hFinishSampleIdeal) (hFinishSampleRefIdeal := hFinishSampleRefIdeal)
    ∧ preserves_Qkv_QkvIdeal
    ∧ algebraic_QkvIdeal_QkvRefIdeal (hQkvIdeal := hQkvIdeal) (hQkvRefIdeal := hQkvRefIdeal)
-- ==== Pre_routed.lean ====
abbrev S1 : Shape := ⟨1, ![1]⟩
abbrev S128 : Shape := ⟨1, ![128]⟩
abbrev S8 : Shape := ⟨1, ![8]⟩
abbrev S16384x1024 : Shape := ⟨2, ![16384, 1024]⟩
abbrev S8x16384 : Shape := ⟨2, ![8, 16384]⟩
abbrev S8x1024x3584 : Shape := ⟨3, ![8, 1024, 3584]⟩
abbrev S8x3584x1024 : Shape := ⟨3, ![8, 3584, 1024]⟩
abbrev S32x1024 : Shape := ⟨2, ![32, 1024]⟩
abbrev S8x32 : Shape := ⟨2, ![8, 32]⟩
abbrev S16x8 : Shape := ⟨2, ![16, 8]⟩
abbrev S8x16 : Shape := ⟨2, ![8, 16]⟩
abbrev S8x16x1024 : Shape := ⟨3, ![8, 16, 1024]⟩
abbrev S_ : Shape := ⟨0, ![]⟩
abbrev S1024x1024 : Shape := ⟨2, ![1024, 1024]⟩
abbrev S8x16x1x1024 : Shape := ⟨4, ![8, 16, 1, 1024]⟩
abbrev S8x16x1024x1024 : Shape := ⟨4, ![8, 16, 1024, 1024]⟩
abbrev S8x16x1 : Shape := ⟨3, ![8, 16, 1]⟩
abbrev S8x1 : Shape := ⟨2, ![8, 1]⟩
abbrev S8x1x32 : Shape := ⟨3, ![8, 1, 32]⟩
abbrev S32x32 : Shape := ⟨2, ![32, 32]⟩
abbrev S8x1x1x32 : Shape := ⟨4, ![8, 1, 1, 32]⟩
abbrev S8x1x32x32 : Shape := ⟨4, ![8, 1, 32, 32]⟩
abbrev S8x1x1 : Shape := ⟨3, ![8, 1, 1]⟩
abbrev S8x16x1024x1 : Shape := ⟨4, ![8, 16, 1024, 1]⟩
abbrev S8x16x1024x32 : Shape := ⟨4, ![8, 16, 1024, 32]⟩

class Facts : Prop where
  shapeCasts_S128_S16x8 : S128.ShapeCasts S16x8
  transposes_S16x8_S8x16_1_0 : S16x8.Transposes [1, 0] S8x16
  shapeCasts_S8x16384_S8x16x1024 : S8x16384.ShapeCasts S8x16x1024
  bcast_S_S8x16x1024 : S_.BroadcastsInDim S8x16x1024 (![] : Fin 0 → Fin S8x16x1024.rank)
  bcast_S8x16x1024_S8x16x1x1024_0_1_3 : S8x16x1024.BroadcastsInDim S8x16x1x1024 (![0, 1, 3] : Fin 3 → Fin S8x16x1x1024.rank)
  bcast_S1024x1024_S8x16x1024x1024_2_3 : S1024x1024.BroadcastsInDim S8x16x1024x1024 (![2, 3] : Fin 2 → Fin S8x16x1024x1024.rank)
  bcast_S8x16x1x1024_S8x16x1024x1024_0_1_2_3 : S8x16x1x1024.BroadcastsInDim S8x16x1024x1024 (![0, 1, 2, 3] : Fin 4 → Fin S8x16x1024x1024.rank)
  bcast_S_S8x16x1024x1024 : S_.BroadcastsInDim S8x16x1024x1024 (![] : Fin 0 → Fin S8x16x1024x1024.rank)
  reducesTo_S8x16x1024x1024_S8x16x1024_d3 : S8x16x1024x1024.ReducesTo [3] S8x16x1024
  h_S_ : 0 < S_.numel
  bcast_S_S8x16 : S_.BroadcastsInDim S8x16 (![] : Fin 0 → Fin S8x16.rank)
  reducesTo_S8x16x1024_S8x16_d2 : S8x16x1024.ReducesTo [2] S8x16
  bcast_S8x16_S8x16x1_0_1 : S8x16.BroadcastsInDim S8x16x1 (![0, 1] : Fin 2 → Fin S8x16x1.rank)
  bcast_S8x16x1_S8x16x1024_0_1_2 : S8x16x1.BroadcastsInDim S8x16x1024 (![0, 1, 2] : Fin 3 → Fin S8x16x1024.rank)
  bcast_S8_S8x1_0 : S8.BroadcastsInDim S8x1 (![0] : Fin 1 → Fin S8x1.rank)
  bcast_S8x32_S8x1x32_0_2 : S8x32.BroadcastsInDim S8x1x32 (![0, 2] : Fin 2 → Fin S8x1x32.rank)
  bcast_S_S8x1x32 : S_.BroadcastsInDim S8x1x32 (![] : Fin 0 → Fin S8x1x32.rank)
  bcast_S8x1x32_S8x1x1x32_0_1_3 : S8x1x32.BroadcastsInDim S8x1x1x32 (![0, 1, 3] : Fin 3 → Fin S8x1x1x32.rank)
  bcast_S32x32_S8x1x32x32_2_3 : S32x32.BroadcastsInDim S8x1x32x32 (![2, 3] : Fin 2 → Fin S8x1x32x32.rank)
  bcast_S8x1x1x32_S8x1x32x32_0_1_2_3 : S8x1x1x32.BroadcastsInDim S8x1x32x32 (![0, 1, 2, 3] : Fin 4 → Fin S8x1x32x32.rank)
  bcast_S_S8x1x32x32 : S_.BroadcastsInDim S8x1x32x32 (![] : Fin 0 → Fin S8x1x32x32.rank)
  reducesTo_S8x1x32x32_S8x1x32_d3 : S8x1x32x32.ReducesTo [3] S8x1x32
  bcast_S_S8x1 : S_.BroadcastsInDim S8x1 (![] : Fin 0 → Fin S8x1.rank)
  reducesTo_S8x1x32_S8x1_d2 : S8x1x32.ReducesTo [2] S8x1
  bcast_S8x1_S8x1x1_0_1 : S8x1.BroadcastsInDim S8x1x1 (![0, 1] : Fin 2 → Fin S8x1x1.rank)
  bcast_S8x1x1_S8x1x32_0_1_2 : S8x1x1.BroadcastsInDim S8x1x32 (![0, 1, 2] : Fin 3 → Fin S8x1x32.rank)
  shapeCasts_S1_S_ : S1.ShapeCasts S_
  bcast_S8x16x1024_S8x16x1024x1_0_1_2 : S8x16x1024.BroadcastsInDim S8x16x1024x1 (![0, 1, 2] : Fin 3 → Fin S8x16x1024x1.rank)
  bcast_S_S8x16x1024x1 : S_.BroadcastsInDim S8x16x1024x1 (![] : Fin 0 → Fin S8x16x1024x1.rank)
  bcast_S8x16x1024x1_S8x16x1024x32_0_1_2_3 : S8x16x1024x1.BroadcastsInDim S8x16x1024x32 (![0, 1, 2, 3] : Fin 4 → Fin S8x16x1024x32.rank)
  bcast_S8x1x1x32_S8x16x1024x32_0_1_2_3 : S8x1x1x32.BroadcastsInDim S8x16x1024x32 (![0, 1, 2, 3] : Fin 4 → Fin S8x16x1024x32.rank)

variable [Facts]

def fn_where {F : FTy → Type} [FloatOps F] (arg0 : IVec S8x16x1024 1) (arg1 : FVec F S_ .f32) (arg2 : FVec F S_ .f32) : FVec F S8x16x1024 .f32 :=
  let v0 : FVec F S8x16x1024 .f32 := broadcastInDim S8x16x1024 ![] bcast_S_S8x16x1024 arg1
  let v1 : FVec F S8x16x1024 .f32 := broadcastInDim S8x16x1024 ![] bcast_S_S8x16x1024 arg2
  let v2 : FVec F S8x16x1024 .f32 := select arg0 v0 v1
  v2

def fn_where_0 {F : FTy → Type} [FloatOps F] (arg0 : IVec S1024x1024 1) (arg1 : FVec F S8x16x1x1024 .f32) (arg2 : FVec F S_ .f32) : FVec F S8x16x1024x1024 .f32 :=
  let v0 : IVec S8x16x1024x1024 1 := broadcastInDim S8x16x1024x1024 ![2, 3] bcast_S1024x1024_S8x16x1024x1024_2_3 arg0
  let v1 : FVec F S8x16x1024x1024 .f32 := broadcastInDim S8x16x1024x1024 ![0, 1, 2, 3] bcast_S8x16x1x1024_S8x16x1024x1024_0_1_2_3 arg1
  let v2 : FVec F S8x16x1024x1024 .f32 := broadcastInDim S8x16x1024x1024 ![] bcast_S_S8x16x1024x1024 arg2
  let v3 : FVec F S8x16x1024x1024 .f32 := select v0 v1 v2
  v3

def fn_where_1 {F : FTy → Type} [FloatOps F] (arg0 : IVec S8x16x1024 1) (arg1 : FVec F S8x16x1024 .f32) (arg2 : FVec F S_ .f32) : FVec F S8x16x1024 .f32 :=
  let v0 : FVec F S_ .f32 := id arg2
  let v1 : FVec F S8x16x1024 .f32 := broadcastInDim S8x16x1024 ![] bcast_S_S8x16x1024 v0
  let v2 : FVec F S8x16x1024 .f32 := select arg0 arg1 v1
  v2

def fn_where_2 {F : FTy → Type} [FloatOps F] (arg0 : IVec S8x1x32 1) (arg1 : FVec F S_ .f32) (arg2 : FVec F S_ .f32) : FVec F S8x1x32 .f32 :=
  let v0 : FVec F S8x1x32 .f32 := broadcastInDim S8x1x32 ![] bcast_S_S8x1x32 arg1
  let v1 : FVec F S8x1x32 .f32 := broadcastInDim S8x1x32 ![] bcast_S_S8x1x32 arg2
  let v2 : FVec F S8x1x32 .f32 := select arg0 v0 v1
  v2

def fn_where_3 {F : FTy → Type} [FloatOps F] (arg0 : IVec S32x32 1) (arg1 : FVec F S8x1x1x32 .f32) (arg2 : FVec F S_ .f32) : FVec F S8x1x32x32 .f32 :=
  let v0 : IVec S8x1x32x32 1 := broadcastInDim S8x1x32x32 ![2, 3] bcast_S32x32_S8x1x32x32_2_3 arg0
  let v1 : FVec F S8x1x32x32 .f32 := broadcastInDim S8x1x32x32 ![0, 1, 2, 3] bcast_S8x1x1x32_S8x1x32x32_0_1_2_3 arg1
  let v2 : FVec F S8x1x32x32 .f32 := broadcastInDim S8x1x32x32 ![] bcast_S_S8x1x32x32 arg2
  let v3 : FVec F S8x1x32x32 .f32 := select v0 v1 v2
  v3

def fn_where_4 {F : FTy → Type} [FloatOps F] (arg0 : IVec S8x1x32 1) (arg1 : FVec F S8x1x32 .f32) (arg2 : FVec F S_ .f32) : FVec F S8x1x32 .f32 :=
  let v0 : FVec F S_ .f32 := id arg2
  let v1 : FVec F S8x1x32 .f32 := broadcastInDim S8x1x32 ![] bcast_S_S8x1x32 v0
  let v2 : FVec F S8x1x32 .f32 := select arg0 arg1 v1
  v2

def fn_part4 {F : FTy → Type} [FloatOps F] (main_v72 : IVec S8x16x1024x1 1) (main_v73 : IVec S8x1x1x32 1) : IVec S8x16x1024x32 1 :=
  let main_v74 : IVec S8x16x1024x32 1 := broadcastInDim S8x16x1024x32 ![0, 1, 2, 3] bcast_S8x16x1024x1_S8x16x1024x32_0_1_2_3 main_v72
  let main_v75 : IVec S8x16x1024x32 1 := broadcastInDim S8x16x1024x32 ![0, 1, 2, 3] bcast_S8x1x1x32_S8x16x1024x32_0_1_2_3 main_v73
  let main_v76 : IVec S8x16x1024x32 1 := andi main_v74 main_v75
  main_v76

def fn_part3 {F : FTy → Type} [FloatOps F] (main_arg0 : IVec S1 32) (main_v32 : IVec S8x16x1024 1) (main_v34 : FVec F S8x1x32 .f32) (main_v37 : IVec S8x1x32 1) (main_v38 : FVec F S8x1x32 .f32) (main_v47 : IVec S8x1x32 1) (main_v52 : IVec S8x1 1) (main_v53 : FVec F S8x1 .f32) : IVec S8x16x1024x32 1 :=
  let main_v54 : FVec F S8x1x32 .f32 := id main_v38
  let main_cst_16 : FVec F S_ .f32 := constant S_ .f32 0x00000000#32
  let main_v55 : FVec F S8x1 .f32 := (fun x v => Host.reduceAdd x v reducesTo_S8x1x32_S8x1_d2 h_S_) main_v54 main_cst_16
  let main_v56 : IVec S8x1 1 := cmpf .oeq main_v53 main_v55
  let main_v57 : IVec S8x1 1 := andi main_v52 main_v56
  let main_cst_17 : FVec F S_ .f32 := constant S_ .f32 0x00000000#32
  let main_v58 : FVec F S8x1x32 .f32 := broadcastInDim S8x1x32 ![] bcast_S_S8x1x32 main_cst_17
  let main_v59 : IVec S8x1x32 1 := cmpf .oeq main_v34 main_v58
  let main_v60 : IVec S8x1x32 1 := ori main_v37 main_v59
  let main_v61 : IVec S8x1x32 1 := andi main_v47 main_v60
  let main_v62 : IVec S8x1x1 1 := broadcastInDim S8x1x1 ![0, 1] bcast_S8x1_S8x1x1_0_1 main_v57
  let main_v63 : IVec S8x1x32 1 := broadcastInDim S8x1x32 ![0, 1, 2] bcast_S8x1x1_S8x1x32_0_1_2 main_v62
  let main_v64 : IVec S8x1x32 1 := andi main_v61 main_v63
  let main_v65 : IVec S_ 32 := shapeCast S_ main_arg0 shapeCasts_S1_S_
  let main_c_18 : IVec S_ 32 := constantI S_ 32 0#32
  let main_v66 : IVec S_ 1 := cmpi .sge main_v65 main_c_18
  let main_v67 : IVec S_ 32 := shapeCast S_ main_arg0 shapeCasts_S1_S_
  let main_c_19 : IVec S_ 32 := constantI S_ 32 8#32
  let main_v68 : IVec S_ 1 := cmpi .slt main_v67 main_c_19
  let main_v69 : IVec S_ 1 := andi main_v66 main_v68
  let main_v70 : IVec S8x16x1024x1 1 := broadcastInDim S8x16x1024x1 ![0, 1, 2] bcast_S8x16x1024_S8x16x1024x1_0_1_2 main_v32
  let main_v71 : IVec S8x16x1024x1 1 := broadcastInDim S8x16x1024x1 ![] bcast_S_S8x16x1024x1 main_v69
  let main_v72 : IVec S8x16x1024x1 1 := andi main_v71 main_v70
  let main_v73 : IVec S8x1x1x32 1 := broadcastInDim S8x1x1x32 ![0, 1, 3] bcast_S8x1x32_S8x1x1x32_0_1_3 main_v64
  fn_part4 (F := F) main_v72 main_v73

def fn_part2 {F : FTy → Type} [FloatOps F] (main_arg0 : IVec S1 32) (main_v32 : IVec S8x16x1024 1) (main_v33 : IVec S8x1 32) (main_v34 : FVec F S8x1x32 .f32) (main_v35 : FVec F S8x1x32 .f32) (main_v36 : FVec F S8x1x32 .f32) : IVec S8x16x1024x32 1 :=
  let main_v37 : IVec S8x1x32 1 := cmpf .oge main_v35 main_v36
  let main_cst_9 : FVec F S_ .f32 := constant S_ .f32 0x3F800000#32
  let main_cst_10 : FVec F S_ .f32 := constant S_ .f32 0x00000000#32
  let main_v38 : FVec F S8x1x32 .f32 := fn_where_2 (F := F) main_v37 main_cst_9 main_cst_10
  let main_v39 : IVec S32x32 32 := iotaInDim S32x32 32 0
  let main_v40 : IVec S32x32 32 := iotaInDim S32x32 32 1
  let main_v41 : IVec S32x32 1 := cmpi .sgt main_v39 main_v40
  let main_v42 : FVec F S8x1x1x32 .f32 := broadcastInDim S8x1x1x32 ![0, 1, 3] bcast_S8x1x32_S8x1x1x32_0_1_3 main_v38
  let main_cst_11 : FVec F S_ .f32 := constant S_ .f32 0x00000000#32
  let main_v43 : FVec F S8x1x32x32 .f32 := fn_where_3 (F := F) main_v41 main_v42 main_cst_11
  let main_v44 : FVec F S8x1x32x32 .f32 := id main_v43
  let main_cst_12 : FVec F S_ .f32 := constant S_ .f32 0x00000000#32
  let main_v45 : FVec F S8x1x32 .f32 := (fun x v => Host.reduceAdd x v reducesTo_S8x1x32x32_S8x1x32_d3 h_S_) main_v44 main_cst_12
  let main_cst_13 : FVec F S_ .f32 := constant S_ .f32 0xBF800000#32
  let main_v46 : FVec F S8x1x32 .f32 := fn_where_4 (F := F) main_v37 main_v45 main_cst_13
  let main_v47 : IVec S8x1x32 1 := cmpf .oeq main_v35 main_v46
  let main_c_14 : IVec S_ 32 := constantI S_ 32 0#32
  let main_v48 : IVec S8x1 32 := broadcastInDim S8x1 ![] bcast_S_S8x1 main_c_14
  let main_v49 : IVec S8x1 1 := cmpi .sge main_v33 main_v48
  let main_c_15 : IVec S_ 32 := constantI S_ 32 32#32
  let main_v50 : IVec S8x1 32 := broadcastInDim S8x1 ![] bcast_S_S8x1 main_c_15
  let main_v51 : IVec S8x1 1 := cmpi .sle main_v33 main_v50
  let main_v52 : IVec S8x1 1 := andi main_v49 main_v51
  let main_v53 : FVec F S8x1 .f32 := sitofp .f32 main_v33
  fn_part3 (F := F) main_arg0 main_v32 main_v34 main_v37 main_v38 main_v47 main_v52 main_v53

def fn_part1 {F : FTy → Type} [FloatOps F] (main_arg0 : IVec S1 32) (main_arg2 : IVec S8 32) (main_arg11 : FVec F S8x32 .f32) (main_arg12 : FVec F S8x32 .f32) (main_v1 : IVec S8x16 32) (main_v2 : FVec F S8x16x1024 .f32) (main_v5 : IVec S8x16x1024 1) (main_v6 : FVec F S8x16x1024 .f32) (main_v15 : IVec S8x16x1024 1) (main_v16 : IVec S8x16 32) : IVec S8x16x1024x32 1 :=
  let main_v17 : IVec S8x16 1 := cmpi .sge main_v1 main_v16
  let main_c_5 : IVec S_ 32 := constantI S_ 32 1024#32
  let main_v18 : IVec S8x16 32 := broadcastInDim S8x16 ![] bcast_S_S8x16 main_c_5
  let main_v19 : IVec S8x16 1 := cmpi .sle main_v1 main_v18
  let main_v20 : IVec S8x16 1 := andi main_v17 main_v19
  let main_v21 : FVec F S8x16 .f32 := sitofp .f32 main_v1
  let main_v22 : FVec F S8x16x1024 .f32 := id main_v6
  let main_cst_6 : FVec F S_ .f32 := constant S_ .f32 0x00000000#32
  let main_v23 : FVec F S8x16 .f32 := (fun x v => Host.reduceAdd x v reducesTo_S8x16x1024_S8x16_d2 h_S_) main_v22 main_cst_6
  let main_v24 : IVec S8x16 1 := cmpf .oeq main_v21 main_v23
  let main_v25 : IVec S8x16 1 := andi main_v20 main_v24
  let main_cst_7 : FVec F S_ .f32 := constant S_ .f32 0x00000000#32
  let main_v26 : FVec F S8x16x1024 .f32 := broadcastInDim S8x16x1024 ![] bcast_S_S8x16x1024 main_cst_7
  let main_v27 : IVec S8x16x1024 1 := cmpf .oeq main_v2 main_v26
  let main_v28 : IVec S8x16x1024 1 := ori main_v5 main_v27
  let main_v29 : IVec S8x16x1024 1 := andi main_v15 main_v28
  let main_v30 : IVec S8x16x1 1 := broadcastInDim S8x16x1 ![0, 1] bcast_S8x16_S8x16x1_0_1 main_v25
  let main_v31 : IVec S8x16x1024 1 := broadcastInDim S8x16x1024 ![0, 1, 2] bcast_S8x16x1_S8x16x1024_0_1_2 main_v30
  let main_v32 : IVec S8x16x1024 1 := andi main_v29 main_v31
  let main_v33 : IVec S8x1 32 := broadcastInDim S8x1 ![0] bcast_S8_S8x1_0 main_arg2
  let main_v34 : FVec F S8x1x32 .f32 := broadcastInDim S8x1x32 ![0, 2] bcast_S8x32_S8x1x32_0_2 main_arg11
  let main_v35 : FVec F S8x1x32 .f32 := broadcastInDim S8x1x32 ![0, 2] bcast_S8x32_S8x1x32_0_2 main_arg12
  let main_cst_8 : FVec F S_ .f32 := constant S_ .f32 0x00000000#32
  let main_v36 : FVec F S8x1x32 .f32 := broadcastInDim S8x1x32 ![] bcast_S_S8x1x32 main_cst_8
  fn_part2 (F := F) main_arg0 main_v32 main_v33 main_v34 main_v35 main_v36

def fn {F : FTy → Type} [FloatOps F] (main_arg0 : IVec S1 32) (main_arg1 : IVec S128 32) (main_arg2 : IVec S8 32) (main_arg3 : FVec F S16384x1024 .bf16) (main_arg4 : FVec F S8x16384 .f32) (main_arg5 : FVec F S8x16384 .f32) (main_arg6 : FVec F S8x1024x3584 .bf16) (main_arg7 : FVec F S8x1024x3584 .bf16) (main_arg8 : FVec F S8x3584x1024 .bf16) (main_arg9 : FVec F S16384x1024 .f32) (main_arg10 : FVec F S32x1024 .bf16) (main_arg11 : FVec F S8x32 .f32) (main_arg12 : FVec F S8x32 .f32) (main_arg13 : FVec F S32x1024 .f32) : IVec S8x16x1024x32 1 :=
  let main_v0 : IVec S16x8 32 := shapeCast S16x8 main_arg1 shapeCasts_S128_S16x8
  let main_v1 : IVec S8x16 32 := (transpose S8x16 [1, 0] · transposes_S16x8_S8x16_1_0) main_v0
  let main_v2 : FVec F S8x16x1024 .f32 := shapeCast S8x16x1024 main_arg4 shapeCasts_S8x16384_S8x16x1024
  let main_v3 : FVec F S8x16x1024 .f32 := shapeCast S8x16x1024 main_arg5 shapeCasts_S8x16384_S8x16x1024
  let main_cst : FVec F S_ .f32 := constant S_ .f32 0x00000000#32
  let main_v4 : FVec F S8x16x1024 .f32 := broadcastInDim S8x16x1024 ![] bcast_S_S8x16x1024 main_cst
  let main_v5 : IVec S8x16x1024 1 := cmpf .oge main_v3 main_v4
  let main_cst_0 : FVec F S_ .f32 := constant S_ .f32 0x3F800000#32
  let main_cst_1 : FVec F S_ .f32 := constant S_ .f32 0x00000000#32
  let main_v6 : FVec F S8x16x1024 .f32 := fn_where (F := F) main_v5 main_cst_0 main_cst_1
  let main_v7 : IVec S1024x1024 32 := iotaInDim S1024x1024 32 0
  let main_v8 : IVec S1024x1024 32 := iotaInDim S1024x1024 32 1
  let main_v9 : IVec S1024x1024 1 := cmpi .sgt main_v7 main_v8
  let main_v10 : FVec F S8x16x1x1024 .f32 := broadcastInDim S8x16x1x1024 ![0, 1, 3] bcast_S8x16x1024_S8x16x1x1024_0_1_3 main_v6
  let main_cst_2 : FVec F S_ .f32 := constant S_ .f32 0x00000000#32
  let main_v11 : FVec F S8x16x1024x1024 .f32 := fn_where_0 (F := F) main_v9 main_v10 main_cst_2
  let main_v12 : FVec F S8x16x1024x1024 .f32 := id main_v11
  let main_cst_3 : FVec F S_ .f32 := constant S_ .f32 0x00000000#32
  let main_v13 : FVec F S8x16x1024 .f32 := (fun x v => Host.reduceAdd x v reducesTo_S8x16x1024x1024_S8x16x1024_d3 h_S_) main_v12 main_cst_3
  let main_cst_4 : FVec F S_ .f32 := constant S_ .f32 0xBF800000#32
  let main_v14 : FVec F S8x16x1024 .f32 := fn_where_1 (F := F) main_v5 main_v13 main_cst_4
  let main_v15 : IVec S8x16x1024 1 := cmpf .oeq main_v3 main_v14
  let main_c : IVec S_ 32 := constantI S_ 32 0#32
  let main_v16 : IVec S8x16 32 := broadcastInDim S8x16 ![] bcast_S_S8x16 main_c
  fn_part1 (F := F) main_arg0 main_arg2 main_arg11 main_arg12 main_v1 main_v2 main_v5 main_v6 main_v15 main_v16
-- ==== Kernel.lean ====
abbrev S1 : Shape := ⟨1, ![1]⟩
abbrev S128 : Shape := ⟨1, ![128]⟩
abbrev S8 : Shape := ⟨1, ![8]⟩
abbrev S16384x1024 : Shape := ⟨2, ![16384, 1024]⟩
abbrev S8x16384 : Shape := ⟨2, ![8, 16384]⟩
abbrev S8x1024x3584 : Shape := ⟨3, ![8, 1024, 3584]⟩
abbrev S8x3584x1024 : Shape := ⟨3, ![8, 3584, 1024]⟩
abbrev S32x1024 : Shape := ⟨2, ![32, 1024]⟩
abbrev S8x32 : Shape := ⟨2, ![8, 32]⟩
abbrev S1024x1024 : Shape := ⟨2, ![1024, 1024]⟩
abbrev S8x1024 : Shape := ⟨2, ![8, 1024]⟩
abbrev S1x1024x3584 : Shape := ⟨3, ![1, 1024, 3584]⟩
abbrev S1x3584x1024 : Shape := ⟨3, ![1, 3584, 1024]⟩
abbrev S512x1024 : Shape := ⟨2, ![512, 1024]⟩
abbrev S1x1024 : Shape := ⟨2, ![1, 1024]⟩
abbrev S160x1024 : Shape := ⟨2, ![160, 1024]⟩
abbrev S256x1024 : Shape := ⟨2, ![256, 1024]⟩
abbrev S1x1024x512 : Shape := ⟨3, ![1, 1024, 512]⟩
abbrev S1024x512 : Shape := ⟨2, ![1024, 512]⟩
abbrev S160x512 : Shape := ⟨2, ![160, 512]⟩
abbrev S1x512x1024 : Shape := ⟨3, ![1, 512, 1024]⟩
abbrev S192x1024 : Shape := ⟨2, ![192, 1024]⟩
abbrev S192x512 : Shape := ⟨2, ![192, 512]⟩
abbrev S224x1024 : Shape := ⟨2, ![224, 1024]⟩
abbrev S224x512 : Shape := ⟨2, ![224, 512]⟩
abbrev S256x512 : Shape := ⟨2, ![256, 512]⟩
abbrev S288x1024 : Shape := ⟨2, ![288, 1024]⟩
abbrev S288x512 : Shape := ⟨2, ![288, 512]⟩
abbrev S320x1024 : Shape := ⟨2, ![320, 1024]⟩
abbrev S320x512 : Shape := ⟨2, ![320, 512]⟩
abbrev S352x1024 : Shape := ⟨2, ![352, 1024]⟩
abbrev S352x512 : Shape := ⟨2, ![352, 512]⟩
abbrev S384x1024 : Shape := ⟨2, ![384, 1024]⟩
abbrev S384x512 : Shape := ⟨2, ![384, 512]⟩
abbrev S416x1024 : Shape := ⟨2, ![416, 1024]⟩
abbrev S416x512 : Shape := ⟨2, ![416, 512]⟩
abbrev S512x512 : Shape := ⟨2, ![512, 512]⟩
abbrev S1x32 : Shape := ⟨2, ![1, 32]⟩
abbrev S32x32 : Shape := ⟨2, ![32, 32]⟩
abbrev S32x512 : Shape := ⟨2, ![32, 512]⟩

abbrev nBuf : Space → Nat
  | .hbm => 13
  | .vmem => 20
  | .smem => 3
  | _ => 0

abbrev bufTy : (tb : Table) → Fin (tcTables nBuf tb) → BufTy
  | .hbm, ⟨0, _⟩ => ⟨S16384x1024, .bf16⟩
  | .hbm, ⟨1, _⟩ => ⟨S8x16384, .f32⟩
  | .hbm, ⟨2, _⟩ => ⟨S8x16384, .f32⟩
  | .hbm, ⟨3, _⟩ => ⟨S8x1024x3584, .bf16⟩
  | .hbm, ⟨4, _⟩ => ⟨S8x1024x3584, .bf16⟩
  | .hbm, ⟨5, _⟩ => ⟨S8x3584x1024, .bf16⟩
  | .hbm, ⟨6, _⟩ => ⟨S16384x1024, .f32⟩
  | .hbm, ⟨7, _⟩ => ⟨S32x1024, .bf16⟩
  | .hbm, ⟨8, _⟩ => ⟨S8x32, .f32⟩
  | .hbm, ⟨9, _⟩ => ⟨S8x32, .f32⟩
  | .hbm, ⟨10, _⟩ => ⟨S32x1024, .f32⟩
  | .hbm, ⟨11, _⟩ => ⟨S16384x1024, .f32⟩
  | .hbm, ⟨12, _⟩ => ⟨S32x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024x3584, .bf16⟩
  | .local _ .vmem, ⟨7, _⟩ => ⟨S1x1024x3584, .bf16⟩
  | .local _ .vmem, ⟨8, _⟩ => ⟨S1x3584x1024, .bf16⟩
  | .local _ .vmem, ⟨9, _⟩ => ⟨S1024x1024, .f32⟩
  | .local _ .vmem, ⟨10, _⟩ => ⟨S1024x1024, .f32⟩
  | .local _ .vmem, ⟨11, _⟩ => ⟨S32x1024, .bf16⟩
  | .local _ .vmem, ⟨12, _⟩ => ⟨S8x32, .f32⟩
  | .local _ .vmem, ⟨13, _⟩ => ⟨S8x32, .f32⟩
  | .local _ .vmem, ⟨14, _⟩ => ⟨S32x1024, .f32⟩
  | .local _ .vmem, ⟨15, _⟩ => ⟨S1024x1024, .f32⟩
  | .local _ .vmem, ⟨16, _⟩ => ⟨S1024x1024, .f32⟩
  | .local _ .vmem, ⟨17, _⟩ => ⟨S32x1024, .f32⟩
  | .local _ .vmem, ⟨18, _⟩ => ⟨S512x1024, .bf16⟩
  | .local _ .vmem, ⟨19, _⟩ => ⟨S512x1024, .f32⟩
  | .local _ .smem, ⟨0, _⟩ => ⟨S1, .i32⟩
  | .local _ .smem, ⟨1, _⟩ => ⟨S128, .i32⟩
  | .local _ .smem, ⟨2, _⟩ => ⟨S8, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_arg10 : Ref sig .tc := ⟨.hbm, 7, rfl⟩
abbrev main_arg11 : Ref sig .tc := ⟨.hbm, 8, rfl⟩
abbrev main_arg12 : Ref sig .tc := ⟨.hbm, 9, rfl⟩
abbrev main_arg13 : Ref sig .tc := ⟨.hbm, 10, rfl⟩
abbrev main_v0_0 : Ref sig .tc := ⟨.hbm, 11, rfl⟩
abbrev main_v0_1 : Ref sig .tc := ⟨.hbm, 12, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) (v0 : BitVec 32) : Fin 1 → Nat :=
  let arg0 : BitVec 32 := BitVec.ofNat 32 (i 0).val
  let c8_i32 : BitVec 32 := 8#32
  let v1 : BitVec 32 := Scalar.muli arg0 c8_i32
  let v2 : BitVec 32 := Scalar.addi v1 v0
  let v3 : Index := Scalar.indexCast v2
  ![v3.toNat]

def k0_off2 (v0 : BitVec 32) : Fin 2 → Nat :=
  let v24 : Index := Scalar.indexCast v0
  let c0_6 : Index := 0#32
  ![v24.toNat, 0]
@[reducible] def k0_t1_loop : Scf.Loop 32 :=
  let c0_i32_41 : BitVec 32 := 0#32
  let c7_i32_42 : BitVec 32 := 7#32
  let v101 : BitVec 32 := Scalar.addi c0_i32_41 c7_i32_42
  let c1_i32_43 : BitVec 32 := 1#32
  ⟨c0_i32_41, v101, c1_i32_43⟩
def k0_mult1 (k0_t1 : Fin k0_t1_loop.trips) : BitVec 32 :=
  let c0_i32_41 : BitVec 32 := 0#32
  let c1_i32_43 : BitVec 32 := 1#32
  let arg19 : BitVec 32 := Scf.iv c0_i32_41 c1_i32_43 k0_t1
  let c512_i32 : BitVec 32 := 512#32
  let v122 : BitVec 32 := Scalar.muli arg19 c512_i32
  v122
def k0_off3 (k0_t1 : Fin k0_t1_loop.trips) : Fin 3 → Nat :=
  let c0_57 : Index := 0#32
  let c0_58 : Index := 0#32
  let c0_i32_41 : BitVec 32 := 0#32
  let c1_i32_43 : BitVec 32 := 1#32
  let arg19 : BitVec 32 := Scf.iv c0_i32_41 c1_i32_43 k0_t1
  let c512_i32 : BitVec 32 := 512#32
  let v122 : BitVec 32 := Scalar.muli arg19 c512_i32
  let v123 : BitVec 32 := v122
  let v124 : Index := Scalar.indexCast v123
  ![0, 0, v124.toNat]
def k0_off4 (k0_t1 : Fin k0_t1_loop.trips) : Fin 3 → Nat :=
  let c0_65 : Index := 0#32
  let c0_i32_41 : BitVec 32 := 0#32
  let c1_i32_43 : BitVec 32 := 1#32
  let arg19 : BitVec 32 := Scf.iv c0_i32_41 c1_i32_43 k0_t1
  let c512_i32 : BitVec 32 := 512#32
  let v122 : BitVec 32 := Scalar.muli arg19 c512_i32
  let v123 : BitVec 32 := v122
  let v137 : Index := Scalar.indexCast v123
  let c0_66 : Index := 0#32
  ![0, v137.toNat, 0]
def k0_off5 (v0 : BitVec 32) : Fin 2 → Nat :=
  let v108 : Index := Scalar.indexCast v0
  let c0_46 : Index := 0#32
  ![v108.toNat, 0]
def k0_cond2 (v4 : BitVec 32) : BitVec 1 :=
  let c32_i32 : BitVec 32 := 32#32
  let v5 : BitVec 32 := Scalar.addi v4 c32_i32
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c32_i32_0 : BitVec 32 := 32#32
  let c0_i32_2 : BitVec 32 := 0#32
  let v13 : BitVec 1 := Scalar.cmpi .sgt c32_i32_0 c0_i32_2
  let v14 : BitVec 32 := Scalar.extui v13
  let c0_i32_3 : BitVec 32 := 0#32
  let v15 : BitVec 1 := Scalar.cmpi .slt c32_i32_0 c0_i32_3
  let v16 : BitVec 32 := Scalar.extui v15
  let v17 : BitVec 32 := Scalar.subi v14 v16
  let v18 : BitVec 1 := Scalar.cmpi .ne v12 v17
  let v19 : BitVec 32 := Scalar.remsi v6 c32_i32_0
  let c0_i32_4 : BitVec 32 := 0#32
  let v20 : BitVec 1 := Scalar.cmpi .ne v19 c0_i32_4
  let v21 : BitVec 1 := Scalar.andi v18 v20
  let v7 : BitVec 32 := Scalar.divsi v6 c32_i32_0
  let c1_i32_5 : BitVec 32 := 1#32
  let v22 : BitVec 32 := Scalar.subi v7 c1_i32_5
  let v23 : BitVec 32 := Scalar.select v21 v22 v7
  let c5_i32 : BitVec 32 := 5#32
  let v29 : BitVec 1 := Scalar.cmpi .eq v23 c5_i32
  let v30 : BitVec 32 := Scalar.extui v29
  let c0_i32_9 : BitVec 32 := 0#32
  let v31 : BitVec 1 := Scalar.cmpi .ne v30 c0_i32_9
  v31

@[reducible] def k0_t2_loop : Scf.Loop 32 :=
  let c0_i32_41 : BitVec 32 := 0#32
  let c7_i32_42 : BitVec 32 := 7#32
  let v101 : BitVec 32 := Scalar.addi c0_i32_41 c7_i32_42
  let c1_i32_43 : BitVec 32 := 1#32
  ⟨c0_i32_41, v101, c1_i32_43⟩
def k0_mult2 (k0_t2 : Fin k0_t2_loop.trips) : BitVec 32 :=
  let c0_i32_41 : BitVec 32 := 0#32
  let c1_i32_43 : BitVec 32 := 1#32
  let arg19 : BitVec 32 := Scf.iv c0_i32_41 c1_i32_43 k0_t2
  let c512_i32 : BitVec 32 := 512#32
  let v122 : BitVec 32 := Scalar.muli arg19 c512_i32
  v122
def k0_off6 (k0_t2 : Fin k0_t2_loop.trips) : Fin 3 → Nat :=
  let c0_57 : Index := 0#32
  let c0_58 : Index := 0#32
  let c0_i32_41 : BitVec 32 := 0#32
  let c1_i32_43 : BitVec 32 := 1#32
  let arg19 : BitVec 32 := Scf.iv c0_i32_41 c1_i32_43 k0_t2
  let c512_i32 : BitVec 32 := 512#32
  let v122 : BitVec 32 := Scalar.muli arg19 c512_i32
  let v123 : BitVec 32 := v122
  let v124 : Index := Scalar.indexCast v123
  ![0, 0, v124.toNat]
def k0_off7 (k0_t2 : Fin k0_t2_loop.trips) : Fin 3 → Nat :=
  let c0_65 : Index := 0#32
  let c0_i32_41 : BitVec 32 := 0#32
  let c1_i32_43 : BitVec 32 := 1#32
  let arg19 : BitVec 32 := Scf.iv c0_i32_41 c1_i32_43 k0_t2
  let c512_i32 : BitVec 32 := 512#32
  let v122 : BitVec 32 := Scalar.muli arg19 c512_i32
  let v123 : BitVec 32 := v122
  let v137 : Index := Scalar.indexCast v123
  let c0_66 : Index := 0#32
  ![0, v137.toNat, 0]
def k0_off8 (v0 : BitVec 32) : Fin 2 → Nat :=
  let v108 : Index := Scalar.indexCast v0
  let c0_46 : Index := 0#32
  ![v108.toNat, 0]
def k0_cond3 (v4 : BitVec 32) : BitVec 1 :=
  let c32_i32 : BitVec 32 := 32#32
  let v5 : BitVec 32 := Scalar.addi v4 c32_i32
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c32_i32_0 : BitVec 32 := 32#32
  let c0_i32_2 : BitVec 32 := 0#32
  let v13 : BitVec 1 := Scalar.cmpi .sgt c32_i32_0 c0_i32_2
  let v14 : BitVec 32 := Scalar.extui v13
  let c0_i32_3 : BitVec 32 := 0#32
  let v15 : BitVec 1 := Scalar.cmpi .slt c32_i32_0 c0_i32_3
  let v16 : BitVec 32 := Scalar.extui v15
  let v17 : BitVec 32 := Scalar.subi v14 v16
  let v18 : BitVec 1 := Scalar.cmpi .ne v12 v17
  let v19 : BitVec 32 := Scalar.remsi v6 c32_i32_0
  let c0_i32_4 : BitVec 32 := 0#32
  let v20 : BitVec 1 := Scalar.cmpi .ne v19 c0_i32_4
  let v21 : BitVec 1 := Scalar.andi v18 v20
  let v7 : BitVec 32 := Scalar.divsi v6 c32_i32_0
  let c1_i32_5 : BitVec 32 := 1#32
  let v22 : BitVec 32 := Scalar.subi v7 c1_i32_5
  let v23 : BitVec 32 := Scalar.select v21 v22 v7
  let c6_i32 : BitVec 32 := 6#32
  let v32 : BitVec 1 := Scalar.cmpi .eq v23 c6_i32
  let v33 : BitVec 32 := Scalar.extui v32
  let c0_i32_10 : BitVec 32 := 0#32
  let v34 : BitVec 1 := Scalar.cmpi .ne v33 c0_i32_10
  v34

@[reducible] def k0_t3_loop : Scf.Loop 32 :=
  let c0_i32_41 : BitVec 32 := 0#32
  let c7_i32_42 : BitVec 32 := 7#32
  let v101 : BitVec 32 := Scalar.addi c0_i32_41 c7_i32_42
  let c1_i32_43 : BitVec 32 := 1#32
  ⟨c0_i32_41, v101, c1_i32_43⟩
def k0_mult3 (k0_t3 : Fin k0_t3_loop.trips) : BitVec 32 :=
  let c0_i32_41 : BitVec 32 := 0#32
  let c1_i32_43 : BitVec 32 := 1#32
  let arg19 : BitVec 32 := Scf.iv c0_i32_41 c1_i32_43 k0_t3
  let c512_i32 : BitVec 32 := 512#32
  let v122 : BitVec 32 := Scalar.muli arg19 c512_i32
  v122
def k0_off9 (k0_t3 : Fin k0_t3_loop.trips) : Fin 3 → Nat :=
  let c0_57 : Index := 0#32
  let c0_58 : Index := 0#32
  let c0_i32_41 : BitVec 32 := 0#32
  let c1_i32_43 : BitVec 32 := 1#32
  let arg19 : BitVec 32 := Scf.iv c0_i32_41 c1_i32_43 k0_t3
  let c512_i32 : BitVec 32 := 512#32
  let v122 : BitVec 32 := Scalar.muli arg19 c512_i32
  let v123 : BitVec 32 := v122
  let v124 : Index := Scalar.indexCast v123
  ![0, 0, v124.toNat]
def k0_off10 (k0_t3 : Fin k0_t3_loop.trips) : Fin 3 → Nat :=
  let c0_65 : Index := 0#32
  let c0_i32_41 : BitVec 32 := 0#32
  let c1_i32_43 : BitVec 32 := 1#32
  let arg19 : BitVec 32 := Scf.iv c0_i32_41 c1_i32_43 k0_t3
  let c512_i32 : BitVec 32 := 512#32
  let v122 : BitVec 32 := Scalar.muli arg19 c512_i32
  let v123 : BitVec 32 := v122
  let v137 : Index := Scalar.indexCast v123
  let c0_66 : Index := 0#32
  ![0, v137.toNat, 0]
def k0_off11 (v0 : BitVec 32) : Fin 2 → Nat :=
  let v108 : Index := Scalar.indexCast v0
  let c0_46 : Index := 0#32
  ![v108.toNat, 0]
def k0_cond4 (v4 : BitVec 32) : BitVec 1 :=
  let c32_i32 : BitVec 32 := 32#32
  let v5 : BitVec 32 := Scalar.addi v4 c32_i32
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c32_i32_0 : BitVec 32 := 32#32
  let c0_i32_2 : BitVec 32 := 0#32
  let v13 : BitVec 1 := Scalar.cmpi .sgt c32_i32_0 c0_i32_2
  let v14 : BitVec 32 := Scalar.extui v13
  let c0_i32_3 : BitVec 32 := 0#32
  let v15 : BitVec 1 := Scalar.cmpi .slt c32_i32_0 c0_i32_3
  let v16 : BitVec 32 := Scalar.extui v15
  let v17 : BitVec 32 := Scalar.subi v14 v16
  let v18 : BitVec 1 := Scalar.cmpi .ne v12 v17
  let v19 : BitVec 32 := Scalar.remsi v6 c32_i32_0
  let c0_i32_4 : BitVec 32 := 0#32
  let v20 : BitVec 1 := Scalar.cmpi .ne v19 c0_i32_4
  let v21 : BitVec 1 := Scalar.andi v18 v20
  let v7 : BitVec 32 := Scalar.divsi v6 c32_i32_0
  let c1_i32_5 : BitVec 32 := 1#32
  let v22 : BitVec 32 := Scalar.subi v7 c1_i32_5
  let v23 : BitVec 32 := Scalar.select v21 v22 v7
  let c7_i32 : BitVec 32 := 7#32
  let v35 : BitVec 1 := Scalar.cmpi .eq v23 c7_i32
  let v36 : BitVec 32 := Scalar.extui v35
  let c0_i32_11 : BitVec 32 := 0#32
  let v37 : BitVec 1 := Scalar.cmpi .ne v36 c0_i32_11
  v37

@[reducible] def k0_t4_loop : Scf.Loop 32 :=
  let c0_i32_41 : BitVec 32 := 0#32
  let c7_i32_42 : BitVec 32 := 7#32
  let v101 : BitVec 32 := Scalar.addi c0_i32_41 c7_i32_42
  let c1_i32_43 : BitVec 32 := 1#32
  ⟨c0_i32_41, v101, c1_i32_43⟩
def k0_mult4 (k0_t4 : Fin k0_t4_loop.trips) : BitVec 32 :=
  let c0_i32_41 : BitVec 32 := 0#32
  let c1_i32_43 : BitVec 32 := 1#32
  let arg19 : BitVec 32 := Scf.iv c0_i32_41 c1_i32_43 k0_t4
  let c512_i32 : BitVec 32 := 512#32
  let v122 : BitVec 32 := Scalar.muli arg19 c512_i32
  v122
def k0_off12 (k0_t4 : Fin k0_t4_loop.trips) : Fin 3 → Nat :=
  let c0_57 : Index := 0#32
  let c0_58 : Index := 0#32
  let c0_i32_41 : BitVec 32 := 0#32
  let c1_i32_43 : BitVec 32 := 1#32
  let arg19 : BitVec 32 := Scf.iv c0_i32_41 c1_i32_43 k0_t4
  let c512_i32 : BitVec 32 := 512#32
  let v122 : BitVec 32 := Scalar.muli arg19 c512_i32
  let v123 : BitVec 32 := v122
  let v124 : Index := Scalar.indexCast v123
  ![0, 0, v124.toNat]
def k0_off13 (k0_t4 : Fin k0_t4_loop.trips) : Fin 3 → Nat :=
  let c0_65 : Index := 0#32
  let c0_i32_41 : BitVec 32 := 0#32
  let c1_i32_43 : BitVec 32 := 1#32
  let arg19 : BitVec 32 := Scf.iv c0_i32_41 c1_i32_43 k0_t4
  let c512_i32 : BitVec 32 := 512#32
  let v122 : BitVec 32 := Scalar.muli arg19 c512_i32
  let v123 : BitVec 32 := v122
  let v137 : Index := Scalar.indexCast v123
  let c0_66 : Index := 0#32
  ![0, v137.toNat, 0]
def k0_off14 (v0 : BitVec 32) : Fin 2 → Nat :=
  let v108 : Index := Scalar.indexCast v0
  let c0_46 : Index := 0#32
  ![v108.toNat, 0]
def k0_cond5 (v4 : BitVec 32) : BitVec 1 :=
  let c32_i32 : BitVec 32 := 32#32
  let v5 : BitVec 32 := Scalar.addi v4 c32_i32
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c32_i32_0 : BitVec 32 := 32#32
  let c0_i32_2 : BitVec 32 := 0#32
  let v13 : BitVec 1 := Scalar.cmpi .sgt c32_i32_0 c0_i32_2
  let v14 : BitVec 32 := Scalar.extui v13
  let c0_i32_3 : BitVec 32 := 0#32
  let v15 : BitVec 1 := Scalar.cmpi .slt c32_i32_0 c0_i32_3
  let v16 : BitVec 32 := Scalar.extui v15
  let v17 : BitVec 32 := Scalar.subi v14 v16
  let v18 : BitVec 1 := Scalar.cmpi .ne v12 v17
  let v19 : BitVec 32 := Scalar.remsi v6 c32_i32_0
  let c0_i32_4 : BitVec 32 := 0#32
  let v20 : BitVec 1 := Scalar.cmpi .ne v19 c0_i32_4
  let v21 : BitVec 1 := Scalar.andi v18 v20
  let v7 : BitVec 32 := Scalar.divsi v6 c32_i32_0
  let c1_i32_5 : BitVec 32 := 1#32
  let v22 : BitVec 32 := Scalar.subi v7 c1_i32_5
  let v23 : BitVec 32 := Scalar.select v21 v22 v7
  let c8_i32_12 : BitVec 32 := 8#32
  let v38 : BitVec 1 := Scalar.cmpi .eq v23 c8_i32_12
  let v39 : BitVec 32 := Scalar.extui v38
  let c0_i32_13 : BitVec 32 := 0#32
  let v40 : BitVec 1 := Scalar.cmpi .ne v39 c0_i32_13
  v40

@[reducible] def k0_t5_loop : Scf.Loop 32 :=
  let c0_i32_41 : BitVec 32 := 0#32
  let c7_i32_42 : BitVec 32 := 7#32
  let v101 : BitVec 32 := Scalar.addi c0_i32_41 c7_i32_42
  let c1_i32_43 : BitVec 32 := 1#32
  ⟨c0_i32_41, v101, c1_i32_43⟩
def k0_mult5 (k0_t5 : Fin k0_t5_loop.trips) : BitVec 32 :=
  let c0_i32_41 : BitVec 32 := 0#32
  let c1_i32_43 : BitVec 32 := 1#32
  let arg19 : BitVec 32 := Scf.iv c0_i32_41 c1_i32_43 k0_t5
  let c512_i32 : BitVec 32 := 512#32
  let v122 : BitVec 32 := Scalar.muli arg19 c512_i32
  v122
def k0_off15 (k0_t5 : Fin k0_t5_loop.trips) : Fin 3 → Nat :=
  let c0_57 : Index := 0#32
  let c0_58 : Index := 0#32
  let c0_i32_41 : BitVec 32 := 0#32
  let c1_i32_43 : BitVec 32 := 1#32
  let arg19 : BitVec 32 := Scf.iv c0_i32_41 c1_i32_43 k0_t5
  let c512_i32 : BitVec 32 := 512#32
  let v122 : BitVec 32 := Scalar.muli arg19 c512_i32
  let v123 : BitVec 32 := v122
  let v124 : Index := Scalar.indexCast v123
  ![0, 0, v124.toNat]
def k0_off16 (k0_t5 : Fin k0_t5_loop.trips) : Fin 3 → Nat :=
  let c0_65 : Index := 0#32
  let c0_i32_41 : BitVec 32 := 0#32
  let c1_i32_43 : BitVec 32 := 1#32
  let arg19 : BitVec 32 := Scf.iv c0_i32_41 c1_i32_43 k0_t5
  let c512_i32 : BitVec 32 := 512#32
  let v122 : BitVec 32 := Scalar.muli arg19 c512_i32
  let v123 : BitVec 32 := v122
  let v137 : Index := Scalar.indexCast v123
  let c0_66 : Index := 0#32
  ![0, v137.toNat, 0]
def k0_off17 (v0 : BitVec 32) : Fin 2 → Nat :=
  let v108 : Index := Scalar.indexCast v0
  let c0_46 : Index := 0#32
  ![v108.toNat, 0]
def k0_cond6 (v4 : BitVec 32) : BitVec 1 :=
  let c32_i32 : BitVec 32 := 32#32
  let v5 : BitVec 32 := Scalar.addi v4 c32_i32
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c32_i32_0 : BitVec 32 := 32#32
  let c0_i32_2 : BitVec 32 := 0#32
  let v13 : BitVec 1 := Scalar.cmpi .sgt c32_i32_0 c0_i32_2
  let v14 : BitVec 32 := Scalar.extui v13
  let c0_i32_3 : BitVec 32 := 0#32
  let v15 : BitVec 1 := Scalar.cmpi .slt c32_i32_0 c0_i32_3
  let v16 : BitVec 32 := Scalar.extui v15
  let v17 : BitVec 32 := Scalar.subi v14 v16
  let v18 : BitVec 1 := Scalar.cmpi .ne v12 v17
  let v19 : BitVec 32 := Scalar.remsi v6 c32_i32_0
  let c0_i32_4 : BitVec 32 := 0#32
  let v20 : BitVec 1 := Scalar.cmpi .ne v19 c0_i32_4
  let v21 : BitVec 1 := Scalar.andi v18 v20
  let v7 : BitVec 32 := Scalar.divsi v6 c32_i32_0
  let c1_i32_5 : BitVec 32 := 1#32
  let v22 : BitVec 32 := Scalar.subi v7 c1_i32_5
  let v23 : BitVec 32 := Scalar.select v21 v22 v7
  let c9_i32 : BitVec 32 := 9#32
  let v41 : BitVec 1 := Scalar.cmpi .eq v23 c9_i32
  let v42 : BitVec 32 := Scalar.extui v41
  let c0_i32_14 : BitVec 32 := 0#32
  let v43 : BitVec 1 := Scalar.cmpi .ne v42 c0_i32_14
  v43

@[reducible] def k0_t6_loop : Scf.Loop 32 :=
  let c0_i32_41 : BitVec 32 := 0#32
  let c7_i32_42 : BitVec 32 := 7#32
  let v101 : BitVec 32 := Scalar.addi c0_i32_41 c7_i32_42
  let c1_i32_43 : BitVec 32 := 1#32
  ⟨c0_i32_41, v101, c1_i32_43⟩
def k0_mult6 (k0_t6 : Fin k0_t6_loop.trips) : BitVec 32 :=
  let c0_i32_41 : BitVec 32 := 0#32
  let c1_i32_43 : BitVec 32 := 1#32
  let arg19 : BitVec 32 := Scf.iv c0_i32_41 c1_i32_43 k0_t6
  let c512_i32 : BitVec 32 := 512#32
  let v122 : BitVec 32 := Scalar.muli arg19 c512_i32
  v122
def k0_off18 (k0_t6 : Fin k0_t6_loop.trips) : Fin 3 → Nat :=
  let c0_57 : Index := 0#32
  let c0_58 : Index := 0#32
  let c0_i32_41 : BitVec 32 := 0#32
  let c1_i32_43 : BitVec 32 := 1#32
  let arg19 : BitVec 32 := Scf.iv c0_i32_41 c1_i32_43 k0_t6
  let c512_i32 : BitVec 32 := 512#32
  let v122 : BitVec 32 := Scalar.muli arg19 c512_i32
  let v123 : BitVec 32 := v122
  let v124 : Index := Scalar.indexCast v123
  ![0, 0, v124.toNat]
def k0_off19 (k0_t6 : Fin k0_t6_loop.trips) : Fin 3 → Nat :=
  let c0_65 : Index := 0#32
  let c0_i32_41 : BitVec 32 := 0#32
  let c1_i32_43 : BitVec 32 := 1#32
  let arg19 : BitVec 32 := Scf.iv c0_i32_41 c1_i32_43 k0_t6
  let c512_i32 : BitVec 32 := 512#32
  let v122 : BitVec 32 := Scalar.muli arg19 c512_i32
  let v123 : BitVec 32 := v122
  let v137 : Index := Scalar.indexCast v123
  let c0_66 : Index := 0#32
  ![0, v137.toNat, 0]
def k0_off20 (v0 : BitVec 32) : Fin 2 → Nat :=
  let v108 : Index := Scalar.indexCast v0
  let c0_46 : Index := 0#32
  ![v108.toNat, 0]
def k0_cond7 (v4 : BitVec 32) : BitVec 1 :=
  let c32_i32 : BitVec 32 := 32#32
  let v5 : BitVec 32 := Scalar.addi v4 c32_i32
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c32_i32_0 : BitVec 32 := 32#32
  let c0_i32_2 : BitVec 32 := 0#32
  let v13 : BitVec 1 := Scalar.cmpi .sgt c32_i32_0 c0_i32_2
  let v14 : BitVec 32 := Scalar.extui v13
  let c0_i32_3 : BitVec 32 := 0#32
  let v15 : BitVec 1 := Scalar.cmpi .slt c32_i32_0 c0_i32_3
  let v16 : BitVec 32 := Scalar.extui v15
  let v17 : BitVec 32 := Scalar.subi v14 v16
  let v18 : BitVec 1 := Scalar.cmpi .ne v12 v17
  let v19 : BitVec 32 := Scalar.remsi v6 c32_i32_0
  let c0_i32_4 : BitVec 32 := 0#32
  let v20 : BitVec 1 := Scalar.cmpi .ne v19 c0_i32_4
  let v21 : BitVec 1 := Scalar.andi v18 v20
  let v7 : BitVec 32 := Scalar.divsi v6 c32_i32_0
  let c1_i32_5 : BitVec 32 := 1#32
  let v22 : BitVec 32 := Scalar.subi v7 c1_i32_5
  let v23 : BitVec 32 := Scalar.select v21 v22 v7
  let c10_i32 : BitVec 32 := 10#32
  let v44 : BitVec 1 := Scalar.cmpi .eq v23 c10_i32
  let v45 : BitVec 32 := Scalar.extui v44
  let c0_i32_15 : BitVec 32 := 0#32
  let v46 : BitVec 1 := Scalar.cmpi .ne v45 c0_i32_15
  v46

@[reducible] def k0_t7_loop : Scf.Loop 32 :=
  let c0_i32_41 : BitVec 32 := 0#32
  let c7_i32_42 : BitVec 32 := 7#32
  let v101 : BitVec 32 := Scalar.addi c0_i32_41 c7_i32_42
  let c1_i32_43 : BitVec 32 := 1#32
  ⟨c0_i32_41, v101, c1_i32_43⟩
def k0_mult7 (k0_t7 : Fin k0_t7_loop.trips) : BitVec 32 :=
  let c0_i32_41 : BitVec 32 := 0#32
  let c1_i32_43 : BitVec 32 := 1#32
  let arg19 : BitVec 32 := Scf.iv c0_i32_41 c1_i32_43 k0_t7
  let c512_i32 : BitVec 32 := 512#32
  let v122 : BitVec 32 := Scalar.muli arg19 c512_i32
  v122
def k0_off21 (k0_t7 : Fin k0_t7_loop.trips) : Fin 3 → Nat :=
  let c0_57 : Index := 0#32
  let c0_58 : Index := 0#32
  let c0_i32_41 : BitVec 32 := 0#32
  let c1_i32_43 : BitVec 32 := 1#32
  let arg19 : BitVec 32 := Scf.iv c0_i32_41 c1_i32_43 k0_t7
  let c512_i32 : BitVec 32 := 512#32
  let v122 : BitVec 32 := Scalar.muli arg19 c512_i32
  let v123 : BitVec 32 := v122
  let v124 : Index := Scalar.indexCast v123
  ![0, 0, v124.toNat]
def k0_off22 (k0_t7 : Fin k0_t7_loop.trips) : Fin 3 → Nat :=
  let c0_65 : Index := 0#32
  let c0_i32_41 : BitVec 32 := 0#32
  let c1_i32_43 : BitVec 32 := 1#32
  let arg19 : BitVec 32 := Scf.iv c0_i32_41 c1_i32_43 k0_t7
  let c512_i32 : BitVec 32 := 512#32
  let v122 : BitVec 32 := Scalar.muli arg19 c512_i32
  let v123 : BitVec 32 := v122
  let v137 : Index := Scalar.indexCast v123
  let c0_66 : Index := 0#32
  ![0, v137.toNat, 0]
def k0_off23 (v0 : BitVec 32) : Fin 2 → Nat :=
  let v108 : Index := Scalar.indexCast v0
  let c0_46 : Index := 0#32
  ![v108.toNat, 0]
def k0_cond8 (v4 : BitVec 32) : BitVec 1 :=
  let c32_i32 : BitVec 32 := 32#32
  let v5 : BitVec 32 := Scalar.addi v4 c32_i32
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c32_i32_0 : BitVec 32 := 32#32
  let c0_i32_2 : BitVec 32 := 0#32
  let v13 : BitVec 1 := Scalar.cmpi .sgt c32_i32_0 c0_i32_2
  let v14 : BitVec 32 := Scalar.extui v13
  let c0_i32_3 : BitVec 32 := 0#32
  let v15 : BitVec 1 := Scalar.cmpi .slt c32_i32_0 c0_i32_3
  let v16 : BitVec 32 := Scalar.extui v15
  let v17 : BitVec 32 := Scalar.subi v14 v16
  let v18 : BitVec 1 := Scalar.cmpi .ne v12 v17
  let v19 : BitVec 32 := Scalar.remsi v6 c32_i32_0
  let c0_i32_4 : BitVec 32 := 0#32
  let v20 : BitVec 1 := Scalar.cmpi .ne v19 c0_i32_4
  let v21 : BitVec 1 := Scalar.andi v18 v20
  let v7 : BitVec 32 := Scalar.divsi v6 c32_i32_0
  let c1_i32_5 : BitVec 32 := 1#32
  let v22 : BitVec 32 := Scalar.subi v7 c1_i32_5
  let v23 : BitVec 32 := Scalar.select v21 v22 v7
  let c11_i32 : BitVec 32 := 11#32
  let v47 : BitVec 1 := Scalar.cmpi .eq v23 c11_i32
  let v48 : BitVec 32 := Scalar.extui v47
  let c0_i32_16 : BitVec 32 := 0#32
  let v49 : BitVec 1 := Scalar.cmpi .ne v48 c0_i32_16
  v49

@[reducible] def k0_t8_loop : Scf.Loop 32 :=
  let c0_i32_41 : BitVec 32 := 0#32
  let c7_i32_42 : BitVec 32 := 7#32
  let v101 : BitVec 32 := Scalar.addi c0_i32_41 c7_i32_42
  let c1_i32_43 : BitVec 32 := 1#32
  ⟨c0_i32_41, v101, c1_i32_43⟩
def k0_mult8 (k0_t8 : Fin k0_t8_loop.trips) : BitVec 32 :=
  let c0_i32_41 : BitVec 32 := 0#32
  let c1_i32_43 : BitVec 32 := 1#32
  let arg19 : BitVec 32 := Scf.iv c0_i32_41 c1_i32_43 k0_t8
  let c512_i32 : BitVec 32 := 512#32
  let v122 : BitVec 32 := Scalar.muli arg19 c512_i32
  v122
def k0_off24 (k0_t8 : Fin k0_t8_loop.trips) : Fin 3 → Nat :=
  let c0_57 : Index := 0#32
  let c0_58 : Index := 0#32
  let c0_i32_41 : BitVec 32 := 0#32
  let c1_i32_43 : BitVec 32 := 1#32
  let arg19 : BitVec 32 := Scf.iv c0_i32_41 c1_i32_43 k0_t8
  let c512_i32 : BitVec 32 := 512#32
  let v122 : BitVec 32 := Scalar.muli arg19 c512_i32
  let v123 : BitVec 32 := v122
  let v124 : Index := Scalar.indexCast v123
  ![0, 0, v124.toNat]
def k0_off25 (k0_t8 : Fin k0_t8_loop.trips) : Fin 3 → Nat :=
  let c0_65 : Index := 0#32
  let c0_i32_41 : BitVec 32 := 0#32
  let c1_i32_43 : BitVec 32 := 1#32
  let arg19 : BitVec 32 := Scf.iv c0_i32_41 c1_i32_43 k0_t8
  let c512_i32 : BitVec 32 := 512#32
  let v122 : BitVec 32 := Scalar.muli arg19 c512_i32
  let v123 : BitVec 32 := v122
  let v137 : Index := Scalar.indexCast v123
  let c0_66 : Index := 0#32
  ![0, v137.toNat, 0]
def k0_off26 (v0 : BitVec 32) : Fin 2 → Nat :=
  let v108 : Index := Scalar.indexCast v0
  let c0_46 : Index := 0#32
  ![v108.toNat, 0]
def k0_cond9 (v4 : BitVec 32) : BitVec 1 :=
  let c32_i32 : BitVec 32 := 32#32
  let v5 : BitVec 32 := Scalar.addi v4 c32_i32
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c32_i32_0 : BitVec 32 := 32#32
  let c0_i32_2 : BitVec 32 := 0#32
  let v13 : BitVec 1 := Scalar.cmpi .sgt c32_i32_0 c0_i32_2
  let v14 : BitVec 32 := Scalar.extui v13
  let c0_i32_3 : BitVec 32 := 0#32
  let v15 : BitVec 1 := Scalar.cmpi .slt c32_i32_0 c0_i32_3
  let v16 : BitVec 32 := Scalar.extui v15
  let v17 : BitVec 32 := Scalar.subi v14 v16
  let v18 : BitVec 1 := Scalar.cmpi .ne v12 v17
  let v19 : BitVec 32 := Scalar.remsi v6 c32_i32_0
  let c0_i32_4 : BitVec 32 := 0#32
  let v20 : BitVec 1 := Scalar.cmpi .ne v19 c0_i32_4
  let v21 : BitVec 1 := Scalar.andi v18 v20
  let v7 : BitVec 32 := Scalar.divsi v6 c32_i32_0
  let c1_i32_5 : BitVec 32 := 1#32
  let v22 : BitVec 32 := Scalar.subi v7 c1_i32_5
  let v23 : BitVec 32 := Scalar.select v21 v22 v7
  let c12_i32 : BitVec 32 := 12#32
  let v50 : BitVec 1 := Scalar.cmpi .eq v23 c12_i32
  let v51 : BitVec 32 := Scalar.extui v50
  let c0_i32_17 : BitVec 32 := 0#32
  let v52 : BitVec 1 := Scalar.cmpi .ne v51 c0_i32_17
  v52

@[reducible] def k0_t9_loop : Scf.Loop 32 :=
  let c0_i32_41 : BitVec 32 := 0#32
  let c7_i32_42 : BitVec 32 := 7#32
  let v101 : BitVec 32 := Scalar.addi c0_i32_41 c7_i32_42
  let c1_i32_43 : BitVec 32 := 1#32
  ⟨c0_i32_41, v101, c1_i32_43⟩
def k0_mult9 (k0_t9 : Fin k0_t9_loop.trips) : BitVec 32 :=
  let c0_i32_41 : BitVec 32 := 0#32
  let c1_i32_43 : BitVec 32 := 1#32
  let arg19 : BitVec 32 := Scf.iv c0_i32_41 c1_i32_43 k0_t9
  let c512_i32 : BitVec 32 := 512#32
  let v122 : BitVec 32 := Scalar.muli arg19 c512_i32
  v122
def k0_off27 (k0_t9 : Fin k0_t9_loop.trips) : Fin 3 → Nat :=
  let c0_57 : Index := 0#32
  let c0_58 : Index := 0#32
  let c0_i32_41 : BitVec 32 := 0#32
  let c1_i32_43 : BitVec 32 := 1#32
  let arg19 : BitVec 32 := Scf.iv c0_i32_41 c1_i32_43 k0_t9
  let c512_i32 : BitVec 32 := 512#32
  let v122 : BitVec 32 := Scalar.muli arg19 c512_i32
  let v123 : BitVec 32 := v122
  let v124 : Index := Scalar.indexCast v123
  ![0, 0, v124.toNat]
def k0_off28 (k0_t9 : Fin k0_t9_loop.trips) : Fin 3 → Nat :=
  let c0_65 : Index := 0#32
  let c0_i32_41 : BitVec 32 := 0#32
  let c1_i32_43 : BitVec 32 := 1#32
  let arg19 : BitVec 32 := Scf.iv c0_i32_41 c1_i32_43 k0_t9
  let c512_i32 : BitVec 32 := 512#32
  let v122 : BitVec 32 := Scalar.muli arg19 c512_i32
  let v123 : BitVec 32 := v122
  let v137 : Index := Scalar.indexCast v123
  let c0_66 : Index := 0#32
  ![0, v137.toNat, 0]
def k0_off29 (v0 : BitVec 32) : Fin 2 → Nat :=
  let v108 : Index := Scalar.indexCast v0
  let c0_46 : Index := 0#32
  ![v108.toNat, 0]
def k0_cond10 (v4 : BitVec 32) : BitVec 1 :=
  let c32_i32 : BitVec 32 := 32#32
  let v5 : BitVec 32 := Scalar.addi v4 c32_i32
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c32_i32_0 : BitVec 32 := 32#32
  let c0_i32_2 : BitVec 32 := 0#32
  let v13 : BitVec 1 := Scalar.cmpi .sgt c32_i32_0 c0_i32_2
  let v14 : BitVec 32 := Scalar.extui v13
  let c0_i32_3 : BitVec 32 := 0#32
  let v15 : BitVec 1 := Scalar.cmpi .slt c32_i32_0 c0_i32_3
  let v16 : BitVec 32 := Scalar.extui v15
  let v17 : BitVec 32 := Scalar.subi v14 v16
  let v18 : BitVec 1 := Scalar.cmpi .ne v12 v17
  let v19 : BitVec 32 := Scalar.remsi v6 c32_i32_0
  let c0_i32_4 : BitVec 32 := 0#32
  let v20 : BitVec 1 := Scalar.cmpi .ne v19 c0_i32_4
  let v21 : BitVec 1 := Scalar.andi v18 v20
  let v7 : BitVec 32 := Scalar.divsi v6 c32_i32_0
  let c1_i32_5 : BitVec 32 := 1#32
  let v22 : BitVec 32 := Scalar.subi v7 c1_i32_5
  let v23 : BitVec 32 := Scalar.select v21 v22 v7
  let c13_i32 : BitVec 32 := 13#32
  let v53 : BitVec 1 := Scalar.cmpi .eq v23 c13_i32
  let v54 : BitVec 32 := Scalar.extui v53
  let c0_i32_18 : BitVec 32 := 0#32
  let v55 : BitVec 1 := Scalar.cmpi .ne v54 c0_i32_18
  v55

@[reducible] def k0_t10_loop (v4 : BitVec 32) : Scf.Loop 32 :=
  let c0_i32_44 : BitVec 32 := 0#32
  let c512_i32 : BitVec 32 := 512#32
  let v83 : BitVec 32 := Scalar.addi v4 c512_i32
  let c1_i32_35 : BitVec 32 := 1#32
  let v84 : BitVec 32 := Scalar.subi v83 c1_i32_35
  let c0_i32_37 : BitVec 32 := 0#32
  let v86 : BitVec 1 := Scalar.cmpi .sgt v84 c0_i32_37
  let v87 : BitVec 32 := Scalar.extui v86
  let c0_i32_38 : BitVec 32 := 0#32
  let v88 : BitVec 1 := Scalar.cmpi .slt v84 c0_i32_38
  let v89 : BitVec 32 := Scalar.extui v88
  let v90 : BitVec 32 := Scalar.subi v87 v89
  let c512_i32_36 : BitVec 32 := 512#32
  let c0_i32_39 : BitVec 32 := 0#32
  let v91 : BitVec 1 := Scalar.cmpi .sgt c512_i32_36 c0_i32_39
  let v92 : BitVec 32 := Scalar.extui v91
  let c0_i32_40 : BitVec 32 := 0#32
  let v93 : BitVec 1 := Scalar.cmpi .slt c512_i32_36 c0_i32_40
  let v94 : BitVec 32 := Scalar.extui v93
  let v95 : BitVec 32 := Scalar.subi v92 v94
  let v96 : BitVec 1 := Scalar.cmpi .ne v90 v95
  let v97 : BitVec 32 := Scalar.remsi v84 c512_i32_36
  let c0_i32_41 : BitVec 32 := 0#32
  let v98 : BitVec 1 := Scalar.cmpi .ne v97 c0_i32_41
  let v99 : BitVec 1 := Scalar.andi v96 v98
  let v85 : BitVec 32 := Scalar.divsi v84 c512_i32_36
  let c1_i32_42 : BitVec 32 := 1#32
  let v100 : BitVec 32 := Scalar.subi v85 c1_i32_42
  let v101 : BitVec 32 := Scalar.select v99 v100 v85
  let v102 : BitVec 32 := Scalar.subi v101 c0_i32_44
  let c1_i32_45 : BitVec 32 := 1#32
  let v104 : BitVec 32 := Scalar.divsi v102 c1_i32_45
  let v105 : BitVec 32 := Scalar.muli v104 c1_i32_45
  let v106 : BitVec 32 := Scalar.addi c0_i32_44 v105
  let c1_i32_46 : BitVec 32 := 1#32
  ⟨c0_i32_44, v106, c1_i32_46⟩
def k0_cond11 (v4 : BitVec 32) : BitVec 1 :=
  let c32_i32 : BitVec 32 := 32#32
  let v5 : BitVec 32 := Scalar.addi v4 c32_i32
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c32_i32_0 : BitVec 32 := 32#32
  let c0_i32_2 : BitVec 32 := 0#32
  let v13 : BitVec 1 := Scalar.cmpi .sgt c32_i32_0 c0_i32_2
  let v14 : BitVec 32 := Scalar.extui v13
  let c0_i32_3 : BitVec 32 := 0#32
  let v15 : BitVec 1 := Scalar.cmpi .slt c32_i32_0 c0_i32_3
  let v16 : BitVec 32 := Scalar.extui v15
  let v17 : BitVec 32 := Scalar.subi v14 v16
  let v18 : BitVec 1 := Scalar.cmpi .ne v12 v17
  let v19 : BitVec 32 := Scalar.remsi v6 c32_i32_0
  let c0_i32_4 : BitVec 32 := 0#32
  let v20 : BitVec 1 := Scalar.cmpi .ne v19 c0_i32_4
  let v21 : BitVec 1 := Scalar.andi v18 v20
  let v7 : BitVec 32 := Scalar.divsi v6 c32_i32_0
  let c1_i32_5 : BitVec 32 := 1#32
  let v22 : BitVec 32 := Scalar.subi v7 c1_i32_5
  let v23 : BitVec 32 := Scalar.select v21 v22 v7
  let c0_i32_19 : BitVec 32 := 0#32
  let v56 : BitVec 1 := Scalar.cmpi .eq v23 c0_i32_19
  let c5_i32_20 : BitVec 32 := 5#32
  let v57 : BitVec 1 := Scalar.cmpi .eq v23 c5_i32_20
  let v58 : BitVec 1 := Scalar.ori v56 v57
  let c6_i32_21 : BitVec 32 := 6#32
  let v59 : BitVec 1 := Scalar.cmpi .eq v23 c6_i32_21
  let v60 : BitVec 1 := Scalar.ori v58 v59
  let c7_i32_22 : BitVec 32 := 7#32
  let v61 : BitVec 1 := Scalar.cmpi .eq v23 c7_i32_22
  let v62 : BitVec 1 := Scalar.ori v60 v61
  let c8_i32_23 : BitVec 32 := 8#32
  let v63 : BitVec 1 := Scalar.cmpi .eq v23 c8_i32_23
  let v64 : BitVec 1 := Scalar.ori v62 v63
  let c9_i32_24 : BitVec 32 := 9#32
  let v65 : BitVec 1 := Scalar.cmpi .eq v23 c9_i32_24
  let v66 : BitVec 1 := Scalar.ori v64 v65
  let c10_i32_25 : BitVec 32 := 10#32
  let v67 : BitVec 1 := Scalar.cmpi .eq v23 c10_i32_25
  let v68 : BitVec 1 := Scalar.ori v66 v67
  let c11_i32_26 : BitVec 32 := 11#32
  let v69 : BitVec 1 := Scalar.cmpi .eq v23 c11_i32_26
  let v70 : BitVec 1 := Scalar.ori v68 v69
  let c12_i32_27 : BitVec 32 := 12#32
  let v71 : BitVec 1 := Scalar.cmpi .eq v23 c12_i32_27
  let v72 : BitVec 1 := Scalar.ori v70 v71
  let c13_i32_28 : BitVec 32 := 13#32
  let v73 : BitVec 1 := Scalar.cmpi .eq v23 c13_i32_28
  let v74 : BitVec 1 := Scalar.ori v72 v73
  let v_true : BitVec 1 := 1#1
  let v75 : BitVec 1 := Scalar.xori v74 v_true
  let v76 : BitVec 32 := Scalar.extui v75
  let c0_i32_29 : BitVec 32 := 0#32
  let v77 : BitVec 1 := Scalar.cmpi .ne v76 c0_i32_29
  v77

@[reducible] def k0_t11_loop : Scf.Loop 32 :=
  let c0_i32_59 : BitVec 32 := 0#32
  let c7_i32_60 : BitVec 32 := 7#32
  let v128 : BitVec 32 := Scalar.addi c0_i32_59 c7_i32_60
  let c1_i32_61 : BitVec 32 := 1#32
  ⟨c0_i32_59, v128, c1_i32_61⟩
def k0_mult10 (k0_t11 : Fin k0_t11_loop.trips) : BitVec 32 :=
  let c0_i32_59 : BitVec 32 := 0#32
  let c1_i32_61 : BitVec 32 := 1#32
  let arg20 : BitVec 32 := Scf.iv c0_i32_59 c1_i32_61 k0_t11
  let c512_i32_74 : BitVec 32 := 512#32
  let v150 : BitVec 32 := Scalar.muli arg20 c512_i32_74
  v150
def k0_off30 (k0_t11 : Fin k0_t11_loop.trips) : Fin 3 → Nat :=
  let c0_75 : Index := 0#32
  let c0_76 : Index := 0#32
  let c0_i32_59 : BitVec 32 := 0#32
  let c1_i32_61 : BitVec 32 := 1#32
  let arg20 : BitVec 32 := Scf.iv c0_i32_59 c1_i32_61 k0_t11
  let c512_i32_74 : BitVec 32 := 512#32
  let v150 : BitVec 32 := Scalar.muli arg20 c512_i32_74
  let v151 : BitVec 32 := v150
  let v152 : Index := Scalar.indexCast v151
  ![0, 0, v152.toNat]
def k0_off31 (k0_t11 : Fin k0_t11_loop.trips) : Fin 3 → Nat :=
  let c0_83 : Index := 0#32
  let c0_i32_59 : BitVec 32 := 0#32
  let c1_i32_61 : BitVec 32 := 1#32
  let arg20 : BitVec 32 := Scf.iv c0_i32_59 c1_i32_61 k0_t11
  let c512_i32_74 : BitVec 32 := 512#32
  let v150 : BitVec 32 := Scalar.muli arg20 c512_i32_74
  let v151 : BitVec 32 := v150
  let v165 : Index := Scalar.indexCast v151
  let c0_84 : Index := 0#32
  ![0, v165.toNat, 0]
def k0_off32 (v0 : BitVec 32) : Fin 2 → Nat :=
  let v135 : Index := Scalar.indexCast v0
  let c0_63 : Index := 0#32
  ![v135.toNat, 0]
@[reducible] def k0_t12_loop (v4 : BitVec 32) : Scf.Loop 32 :=
  let c0_i32_44 : BitVec 32 := 0#32
  let c512_i32 : BitVec 32 := 512#32
  let v83 : BitVec 32 := Scalar.addi v4 c512_i32
  let c1_i32_35 : BitVec 32 := 1#32
  let v84 : BitVec 32 := Scalar.subi v83 c1_i32_35
  let c0_i32_37 : BitVec 32 := 0#32
  let v86 : BitVec 1 := Scalar.cmpi .sgt v84 c0_i32_37
  let v87 : BitVec 32 := Scalar.extui v86
  let c0_i32_38 : BitVec 32 := 0#32
  let v88 : BitVec 1 := Scalar.cmpi .slt v84 c0_i32_38
  let v89 : BitVec 32 := Scalar.extui v88
  let v90 : BitVec 32 := Scalar.subi v87 v89
  let c512_i32_36 : BitVec 32 := 512#32
  let c0_i32_39 : BitVec 32 := 0#32
  let v91 : BitVec 1 := Scalar.cmpi .sgt c512_i32_36 c0_i32_39
  let v92 : BitVec 32 := Scalar.extui v91
  let c0_i32_40 : BitVec 32 := 0#32
  let v93 : BitVec 1 := Scalar.cmpi .slt c512_i32_36 c0_i32_40
  let v94 : BitVec 32 := Scalar.extui v93
  let v95 : BitVec 32 := Scalar.subi v92 v94
  let v96 : BitVec 1 := Scalar.cmpi .ne v90 v95
  let v97 : BitVec 32 := Scalar.remsi v84 c512_i32_36
  let c0_i32_41 : BitVec 32 := 0#32
  let v98 : BitVec 1 := Scalar.cmpi .ne v97 c0_i32_41
  let v99 : BitVec 1 := Scalar.andi v96 v98
  let v85 : BitVec 32 := Scalar.divsi v84 c512_i32_36
  let c1_i32_42 : BitVec 32 := 1#32
  let v100 : BitVec 32 := Scalar.subi v85 c1_i32_42
  let v101 : BitVec 32 := Scalar.select v99 v100 v85
  let v102 : BitVec 32 := Scalar.subi v101 c0_i32_44
  let c1_i32_45 : BitVec 32 := 1#32
  let v104 : BitVec 32 := Scalar.divsi v102 c1_i32_45
  let v105 : BitVec 32 := Scalar.muli v104 c1_i32_45
  let v106 : BitVec 32 := Scalar.addi c0_i32_44 v105
  let v103 : BitVec 32 := Scalar.addi c0_i32_44 v102
  let c1_i32_47 : BitVec 32 := 1#32
  ⟨v106, v103, c1_i32_47⟩
@[reducible] def k0_t13_loop : Scf.Loop 32 :=
  let c0_i32_59 : BitVec 32 := 0#32
  let c7_i32_60 : BitVec 32 := 7#32
  let v128 : BitVec 32 := Scalar.addi c0_i32_59 c7_i32_60
  let c1_i32_61 : BitVec 32 := 1#32
  ⟨c0_i32_59, v128, c1_i32_61⟩
def k0_mult11 (k0_t13 : Fin k0_t13_loop.trips) : BitVec 32 :=
  let c0_i32_59 : BitVec 32 := 0#32
  let c1_i32_61 : BitVec 32 := 1#32
  let arg20 : BitVec 32 := Scf.iv c0_i32_59 c1_i32_61 k0_t13
  let c512_i32_74 : BitVec 32 := 512#32
  let v150 : BitVec 32 := Scalar.muli arg20 c512_i32_74
  v150
def k0_off33 (k0_t13 : Fin k0_t13_loop.trips) : Fin 3 → Nat :=
  let c0_75 : Index := 0#32
  let c0_76 : Index := 0#32
  let c0_i32_59 : BitVec 32 := 0#32
  let c1_i32_61 : BitVec 32 := 1#32
  let arg20 : BitVec 32 := Scf.iv c0_i32_59 c1_i32_61 k0_t13
  let c512_i32_74 : BitVec 32 := 512#32
  let v150 : BitVec 32 := Scalar.muli arg20 c512_i32_74
  let v151 : BitVec 32 := v150
  let v152 : Index := Scalar.indexCast v151
  ![0, 0, v152.toNat]
def k0_off34 (k0_t13 : Fin k0_t13_loop.trips) : Fin 3 → Nat :=
  let c0_83 : Index := 0#32
  let c0_i32_59 : BitVec 32 := 0#32
  let c1_i32_61 : BitVec 32 := 1#32
  let arg20 : BitVec 32 := Scf.iv c0_i32_59 c1_i32_61 k0_t13
  let c512_i32_74 : BitVec 32 := 512#32
  let v150 : BitVec 32 := Scalar.muli arg20 c512_i32_74
  let v151 : BitVec 32 := v150
  let v165 : Index := Scalar.indexCast v151
  let c0_84 : Index := 0#32
  ![0, v165.toNat, 0]
def k0_off35 (v0 : BitVec 32) : Fin 2 → Nat :=
  let v135 : Index := Scalar.indexCast v0
  let c0_63 : Index := 0#32
  ![v135.toNat, 0]

def k0_chk2 (v0 : BitVec 32) (v4 : BitVec 32) : Prop :=
  (∀ (k0_h2 : k0_cond2 v4 = 1#1), ∀ a, (k0_off5 v0) a + S1x1024.size a ≤ S8x1024.size a) ∧
  (∀ (k0_h3 : k0_cond3 v4 = 1#1), ∀ a, (k0_off8 v0) a + S1x1024.size a ≤ S8x1024.size a) ∧
  (∀ (k0_h4 : k0_cond4 v4 = 1#1), ∀ a, (k0_off11 v0) a + S1x1024.size a ≤ S8x1024.size a) ∧
  (∀ (k0_h5 : k0_cond5 v4 = 1#1), ∀ a, (k0_off14 v0) a + S1x1024.size a ≤ S8x1024.size a) ∧
  (∀ (k0_h6 : k0_cond6 v4 = 1#1), ∀ a, (k0_off17 v0) a + S1x1024.size a ≤ S8x1024.size a) ∧
  (∀ (k0_h7 : k0_cond7 v4 = 1#1), ∀ a, (k0_off20 v0) a + S1x1024.size a ≤ S8x1024.size a) ∧
  (∀ (k0_h8 : k0_cond8 v4 = 1#1), ∀ a, (k0_off23 v0) a + S1x1024.size a ≤ S8x1024.size a) ∧
  (∀ (k0_h9 : k0_cond9 v4 = 1#1), ∀ a, (k0_off26 v0) a + S1x1024.size a ≤ S8x1024.size a) ∧
  (∀ (k0_h10 : k0_cond10 v4 = 1#1), ∀ a, (k0_off29 v0) a + S1x1024.size a ≤ S8x1024.size a) ∧
  (∀ (k0_h11 : k0_cond11 v4 = 1#1), (k0_t10_loop v4).OK) ∧
  (∀ k0_t10 : Fin (k0_t10_loop v4).trips, ∀ (k0_h11 : k0_cond11 v4 = 1#1), ∀ a, (k0_off32 v0) a + S1x1024.size a ≤ S8x1024.size a) ∧
  (∀ (k0_h11 : k0_cond11 v4 = 1#1), (k0_t12_loop v4).OK) ∧
  (∀ k0_t12 : Fin (k0_t12_loop v4).trips, ∀ (k0_h11 : k0_cond11 v4 = 1#1), ∀ a, (k0_off35 v0) a + S1x1024.size a ≤ S8x1024.size a)
theorem k0_off5_inb : ∀ (v0 : BitVec 32) (v4 : BitVec 32) (k0_hw2 : k0_chk2 v0 v4), ∀ (k0_h2 : k0_cond2 v4 = 1#1), ∀ a, (k0_off5 v0) a + S1x1024.size a ≤ S8x1024.size a := fun v0 v4 k0_hw2 k0_h2 => k0_hw2.1 k0_h2
theorem k0_off8_inb : ∀ (v0 : BitVec 32) (v4 : BitVec 32) (k0_hw2 : k0_chk2 v0 v4), ∀ (k0_h3 : k0_cond3 v4 = 1#1), ∀ a, (k0_off8 v0) a + S1x1024.size a ≤ S8x1024.size a := fun v0 v4 k0_hw2 k0_h3 => k0_hw2.2.1 k0_h3
theorem k0_off11_inb : ∀ (v0 : BitVec 32) (v4 : BitVec 32) (k0_hw2 : k0_chk2 v0 v4), ∀ (k0_h4 : k0_cond4 v4 = 1#1), ∀ a, (k0_off11 v0) a + S1x1024.size a ≤ S8x1024.size a := fun v0 v4 k0_hw2 k0_h4 => k0_hw2.2.2.1 k0_h4
theorem k0_off14_inb : ∀ (v0 : BitVec 32) (v4 : BitVec 32) (k0_hw2 : k0_chk2 v0 v4), ∀ (k0_h5 : k0_cond5 v4 = 1#1), ∀ a, (k0_off14 v0) a + S1x1024.size a ≤ S8x1024.size a := fun v0 v4 k0_hw2 k0_h5 => k0_hw2.2.2.2.1 k0_h5
theorem k0_off17_inb : ∀ (v0 : BitVec 32) (v4 : BitVec 32) (k0_hw2 : k0_chk2 v0 v4), ∀ (k0_h6 : k0_cond6 v4 = 1#1), ∀ a, (k0_off17 v0) a + S1x1024.size a ≤ S8x1024.size a := fun v0 v4 k0_hw2 k0_h6 => k0_hw2.2.2.2.2.1 k0_h6
theorem k0_off20_inb : ∀ (v0 : BitVec 32) (v4 : BitVec 32) (k0_hw2 : k0_chk2 v0 v4), ∀ (k0_h7 : k0_cond7 v4 = 1#1), ∀ a, (k0_off20 v0) a + S1x1024.size a ≤ S8x1024.size a := fun v0 v4 k0_hw2 k0_h7 => k0_hw2.2.2.2.2.2.1 k0_h7
theorem k0_off23_inb : ∀ (v0 : BitVec 32) (v4 : BitVec 32) (k0_hw2 : k0_chk2 v0 v4), ∀ (k0_h8 : k0_cond8 v4 = 1#1), ∀ a, (k0_off23 v0) a + S1x1024.size a ≤ S8x1024.size a := fun v0 v4 k0_hw2 k0_h8 => k0_hw2.2.2.2.2.2.2.1 k0_h8
theorem k0_off26_inb : ∀ (v0 : BitVec 32) (v4 : BitVec 32) (k0_hw2 : k0_chk2 v0 v4), ∀ (k0_h9 : k0_cond9 v4 = 1#1), ∀ a, (k0_off26 v0) a + S1x1024.size a ≤ S8x1024.size a := fun v0 v4 k0_hw2 k0_h9 => k0_hw2.2.2.2.2.2.2.2.1 k0_h9
theorem k0_off29_inb : ∀ (v0 : BitVec 32) (v4 : BitVec 32) (k0_hw2 : k0_chk2 v0 v4), ∀ (k0_h10 : k0_cond10 v4 = 1#1), ∀ a, (k0_off29 v0) a + S1x1024.size a ≤ S8x1024.size a := fun v0 v4 k0_hw2 k0_h10 => k0_hw2.2.2.2.2.2.2.2.2.1 k0_h10
theorem k0_t10_ok : ∀ (v0 : BitVec 32) (v4 : BitVec 32) (k0_hw2 : k0_chk2 v0 v4), ∀ (k0_h11 : k0_cond11 v4 = 1#1), (k0_t10_loop v4).OK := fun v0 v4 k0_hw2 k0_h11 => k0_hw2.2.2.2.2.2.2.2.2.2.1 k0_h11
theorem k0_off32_inb : ∀ (v0 : BitVec 32) (v4 : BitVec 32) (k0_hw2 : k0_chk2 v0 v4) (k0_t10 : Fin (k0_t10_loop v4).trips), ∀ (k0_h11 : k0_cond11 v4 = 1#1), ∀ a, (k0_off32 v0) a + S1x1024.size a ≤ S8x1024.size a := fun v0 v4 k0_hw2 k0_t10 k0_h11 => k0_hw2.2.2.2.2.2.2.2.2.2.2.1 k0_t10 k0_h11
theorem k0_t12_ok : ∀ (v0 : BitVec 32) (v4 : BitVec 32) (k0_hw2 : k0_chk2 v0 v4), ∀ (k0_h11 : k0_cond11 v4 = 1#1), (k0_t12_loop v4).OK := fun v0 v4 k0_hw2 k0_h11 => k0_hw2.2.2.2.2.2.2.2.2.2.2.2.1 k0_h11
theorem k0_off35_inb : ∀ (v0 : BitVec 32) (v4 : BitVec 32) (k0_hw2 : k0_chk2 v0 v4) (k0_t12 : Fin (k0_t12_loop v4).trips), ∀ (k0_h11 : k0_cond11 v4 = 1#1), ∀ a, (k0_off35 v0) a + S1x1024.size a ≤ S8x1024.size a := fun v0 v4 k0_hw2 k0_t12 k0_h11 => k0_hw2.2.2.2.2.2.2.2.2.2.2.2.2 k0_t12 k0_h11

def k0_cond12 (i : grid0.Coords) : BitVec 1 :=
  let arg0 : BitVec 32 := BitVec.ofNat 32 (i 0).val
  let c15_i32 : BitVec 32 := 15#32
  let v78 : BitVec 1 := Scalar.cmpi .eq arg0 c15_i32
  let v79 : BitVec 32 := Scalar.extui v78
  let c0_i32_30 : BitVec 32 := 0#32
  let v80 : BitVec 1 := Scalar.cmpi .ne v79 c0_i32_30
  v80

def k0_off36 (v0 : BitVec 32) : Fin 1 → Nat :=
  let v81 : Index := Scalar.indexCast v0
  ![v81.toNat]
def k0_off37 (v0 : BitVec 32) : Fin 2 → Nat :=
  let v102 : Index := Scalar.indexCast v0
  let c0_40 : Index := 0#32
  ![v102.toNat, 0]

def k0_chk1 (i : grid0.Coords) (v0 : BitVec 32) : Prop :=
  (∀ a, (k0_off1 i v0) a + S1.size a ≤ S128.size a) ∧
  (∀ a, (k0_off2 v0) a + S1x1024.size a ≤ S8x1024.size a) ∧
  (∀ (k0_h12 : k0_cond12 i = 1#1), ∀ a, (k0_off36 v0) a + S1.size a ≤ S8.size a) ∧
  (∀ (k0_h12 : k0_cond12 i = 1#1), ∀ a, (k0_off37 v0) a + S1x32.size a ≤ S8x32.size a)
theorem k0_off1_inb : ∀ (i : grid0.Coords) (v0 : BitVec 32) (k0_hw1 : k0_chk1 i v0), ∀ a, (k0_off1 i v0) a + S1.size a ≤ S128.size a := fun i v0 k0_hw1 => k0_hw1.1
theorem k0_off2_inb : ∀ (i : grid0.Coords) (v0 : BitVec 32) (k0_hw1 : k0_chk1 i v0), ∀ a, (k0_off2 v0) a + S1x1024.size a ≤ S8x1024.size a := fun i v0 k0_hw1 => k0_hw1.2.1
theorem k0_off36_inb : ∀ (i : grid0.Coords) (v0 : BitVec 32) (k0_hw1 : k0_chk1 i v0), ∀ (k0_h12 : k0_cond12 i = 1#1), ∀ a, (k0_off36 v0) a + S1.size a ≤ S8.size a := fun i v0 k0_hw1 k0_h12 => k0_hw1.2.2.1 k0_h12
theorem k0_off37_inb : ∀ (i : grid0.Coords) (v0 : BitVec 32) (k0_hw1 : k0_chk1 i v0), ∀ (k0_h12 : k0_cond12 i = 1#1), ∀ a, (k0_off37 v0) a + S1x32.size a ≤ S8x32.size a := fun i v0 k0_hw1 k0_h12 => k0_hw1.2.2.2 k0_h12

@[reducible] def k0_t14_loop : Scf.Loop 32 :=
  let c0_i32_59 : BitVec 32 := 0#32
  let c7_i32_60 : BitVec 32 := 7#32
  let v136 : BitVec 32 := Scalar.addi c0_i32_59 c7_i32_60
  let c1_i32_61 : BitVec 32 := 1#32
  ⟨c0_i32_59, v136, c1_i32_61⟩
def k0_mult12 (k0_t14 : Fin k0_t14_loop.trips) : BitVec 32 :=
  let c0_i32_59 : BitVec 32 := 0#32
  let c1_i32_61 : BitVec 32 := 1#32
  let arg19 : BitVec 32 := Scf.iv c0_i32_59 c1_i32_61 k0_t14
  let c512_i32 : BitVec 32 := 512#32
  let v157 : BitVec 32 := Scalar.muli arg19 c512_i32
  v157
def k0_off38 (k0_t14 : Fin k0_t14_loop.trips) : Fin 3 → Nat :=
  let c0_75 : Index := 0#32
  let c0_76 : Index := 0#32
  let c0_i32_59 : BitVec 32 := 0#32
  let c1_i32_61 : BitVec 32 := 1#32
  let arg19 : BitVec 32 := Scf.iv c0_i32_59 c1_i32_61 k0_t14
  let c512_i32 : BitVec 32 := 512#32
  let v157 : BitVec 32 := Scalar.muli arg19 c512_i32
  let v158 : BitVec 32 := v157
  let v159 : Index := Scalar.indexCast v158
  ![0, 0, v159.toNat]
def k0_off39 (k0_t14 : Fin k0_t14_loop.trips) : Fin 3 → Nat :=
  let c0_83 : Index := 0#32
  let c0_i32_59 : BitVec 32 := 0#32
  let c1_i32_61 : BitVec 32 := 1#32
  let arg19 : BitVec 32 := Scf.iv c0_i32_59 c1_i32_61 k0_t14
  let c512_i32 : BitVec 32 := 512#32
  let v157 : BitVec 32 := Scalar.muli arg19 c512_i32
  let v158 : BitVec 32 := v157
  let v172 : Index := Scalar.indexCast v158
  let c0_84 : Index := 0#32
  ![0, v172.toNat, 0]
def k0_off40 (v0 : BitVec 32) : Fin 2 → Nat :=
  let v143 : Index := Scalar.indexCast v0
  let c0_64 : Index := 0#32
  ![v143.toNat, 0]
def k0_cond14 (v82 : BitVec 32) : BitVec 1 :=
  let c32_i32_31 : BitVec 32 := 32#32
  let v83 : BitVec 32 := Scalar.addi v82 c32_i32_31
  let c1_i32_32 : BitVec 32 := 1#32
  let v84 : BitVec 32 := Scalar.subi v83 c1_i32_32
  let c0_i32_34 : BitVec 32 := 0#32
  let v86 : BitVec 1 := Scalar.cmpi .sgt v84 c0_i32_34
  let v87 : BitVec 32 := Scalar.extui v86
  let c0_i32_35 : BitVec 32 := 0#32
  let v88 : BitVec 1 := Scalar.cmpi .slt v84 c0_i32_35
  let v89 : BitVec 32 := Scalar.extui v88
  let v90 : BitVec 32 := Scalar.subi v87 v89
  let c32_i32_33 : BitVec 32 := 32#32
  let c0_i32_36 : BitVec 32 := 0#32
  let v91 : BitVec 1 := Scalar.cmpi .sgt c32_i32_33 c0_i32_36
  let v92 : BitVec 32 := Scalar.extui v91
  let c0_i32_37 : BitVec 32 := 0#32
  let v93 : BitVec 1 := Scalar.cmpi .slt c32_i32_33 c0_i32_37
  let v94 : BitVec 32 := Scalar.extui v93
  let v95 : BitVec 32 := Scalar.subi v92 v94
  let v96 : BitVec 1 := Scalar.cmpi .ne v90 v95
  let v97 : BitVec 32 := Scalar.remsi v84 c32_i32_33
  let c0_i32_38 : BitVec 32 := 0#32
  let v98 : BitVec 1 := Scalar.cmpi .ne v97 c0_i32_38
  let v99 : BitVec 1 := Scalar.andi v96 v98
  let v85 : BitVec 32 := Scalar.divsi v84 c32_i32_33
  let c1_i32_39 : BitVec 32 := 1#32
  let v100 : BitVec 32 := Scalar.subi v85 c1_i32_39
  let v101 : BitVec 32 := Scalar.select v99 v100 v85
  let c1_i32_43 : BitVec 32 := 1#32
  let v107 : BitVec 1 := Scalar.cmpi .eq v101 c1_i32_43
  let v108 : BitVec 32 := Scalar.extui v107
  let c0_i32_44 : BitVec 32 := 0#32
  let v109 : BitVec 1 := Scalar.cmpi .ne v108 c0_i32_44
  v109

@[reducible] def k0_t15_loop (v82 : BitVec 32) : Scf.Loop 32 :=
  let c0_i32_63 : BitVec 32 := 0#32
  let c32_i32_53 : BitVec 32 := 32#32
  let v118 : BitVec 32 := Scalar.addi v82 c32_i32_53
  let c1_i32_54 : BitVec 32 := 1#32
  let v119 : BitVec 32 := Scalar.subi v118 c1_i32_54
  let c0_i32_56 : BitVec 32 := 0#32
  let v121 : BitVec 1 := Scalar.cmpi .sgt v119 c0_i32_56
  let v122 : BitVec 32 := Scalar.extui v121
  let c0_i32_57 : BitVec 32 := 0#32
  let v123 : BitVec 1 := Scalar.cmpi .slt v119 c0_i32_57
  let v124 : BitVec 32 := Scalar.extui v123
  let v125 : BitVec 32 := Scalar.subi v122 v124
  let c32_i32_55 : BitVec 32 := 32#32
  let c0_i32_58 : BitVec 32 := 0#32
  let v126 : BitVec 1 := Scalar.cmpi .sgt c32_i32_55 c0_i32_58
  let v127 : BitVec 32 := Scalar.extui v126
  let c0_i32_59 : BitVec 32 := 0#32
  let v128 : BitVec 1 := Scalar.cmpi .slt c32_i32_55 c0_i32_59
  let v129 : BitVec 32 := Scalar.extui v128
  let v130 : BitVec 32 := Scalar.subi v127 v129
  let v131 : BitVec 1 := Scalar.cmpi .ne v125 v130
  let v132 : BitVec 32 := Scalar.remsi v119 c32_i32_55
  let c0_i32_60 : BitVec 32 := 0#32
  let v133 : BitVec 1 := Scalar.cmpi .ne v132 c0_i32_60
  let v134 : BitVec 1 := Scalar.andi v131 v133
  let v120 : BitVec 32 := Scalar.divsi v119 c32_i32_55
  let c1_i32_61 : BitVec 32 := 1#32
  let v135 : BitVec 32 := Scalar.subi v120 c1_i32_61
  let v136 : BitVec 32 := Scalar.select v134 v135 v120
  let v137 : BitVec 32 := Scalar.subi v136 c0_i32_63
  let c1_i32_64 : BitVec 32 := 1#32
  let v139 : BitVec 32 := Scalar.divsi v137 c1_i32_64
  let v140 : BitVec 32 := Scalar.muli v139 c1_i32_64
  let v141 : BitVec 32 := Scalar.addi c0_i32_63 v140
  let c1_i32_65 : BitVec 32 := 1#32
  ⟨c0_i32_63, v141, c1_i32_65⟩
def k0_cond15 (v82 : BitVec 32) : BitVec 1 :=
  let c32_i32_31 : BitVec 32 := 32#32
  let v83 : BitVec 32 := Scalar.addi v82 c32_i32_31
  let c1_i32_32 : BitVec 32 := 1#32
  let v84 : BitVec 32 := Scalar.subi v83 c1_i32_32
  let c0_i32_34 : BitVec 32 := 0#32
  let v86 : BitVec 1 := Scalar.cmpi .sgt v84 c0_i32_34
  let v87 : BitVec 32 := Scalar.extui v86
  let c0_i32_35 : BitVec 32 := 0#32
  let v88 : BitVec 1 := Scalar.cmpi .slt v84 c0_i32_35
  let v89 : BitVec 32 := Scalar.extui v88
  let v90 : BitVec 32 := Scalar.subi v87 v89
  let c32_i32_33 : BitVec 32 := 32#32
  let c0_i32_36 : BitVec 32 := 0#32
  let v91 : BitVec 1 := Scalar.cmpi .sgt c32_i32_33 c0_i32_36
  let v92 : BitVec 32 := Scalar.extui v91
  let c0_i32_37 : BitVec 32 := 0#32
  let v93 : BitVec 1 := Scalar.cmpi .slt c32_i32_33 c0_i32_37
  let v94 : BitVec 32 := Scalar.extui v93
  let v95 : BitVec 32 := Scalar.subi v92 v94
  let v96 : BitVec 1 := Scalar.cmpi .ne v90 v95
  let v97 : BitVec 32 := Scalar.remsi v84 c32_i32_33
  let c0_i32_38 : BitVec 32 := 0#32
  let v98 : BitVec 1 := Scalar.cmpi .ne v97 c0_i32_38
  let v99 : BitVec 1 := Scalar.andi v96 v98
  let v85 : BitVec 32 := Scalar.divsi v84 c32_i32_33
  let c1_i32_39 : BitVec 32 := 1#32
  let v100 : BitVec 32 := Scalar.subi v85 c1_i32_39
  let v101 : BitVec 32 := Scalar.select v99 v100 v85
  let c0_i32_45 : BitVec 32 := 0#32
  let v110 : BitVec 1 := Scalar.cmpi .eq v101 c0_i32_45
  let c1_i32_46 : BitVec 32 := 1#32
  let v111 : BitVec 1 := Scalar.cmpi .eq v101 c1_i32_46
  let v112 : BitVec 1 := Scalar.ori v110 v111
  let true_47 : BitVec 1 := 1#1
  let v113 : BitVec 1 := Scalar.xori v112 true_47
  let v114 : BitVec 32 := Scalar.extui v113
  let c0_i32_48 : BitVec 32 := 0#32
  let v115 : BitVec 1 := Scalar.cmpi .ne v114 c0_i32_48
  v115

@[reducible] def k0_t16_loop : Scf.Loop 32 :=
  let c0_i32_78 : BitVec 32 := 0#32
  let c7_i32_79 : BitVec 32 := 7#32
  let v163 : BitVec 32 := Scalar.addi c0_i32_78 c7_i32_79
  let c1_i32_80 : BitVec 32 := 1#32
  ⟨c0_i32_78, v163, c1_i32_80⟩
def k0_mult13 (k0_t16 : Fin k0_t16_loop.trips) : BitVec 32 :=
  let c0_i32_78 : BitVec 32 := 0#32
  let c1_i32_80 : BitVec 32 := 1#32
  let arg20 : BitVec 32 := Scf.iv c0_i32_78 c1_i32_80 k0_t16
  let c512_i32 : BitVec 32 := 512#32
  let v185 : BitVec 32 := Scalar.muli arg20 c512_i32
  v185
def k0_off41 (k0_t16 : Fin k0_t16_loop.trips) : Fin 3 → Nat :=
  let c0_93 : Index := 0#32
  let c0_94 : Index := 0#32
  let c0_i32_78 : BitVec 32 := 0#32
  let c1_i32_80 : BitVec 32 := 1#32
  let arg20 : BitVec 32 := Scf.iv c0_i32_78 c1_i32_80 k0_t16
  let c512_i32 : BitVec 32 := 512#32
  let v185 : BitVec 32 := Scalar.muli arg20 c512_i32
  let v186 : BitVec 32 := v185
  let v187 : Index := Scalar.indexCast v186
  ![0, 0, v187.toNat]
def k0_off42 (k0_t16 : Fin k0_t16_loop.trips) : Fin 3 → Nat :=
  let c0_101 : Index := 0#32
  let c0_i32_78 : BitVec 32 := 0#32
  let c1_i32_80 : BitVec 32 := 1#32
  let arg20 : BitVec 32 := Scf.iv c0_i32_78 c1_i32_80 k0_t16
  let c512_i32 : BitVec 32 := 512#32
  let v185 : BitVec 32 := Scalar.muli arg20 c512_i32
  let v186 : BitVec 32 := v185
  let v200 : Index := Scalar.indexCast v186
  let c0_102 : Index := 0#32
  ![0, v200.toNat, 0]
def k0_off43 (v0 : BitVec 32) : Fin 2 → Nat :=
  let v170 : Index := Scalar.indexCast v0
  let c0_82 : Index := 0#32
  ![v170.toNat, 0]
@[reducible] def k0_t17_loop (v82 : BitVec 32) : Scf.Loop 32 :=
  let c0_i32_63 : BitVec 32 := 0#32
  let c32_i32_53 : BitVec 32 := 32#32
  let v118 : BitVec 32 := Scalar.addi v82 c32_i32_53
  let c1_i32_54 : BitVec 32 := 1#32
  let v119 : BitVec 32 := Scalar.subi v118 c1_i32_54
  let c0_i32_56 : BitVec 32 := 0#32
  let v121 : BitVec 1 := Scalar.cmpi .sgt v119 c0_i32_56
  let v122 : BitVec 32 := Scalar.extui v121
  let c0_i32_57 : BitVec 32 := 0#32
  let v123 : BitVec 1 := Scalar.cmpi .slt v119 c0_i32_57
  let v124 : BitVec 32 := Scalar.extui v123
  let v125 : BitVec 32 := Scalar.subi v122 v124
  let c32_i32_55 : BitVec 32 := 32#32
  let c0_i32_58 : BitVec 32 := 0#32
  let v126 : BitVec 1 := Scalar.cmpi .sgt c32_i32_55 c0_i32_58
  let v127 : BitVec 32 := Scalar.extui v126
  let c0_i32_59 : BitVec 32 := 0#32
  let v128 : BitVec 1 := Scalar.cmpi .slt c32_i32_55 c0_i32_59
  let v129 : BitVec 32 := Scalar.extui v128
  let v130 : BitVec 32 := Scalar.subi v127 v129
  let v131 : BitVec 1 := Scalar.cmpi .ne v125 v130
  let v132 : BitVec 32 := Scalar.remsi v119 c32_i32_55
  let c0_i32_60 : BitVec 32 := 0#32
  let v133 : BitVec 1 := Scalar.cmpi .ne v132 c0_i32_60
  let v134 : BitVec 1 := Scalar.andi v131 v133
  let v120 : BitVec 32 := Scalar.divsi v119 c32_i32_55
  let c1_i32_61 : BitVec 32 := 1#32
  let v135 : BitVec 32 := Scalar.subi v120 c1_i32_61
  let v136 : BitVec 32 := Scalar.select v134 v135 v120
  let v137 : BitVec 32 := Scalar.subi v136 c0_i32_63
  let c1_i32_64 : BitVec 32 := 1#32
  let v139 : BitVec 32 := Scalar.divsi v137 c1_i32_64
  let v140 : BitVec 32 := Scalar.muli v139 c1_i32_64
  let v141 : BitVec 32 := Scalar.addi c0_i32_63 v140
  let v138 : BitVec 32 := Scalar.addi c0_i32_63 v137
  let c1_i32_66 : BitVec 32 := 1#32
  ⟨v141, v138, c1_i32_66⟩
@[reducible] def k0_t18_loop : Scf.Loop 32 :=
  let c0_i32_78 : BitVec 32 := 0#32
  let c7_i32_79 : BitVec 32 := 7#32
  let v163 : BitVec 32 := Scalar.addi c0_i32_78 c7_i32_79
  let c1_i32_80 : BitVec 32 := 1#32
  ⟨c0_i32_78, v163, c1_i32_80⟩
def k0_mult14 (k0_t18 : Fin k0_t18_loop.trips) : BitVec 32 :=
  let c0_i32_78 : BitVec 32 := 0#32
  let c1_i32_80 : BitVec 32 := 1#32
  let arg20 : BitVec 32 := Scf.iv c0_i32_78 c1_i32_80 k0_t18
  let c512_i32 : BitVec 32 := 512#32
  let v185 : BitVec 32 := Scalar.muli arg20 c512_i32
  v185
def k0_off44 (k0_t18 : Fin k0_t18_loop.trips) : Fin 3 → Nat :=
  let c0_93 : Index := 0#32
  let c0_94 : Index := 0#32
  let c0_i32_78 : BitVec 32 := 0#32
  let c1_i32_80 : BitVec 32 := 1#32
  let arg20 : BitVec 32 := Scf.iv c0_i32_78 c1_i32_80 k0_t18
  let c512_i32 : BitVec 32 := 512#32
  let v185 : BitVec 32 := Scalar.muli arg20 c512_i32
  let v186 : BitVec 32 := v185
  let v187 : Index := Scalar.indexCast v186
  ![0, 0, v187.toNat]
def k0_off45 (k0_t18 : Fin k0_t18_loop.trips) : Fin 3 → Nat :=
  let c0_101 : Index := 0#32
  let c0_i32_78 : BitVec 32 := 0#32
  let c1_i32_80 : BitVec 32 := 1#32
  let arg20 : BitVec 32 := Scf.iv c0_i32_78 c1_i32_80 k0_t18
  let c512_i32 : BitVec 32 := 512#32
  let v185 : BitVec 32 := Scalar.muli arg20 c512_i32
  let v186 : BitVec 32 := v185
  let v200 : Index := Scalar.indexCast v186
  let c0_102 : Index := 0#32
  ![0, v200.toNat, 0]
def k0_off46 (v0 : BitVec 32) : Fin 2 → Nat :=
  let v170 : Index := Scalar.indexCast v0
  let c0_82 : Index := 0#32
  ![v170.toNat, 0]

def k0_chk3 (i : grid0.Coords) (v0 : BitVec 32) (v82 : BitVec 32) : Prop :=
  (∀ (k0_h12 : k0_cond12 i = 1#1), ∀ (k0_h14 : k0_cond14 v82 = 1#1), ∀ a, (k0_off40 v0) a + S1x32.size a ≤ S8x32.size a) ∧
  (∀ (k0_h12 : k0_cond12 i = 1#1), ∀ (k0_h15 : k0_cond15 v82 = 1#1), (k0_t15_loop v82).OK) ∧
  (∀ k0_t15 : Fin (k0_t15_loop v82).trips, ∀ (k0_h12 : k0_cond12 i = 1#1), ∀ (k0_h15 : k0_cond15 v82 = 1#1), ∀ a, (k0_off43 v0) a + S1x32.size a ≤ S8x32.size a) ∧
  (∀ (k0_h12 : k0_cond12 i = 1#1), ∀ (k0_h15 : k0_cond15 v82 = 1#1), (k0_t17_loop v82).OK) ∧
  (∀ k0_t17 : Fin (k0_t17_loop v82).trips, ∀ (k0_h12 : k0_cond12 i = 1#1), ∀ (k0_h15 : k0_cond15 v82 = 1#1), ∀ a, (k0_off46 v0) a + S1x32.size a ≤ S8x32.size a)
theorem k0_off40_inb : ∀ (i : grid0.Coords) (v0 : BitVec 32) (v82 : BitVec 32) (k0_hw3 : k0_chk3 i v0 v82), ∀ (k0_h12 : k0_cond12 i = 1#1), ∀ (k0_h14 : k0_cond14 v82 = 1#1), ∀ a, (k0_off40 v0) a + S1x32.size a ≤ S8x32.size a := fun i v0 v82 k0_hw3 k0_h12 k0_h14 => k0_hw3.1 k0_h12 k0_h14
theorem k0_t15_ok : ∀ (i : grid0.Coords) (v0 : BitVec 32) (v82 : BitVec 32) (k0_hw3 : k0_chk3 i v0 v82), ∀ (k0_h12 : k0_cond12 i = 1#1), ∀ (k0_h15 : k0_cond15 v82 = 1#1), (k0_t15_loop v82).OK := fun i v0 v82 k0_hw3 k0_h12 k0_h15 => k0_hw3.2.1 k0_h12 k0_h15
theorem k0_off43_inb : ∀ (i : grid0.Coords) (v0 : BitVec 32) (v82 : BitVec 32) (k0_hw3 : k0_chk3 i v0 v82) (k0_t15 : Fin (k0_t15_loop v82).trips), ∀ (k0_h12 : k0_cond12 i = 1#1), ∀ (k0_h15 : k0_cond15 v82 = 1#1), ∀ a, (k0_off43 v0) a + S1x32.size a ≤ S8x32.size a := fun i v0 v82 k0_hw3 k0_t15 k0_h12 k0_h15 => k0_hw3.2.2.1 k0_t15 k0_h12 k0_h15
theorem k0_t17_ok : ∀ (i : grid0.Coords) (v0 : BitVec 32) (v82 : BitVec 32) (k0_hw3 : k0_chk3 i v0 v82), ∀ (k0_h12 : k0_cond12 i = 1#1), ∀ (k0_h15 : k0_cond15 v82 = 1#1), (k0_t17_loop v82).OK := fun i v0 v82 k0_hw3 k0_h12 k0_h15 => k0_hw3.2.2.2.1 k0_h12 k0_h15
theorem k0_off46_inb : ∀ (i : grid0.Coords) (v0 : BitVec 32) (v82 : BitVec 32) (k0_hw3 : k0_chk3 i v0 v82) (k0_t17 : Fin (k0_t17_loop v82).trips), ∀ (k0_h12 : k0_cond12 i = 1#1), ∀ (k0_h15 : k0_cond15 v82 = 1#1), ∀ a, (k0_off46 v0) a + S1x32.size a ≤ S8x32.size a := fun i v0 v82 k0_hw3 k0_t17 k0_h12 k0_h15 => k0_hw3.2.2.2.2 k0_t17 k0_h12 k0_h15

def k0_cond1 (v4 : BitVec 32) : BitVec 1 :=
  let c32_i32 : BitVec 32 := 32#32
  let v5 : BitVec 32 := Scalar.addi v4 c32_i32
  let c1_i32 : BitVec 32 := 1#32
  let v6 : BitVec 32 := Scalar.subi v5 c1_i32
  let c0_i32 : BitVec 32 := 0#32
  let v8 : BitVec 1 := Scalar.cmpi .sgt v6 c0_i32
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c32_i32_0 : BitVec 32 := 32#32
  let c0_i32_2 : BitVec 32 := 0#32
  let v13 : BitVec 1 := Scalar.cmpi .sgt c32_i32_0 c0_i32_2
  let v14 : BitVec 32 := Scalar.extui v13
  let c0_i32_3 : BitVec 32 := 0#32
  let v15 : BitVec 1 := Scalar.cmpi .slt c32_i32_0 c0_i32_3
  let v16 : BitVec 32 := Scalar.extui v15
  let v17 : BitVec 32 := Scalar.subi v14 v16
  let v18 : BitVec 1 := Scalar.cmpi .ne v12 v17
  let v19 : BitVec 32 := Scalar.remsi v6 c32_i32_0
  let c0_i32_4 : BitVec 32 := 0#32
  let v20 : BitVec 1 := Scalar.cmpi .ne v19 c0_i32_4
  let v21 : BitVec 1 := Scalar.andi v18 v20
  let v7 : BitVec 32 := Scalar.divsi v6 c32_i32_0
  let c1_i32_5 : BitVec 32 := 1#32
  let v22 : BitVec 32 := Scalar.subi v7 c1_i32_5
  let v23 : BitVec 32 := Scalar.select v21 v22 v7
  let c0_i32_7 : BitVec 32 := 0#32
  let v26 : BitVec 1 := Scalar.cmpi .eq v23 c0_i32_7
  let v27 : BitVec 32 := Scalar.extui v26
  let c0_i32_8 : BitVec 32 := 0#32
  let v28 : BitVec 1 := Scalar.cmpi .ne v27 c0_i32_8
  v28

def k0_cond13 (v82 : BitVec 32) : BitVec 1 :=
  let c32_i32_31 : BitVec 32 := 32#32
  let v83 : BitVec 32 := Scalar.addi v82 c32_i32_31
  let c1_i32_32 : BitVec 32 := 1#32
  let v84 : BitVec 32 := Scalar.subi v83 c1_i32_32
  let c0_i32_34 : BitVec 32 := 0#32
  let v86 : BitVec 1 := Scalar.cmpi .sgt v84 c0_i32_34
  let v87 : BitVec 32 := Scalar.extui v86
  let c0_i32_35 : BitVec 32 := 0#32
  let v88 : BitVec 1 := Scalar.cmpi .slt v84 c0_i32_35
  let v89 : BitVec 32 := Scalar.extui v88
  let v90 : BitVec 32 := Scalar.subi v87 v89
  let c32_i32_33 : BitVec 32 := 32#32
  let c0_i32_36 : BitVec 32 := 0#32
  let v91 : BitVec 1 := Scalar.cmpi .sgt c32_i32_33 c0_i32_36
  let v92 : BitVec 32 := Scalar.extui v91
  let c0_i32_37 : BitVec 32 := 0#32
  let v93 : BitVec 1 := Scalar.cmpi .slt c32_i32_33 c0_i32_37
  let v94 : BitVec 32 := Scalar.extui v93
  let v95 : BitVec 32 := Scalar.subi v92 v94
  let v96 : BitVec 1 := Scalar.cmpi .ne v90 v95
  let v97 : BitVec 32 := Scalar.remsi v84 c32_i32_33
  let c0_i32_38 : BitVec 32 := 0#32
  let v98 : BitVec 1 := Scalar.cmpi .ne v97 c0_i32_38
  let v99 : BitVec 1 := Scalar.andi v96 v98
  let v85 : BitVec 32 := Scalar.divsi v84 c32_i32_33
  let c1_i32_39 : BitVec 32 := 1#32
  let v100 : BitVec 32 := Scalar.subi v85 c1_i32_39
  let v101 : BitVec 32 := Scalar.select v99 v100 v85
  let c0_i32_41 : BitVec 32 := 0#32
  let v104 : BitVec 1 := Scalar.cmpi .eq v101 c0_i32_41
  let v105 : BitVec 32 := Scalar.extui v104
  let c0_i32_42 : BitVec 32 := 0#32
  let v106 : BitVec 1 := Scalar.cmpi .ne v105 c0_i32_42
  v106

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3584x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S1 : Shape := ⟨1, ![1]⟩
abbrev S128 : Shape := ⟨1, ![128]⟩
abbrev S8 : Shape := ⟨1, ![8]⟩
abbrev S16384x1024 : Shape := ⟨2, ![16384, 1024]⟩
abbrev S8x16384 : Shape := ⟨2, ![8, 16384]⟩
abbrev S8x1024x3584 : Shape := ⟨3, ![8, 1024, 3584]⟩
abbrev S8x3584x1024 : Shape := ⟨3, ![8, 3584, 1024]⟩
abbrev S32x1024 : Shape := ⟨2, ![32, 1024]⟩
abbrev S8x32 : Shape := ⟨2, ![8, 32]⟩
abbrev S_ : Shape := ⟨0, ![]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S1x16384 : Shape := ⟨2, ![1, 16384]⟩
abbrev S16384 : Shape := ⟨1, ![16384]⟩
abbrev S16384x1 : Shape := ⟨2, ![16384, 1]⟩
abbrev S16384x3584 : Shape := ⟨2, ![16384, 3584]⟩
abbrev S1x32 : Shape := ⟨2, ![1, 32]⟩
abbrev S32 : Shape := ⟨1, ![32]⟩
abbrev S32x1 : Shape := ⟨2, ![32, 1]⟩
abbrev S32x3584 : Shape := ⟨2, ![32, 3584]⟩

abbrev nBuf : Space → Nat
  | .hbm => 72
  | .vmem => 0
  | .smem => 0
  | _ => 0

abbrev bufTy : (tb : Table) → Fin (tcTables nBuf tb) → BufTy
  | .hbm, ⟨0, _⟩ => ⟨S1, .i32⟩
  | .hbm, ⟨1, _⟩ => ⟨S128, .i32⟩
  | .hbm, ⟨2, _⟩ => ⟨S8, .i32⟩
  | .hbm, ⟨3, _⟩ => ⟨S16384x1024, .bf16⟩
  | .hbm, ⟨4, _⟩ => ⟨S8x16384, .f32⟩
  | .hbm, ⟨5, _⟩ => ⟨S8x16384, .f32⟩
  | .hbm, ⟨6, _⟩ => ⟨S8x1024x3584, .bf16⟩
  | .hbm, ⟨7, _⟩ => ⟨S8x1024x3584, .bf16⟩
  | .hbm, ⟨8, _⟩ => ⟨S8x3584x1024, .bf16⟩
  | .hbm, ⟨9, _⟩ => ⟨S16384x1024, .f32⟩
  | .hbm, ⟨10, _⟩ => ⟨S32x1024, .bf16⟩
  | .hbm, ⟨11, _⟩ => ⟨S8x32, .f32⟩
  | .hbm, ⟨12, _⟩ => ⟨S8x32, .f32⟩
  | .hbm, ⟨13, _⟩ => ⟨S32x1024, .f32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1x1024x3584, .bf16⟩
  | .hbm, ⟨18, _⟩ => ⟨S1024x3584, .bf16⟩
  | .hbm, ⟨19, _⟩ => ⟨S1024x3584, .f32⟩
  | .hbm, ⟨20, _⟩ => ⟨S_, .i32⟩
  | .hbm, ⟨21, _⟩ => ⟨S_, .i32⟩
  | .hbm, ⟨22, _⟩ => ⟨S1x1024x3584, .bf16⟩
  | .hbm, ⟨23, _⟩ => ⟨S1024x3584, .bf16⟩
  | .hbm, ⟨24, _⟩ => ⟨S1024x3584, .f32⟩
  | .hbm, ⟨25, _⟩ => ⟨S_, .i32⟩
  | .hbm, ⟨26, _⟩ => ⟨S_, .i32⟩
  | .hbm, ⟨27, _⟩ => ⟨S1x3584x1024, .bf16⟩
  | .hbm, ⟨28, _⟩ => ⟨S3584x1024, .bf16⟩
  | .hbm, ⟨29, _⟩ => ⟨S3584x1024, .f32⟩
  | .hbm, ⟨30, _⟩ => ⟨S_, .i32⟩
  | .hbm, ⟨31, _⟩ => ⟨S1x16384, .f32⟩
  | .hbm, ⟨32, _⟩ => ⟨S16384, .f32⟩
  | .hbm, ⟨33, _⟩ => ⟨S16384x1, .f32⟩
  | .hbm, ⟨34, _⟩ => ⟨S16384x1024, .f32⟩
  | .hbm, ⟨35, _⟩ => ⟨S16384x3584, .f32⟩
  | .hbm, ⟨36, _⟩ => ⟨S16384x3584, .f32⟩
  | .hbm, ⟨37, _⟩ => ⟨S16384x3584, .f32⟩
  | .hbm, ⟨38, _⟩ => ⟨S_, .f32⟩
  | .hbm, ⟨39, _⟩ => ⟨S16384x3584, .f32⟩
  | .hbm, ⟨40, _⟩ => ⟨S16384x3584, .f32⟩
  | .hbm, ⟨41, _⟩ => ⟨S_, .f32⟩
  | .hbm, ⟨42, _⟩ => ⟨S16384x3584, .f32⟩
  | .hbm, ⟨43, _⟩ => ⟨S16384x3584, .f32⟩
  | .hbm, ⟨44, _⟩ => ⟨S16384x3584, .f32⟩
  | .hbm, ⟨45, _⟩ => ⟨S16384x3584, .f32⟩
  | .hbm, ⟨46, _⟩ => ⟨S16384x3584, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .i32⟩
  | .hbm, ⟨52, _⟩ => ⟨S1x32, .f32⟩
  | .hbm, ⟨53, _⟩ => ⟨S32, .f32⟩
  | .hbm, ⟨54, _⟩ => ⟨S32x1, .f32⟩
  | .hbm, ⟨55, _⟩ => ⟨S32x1024, .f32⟩
  | .hbm, ⟨56, _⟩ => ⟨S32x3584, .f32⟩
  | .hbm, ⟨57, _⟩ => ⟨S32x3584, .f32⟩
  | .hbm, ⟨58, _⟩ => ⟨S32x3584, .f32⟩
  | .hbm, ⟨59, _⟩ => ⟨S_, .f32⟩
  | .hbm, ⟨60, _⟩ => ⟨S32x3584, .f32⟩
  | .hbm, ⟨61, _⟩ => ⟨S32x3584, .f32⟩
  | .hbm, ⟨62, _⟩ => ⟨S_, .f32⟩
  | .hbm, ⟨63, _⟩ => ⟨S32x3584, .f32⟩
  | .hbm, ⟨64, _⟩ => ⟨S32x3584, .f32⟩
  | .hbm, ⟨65, _⟩ => ⟨S32x3584, .f32⟩
  | .hbm, ⟨66, _⟩ => ⟨S32x3584, .f32⟩
  | .hbm, ⟨67, _⟩ => ⟨S32x3584, .f32⟩
  | .hbm, ⟨68, _⟩ => ⟨S32x1024, .f32⟩
  | .hbm, ⟨69, _⟩ => ⟨S32x1024, .f32⟩
  | .hbm, ⟨70, _⟩ => ⟨S32x1024, .f32⟩
  | .hbm, ⟨71, _⟩ => ⟨S32x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_c_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_c_2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_3 : Ref sig .tc := ⟨.hbm, 25, rfl⟩
abbrev main_c_4 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_5 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_6 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩

abbrev nD : Nat := 1
abbrev τ : Topo := Topo.v7x

variable {F : FTy → Type} [FloatOps F]
-- ==== Finish.lean ====
abbrev S16384x1024 : Shape := ⟨2, ![16384, 1024]⟩
abbrev S2x16384x256 : Shape := ⟨3, ![2, 16384, 256]⟩
abbrev S1x1024 : Shape := ⟨2, ![1, 1024]⟩
abbrev S1024x1024 : Shape := ⟨2, ![1024, 1024]⟩
abbrev S256x1024 : Shape := ⟨2, ![256, 1024]⟩
abbrev S1x1024x256 : Shape := ⟨3, ![1, 1024, 256]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S2x16384x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S1x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FinishRefIdeal.lean ====
abbrev S16384x1024 : Shape := ⟨2, ![16384, 1024]⟩
abbrev S2x16384x256 : Shape := ⟨3, ![2, 16384, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x16384x256 : Shape := ⟨3, ![1, 16384, 256]⟩
abbrev S16384x256 : Shape := ⟨2, ![16384, 256]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x16384x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S1x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S1024x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S1x16384x256, .f32⟩
  | .hbm, ⟨32, _⟩ => ⟨S16384x256, .f32⟩
  | .hbm, ⟨33, _⟩ => ⟨S256x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Dense.lean ====
abbrev S16384x1024 : Shape := ⟨2, ![16384, 1024]⟩
abbrev S1x1024 : Shape := ⟨2, ![1, 1024]⟩
abbrev S1024x3584 : Shape := ⟨2, ![1024, 3584]⟩
abbrev S3584x1024 : Shape := ⟨2, ![3584, 1024]⟩
abbrev S2x16384x256 : Shape := ⟨3, ![2, 16384, 256]⟩
abbrev S1024x1024 : Shape := ⟨2, ![1024, 1024]⟩
abbrev S256x1024 : Shape := ⟨2, ![256, 1024]⟩
abbrev S1x1024x256 : Shape := ⟨3, ![1, 1024, 256]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩

abbrev nBuf : Space → Nat
  | .hbm => 10
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3584, .bf16⟩
  | .hbm, ⟨3, _⟩ => ⟨S1024x3584, .bf16⟩
  | .hbm, ⟨4, _⟩ => ⟨S3584x1024, .bf16⟩
  | .hbm, ⟨5, _⟩ => ⟨S2x16384x256, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3584, .bf16⟩
  | .local _ .vmem, ⟨4, _⟩ => ⟨S1024x3584, .bf16⟩
  | .local _ .vmem, ⟨5, _⟩ => ⟨S3584x1024, .bf16⟩
  | .local _ .vmem, ⟨6, _⟩ => ⟨S1x1024x256, .f32⟩
  | .local _ .vmem, ⟨7, _⟩ => ⟨S1x1024x256, .f32⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c7_i32 : BitVec 32 := 7#32
  let v22 : BitVec 32 := Scalar.addi c0_i32 c7_i32
  let c1_i32 : BitVec 32 := 1#32
  ⟨c0_i32, v22, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v135 : BitVec 32 := Scalar.muli arg13 c512_i32
  v135
def k0_off1 (k0_t1 : Fin k0_t1_loop.trips) : Fin 2 → Nat :=
  let c0_90 : Index := 0#32
  let c0_i32 : BitVec 32 := 0#32
  let c1_i32 : BitVec 32 := 1#32
  let arg13 : BitVec 32 := Scf.iv c0_i32 c1_i32 k0_t1
  let c512_i32 : BitVec 32 := 512#32
  let v135 : BitVec 32 := Scalar.muli arg13 c512_i32
  let v136 : BitVec 32 := v135
  let v138 : Index := Scalar.indexCast v136
  ![0, v138.toNat]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32 : BitVec 32 := 512#32
  let v135 : BitVec 32 := Scalar.muli arg13 c512_i32
  let v136 : BitVec 32 := v135
  let v149 : Index := Scalar.indexCast v136
  let c0_96 : Index := 0#32
  ![v149.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3584x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DenseRefIdeal.lean ====
abbrev S16384x1024 : Shape := ⟨2, ![16384, 1024]⟩
abbrev S1x1024 : Shape := ⟨2, ![1, 1024]⟩
abbrev S1024x3584 : Shape := ⟨2, ![1024, 3584]⟩
abbrev S3584x1024 : Shape := ⟨2, ![3584, 1024]⟩
abbrev S2x16384x256 : Shape := ⟨3, ![2, 16384, 256]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S16384x3584 : Shape := ⟨2, ![16384, 3584]⟩
abbrev S1x16384x256 : Shape := ⟨3, ![1, 16384, 256]⟩
abbrev S16384x256 : Shape := ⟨2, ![16384, 256]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x3584, .bf16⟩
  | .hbm, ⟨3, _⟩ => ⟨S1024x3584, .bf16⟩
  | .hbm, ⟨4, _⟩ => ⟨S3584x1024, .bf16⟩
  | .hbm, ⟨5, _⟩ => ⟨S2x16384x256, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S1024x3584, .f32⟩
  | .hbm, ⟨25, _⟩ => ⟨S16384x3584, .f32⟩
  | .hbm, ⟨26, _⟩ => ⟨S16384x3584, .f32⟩
  | .hbm, ⟨27, _⟩ => ⟨S16384x3584, .f32⟩
  | .hbm, ⟨28, _⟩ => ⟨S_, .f32⟩
  | .hbm, ⟨29, _⟩ => ⟨S16384x3584, .f32⟩
  | .hbm, ⟨30, _⟩ => ⟨S16384x3584, .f32⟩
  | .hbm, ⟨31, _⟩ => ⟨S_, .f32⟩
  | .hbm, ⟨32, _⟩ => ⟨S16384x3584, .f32⟩
  | .hbm, ⟨33, _⟩ => ⟨S16384x3584, .f32⟩
  | .hbm, ⟨34, _⟩ => ⟨S16384x3584, .f32⟩
  | .hbm, ⟨35, _⟩ => ⟨S1024x3584, .f32⟩
  | .hbm, ⟨36, _⟩ => ⟨S16384x3584, .f32⟩
  | .hbm, ⟨37, _⟩ => ⟨S16384x3584, .f32⟩
  | .hbm, ⟨38, _⟩ => ⟨S3584x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S1024x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S1x16384x256, .f32⟩
  | .hbm, ⟨67, _⟩ => ⟨S16384x256, .f32⟩
  | .hbm, ⟨68, _⟩ => ⟨S256x1024, .f32⟩
  | .hbm, ⟨69, _⟩ => ⟨S16384x1024, .f32⟩
  | .hbm, ⟨70, _⟩ => ⟨S16384x1024, .f32⟩
  | .hbm, ⟨71, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩

abbrev nD : Nat := 1
abbrev τ : Topo := Topo.v7x

variable {F : FTy → Type} [FloatOps F]
-- ==== FinishSample.lean ====
abbrev S32x1024 : Shape := ⟨2, ![32, 1024]⟩
abbrev S2x32x256 : Shape := ⟨3, ![2, 32, 256]⟩
abbrev S1x1024 : Shape := ⟨2, ![1, 1024]⟩
abbrev S1024x1024 : Shape := ⟨2, ![1024, 1024]⟩
abbrev S256x1024 : Shape := ⟨2, ![256, 1024]⟩
abbrev S1x32x256 : Shape := ⟨3, ![1, 32, 256]⟩
abbrev S32x256 : Shape := ⟨2, ![32, 256]⟩
abbrev S32 : Shape := ⟨1, ![32]⟩
abbrev S32x1 : Shape := ⟨2, ![32, 1]⟩

abbrev nBuf : Space → Nat
  | .hbm => 7
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S2x32x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S1x1024, .f32⟩
  | .hbm, ⟨6, _⟩ => ⟨S32x1024, .f32⟩
  | .local _ .vmem, ⟨0, _⟩ => ⟨S32x1024, .f32⟩
  | .local _ .vmem, ⟨1, _⟩ => ⟨S1x32x256, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S1x1024, .f32⟩
  | .local _ .vmem, ⟨6, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== FinishSampleRefIdeal.lean ====
abbrev S32x1024 : Shape := ⟨2, ![32, 1024]⟩
abbrev S2x32x256 : Shape := ⟨3, ![2, 32, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S32 : Shape := ⟨1, ![32]⟩
abbrev S32x1 : Shape := ⟨2, ![32, 1]⟩
abbrev S1x32x256 : Shape := ⟨3, ![1, 32, 256]⟩
abbrev S32x256 : Shape := ⟨2, ![32, 256]⟩

abbrev nBuf : Space → Nat
  | .hbm => 52
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S2x32x256, .f32⟩
  | .hbm, ⟨2, _⟩ => ⟨S1x1024, .f32⟩
  | .hbm, ⟨3, _⟩ => ⟨S1024x1024, .bf16⟩
  | .hbm, ⟨4, _⟩ => ⟨S256x1024, .bf16⟩
  | .hbm, ⟨5, _⟩ => ⟨S1x1024, .f32⟩
  | .hbm, ⟨6, _⟩ => ⟨S32x1024, .f32⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S32x1, .f32⟩
  | .hbm, ⟨17, _⟩ => ⟨S32x1024, .f32⟩
  | .hbm, ⟨18, _⟩ => ⟨S32x1024, .f32⟩
  | .hbm, ⟨19, _⟩ => ⟨S32x1024, .f32⟩
  | .hbm, ⟨20, _⟩ => ⟨S32x1024, .f32⟩
  | .hbm, ⟨21, _⟩ => ⟨S1024x1024, .f32⟩
  | .hbm, ⟨22, _⟩ => ⟨S32x1024, .f32⟩
  | .hbm, ⟨23, _⟩ => ⟨S32x1024, .f32⟩
  | .hbm, ⟨24, _⟩ => ⟨S32x1024, .f32⟩
  | .hbm, ⟨25, _⟩ => ⟨S_, .f32⟩
  | .hbm, ⟨26, _⟩ => ⟨S32x1024, .f32⟩
  | .hbm, ⟨27, _⟩ => ⟨S32x1024, .f32⟩
  | .hbm, ⟨28, _⟩ => ⟨S_, .f32⟩
  | .hbm, ⟨29, _⟩ => ⟨S32x1024, .f32⟩
  | .hbm, ⟨30, _⟩ => ⟨S32x1024, .f32⟩
  | .hbm, ⟨31, _⟩ => ⟨S1x32x256, .f32⟩
  | .hbm, ⟨32, _⟩ => ⟨S32x256, .f32⟩
  | .hbm, ⟨33, _⟩ => ⟨S256x1024, .f32⟩
  | .hbm, ⟨34, _⟩ => ⟨S32x1024, .f32⟩
  | .hbm, ⟨35, _⟩ => ⟨S32x1024, .f32⟩
  | .hbm, ⟨36, _⟩ => ⟨S32x1024, .f32⟩
  | .hbm, ⟨37, _⟩ => ⟨S32x1024, .f32⟩
  | .hbm, ⟨38, _⟩ => ⟨S_, .f32⟩
  | .hbm, ⟨39, _⟩ => ⟨S32, .f32⟩
  | .hbm, ⟨40, _⟩ => ⟨S32x1, .f32⟩
  | .hbm, ⟨41, _⟩ => ⟨S_, .f32⟩
  | .hbm, ⟨42, _⟩ => ⟨S32x1, .f32⟩
  | .hbm, ⟨43, _⟩ => ⟨S32x1, .f32⟩
  | .hbm, ⟨44, _⟩ => ⟨S_, .f32⟩
  | .hbm, ⟨45, _⟩ => ⟨S32x1, .f32⟩
  | .hbm, ⟨46, _⟩ => ⟨S32x1, .f32⟩
  | .hbm, ⟨47, _⟩ => ⟨S32x1, .f32⟩
  | .hbm, ⟨48, _⟩ => ⟨S32x1024, .f32⟩
  | .hbm, ⟨49, _⟩ => ⟨S32x1024, .f32⟩
  | .hbm, ⟨50, _⟩ => ⟨S32x1024, .f32⟩
  | .hbm, ⟨51, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Qkv.lean ====
abbrev S32x1024 : Shape := ⟨2, ![32, 1024]⟩
abbrev S1x1024 : Shape := ⟨2, ![1, 1024]⟩
abbrev S1024x1536 : Shape := ⟨2, ![1024, 1536]⟩
abbrev S_ : Shape := ⟨0, ![]⟩
abbrev S1 : Shape := ⟨1, ![1]⟩
abbrev S16 : Shape := ⟨1, ![16]⟩
abbrev S1x1 : Shape := ⟨2, ![1, 1]⟩
abbrev S1x16 : Shape := ⟨2, ![1, 16]⟩
abbrev S1x96 : Shape := ⟨2, ![1, 96]⟩
abbrev S1x128 : Shape := ⟨2, ![1, 128]⟩
abbrev S32x256 : Shape := ⟨2, ![32, 256]⟩
abbrev S32 : Shape := ⟨1, ![32]⟩
abbrev S32x1 : Shape := ⟨2, ![32, 1]⟩
abbrev S32x1536 : Shape := ⟨2, ![32, 1536]⟩
abbrev S32x128 : Shape := ⟨2, ![32, 128]⟩

abbrev nBuf : Space → Nat
  | .hbm => 30
  | .vmem => 8
  | .smem => 0
  | _ => 0

abbrev bufTy : (tb : Table) → Fin (tcTables nBuf tb) → BufTy
  | .hbm, ⟨0, _⟩ => ⟨S32x1024, .f32⟩
  | .hbm, ⟨1, _⟩ => ⟨S1x1024, .f32⟩
  | .hbm, ⟨2, _⟩ => ⟨S1024x1536, .bf16⟩
  | .hbm, ⟨3, _⟩ => ⟨S_, .i32⟩
  | .hbm, ⟨4, _⟩ => ⟨S1, .i32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S1, .f32⟩
  | .hbm, ⟨14, _⟩ => ⟨S1x1, .f32⟩
  | .hbm, ⟨15, _⟩ => ⟨S1x16, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S1x16, .f32⟩
  | .hbm, ⟨20, _⟩ => ⟨S_, .f32⟩
  | .hbm, ⟨21, _⟩ => ⟨S1x96, .f32⟩
  | .hbm, ⟨22, _⟩ => ⟨S1x128, .f32⟩
  | .hbm, ⟨23, _⟩ => ⟨S1x16, .f32⟩
  | .hbm, ⟨24, _⟩ => ⟨S_, .f32⟩
  | .hbm, ⟨25, _⟩ => ⟨S1x96, .f32⟩
  | .hbm, ⟨26, _⟩ => ⟨S1x128, .f32⟩
  | .hbm, ⟨27, _⟩ => ⟨S32x1024, .f32⟩
  | .hbm, ⟨28, _⟩ => ⟨S32x256, .f32⟩
  | .hbm, ⟨29, _⟩ => ⟨S32x256, .f32⟩
  | .local _ .vmem, ⟨0, _⟩ => ⟨S32x1024, .f32⟩
  | .local _ .vmem, ⟨1, _⟩ => ⟨S1x1024, .f32⟩
  | .local _ .vmem, ⟨2, _⟩ => ⟨S1024x1536, .bf16⟩
  | .local _ .vmem, ⟨3, _⟩ => ⟨S1x128, .f32⟩
  | .local _ .vmem, ⟨4, _⟩ => ⟨S1x128, .f32⟩
  | .local _ .vmem, ⟨5, _⟩ => ⟨S32x1024, .f32⟩
  | .local _ .vmem, ⟨6, _⟩ => ⟨S32x256, .f32⟩
  | .local _ .vmem, ⟨7, _⟩ => ⟨S32x256, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== QkvRefIdeal.lean ====
abbrev S32x1024 : Shape := ⟨2, ![32, 1024]⟩
abbrev S1x1024 : Shape := ⟨2, ![1, 1024]⟩
abbrev S1024x1536 : Shape := ⟨2, ![1024, 1536]⟩
abbrev S_ : Shape := ⟨0, ![]⟩
abbrev S32 : Shape := ⟨1, ![32]⟩
abbrev S32x1 : Shape := ⟨2, ![32, 1]⟩
abbrev S32x1536 : Shape := ⟨2, ![32, 1536]⟩
abbrev S32x8x128 : Shape := ⟨3, ![32, 8, 128]⟩
abbrev S16 : Shape := ⟨1, ![16]⟩
abbrev S1 : Shape := ⟨1, ![1]⟩
abbrev S1x1 : Shape := ⟨2, ![1, 1]⟩
abbrev S1x16 : Shape := ⟨2, ![1, 16]⟩
abbrev S1x1x16 : Shape := ⟨3, ![1, 1, 16]⟩
abbrev S32x8x16 : Shape := ⟨3, ![32, 8, 16]⟩
abbrev S32x8x96 : Shape := ⟨3, ![32, 8, 96]⟩
abbrev S32x256 : Shape := ⟨2, ![32, 256]⟩
abbrev S32x2x128 : Shape := ⟨3, ![32, 2, 128]⟩
abbrev S32x2x16 : Shape := ⟨3, ![32, 2, 16]⟩
abbrev S32x2x96 : Shape := ⟨3, ![32, 2, 96]⟩

abbrev nBuf : Space → Nat
  | .hbm => 100
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x1024, .f32⟩
  | .hbm, ⟨2, _⟩ => ⟨S1024x1536, .bf16⟩
  | .hbm, ⟨3, _⟩ => ⟨S32x1024, .f32⟩
  | .hbm, ⟨4, _⟩ => ⟨S_, .f32⟩
  | .hbm, ⟨5, _⟩ => ⟨S32, .f32⟩
  | .hbm, ⟨6, _⟩ => ⟨S32x1, .f32⟩
  | .hbm, ⟨7, _⟩ => ⟨S_, .f32⟩
  | .hbm, ⟨8, _⟩ => ⟨S32x1, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S32x1, .f32⟩
  | .hbm, ⟨14, _⟩ => ⟨S32x1024, .f32⟩
  | .hbm, ⟨15, _⟩ => ⟨S32x1024, .f32⟩
  | .hbm, ⟨16, _⟩ => ⟨S32x1024, .f32⟩
  | .hbm, ⟨17, _⟩ => ⟨S32x1024, .f32⟩
  | .hbm, ⟨18, _⟩ => ⟨S1024x1536, .f32⟩
  | .hbm, ⟨19, _⟩ => ⟨S32x1536, .f32⟩
  | .hbm, ⟨20, _⟩ => ⟨S32x1024, .f32⟩
  | .hbm, ⟨21, _⟩ => ⟨S32x8x128, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S1, .i32⟩
  | .hbm, ⟨34, _⟩ => ⟨S1, .f32⟩
  | .hbm, ⟨35, _⟩ => ⟨S1x1, .f32⟩
  | .hbm, ⟨36, _⟩ => ⟨S1x16, .f32⟩
  | .hbm, ⟨37, _⟩ => ⟨S1x16, .f32⟩
  | .hbm, ⟨38, _⟩ => ⟨S1x16, .f32⟩
  | .hbm, ⟨39, _⟩ => ⟨S1x16, .f32⟩
  | .hbm, ⟨40, _⟩ => ⟨S1x1x16, .f32⟩
  | .hbm, ⟨41, _⟩ => ⟨S1x16, .f32⟩
  | .hbm, ⟨42, _⟩ => ⟨S1x1x16, .f32⟩
  | .hbm, ⟨43, _⟩ => ⟨S32x8x16, .f32⟩
  | .hbm, ⟨44, _⟩ => ⟨S32x8x16, .f32⟩
  | .hbm, ⟨45, _⟩ => ⟨S32x8x16, .f32⟩
  | .hbm, ⟨46, _⟩ => ⟨S32x8x16, .f32⟩
  | .hbm, ⟨47, _⟩ => ⟨S32x8x16, .f32⟩
  | .hbm, ⟨48, _⟩ => ⟨S32x8x16, .f32⟩
  | .hbm, ⟨49, _⟩ => ⟨S32x8x16, .f32⟩
  | .hbm, ⟨50, _⟩ => ⟨S32x8x16, .f32⟩
  | .hbm, ⟨51, _⟩ => ⟨S32x8x16, .f32⟩
  | .hbm, ⟨52, _⟩ => ⟨S32x8x16, .f32⟩
  | .hbm, ⟨53, _⟩ => ⟨S32x8x16, .f32⟩
  | .hbm, ⟨54, _⟩ => ⟨S32x8x16, .f32⟩
  | .hbm, ⟨55, _⟩ => ⟨S32x8x96, .f32⟩
  | .hbm, ⟨56, _⟩ => ⟨S32x8x128, .f32⟩
  | .hbm, ⟨57, _⟩ => ⟨S_, .f32⟩
  | .hbm, ⟨58, _⟩ => ⟨S32x8x128, .f32⟩
  | .hbm, ⟨59, _⟩ => ⟨S32x8x128, .f32⟩
  | .hbm, ⟨60, _⟩ => ⟨S32x256, .f32⟩
  | .hbm, ⟨61, _⟩ => ⟨S32x2x128, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S1, .i32⟩
  | .hbm, ⟨71, _⟩ => ⟨S_, .i32⟩
  | .hbm, ⟨72, _⟩ => ⟨S1, .i32⟩
  | .hbm, ⟨73, _⟩ => ⟨S1, .i32⟩
  | .hbm, ⟨74, _⟩ => ⟨S1, .f32⟩
  | .hbm, ⟨75, _⟩ => ⟨S1x1, .f32⟩
  | .hbm, ⟨76, _⟩ => ⟨S1x16, .f32⟩
  | .hbm, ⟨77, _⟩ => ⟨S1x16, .f32⟩
  | .hbm, ⟨78, _⟩ => ⟨S1x16, .f32⟩
  | .hbm, ⟨79, _⟩ => ⟨S1x16, .f32⟩
  | .hbm, ⟨80, _⟩ => ⟨S1x1x16, .f32⟩
  | .hbm, ⟨81, _⟩ => ⟨S1x16, .f32⟩
  | .hbm, ⟨82, _⟩ => ⟨S1x1x16, .f32⟩
  | .hbm, ⟨83, _⟩ => ⟨S32x2x16, .f32⟩
  | .hbm, ⟨84, _⟩ => ⟨S32x2x16, .f32⟩
  | .hbm, ⟨85, _⟩ => ⟨S32x2x16, .f32⟩
  | .hbm, ⟨86, _⟩ => ⟨S32x2x16, .f32⟩
  | .hbm, ⟨87, _⟩ => ⟨S32x2x16, .f32⟩
  | .hbm, ⟨88, _⟩ => ⟨S32x2x16, .f32⟩
  | .hbm, ⟨89, _⟩ => ⟨S32x2x16, .f32⟩
  | .hbm, ⟨90, _⟩ => ⟨S32x2x16, .f32⟩
  | .hbm, ⟨91, _⟩ => ⟨S32x2x16, .f32⟩
  | .hbm, ⟨92, _⟩ => ⟨S32x2x16, .f32⟩
  | .hbm, ⟨93, _⟩ => ⟨S32x2x16, .f32⟩
  | .hbm, ⟨94, _⟩ => ⟨S32x2x16, .f32⟩
  | .hbm, ⟨95, _⟩ => ⟨S32x2x96, .f32⟩
  | .hbm, ⟨96, _⟩ => ⟨S32x2x128, .f32⟩
  | .hbm, ⟨97, _⟩ => ⟨S32x1024, .f32⟩
  | .hbm, ⟨98, _⟩ => ⟨S32x256, .f32⟩
  | .hbm, ⟨99, _⟩ => ⟨S32x256, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_4 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_5 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_c_7 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩

abbrev nD : Nat := 1
abbrev τ : Topo := Topo.v7x

variable {F : FTy → Type} [FloatOps F]
-- ==== Proof.Moe.Twin.lean ====
/-
  The program and its idealization are one text, no operation having been replaced: what each is made of is the
  other's, so that the idealized program's run at the machine's floats is the program's own.
-/
module

public import proofs.«01_k».proof.Proof.Gen.Kernel
public import proofs.«01_k».proof.Proof.Gen.KernelIdeal

@[expose] public section

set_option maxRecDepth 16384

noncomputable section

namespace Cert.Moe

open Idealize.ShloMosaic Idealize.ShloMosaic.TcCoe

variable {F : FTy → Type} [FloatOps F]

attribute [local instance] Cert.Kernel.Gen.facts Cert.KernelIdeal.Gen.facts

/-- The body's text. -/
theorem body_eq : @Cert.Kernel.cc0_moe_expert F _ _ = @Cert.KernelIdeal.cc0_moe_expert F _ _ := by
  with_unfolding_all rfl

/-- The pipeline: tables, grid, windows and index maps. -/
theorem pipe_eq : Cert.Kernel.pcfg0 (F := F) = Cert.KernelIdeal.pcfg0 (F := F) := by
  with_unfolding_all rfl

/-- The body's label, called with the point and the staging buffers. -/
theorem table_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => with_unfolding_all rfl
  | ⟨n + 1, h⟩, _ => exact absurd h (Nat.not_lt.2 (Nat.le_add_left _ _))

/-- The main function. -/
theorem main_eq : Cert.Kernel.main (F := F) = Cert.KernelIdeal.main (F := F) := by
  with_unfolding_all rfl

/-- Every label of the program. -/
theorem defs_eq : Cert.Kernel.defs (F := F) = Cert.KernelIdeal.defs (F := F) := by
  unfold Cert.Kernel.defs Cert.KernelIdeal.defs
  rw [table_eq]
  with_unfolding_all rfl

end Cert.Moe

end
-- ==== Proof.Moe.RefRun.lean ====
/-
  The reference's run: what its operations leave in its two results, in three stretches — the expert's own weights and
  gates picked out, the prompt's result, the sample's result.
-/
module

public import proofs.«01_k».proof.Proof.Gen.ReferenceIdeal
public import Idealize.ShloMosaic.Lib.StableHlo.Run
public import Idealize.ShloMosaic.Lib.StableHlo.RunClose
public import Idealize.ShloMosaic.Lib.Pipeline.Frame

@[expose] public section

set_option maxRecDepth 16384

noncomputable section

namespace Cert.ReferenceIdeal.Moe

open Cert.ReferenceIdeal Cert.ReferenceIdeal.Gen Idealize.ShloMosaic Idealize.ShloMosaic.TcCoe Idealize.SL.Sem Idealize.ShloMosaic.StableHlo

variable {F : FTy → Type} [FloatOps F]

/-- The expert's number and its weights and gates. -/
abbrev pick : List (HloOp τ sig (Elt F)) :=
  [ reshape main_arg0 main_v0 (rfl : (.i32 : EltTy) = .i32) shapeCasts_S1_S_,
    nullary main_c (constantI S_ 32 0#32),
    nullary main_c_0 (constantI S_ 32 0#32),
    unaryIndexed main_arg6 ![main_v0, main_c, main_c_0] ⟨S_, .i32⟩ main_v1 ((fun x i => Host.dynamicSlice S1x1024x3584 x (fun k => (i k (Shape.Idx.first h_S_)).toInt) sliceFits_S8x1024x3584_S1x1024x3584) : (⟨S8x1024x3584, .bf16⟩ : BufTy).Contents (Elt F) → (Fin 3 → (⟨S_, .i32⟩ : BufTy).Contents (Elt F)) → (⟨S1x1024x3584, .bf16⟩ : BufTy).Contents (Elt F)),
    reshape main_v1 main_v2 (rfl : (.bf16 : EltTy) = .bf16) shapeCasts_S1x1024x3584_S1024x3584,
    unary main_v2 main_v3 ((extf .f32 · bitsLt_bf16_f32) : (⟨S1024x3584, .bf16⟩ : BufTy).Contents (Elt F) → (⟨S1024x3584, .f32⟩ : BufTy).Contents (Elt F)),
    nullary main_c_1 (constantI S_ 32 0#32),
    nullary main_c_2 (constantI S_ 32 0#32),
    unaryIndexed main_arg7 ![main_v0, main_c_1, main_c_2] ⟨S_, .i32⟩ main_v4 ((fun x i => Host.dynamicSlice S1x1024x3584 x (fun k => (i k (Shape.Idx.first h_S_)).toInt) sliceFits_S8x1024x3584_S1x1024x3584) : (⟨S8x1024x3584, .bf16⟩ : BufTy).Contents (Elt F) → (Fin 3 → (⟨S_, .i32⟩ : BufTy).Contents (Elt F)) → (⟨S1x1024x3584, .bf16⟩ : BufTy).Contents (Elt F)),
    reshape main_v4 main_v5 (rfl : (.bf16 : EltTy) = .bf16) shapeCasts_S1x1024x3584_S1024x3584,
    unary main_v5 main_v6 ((extf .f32 · bitsLt_bf16_f32) : (⟨S1024x3584, .bf16⟩ : BufTy).Contents (Elt F) → (⟨S1024x3584, .f32⟩ : BufTy).Contents (Elt F)),
    nullary main_c_3 (constantI S_ 32 0#32),
    nullary main_c_4 (constantI S_ 32 0#32),
    unaryIndexed main_arg8 ![main_v0, main_c_3, main_c_4] ⟨S_, .i32⟩ main_v7 ((fun x i => Host.dynamicSlice S1x3584x1024 x (fun k => (i k (Shape.Idx.first h_S_)).toInt) sliceFits_S8x3584x1024_S1x3584x1024) : (⟨S8x3584x1024, .bf16⟩ : BufTy).Contents (Elt F) → (Fin 3 → (⟨S_, .i32⟩ : BufTy).Contents (Elt F)) → (⟨S1x3584x1024, .bf16⟩ : BufTy).Contents (Elt F)),
    reshape main_v7 main_v8 (rfl : (.bf16 : EltTy) = .bf16) shapeCasts_S1x3584x1024_S3584x1024,
    unary main_v8 main_v9 ((extf .f32 · bitsLt_bf16_f32) : (⟨S3584x1024, .bf16⟩ : BufTy).Contents (Elt F) → (⟨S3584x1024, .f32⟩ : BufTy).Contents (Elt F)),
    nullary main_c_5 (constantI S_ 32 0#32),
    unaryIndexed main_arg4 ![main_v0, main_c_5] ⟨S_, .i32⟩ main_v10 ((fun x i => Host.dynamicSlice S1x16384 x (fun k => (i k (Shape.Idx.first h_S_)).toInt) sliceFits_S8x16384_S1x16384) : (⟨S8x16384, .f32⟩ : BufTy).Contents (Elt F) → (Fin 2 → (⟨S_, .i32⟩ : BufTy).Contents (Elt F)) → (⟨S1x16384, .f32⟩ : BufTy).Contents (Elt F)),
    reshape main_v10 main_v11 (rfl : (.f32 : EltTy) = .f32) shapeCasts_S1x16384_S16384,
    unary main_v11 main_v12 (broadcastInDim S16384x1 ![0] bcast_S16384_S16384x1_0 : (⟨S16384, .f32⟩ : BufTy).Contents (Elt F) → (⟨S16384x1, .f32⟩ : BufTy).Contents (Elt F)) ]

/-- The prompt's result. -/
abbrev prompt : List (HloOp τ sig (Elt F)) :=
  [ unary main_arg3 main_v13 ((extf .f32 · bitsLt_bf16_f32) : (⟨S16384x1024, .bf16⟩ : BufTy).Contents (Elt F) → (⟨S16384x1024, .f32⟩ : BufTy).Contents (Elt F)),
    binary main_v13 main_v3 main_v14 ((fun l r => Host.dotGeneral dot_S16384x1024_S1024x3584_S16384x3584_1_0_0_1_n_n none l r) : (⟨S16384x1024, .f32⟩ : BufTy).Contents (Elt F) → (⟨S1024x3584, .f32⟩ : BufTy).Contents (Elt F) → (⟨S16384x3584, .f32⟩ : BufTy).Contents (Elt F)),
    TRef.unary (TRef.of (T := ⟨S16384x3584, .f32⟩) main_v14) (TRef.of (T := ⟨S16384x3584, .f32⟩) main_call0_v0) Host.negf,
    TRef.unary (TRef.of (T := ⟨S16384x3584, .f32⟩) main_call0_v0) (TRef.of (T := ⟨S16384x3584, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S16384x3584, .f32⟩) main_call0_v2) (broadcastInDim S16384x3584 ![] bcast_S_S16384x3584),
    TRef.binary (TRef.of (T := ⟨S16384x3584, .f32⟩) main_call0_v2) (TRef.of (T := ⟨S16384x3584, .f32⟩) main_call0_v1) (TRef.of (T := ⟨S16384x3584, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S16384x3584, .f32⟩) main_call0_v4) (broadcastInDim S16384x3584 ![] bcast_S_S16384x3584),
    TRef.binary (TRef.of (T := ⟨S16384x3584, .f32⟩) main_call0_v4) (TRef.of (T := ⟨S16384x3584, .f32⟩) main_call0_v3) (TRef.of (T := ⟨S16384x3584, .f32⟩) main_call0_v5) Host.divf,
    TRef.binary (TRef.of (T := ⟨S16384x3584, .f32⟩) main_v14) (TRef.of (T := ⟨S16384x3584, .f32⟩) main_call0_v5) (TRef.of (T := ⟨S16384x3584, .f32⟩) main_v15) mulf,
    binary main_v13 main_v6 main_v16 ((fun l r => Host.dotGeneral dot_S16384x1024_S1024x3584_S16384x3584_1_0_0_1_n_n none l r) : (⟨S16384x1024, .f32⟩ : BufTy).Contents (Elt F) → (⟨S1024x3584, .f32⟩ : BufTy).Contents (Elt F) → (⟨S16384x3584, .f32⟩ : BufTy).Contents (Elt F)),
    binary main_v15 main_v16 main_v17 (mulf : (⟨S16384x3584, .f32⟩ : BufTy).Contents (Elt F) → (⟨S16384x3584, .f32⟩ : BufTy).Contents (Elt F) → (⟨S16384x3584, .f32⟩ : BufTy).Contents (Elt F)),
    binary main_v17 main_v9 main_v18 ((fun l r => Host.dotGeneral dot_S16384x3584_S3584x1024_S16384x1024_1_0_0_1_n_n none l r) : (⟨S16384x3584, .f32⟩ : BufTy).Contents (Elt F) → (⟨S3584x1024, .f32⟩ : BufTy).Contents (Elt F) → (⟨S16384x1024, .f32⟩ : BufTy).Contents (Elt F)),
    unary main_v12 main_v19 (broadcastInDim S16384x1024 ![0, 1] bcast_S16384x1_S16384x1024_0_1 : (⟨S16384x1, .f32⟩ : BufTy).Contents (Elt F) → (⟨S16384x1024, .f32⟩ : BufTy).Contents (Elt F)),
    binary main_v19 main_v18 main_v20 (mulf : (⟨S16384x1024, .f32⟩ : BufTy).Contents (Elt F) → (⟨S16384x1024, .f32⟩ : BufTy).Contents (Elt F) → (⟨S16384x1024, .f32⟩ : BufTy).Contents (Elt F)),
    binary main_arg9 main_v20 main_v21 (addf : (⟨S16384x1024, .f32⟩ : BufTy).Contents (Elt F) → (⟨S16384x1024, .f32⟩ : BufTy).Contents (Elt F) → (⟨S16384x1024, .f32⟩ : BufTy).Contents (Elt F)) ]

/-- The sample's gates and its result. -/
abbrev sample : List (HloOp τ sig (Elt F)) :=
  [ nullary main_c_6 (constantI S_ 32 0#32),
    unaryIndexed main_arg11 ![main_v0, main_c_6] ⟨S_, .i32⟩ main_v22 ((fun x i => Host.dynamicSlice S1x32 x (fun k => (i k (Shape.Idx.first h_S_)).toInt) sliceFits_S8x32_S1x32) : (⟨S8x32, .f32⟩ : BufTy).Contents (Elt F) → (Fin 2 → (⟨S_, .i32⟩ : BufTy).Contents (Elt F)) → (⟨S1x32, .f32⟩ : BufTy).Contents (Elt F)),
    reshape main_v22 main_v23 (rfl : (.f32 : EltTy) = .f32) shapeCasts_S1x32_S32,
    unary main_v23 main_v24 (broadcastInDim S32x1 ![0] bcast_S32_S32x1_0 : (⟨S32, .f32⟩ : BufTy).Contents (Elt F) → (⟨S32x1, .f32⟩ : BufTy).Contents (Elt F)),
    unary main_arg10 main_v25 ((extf .f32 · bitsLt_bf16_f32) : (⟨S32x1024, .bf16⟩ : BufTy).Contents (Elt F) → (⟨S32x1024, .f32⟩ : BufTy).Contents (Elt F)),
    binary main_v25 main_v3 main_v26 ((fun l r => Host.dotGeneral dot_S32x1024_S1024x3584_S32x3584_1_0_0_1_n_n none l r) : (⟨S32x1024, .f32⟩ : BufTy).Contents (Elt F) → (⟨S1024x3584, .f32⟩ : BufTy).Contents (Elt F) → (⟨S32x3584, .f32⟩ : BufTy).Contents (Elt F)),
    TRef.unary (TRef.of (T := ⟨S32x3584, .f32⟩) main_v26) (TRef.of (T := ⟨S32x3584, .f32⟩) main_call1_v0) Host.negf,
    TRef.unary (TRef.of (T := ⟨S32x3584, .f32⟩) main_call1_v0) (TRef.of (T := ⟨S32x3584, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S32x3584, .f32⟩) main_call1_v2) (broadcastInDim S32x3584 ![] bcast_S_S32x3584),
    TRef.binary (TRef.of (T := ⟨S32x3584, .f32⟩) main_call1_v2) (TRef.of (T := ⟨S32x3584, .f32⟩) main_call1_v1) (TRef.of (T := ⟨S32x3584, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S32x3584, .f32⟩) main_call1_v4) (broadcastInDim S32x3584 ![] bcast_S_S32x3584),
    TRef.binary (TRef.of (T := ⟨S32x3584, .f32⟩) main_call1_v4) (TRef.of (T := ⟨S32x3584, .f32⟩) main_call1_v3) (TRef.of (T := ⟨S32x3584, .f32⟩) main_call1_v5) Host.divf,
    TRef.binary (TRef.of (T := ⟨S32x3584, .f32⟩) main_v26) (TRef.of (T := ⟨S32x3584, .f32⟩) main_call1_v5) (TRef.of (T := ⟨S32x3584, .f32⟩) main_v27) mulf,
    binary main_v25 main_v6 main_v28 ((fun l r => Host.dotGeneral dot_S32x1024_S1024x3584_S32x3584_1_0_0_1_n_n none l r) : (⟨S32x1024, .f32⟩ : BufTy).Contents (Elt F) → (⟨S1024x3584, .f32⟩ : BufTy).Contents (Elt F) → (⟨S32x3584, .f32⟩ : BufTy).Contents (Elt F)),
    binary main_v27 main_v28 main_v29 (mulf : (⟨S32x3584, .f32⟩ : BufTy).Contents (Elt F) → (⟨S32x3584, .f32⟩ : BufTy).Contents (Elt F) → (⟨S32x3584, .f32⟩ : BufTy).Contents (Elt F)),
    binary main_v29 main_v9 main_v30 ((fun l r => Host.dotGeneral dot_S32x3584_S3584x1024_S32x1024_1_0_0_1_n_n none l r) : (⟨S32x3584, .f32⟩ : BufTy).Contents (Elt F) → (⟨S3584x1024, .f32⟩ : BufTy).Contents (Elt F) → (⟨S32x1024, .f32⟩ : BufTy).Contents (Elt F)),
    unary main_v24 main_v31 (broadcastInDim S32x1024 ![0, 1] bcast_S32x1_S32x1024_0_1 : (⟨S32x1, .f32⟩ : BufTy).Contents (Elt F) → (⟨S32x1024, .f32⟩ : BufTy).Contents (Elt F)),
    binary main_v31 main_v30 main_v32 (mulf : (⟨S32x1024, .f32⟩ : BufTy).Contents (Elt F) → (⟨S32x1024, .f32⟩ : BufTy).Contents (Elt F) → (⟨S32x1024, .f32⟩ : BufTy).Contents (Elt F)),
    binary main_arg13 main_v32 main_v33 (addf : (⟨S32x1024, .f32⟩ : BufTy).Contents (Elt F) → (⟨S32x1024, .f32⟩ : BufTy).Contents (Elt F) → (⟨S32x1024, .f32⟩ : BufTy).Contents (Elt F)) ]

theorem scoped_refs : (Finset.univ.filter fun b : Ref sig .tc => b.isScoped) = ∅ := by decide
theorem scoped_sems : (Finset.univ.filter fun s : SemLoc sig => s.isScoped .tc) = ∅ := by decide

/-- Every stretch touches the main function's buffers only. -/
theorem pick_sub : (pick : List (HloOp τ sig (Elt F))).Forall fun op => op.bufs ⊆ tcRefs τ sig :=
  ⟨reshape_bufs_sub .., nullary_bufs_sub .., nullary_bufs_sub .., unaryIndexed_bufs_sub .., reshape_bufs_sub .., unary_bufs_sub .., nullary_bufs_sub .., nullary_bufs_sub .., unaryIndexed_bufs_sub .., reshape_bufs_sub .., unary_bufs_sub .., nullary_bufs_sub .., nullary_bufs_sub .., unaryIndexed_bufs_sub .., reshape_bufs_sub .., unary_bufs_sub .., nullary_bufs_sub .., unaryIndexed_bufs_sub .., reshape_bufs_sub .., unary_bufs_sub ..⟩
theorem prompt_sub : (prompt : List (HloOp τ sig (Elt F))).Forall fun op => op.bufs ⊆ tcRefs τ sig :=
  ⟨unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., unary_bufs_sub .., binary_bufs_sub .., binary_bufs_sub ..⟩
theorem sample_sub : (sample : List (HloOp τ sig (Elt F))).Forall fun op => op.bufs ⊆ tcRefs τ sig :=
  ⟨nullary_bufs_sub .., unaryIndexed_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., unary_bufs_sub .., binary_bufs_sub .., binary_bufs_sub ..⟩

/-- The whole run. -/
abbrev line : List (HloOp τ sig (Elt F)) := pick ++ (prompt ++ sample)

set_option maxHeartbeats 4000000 in
theorem main_line (c : Dev nD) : main (F := F) c = seq line := rfl

theorem line_sub : (line : List (HloOp τ sig (Elt F))).Forall fun op => op.bufs ⊆ tcRefs τ sig := by
  rw [List.forall_append, List.forall_append]
  exact ⟨pick_sub, prompt_sub, sample_sub⟩

/-- The expert's matrix of a stack of eight, 1024 by 3584. -/
def wide (e : Vec F S1 .i32) (w : Vec F S8x1024x3584 .bf16) : Vec F S1024x3584 .f32 :=
  extf .f32 (shapeCast S1024x3584 (Host.dynamicSlice S1x1024x3584 w
    (fun k => (![shapeCast S_ e shapeCasts_S1_S_, constantI S_ 32 0#32, constantI S_ 32 0#32] k (Shape.Idx.first h_S_)).toInt)
    sliceFits_S8x1024x3584_S1x1024x3584) shapeCasts_S1x1024x3584_S1024x3584) bitsLt_bf16_f32

/-- The expert's matrix of a stack of eight, 3584 by 1024. -/
def tall (e : Vec F S1 .i32) (w : Vec F S8x3584x1024 .bf16) : Vec F S3584x1024 .f32 :=
  extf .f32 (shapeCast S3584x1024 (Host.dynamicSlice S1x3584x1024 w
    (fun k => (![shapeCast S_ e shapeCasts_S1_S_, constantI S_ 32 0#32, constantI S_ 32 0#32] k (Shape.Idx.first h_S_)).toInt)
    sliceFits_S8x3584x1024_S1x3584x1024) shapeCasts_S1x3584x1024_S3584x1024) bitsLt_bf16_f32

/-- The prompt's gates of the expert, as a column. -/
def column (e : Vec F S1 .i32) (g : Vec F S8x16384 .f32) : Vec F S16384x1 .f32 :=
  broadcastInDim S16384x1 ![0] bcast_S16384_S16384x1_0 (shapeCast S16384 (Host.dynamicSlice S1x16384 g
    (fun k => (![shapeCast S_ e shapeCasts_S1_S_, constantI S_ 32 0#32] k (Shape.Idx.first h_S_)).toInt)
    sliceFits_S8x16384_S1x16384) shapeCasts_S1x16384_S16384)

/-- The sample's gates of the expert, as a column; `e` is the expert's number without its axis. -/
def columnS (e : Vec F S_ .i32) (g : Vec F S8x32 .f32) : Vec F S32x1 .f32 :=
  broadcastInDim S32x1 ![0] bcast_S32_S32x1_0 (shapeCast S32 (Host.dynamicSlice S1x32 g
    (fun k => (![e, constantI S_ 32 0#32] k (Shape.Idx.first h_S_)).toInt)
    sliceFits_S8x32_S1x32) shapeCasts_S1x32_S32)

/-- `x` times its logistic, over the prompt. -/
def swish (x : Vec F S16384x3584 .f32) : Vec F S16384x3584 .f32 :=
  mulf x (Host.divf (broadcastInDim S16384x3584 ![] bcast_S_S16384x3584 (constant S_ .f32 0x3F800000#32))
    (addf (broadcastInDim S16384x3584 ![] bcast_S_S16384x3584 (constant S_ .f32 0x3F800000#32)) (Host.exp (Host.negf x))))

/-- `x` times its logistic, over the sample. -/
def swishS (x : Vec F S32x3584 .f32) : Vec F S32x3584 .f32 :=
  mulf x (Host.divf (broadcastInDim S32x3584 ![] bcast_S_S32x3584 (constant S_ .f32 0x3F800000#32))
    (addf (broadcastInDim S32x3584 ![] bcast_S_S32x3584 (constant S_ .f32 0x3F800000#32)) (Host.exp (Host.negf x))))

/-- The prompt's result. -/
def promptOf (G U : Vec F S1024x3584 .f32) (D : Vec F S3584x1024 .f32) (g : Vec F S16384x1 .f32) (x : Vec F S16384x1024 .bf16)
    (h : Vec F S16384x1024 .f32) : Vec F S16384x1024 .f32 :=
  addf h (mulf (broadcastInDim S16384x1024 ![0, 1] bcast_S16384x1_S16384x1024_0_1 g)
    (Host.dotGeneral dot_S16384x3584_S3584x1024_S16384x1024_1_0_0_1_n_n none
      (mulf (swish (Host.dotGeneral dot_S16384x1024_S1024x3584_S16384x3584_1_0_0_1_n_n none (extf .f32 x bitsLt_bf16_f32 : Vec F S16384x1024 .f32) G))
        (Host.dotGeneral dot_S16384x1024_S1024x3584_S16384x3584_1_0_0_1_n_n none (extf .f32 x bitsLt_bf16_f32 : Vec F S16384x1024 .f32) U)) D))

/-- The sample's result. -/
def sampleOf (G U : Vec F S1024x3584 .f32) (D : Vec F S3584x1024 .f32) (g : Vec F S32x1 .f32) (x : Vec F S32x1024 .bf16)
    (h : Vec F S32x1024 .f32) : Vec F S32x1024 .f32 :=
  addf h (mulf (broadcastInDim S32x1024 ![0, 1] bcast_S32x1_S32x1024_0_1 g)
    (Host.dotGeneral dot_S32x3584_S3584x1024_S32x1024_1_0_0_1_n_n none
      (mulf (swishS (Host.dotGeneral dot_S32x1024_S1024x3584_S32x3584_1_0_0_1_n_n none (extf .f32 x bitsLt_bf16_f32 : Vec F S32x1024 .f32) G))
        (Host.dotGeneral dot_S32x1024_S1024x3584_S32x3584_1_0_0_1_n_n none (extf .f32 x bitsLt_bf16_f32 : Vec F S32x1024 .f32) U)) D))

variable (V : Valuation τ sig (Elt F))

/-! What each stretch leaves. -/

theorem pick_v0 : after pick V (Proc.devRef .tc main_v0) = shapeCast S_ (V (Proc.devRef .tc main_arg0)) shapeCasts_S1_S_ := by
  after_results_entrywise []
theorem pick_v3 : after pick V (Proc.devRef .tc main_v3) = wide (V (Proc.devRef .tc main_arg0)) (V (Proc.devRef .tc main_arg6)) := by
  after_results_entrywise []
theorem pick_v6 : after pick V (Proc.devRef .tc main_v6) = wide (V (Proc.devRef .tc main_arg0)) (V (Proc.devRef .tc main_arg7)) := by
  after_results_entrywise []
theorem pick_v9 : after pick V (Proc.devRef .tc main_v9) = tall (V (Proc.devRef .tc main_arg0)) (V (Proc.devRef .tc main_arg8)) := by
  after_results_entrywise []
theorem pick_v12 : after pick V (Proc.devRef .tc main_v12) = column (V (Proc.devRef .tc main_arg0)) (V (Proc.devRef .tc main_arg4)) := by
  after_results_entrywise []

theorem prompt_v21 : after prompt V (Proc.devRef .tc main_v21)
    = promptOf (V (Proc.devRef .tc main_v3)) (V (Proc.devRef .tc main_v6)) (V (Proc.devRef .tc main_v9)) (V (Proc.devRef .tc main_v12))
      (V (Proc.devRef .tc main_arg3)) (V (Proc.devRef .tc main_arg9)) := by
  after_results_entrywise []

theorem sample_v33 : after sample V (Proc.devRef .tc main_v33)
    = sampleOf (V (Proc.devRef .tc main_v3)) (V (Proc.devRef .tc main_v6)) (V (Proc.devRef .tc main_v9))
      (columnS (V (Proc.devRef .tc main_v0)) (V (Proc.devRef .tc main_arg11))) (V (Proc.devRef .tc main_arg10)) (V (Proc.devRef .tc main_arg13)) := by
  after_results_entrywise []

end Cert.ReferenceIdeal.Moe

end
-- ==== Proof.Moe.RefEnd.lean ====
/-
  The reference's final states: its two results as functions of its arguments, the arguments as they were, and no semaphore
  counting.
-/
module

public import proofs.«01_k».proof.Proof.Moe.RefRun
public import Idealize.ShloMosaic.Lib.Quiescent

@[expose] public section

set_option maxRecDepth 16384

noncomputable section

namespace Cert.ReferenceIdeal.Moe

open Cert.ReferenceIdeal Cert.ReferenceIdeal.Gen Idealize.ShloMosaic Idealize.ShloMosaic.TcCoe Idealize.SL.Sem Idealize.ShloMosaic.StableHlo

variable {F : FTy → Type} [FloatOps F]

/-- The buffers the operations write, stretch by stretch. -/
abbrev pickW : List (Ref sig .tc) := [main_v0, main_c, main_c_0, main_v1, main_v2, main_v3, main_c_1, main_c_2, main_v4, main_v5, main_v6,
  main_c_3, main_c_4, main_v7, main_v8, main_v9, main_c_5, main_v10, main_v11, main_v12]
abbrev promptW : List (Ref sig .tc) := [main_v13, main_v14, main_call0_v0, main_call0_v1, main_call0_cst, main_call0_v2, main_call0_v3,
  main_call0_cst_0, main_call0_v4, main_call0_v5, main_v15, main_v16, main_v17, main_v18, main_v19, main_v20, main_v21]
abbrev sampleW : List (Ref sig .tc) := [main_c_6, main_v22, main_v23, main_v24, main_v25, main_v26, main_call1_v0, main_call1_v1,
  main_call1_cst, main_call1_v2, main_call1_v3, main_call1_cst_0, main_call1_v4, main_call1_v5, main_v27, main_v28, main_v29, main_v30,
  main_v31, main_v32, main_v33]

theorem pick_writes : (pick : List (HloOp τ sig (Elt F))).Forall fun op => op.writes ⊆ (pickW.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_⟩ <;>
    (refine Finset.singleton_subset_iff.mpr (List.mem_toFinset.mpr (List.mem_map_of_mem ?_)); decide)
theorem prompt_writes : (prompt : List (HloOp τ sig (Elt F))).Forall fun op => op.writes ⊆ (promptW.map (Proc.devRef (τ := τ) .tc)).toFinset := by
  simp only [List.Forall]; refine ⟨?_, ?_, ?_, ?_, ?_, ?_, ?_, ?_, ?_, ?_, ?_, ?_, ?_, ?_, ?_, ?_, ?_⟩ <;>
    (refine Finset.singleton_subset_iff.mpr (List.mem_toFinset.mpr (List.mem_map_of_mem ?_)); decide)
theorem sample_writes : (sample : List (HloOp τ sig (Elt F))).Forall fun op => op.writes ⊆ (sampleW.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_⟩ <;>
    (refine Finset.singleton_subset_iff.mpr (List.mem_toFinset.mpr (List.mem_map_of_mem ?_)); decide)

variable (V : Valuation τ sig (Elt F))

/-- A buffer a stretch does not write keeps its contents through it. -/
theorem pick_kept {b : Ref sig .tc} (h : b ∉ pickW) : after pick V (Proc.devRef .tc b) = V (Proc.devRef .tc b) :=
  after_of_writes_sub pick V pick_writes h
theorem prompt_kept {b : Ref sig .tc} (h : b ∉ promptW) : after prompt V (Proc.devRef .tc b) = V (Proc.devRef .tc b) :=
  after_of_writes_sub prompt V prompt_writes h
theorem sample_kept {b : Ref sig .tc} (h : b ∉ sampleW) : after sample V (Proc.devRef .tc b) = V (Proc.devRef .tc b) :=
  after_of_writes_sub sample V sample_writes h

theorem line_after : after line V = after sample (after prompt (after pick V)) := by
  rw [after_append, after_append]

/-- The argument a buffer holds at the end. -/
theorem line_kept {b : Ref sig .tc} (h : b ∉ pickW) (h' : b ∉ promptW) (h'' : b ∉ sampleW) :
    after line V (Proc.devRef .tc b) = V (Proc.devRef .tc b) := by
  rw [line_after, sample_kept _ h'', prompt_kept _ h', pick_kept _ h]

/-- The prompt's result at the end. -/
theorem line_v21 : after line V (Proc.devRef .tc main_v21)
    = promptOf (wide (V (Proc.devRef .tc main_arg0)) (V (Proc.devRef .tc main_arg6))) (wide (V (Proc.devRef .tc main_arg0)) (V (Proc.devRef .tc main_arg7)))
      (tall (V (Proc.devRef .tc main_arg0)) (V (Proc.devRef .tc main_arg8))) (column (V (Proc.devRef .tc main_arg0)) (V (Proc.devRef .tc main_arg4)))
      (V (Proc.devRef .tc main_arg3)) (V (Proc.devRef .tc main_arg9)) := by
  rw [line_after, sample_kept _ (b := main_v21) (by decide), prompt_v21, pick_v3, pick_v6, pick_v9, pick_v12, pick_kept V (b := main_arg3) (by decide),
    pick_kept V (b := main_arg9) (by decide)]

/-- The sample's result at the end. -/
theorem line_v33 : after line V (Proc.devRef .tc main_v33)
    = sampleOf (wide (V (Proc.devRef .tc main_arg0)) (V (Proc.devRef .tc main_arg6))) (wide (V (Proc.devRef .tc main_arg0)) (V (Proc.devRef .tc main_arg7)))
      (tall (V (Proc.devRef .tc main_arg0)) (V (Proc.devRef .tc main_arg8)))
      (columnS (shapeCast S_ (V (Proc.devRef .tc main_arg0)) shapeCasts_S1_S_) (V (Proc.devRef .tc main_arg11)))
      (V (Proc.devRef .tc main_arg10)) (V (Proc.devRef .tc main_arg13)) := by
  rw [line_after, sample_v33, prompt_kept _ (b := main_v3) (by decide), prompt_kept _ (b := main_v6) (by decide), prompt_kept _ (b := main_v9) (by decide),
    prompt_kept _ (b := main_v0) (by decide), prompt_kept _ (b := main_arg11) (by decide), prompt_kept _ (b := main_arg10) (by decide),
    prompt_kept _ (b := main_arg13) (by decide), pick_v3, pick_v6, pick_v9, pick_v0, pick_kept V (b := main_arg11) (by decide),
    pick_kept V (b := main_arg10) (by decide), pick_kept V (b := main_arg13) (by decide)]

/-- The arguments as they were. -/
def Same (m m' : (ℓ : Loc nD τ sig) → Buf (Elt F) ℓ) : Prop := ∀ c : Dev nD,
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)
    ∧ m' ((c.tc : Thread nD τ).loc main_arg7) = m ((c.tc : Thread nD τ).loc main_arg7)
    ∧ m' ((c.tc : Thread nD τ).loc main_arg8) = m ((c.tc : Thread nD τ).loc main_arg8)
    ∧ m' ((c.tc : Thread nD τ).loc main_arg9) = m ((c.tc : Thread nD τ).loc main_arg9)
    ∧ m' ((c.tc : Thread nD τ).loc main_arg10) = m ((c.tc : Thread nD τ).loc main_arg10)
    ∧ m' ((c.tc : Thread nD τ).loc main_arg11) = m ((c.tc : Thread nD τ).loc main_arg11)
    ∧ m' ((c.tc : Thread nD τ).loc main_arg12) = m ((c.tc : Thread nD τ).loc main_arg12)
    ∧ m' ((c.tc : Thread nD τ).loc main_arg13) = m ((c.tc : Thread nD τ).loc main_arg13)

variable (m : (ℓ : Loc nD τ sig) → Buf (Elt F) ℓ) (ρ : Dev nD → PrngReg)

/-- The prompt's result of the arguments a memory holds. -/
def promptR (c : Dev nD) : Vec F S16384x1024 .f32 :=
  promptOf (wide (m ((c.tc : Thread nD τ).loc main_arg0)) (m ((c.tc : Thread nD τ).loc main_arg6)))
    (wide (m ((c.tc : Thread nD τ).loc main_arg0)) (m ((c.tc : Thread nD τ).loc main_arg7)))
    (tall (m ((c.tc : Thread nD τ).loc main_arg0)) (m ((c.tc : Thread nD τ).loc main_arg8)))
    (column (m ((c.tc : Thread nD τ).loc main_arg0)) (m ((c.tc : Thread nD τ).loc main_arg4)))
    (m ((c.tc : Thread nD τ).loc main_arg3)) (m ((c.tc : Thread nD τ).loc main_arg9))

/-- The sample's result of the arguments a memory holds. -/
def sampleR (c : Dev nD) : Vec F S32x1024 .f32 :=
  sampleOf (wide (m ((c.tc : Thread nD τ).loc main_arg0)) (m ((c.tc : Thread nD τ).loc main_arg6)))
    (wide (m ((c.tc : Thread nD τ).loc main_arg0)) (m ((c.tc : Thread nD τ).loc main_arg7)))
    (tall (m ((c.tc : Thread nD τ).loc main_arg0)) (m ((c.tc : Thread nD τ).loc main_arg8)))
    (columnS (shapeCast S_ (m ((c.tc : Thread nD τ).loc main_arg0)) shapeCasts_S1_S_) (m ((c.tc : Thread nD τ).loc main_arg11)))
    (m ((c.tc : Thread nD τ).loc main_arg10)) (m ((c.tc : Thread nD τ).loc main_arg13))

/-- Every run ends with the two results, the arguments as they were, and no semaphore counting. -/
theorem run : θ_run defs (onTc (τ := τ) (main (F := F))) ⟨m, fun _ => 0, ρ⟩ fun r =>
    (∀ c : Dev nD, r.2.mem ((c.tc : Thread nD τ).loc main_v21) = promptR m c) ∧ (∀ c : Dev nD, r.2.mem ((c.tc : Thread nD τ).loc main_v33) = sampleR m c)
      ∧ Same m r.2.mem ∧ r.2.sem = fun _ => 0 :=
  (θ_run defs _ _).mono (fun r h => ⟨fun c => (h c main_v21).trans (line_v21 _), fun c => (h c main_v33).trans (line_v33 _), fun c =>
    ⟨(h c main_arg0).trans (line_kept _ (by decide) (by decide) (by decide)), (h c main_arg1).trans (line_kept _ (by decide) (by decide) (by decide)),
      (h c main_arg2).trans (line_kept _ (by decide) (by decide) (by decide)), (h c main_arg3).trans (line_kept _ (by decide) (by decide) (by decide)),
      (h c main_arg4).trans (line_kept _ (by decide) (by decide) (by decide)), (h c main_arg5).trans (line_kept _ (by decide) (by decide) (by decide)),
      (h c main_arg6).trans (line_kept _ (by decide) (by decide) (by decide)), (h c main_arg7).trans (line_kept _ (by decide) (by decide) (by decide)),
      (h c main_arg8).trans (line_kept _ (by decide) (by decide) (by decide)), (h c main_arg9).trans (line_kept _ (by decide) (by decide) (by decide)),
      (h c main_arg10).trans (line_kept _ (by decide) (by decide) (by decide)), (h c main_arg11).trans (line_kept _ (by decide) (by decide) (by decide)),
      (h c main_arg12).trans (line_kept _ (by decide) (by decide) (by decide)), (h c main_arg13).trans (line_kept _ (by decide) (by decide) (by decide))⟩,
    sem_eq_zero_of_no_sems (by decide) r.2⟩)
    (run_seq scoped_refs scoped_sems defs main (fun _ => line) main_line (fun _ => line_sub) m ρ)

end Cert.ReferenceIdeal.Moe

end
-- ==== Proof.Moe.Wp.lean ====
/-
  Loads, stores and counted loops, stated about buffers owned at known contents. A load through a
  rectangle hands back the contents at the rectangle's places; a store replaces the contents there and
  keeps them elsewhere. The two facts are all the kernel's body needs of memory.
-/
module

public import Idealize.ShloMosaic.Rules.Step
public import Idealize.ShloMosaic.Lib.Memref
public import Idealize.ShloMosaic.Lib.Scf
public import Idealize.ShloMosaic.Lib.Tactic

@[expose] public section

noncomputable section

namespace Cert.Moe

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U] {Lvl : Type} [Preorder Lvl] {Λ : Labels}

local notation "𝕄" => MT nD τ sig Ix Val Name U Lvl

variable {defs : Defs nD τ sig Val Λ} (𝒱 : Variants) (c : Dev nD) (bd : Option 𝒱.V) (E : Set Name)
variable {α : Type} {Q : α → sProp (MT nD τ sig Ix Val Name U Lvl)} {s : Shape} {e : EltTy}

/-- A vector load from a buffer owned at contents `X` continues with `X` at the rectangle's places. -/
theorem load_owns {cs : CoreSpace} (m : Memref sig .tc cs s e) (r : LoadRect s) (hl : m.view.LoadsAt r)
    (k : (r.shape.Idx → Val e) → Prog (TpuEff nD τ sig Val Λ .tc) α) (q : PosShare TreeShare) (X : s.Idx → Val e) :
    (owns (c : Thread nD τ) m q X : sProp 𝕄)
      ⊢ iprop((owns (c : Thread nD τ) m q X -∗ wp frame (wpE defs 𝒱 (c : Thread nD τ) bd) E (k (fun x => X (r.idx x))) Q)
        -∗ wp frame (wpE defs 𝒱 (c : Thread nD τ) bd) E (Prog.lift (.load m r hl) >>= k) Q) := by
  unfold owns
  iintro ⟨%f, %hf, H⟩ HK
  subst hf
  iapply (wp_load 𝒱 (c : Thread nD τ) bd E (m := m) (r := r) (hl := hl) (k := k) (f := f)
    (View.setOn_subset_set _ _)) $$ H
  iintro H
  iapply HK
  iexists f
  isplitr
  · ipureintro; rfl
  iexact H

/-- The word of scalar memory a `memref.load` reads, from a table owned at contents `X`. -/
theorem smem_owns (m : Memref sig .tc .smem s e) (r : Rect s) (h1 : r.shape.numel = 1) (hp : e.packing = 1)
    (k : Val e → Prog (TpuEff nD τ sig Val Λ .tc) α) (q : PosShare TreeShare) (X : s.Idx → Val e) :
    (owns (c : Thread nD τ) m q X : sProp 𝕄)
      ⊢ iprop((owns (c : Thread nD τ) m q X -∗ wp frame (wpE defs 𝒱 (c : Thread nD τ) bd) E
            (k (X (r.idx (Shape.Idx.first (h1.symm ▸ Nat.one_pos))))) Q)
        -∗ wp frame (wpE defs 𝒱 (c : Thread nD τ) bd) E (smemLoad m r h1 hp >>= k) Q) := by
  unfold owns
  iintro ⟨%f, %hf, H⟩ HK
  subst hf
  iapply (wp_smemLoadElt 𝒱 (c : Thread nD τ) bd E (m := m) (r := r) (hw := View.loads_smem_one hp h1)
    (x := Shape.Idx.first (h1.symm ▸ Nat.one_pos)) (k := k) (f := f)
    (View.set_slice_subset _ r)) $$ H
  iintro H
  iapply HK
  iexists f
  isplitr
  · ipureintro; rfl
  iexact H

/-- An unmasked vector store into a buffer owned at contents `X` leaves any contents `X'` that hold the stored
    values at the rectangle's places and agree with `X` everywhere else. -/
theorem store_owns {cs : CoreSpace} (m : Memref sig .tc cs s e) (r : Rect s) (w : r.shape.Idx → Val e)
    (hx : (m.access r).Stores Finset.univ) (hm : (Finset.univ : Finset r.shape.Idx) = Finset.univ ∨ ∀ a, r.stride a = 1)
    (k : PUnit → Prog (TpuEff nD τ sig Val Λ .tc) α) (X X' : s.Idx → Val e)
    (hin : ∀ x, X' (r.idx x) = w x) (hout : ∀ y, (∀ x, y ≠ r.idx x) → X' y = X y) :
    (owns (c : Thread nD τ) m fullShare X : sProp 𝕄)
      ⊢ iprop((owns (c : Thread nD τ) m fullShare X' -∗ wp frame (wpE defs 𝒱 (c : Thread nD τ) bd) E (k ⟨⟩) Q)
        -∗ wp frame (wpE defs 𝒱 (c : Thread nD τ) bd) E (Prog.lift (.store m r w Finset.univ hx hm) >>= k) Q) := by
  unfold owns
  iintro ⟨%f, %hf, H⟩ HK
  subst hf
  iapply (wp_store 𝒱 (c : Thread nD τ) bd E (m := m) (r := r) (w := w) (hx := hx) (hm := hm) (k := k) (f := f)
    (View.set_slice_subset _ r)) $$ H
  iintro H
  iapply HK
  iexists _
  isplitr
  swap
  · iexact H
  ipureintro
  funext y
  by_cases hy : ∃ x, y = r.idx x
  · obtain ⟨x, rfl⟩ := hy
    rw [hin x]
    exact View.read_slice_write_emb r f w (Finset.mem_univ x)
  · rw [hout y fun x h => hy ⟨x, h⟩]
    refine View.read_slice_write_of_not_mem r f w Finset.univ fun hmem => hy ?_
    obtain ⟨x, -, hx⟩ := Finset.mem_map.1 hmem
    exact ⟨x, hx.symm⟩

end Cert.Moe

end

end
-- ==== Proof.Moe.Body.lean ====
/-
  One compacted group of the expert, as a program: gather the group's rows by a one-hot product, push them
  through the feed-forward in seven slices of the hidden axis, and hand back the weights that scatter the
  rows to their tokens. The kernel's body holds eleven copies of this program that differ in three numbers:
  `n` rows computed, `k ≥ n` rows cleared and scattered, `T` tokens of the tile. Here it is written once, over
  those three numbers, and each printed copy is shown to be it.
-/
module

public import proofs.«01_k».proof.Proof.Gen.KernelIdeal.Skeleton
public import proofs.«01_k».proof.Proof.Moe.Wp

@[expose] public section

set_option maxRecDepth 16384

noncomputable section

namespace Cert.KernelIdeal.Moe

open Idealize.ShloMosaic Idealize.ShloMosaic.TcCoe Idealize.SL.Sem
open Cert.KernelIdeal Cert.KernelIdeal.Gen

variable {F : FTy → Type} [FloatOps F]

/-- The shape of an `a × b` matrix. -/
abbrev mat (a b : ℕ) : Shape := ⟨2, ![a, b]⟩

/-- The shape facts of one group: `n` rows computed, `k` rows scattered, `T` tokens. -/
structure Geo (n k T : ℕ) : Prop where
  nk : n ≤ k
  k512 : k ≤ 512
  iotaN : (mat n T).Iotas .tc 32 [0]
  iotaK : (mat k T).Iotas .tc 32 [0]
  bcN : (mat 1 T).Broadcasts (mat n T)
  bcK : (mat 1 T).Broadcasts (mat k T)
  castN : (mat n 1024).ShapeCasts (mat n 1024)
  castK : (mat k 1024).ShapeCasts (mat k 1024)
  castG : (mat 1 T).ShapeCasts (mat 1 T)
  dotIn : DotDims.WF (mat n T) (mat T 1024) (mat n 1024) [1] [0] [0] [1] [] []
  dotUp : DotDims.WF (mat n 1024) (mat 1024 512) (mat n 512) [1] [0] [0] [1] [] []
  dotDown : DotDims.WF (mat n 512) (mat 512 1024) (mat n 1024) [1] [0] [0] [1] [] []
  dotOut : DotDims.WF (mat k T) (mat k 1024) (mat T 1024) [0] [0] [1] [1] [] []
  inbN : ∀ a, (![0, 0] : Fin 2 → ℕ) a + (mat n 1024).size a ≤ S512x1024.size a
  inbK : ∀ a, (![0, 0] : Fin 2 → ℕ) a + (mat k 1024).size a ≤ S512x1024.size a
  inbT : ∀ a, (![0, 0] : Fin 2 → ℕ) a + (mat T 1024).size a ≤ (mat T 1024).size a
  posN : 0 < (mat n 1024).numel
  posK : 0 < (mat k 1024).numel
  posT : 0 < (mat T 1024).numel
  posG : 0 < (mat 1 T).numel
  packed : (Rect.unit (s := S512x1024) ![0, 0] (mat n 1024).size inbN).PackedRows (EltTy.packing .bf16)

variable {n k T : ℕ} (g : Geo n k T)

/-- The top-left `a × b` corner of a matrix, as the rectangle a load or store names. -/
abbrev corner {A B : ℕ} (a b : ℕ) (h : ∀ x, (![0, 0] : Fin 2 → ℕ) x + (mat a b).size x ≤ (mat A B).size x) : Rect (mat A B) :=
  Rect.unit (s := mat A B) ![0, 0] (mat a b).size h

/-- Where slot `b + row` is the token's slot. -/
def hit {m : ℕ} (hi : (mat m T).Iotas .tc 32 [0]) (hb : (mat 1 T).Broadcasts (mat m T)) (b : BitVec 32)
    (rank : Vec F (mat 1 T) .f32) : IVec (mat m T) 1 :=
  cmpf .oeq (sitofp .f32 (addi (iota .tc (mat m T) 32 [0] hi) (broadcast (mat m T) b)) : FVec F (mat m T) .f32)
    (broadcastTo (mat m T) rank hb)

/-- The group's rows, gathered from the tile by the one-hot matrix. -/
def xcG (b : BitVec 32) (rank : Vec F (mat 1 T) .f32) (x : Vec F (mat T 1024) .bf16) : FVec F (mat n 1024) .bf16 :=
  shapeCast (mat n 1024) (truncf .bf16 (matmul ⟨[1], [0], [0], [1], [], [], g.dotIn⟩ none
    (truncf .bf16 (select (hit g.iotaN g.bcN b rank) (broadcast (mat n T) (Scalar.ofBits .f32 0x3F800000#32 : F .f32))
      (broadcast (mat n T) (Scalar.ofBits .f32 0x00000000#32 : F .f32)) : FVec F (mat n T) .f32) bitsLt_bf16_f32) x
    (constant (mat n 1024) .f32 0x00000000#32)) bitsLt_bf16_f32) g.castN

/-- The cleared accumulator. -/
def zeroG : FVec F (mat k 1024) .f32 :=
  shapeCast (mat k 1024) (broadcast (mat k 1024) (Scalar.ofBits .f32 0x00000000#32 : F .f32)) g.castK

/-- One slice of the hidden axis added to the accumulator. -/
def tripG (xc : Vec F (mat n 1024) .bf16) (wg wu : Vec F S1x1024x512 .bf16) (y : Vec F (mat n 1024) .f32)
    (wd : Vec F S1x512x1024 .bf16) : FVec F (mat n 1024) .f32 :=
  let a : FVec F (mat n 512) .f32 := matmul ⟨[1], [0], [0], [1], [], [], g.dotUp⟩ none xc
    (shapeCast S1024x512 wg shapeCasts_S1x1024x512_S1024x512 : FVec F S1024x512 .bf16) (constant (mat n 512) .f32 0x00000000#32)
  let u : FVec F (mat n 512) .f32 := matmul ⟨[1], [0], [0], [1], [], [], g.dotUp⟩ none xc
    (shapeCast S1024x512 wu shapeCasts_S1x1024x512_S1024x512 : FVec F S1024x512 .bf16) (constant (mat n 512) .f32 0x00000000#32)
  shapeCast (mat n 1024) (addf y (matmul ⟨[1], [0], [0], [1], [], [], g.dotDown⟩ none
    (truncf .bf16 (mulf (mulf a (logistic a)) u) bitsLt_bf16_f32)
    (shapeCast S512x1024 wd shapeCasts_S1x512x1024_S512x1024 : FVec F S512x1024 .bf16) (constant (mat n 1024) .f32 0x00000000#32))) g.castN

/-- The weights that scatter the group's rows: the token's gate at its slot, nothing elsewhere. -/
def wG (b : BitVec 32) (rank gate : Vec F (mat 1 T) .f32) : FVec F (mat k T) .bf16 :=
  truncf .bf16 (select (hit g.iotaK g.bcK b rank) (broadcastTo (mat k T) (shapeCast (mat 1 T) gate g.castG) g.bcK)
    (broadcast (mat k T) (Scalar.ofBits .f32 0x00000000#32 : F .f32)) : FVec F (mat k T) .f32) bitsLt_bf16_f32

/-- The scattered rows added to a base. -/
def outG (w : FVec F (mat k T) .bf16) (base : Vec F (mat T 1024) .f32) (y : Vec F (mat k 1024) .f32) : FVec F (mat T 1024) .f32 :=
  addf base (matmul ⟨[0], [0], [1], [1], [], [], g.dotOut⟩ none w (truncf .bf16 y bitsLt_bf16_f32) (constant (mat T 1024) .f32 0x00000000#32))

/-- One trip over a slice of the hidden axis. -/
def tripP (wg wu : Memref sig .tc .vmem S1x1024x3584 .bf16) (wd : Memref sig .tc .vmem S1x3584x1024 .bf16)
    (xc : Memref sig .tc .vmem S512x1024 .bf16) (y : Memref sig .tc .vmem S512x1024 .f32) :
    Fin k0_t1_loop.trips → Unit → Prog (TpuEff nD τ sig (Elt F) Λ₀ .tc) Unit := fun j _ => do
  let v1 : Vec F (mat n 1024) .bf16 ← Prog.lift (.load xc (corner (A := 512) n 1024 g.inbN).toLoadRect (View.loadsAt_vmem g.posN))
  let v2 : Vec F S1x1024x512 .bf16 ← Prog.lift (.load wg (Rect.unit (s := S1x1024x3584) (k0_off3 j) S1x1024x512.size (k0_off3_inb j)).toLoadRect (View.loadsAt_vmem h_S1x1024x512))
  let v3 : Vec F S1x1024x512 .bf16 ← Prog.lift (.load wu (Rect.unit (s := S1x1024x3584) (k0_off3 j) S1x1024x512.size (k0_off3_inb j)).toLoadRect (View.loadsAt_vmem h_S1x1024x512))
  let v4 : Vec F (mat n 1024) .f32 ← Prog.lift (.load y (corner (A := 512) n 1024 g.inbN).toLoadRect (View.loadsAt_vmem g.posN))
  let v5 : Vec F S1x512x1024 .bf16 ← Prog.lift (.load wd (Rect.unit (s := S1x3584x1024) (k0_off4 j) S1x512x1024.size (k0_off4_inb j)).toLoadRect (View.loadsAt_vmem h_S1x512x1024))
  let _v6 : Vec F (mat n 1024) .f32 ← Prog.lift (.load y (corner (A := 512) n 1024 g.inbN).toLoadRect (View.loadsAt_vmem g.posN))
  Prog.lift (.store y (corner (A := 512) n 1024 g.inbN) (tripG g v1 v2 v3 v4 v5) Finset.univ (View.stores_vmem_bits_univ g.posN rfl) (.inl rfl))
  pure ⟨⟩

/-- One group, up to the weights and the base it is added to. -/
def groupP (x : Memref sig .tc .vmem (mat T 1024) .bf16) (gate : Memref sig .tc .vmem (mat 8 T) .f32)
    (wg wu : Memref sig .tc .vmem S1x1024x3584 .bf16) (wd : Memref sig .tc .vmem S1x3584x1024 .bf16)
    (base : Memref sig .tc .vmem (mat T 1024) .f32)
    (xc : Memref sig .tc .vmem S512x1024 .bf16) (hxc : xc.IsWhole) (y : Memref sig .tc .vmem S512x1024 .f32)
    (b : BitVec 32) (rank : Vec F (mat 1 T) .f32) (off : Fin 2 → ℕ) (inb : ∀ a, off a + (mat 1 T).size a ≤ (mat 8 T).size a) :
    Prog (TpuEff nD τ sig (Elt F) Λ₀ .tc) (Σ' (_ : FVec F (mat k T) .bf16), Vec F (mat T 1024) .f32) := do
  let v1 : Vec F (mat T 1024) .bf16 ← Prog.lift (.load x (corner (A := T) T 1024 g.inbT).toLoadRect (View.loadsAt_vmem g.posT))
  let _v2 : Vec F (mat n 1024) .bf16 ← Prog.lift (.load xc (corner (A := 512) n 1024 g.inbN).toLoadRect (View.loadsAt_vmem g.posN))
  Prog.lift (.store xc (corner (A := 512) n 1024 g.inbN) (xcG g b rank v1) Finset.univ (View.stores_vmem g.posN (hxc.storeExact_slice rfl _ g.packed) (fun _ => rfl)) (.inl rfl))
  let _v3 : Vec F (mat k 1024) .f32 ← Prog.lift (.load y (corner (A := 512) k 1024 g.inbK).toLoadRect (View.loadsAt_vmem g.posK))
  Prog.lift (.store y (corner (A := 512) k 1024 g.inbK) (zeroG (F := F) g) Finset.univ (View.stores_vmem_bits_univ g.posK rfl) (.inl rfl))
  Scf.Loop.for k0_t1_loop k0_t1_ok ⟨⟩ (tripP g wg wu wd xc y)
  let v4 : Vec F (mat 1 T) .f32 ← Prog.lift (.load gate (Rect.unit (s := mat 8 T) off (mat 1 T).size inb).toLoadRect (View.loadsAt_vmem g.posG))
  let v5 : Vec F (mat T 1024) .f32 ← Prog.lift (.load base (corner (A := T) T 1024 g.inbT).toLoadRect (View.loadsAt_vmem g.posT))
  pure ⟨wG g b rank v4, v5⟩

/-- The shape facts for 160 rows computed, 256 scattered, 1024 tokens. -/
theorem geo160 : Geo 160 256 1024 :=
  ⟨by decide, by decide, iota_S160x1024_d0_w32, iota_S256x1024_d0_w32, broadcasts_S1x1024_S160x1024, broadcasts_S1x1024_S256x1024,
    shapeCasts_S160x1024_S160x1024, shapeCasts_S256x1024_S256x1024, shapeCasts_S1x1024_S1x1024,
    dot_S160x1024_S1024x1024_S160x1024_1_0_0_1_n_n_wf, dot_S160x1024_S1024x512_S160x512_1_0_0_1_n_n_wf,
    dot_S160x512_S512x1024_S160x1024_1_0_0_1_n_n_wf, dot_S256x1024_S256x1024_S1024x1024_0_0_1_1_n_n_wf,
    inb_S512x1024_S160x1024_0_0, inb_S512x1024_S256x1024_0_0, inb_S1024x1024_S1024x1024_0_0,
    h_S160x1024, h_S256x1024, h_S1024x1024, h_S1x1024, packedbf16_S512x1024_S160x1024_0_0⟩

/-- The shape facts for 192 rows computed, 256 scattered, 1024 tokens. -/
theorem geo192 : Geo 192 256 1024 :=
  ⟨by decide, by decide, iota_S192x1024_d0_w32, iota_S256x1024_d0_w32, broadcasts_S1x1024_S192x1024, broadcasts_S1x1024_S256x1024,
    shapeCasts_S192x1024_S192x1024, shapeCasts_S256x1024_S256x1024, shapeCasts_S1x1024_S1x1024,
    dot_S192x1024_S1024x1024_S192x1024_1_0_0_1_n_n_wf, dot_S192x1024_S1024x512_S192x512_1_0_0_1_n_n_wf,
    dot_S192x512_S512x1024_S192x1024_1_0_0_1_n_n_wf, dot_S256x1024_S256x1024_S1024x1024_0_0_1_1_n_n_wf,
    inb_S512x1024_S192x1024_0_0, inb_S512x1024_S256x1024_0_0, inb_S1024x1024_S1024x1024_0_0,
    h_S192x1024, h_S256x1024, h_S1024x1024, h_S1x1024, packedbf16_S512x1024_S192x1024_0_0⟩

/-- The shape facts for 224 rows computed, 256 scattered, 1024 tokens. -/
theorem geo224 : Geo 224 256 1024 :=
  ⟨by decide, by decide, iota_S224x1024_d0_w32, iota_S256x1024_d0_w32, broadcasts_S1x1024_S224x1024, broadcasts_S1x1024_S256x1024,
    shapeCasts_S224x1024_S224x1024, shapeCasts_S256x1024_S256x1024, shapeCasts_S1x1024_S1x1024,
    dot_S224x1024_S1024x1024_S224x1024_1_0_0_1_n_n_wf, dot_S224x1024_S1024x512_S224x512_1_0_0_1_n_n_wf,
    dot_S224x512_S512x1024_S224x1024_1_0_0_1_n_n_wf, dot_S256x1024_S256x1024_S1024x1024_0_0_1_1_n_n_wf,
    inb_S512x1024_S224x1024_0_0, inb_S512x1024_S256x1024_0_0, inb_S1024x1024_S1024x1024_0_0,
    h_S224x1024, h_S256x1024, h_S1024x1024, h_S1x1024, packedbf16_S512x1024_S224x1024_0_0⟩

/-- The shape facts for 256 rows computed, 256 scattered, 1024 tokens. -/
theorem geo256 : Geo 256 256 1024 :=
  ⟨by decide, by decide, iota_S256x1024_d0_w32, iota_S256x1024_d0_w32, broadcasts_S1x1024_S256x1024, broadcasts_S1x1024_S256x1024,
    shapeCasts_S256x1024_S256x1024, shapeCasts_S256x1024_S256x1024, shapeCasts_S1x1024_S1x1024,
    dot_S256x1024_S1024x1024_S256x1024_1_0_0_1_n_n_wf, dot_S256x1024_S1024x512_S256x512_1_0_0_1_n_n_wf,
    dot_S256x512_S512x1024_S256x1024_1_0_0_1_n_n_wf, dot_S256x1024_S256x1024_S1024x1024_0_0_1_1_n_n_wf,
    inb_S512x1024_S256x1024_0_0, inb_S512x1024_S256x1024_0_0, inb_S1024x1024_S1024x1024_0_0,
    h_S256x1024, h_S256x1024, h_S1024x1024, h_S1x1024, packedbf16_S512x1024_S256x1024_0_0⟩

/-- The shape facts for 288 rows computed, 512 scattered, 1024 tokens. -/
theorem geo288 : Geo 288 512 1024 :=
  ⟨by decide, by decide, iota_S288x1024_d0_w32, iota_S512x1024_d0_w32, broadcasts_S1x1024_S288x1024, broadcasts_S1x1024_S512x1024,
    shapeCasts_S288x1024_S288x1024, shapeCasts_S512x1024_S512x1024, shapeCasts_S1x1024_S1x1024,
    dot_S288x1024_S1024x1024_S288x1024_1_0_0_1_n_n_wf, dot_S288x1024_S1024x512_S288x512_1_0_0_1_n_n_wf,
    dot_S288x512_S512x1024_S288x1024_1_0_0_1_n_n_wf, dot_S512x1024_S512x1024_S1024x1024_0_0_1_1_n_n_wf,
    inb_S512x1024_S288x1024_0_0, inb_S512x1024_S512x1024_0_0, inb_S1024x1024_S1024x1024_0_0,
    h_S288x1024, h_S512x1024, h_S1024x1024, h_S1x1024, packedbf16_S512x1024_S288x1024_0_0⟩

/-- The shape facts for 320 rows computed, 512 scattered, 1024 tokens. -/
theorem geo320 : Geo 320 512 1024 :=
  ⟨by decide, by decide, iota_S320x1024_d0_w32, iota_S512x1024_d0_w32, broadcasts_S1x1024_S320x1024, broadcasts_S1x1024_S512x1024,
    shapeCasts_S320x1024_S320x1024, shapeCasts_S512x1024_S512x1024, shapeCasts_S1x1024_S1x1024,
    dot_S320x1024_S1024x1024_S320x1024_1_0_0_1_n_n_wf, dot_S320x1024_S1024x512_S320x512_1_0_0_1_n_n_wf,
    dot_S320x512_S512x1024_S320x1024_1_0_0_1_n_n_wf, dot_S512x1024_S512x1024_S1024x1024_0_0_1_1_n_n_wf,
    inb_S512x1024_S320x1024_0_0, inb_S512x1024_S512x1024_0_0, inb_S1024x1024_S1024x1024_0_0,
    h_S320x1024, h_S512x1024, h_S1024x1024, h_S1x1024, packedbf16_S512x1024_S320x1024_0_0⟩

/-- The shape facts for 352 rows computed, 512 scattered, 1024 tokens. -/
theorem geo352 : Geo 352 512 1024 :=
  ⟨by decide, by decide, iota_S352x1024_d0_w32, iota_S512x1024_d0_w32, broadcasts_S1x1024_S352x1024, broadcasts_S1x1024_S512x1024,
    shapeCasts_S352x1024_S352x1024, shapeCasts_S512x1024_S512x1024, shapeCasts_S1x1024_S1x1024,
    dot_S352x1024_S1024x1024_S352x1024_1_0_0_1_n_n_wf, dot_S352x1024_S1024x512_S352x512_1_0_0_1_n_n_wf,
    dot_S352x512_S512x1024_S352x1024_1_0_0_1_n_n_wf, dot_S512x1024_S512x1024_S1024x1024_0_0_1_1_n_n_wf,
    inb_S512x1024_S352x1024_0_0, inb_S512x1024_S512x1024_0_0, inb_S1024x1024_S1024x1024_0_0,
    h_S352x1024, h_S512x1024, h_S1024x1024, h_S1x1024, packedbf16_S512x1024_S352x1024_0_0⟩

/-- The shape facts for 384 rows computed, 512 scattered, 1024 tokens. -/
theorem geo384 : Geo 384 512 1024 :=
  ⟨by decide, by decide, iota_S384x1024_d0_w32, iota_S512x1024_d0_w32, broadcasts_S1x1024_S384x1024, broadcasts_S1x1024_S512x1024,
    shapeCasts_S384x1024_S384x1024, shapeCasts_S512x1024_S512x1024, shapeCasts_S1x1024_S1x1024,
    dot_S384x1024_S1024x1024_S384x1024_1_0_0_1_n_n_wf, dot_S384x1024_S1024x512_S384x512_1_0_0_1_n_n_wf,
    dot_S384x512_S512x1024_S384x1024_1_0_0_1_n_n_wf, dot_S512x1024_S512x1024_S1024x1024_0_0_1_1_n_n_wf,
    inb_S512x1024_S384x1024_0_0, inb_S512x1024_S512x1024_0_0, inb_S1024x1024_S1024x1024_0_0,
    h_S384x1024, h_S512x1024, h_S1024x1024, h_S1x1024, packedbf16_S512x1024_S384x1024_0_0⟩

/-- The shape facts for 416 rows computed, 512 scattered, 1024 tokens. -/
theorem geo416 : Geo 416 512 1024 :=
  ⟨by decide, by decide, iota_S416x1024_d0_w32, iota_S512x1024_d0_w32, broadcasts_S1x1024_S416x1024, broadcasts_S1x1024_S512x1024,
    shapeCasts_S416x1024_S416x1024, shapeCasts_S512x1024_S512x1024, shapeCasts_S1x1024_S1x1024,
    dot_S416x1024_S1024x1024_S416x1024_1_0_0_1_n_n_wf, dot_S416x1024_S1024x512_S416x512_1_0_0_1_n_n_wf,
    dot_S416x512_S512x1024_S416x1024_1_0_0_1_n_n_wf, dot_S512x1024_S512x1024_S1024x1024_0_0_1_1_n_n_wf,
    inb_S512x1024_S416x1024_0_0, inb_S512x1024_S512x1024_0_0, inb_S1024x1024_S1024x1024_0_0,
    h_S416x1024, h_S512x1024, h_S1024x1024, h_S1x1024, packedbf16_S512x1024_S416x1024_0_0⟩

/-- The shape facts for 512 rows computed, 512 scattered, 1024 tokens. -/
theorem geo512 : Geo 512 512 1024 :=
  ⟨by decide, by decide, iota_S512x1024_d0_w32, iota_S512x1024_d0_w32, broadcasts_S1x1024_S512x1024, broadcasts_S1x1024_S512x1024,
    shapeCasts_S512x1024_S512x1024, shapeCasts_S512x1024_S512x1024, shapeCasts_S1x1024_S1x1024,
    dot_S512x1024_S1024x1024_S512x1024_1_0_0_1_n_n_wf, dot_S512x1024_S1024x512_S512x512_1_0_0_1_n_n_wf,
    dot_S512x512_S512x1024_S512x1024_1_0_0_1_n_n_wf, dot_S512x1024_S512x1024_S1024x1024_0_0_1_1_n_n_wf,
    inb_S512x1024_S512x1024_0_0, inb_S512x1024_S512x1024_0_0, inb_S1024x1024_S1024x1024_0_0,
    h_S512x1024, h_S512x1024, h_S1024x1024, h_S1x1024, packedbf16_S512x1024_S512x1024_0_0⟩

/-- The shape facts for 32 rows computed, 32 scattered, 32 tokens. -/
theorem geo32 : Geo 32 32 32 :=
  ⟨by decide, by decide, iota_S32x32_d0_w32, iota_S32x32_d0_w32, broadcasts_S1x32_S32x32, broadcasts_S1x32_S32x32,
    shapeCasts_S32x1024_S32x1024, shapeCasts_S32x1024_S32x1024, shapeCasts_S1x32_S1x32,
    dot_S32x32_S32x1024_S32x1024_1_0_0_1_n_n_wf, dot_S32x1024_S1024x512_S32x512_1_0_0_1_n_n_wf,
    dot_S32x512_S512x1024_S32x1024_1_0_0_1_n_n_wf, dot_S32x32_S32x1024_S32x1024_0_0_1_1_n_n_wf,
    inb_S512x1024_S32x1024_0_0, inb_S512x1024_S32x1024_0_0, inb_S32x1024_S32x1024_0_0,
    h_S32x1024, h_S32x1024, h_S32x1024, h_S1x32, packedbf16_S512x1024_S32x1024_0_0⟩

/-- The word for slot `512 j`, at which the `j`-th group of a large count starts. -/
def baseW (v4 : BitVec 32) (j : Fin (k0_t10_loop v4).trips) : BitVec 32 := Scalar.muli (Scf.iv 0#32 1#32 j) 512#32

section parts

variable (i : grid0.Coords) (arg1 : Memref sig .tc .smem S1 .i32) (harg1 : arg1.IsWhole) (arg2 : Memref sig .tc .smem S128 .i32) (harg2 : arg2.IsWhole) (arg3 : Memref sig .tc .smem S8 .i32) (harg3 : arg3.IsWhole)
  (arg4 : Memref sig .tc .vmem S1024x1024 .bf16) (harg4 : arg4.IsWhole) (arg5 : Memref sig .tc .vmem S8x1024 .f32) (harg5 : arg5.IsWhole) (arg6 : Memref sig .tc .vmem S8x1024 .f32) (harg6 : arg6.IsWhole)
  (arg7 : Memref sig .tc .vmem S1x1024x3584 .bf16) (harg7 : arg7.IsWhole) (arg8 : Memref sig .tc .vmem S1x1024x3584 .bf16) (harg8 : arg8.IsWhole) (arg9 : Memref sig .tc .vmem S1x3584x1024 .bf16) (harg9 : arg9.IsWhole) (arg10 : Memref sig .tc .vmem S1024x1024 .f32) (harg10 : arg10.IsWhole)
  (arg11 : Memref sig .tc .vmem S32x1024 .bf16) (harg11 : arg11.IsWhole) (arg12 : Memref sig .tc .vmem S8x32 .f32) (harg12 : arg12.IsWhole) (arg13 : Memref sig .tc .vmem S8x32 .f32) (harg13 : arg13.IsWhole) (arg14 : Memref sig .tc .vmem S32x1024 .f32) (harg14 : arg14.IsWhole)
  (arg15 : Memref sig .tc .vmem S1024x1024 .f32) (harg15 : arg15.IsWhole) (arg16 : Memref sig .tc .vmem S32x1024 .f32) (harg16 : arg16.IsWhole) (arg17 : Memref sig .tc .vmem S512x1024 .bf16) (harg17 : arg17.IsWhole) (arg18 : Memref sig .tc .vmem S512x1024 .f32) (harg18 : arg18.IsWhole)

theorem part1_eq (v0 v4 : Elt F .i32) (hw2 : k0_chk2 v0 v4) (v25 : Vec F S1x1024 .f32) (h : k0_cond2 v4 = 1#1) :
    k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 hw2 v25 h =
      groupP geo160 arg4 arg5 arg7 arg8 arg9 arg10 arg17 harg17 arg18 0#32 v25 (k0_off5 v0) (k0_off5_inb v0 v4 hw2 h) := rfl

theorem part2_eq (v0 v4 : Elt F .i32) (hw2 : k0_chk2 v0 v4) (v25 : Vec F S1x1024 .f32) (h : k0_cond3 v4 = 1#1) :
    k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 hw2 v25 h =
      groupP geo192 arg4 arg5 arg7 arg8 arg9 arg10 arg17 harg17 arg18 0#32 v25 (k0_off8 v0) (k0_off8_inb v0 v4 hw2 h) := rfl

theorem part3_eq (v0 v4 : Elt F .i32) (hw2 : k0_chk2 v0 v4) (v25 : Vec F S1x1024 .f32) (h : k0_cond4 v4 = 1#1) :
    k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 hw2 v25 h =
      groupP geo224 arg4 arg5 arg7 arg8 arg9 arg10 arg17 harg17 arg18 0#32 v25 (k0_off11 v0) (k0_off11_inb v0 v4 hw2 h) := rfl

theorem part4_eq (v0 v4 : Elt F .i32) (hw2 : k0_chk2 v0 v4) (v25 : Vec F S1x1024 .f32) (h : k0_cond5 v4 = 1#1) :
    k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 hw2 v25 h =
      groupP geo256 arg4 arg5 arg7 arg8 arg9 arg10 arg17 harg17 arg18 0#32 v25 (k0_off14 v0) (k0_off14_inb v0 v4 hw2 h) := rfl

theorem part5_eq (v0 v4 : Elt F .i32) (hw2 : k0_chk2 v0 v4) (v25 : Vec F S1x1024 .f32) (h : k0_cond6 v4 = 1#1) :
    k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 hw2 v25 h =
      groupP geo288 arg4 arg5 arg7 arg8 arg9 arg10 arg17 harg17 arg18 0#32 v25 (k0_off17 v0) (k0_off17_inb v0 v4 hw2 h) := rfl

theorem part6_eq (v0 v4 : Elt F .i32) (hw2 : k0_chk2 v0 v4) (v25 : Vec F S1x1024 .f32) (h : k0_cond7 v4 = 1#1) :
    k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 hw2 v25 h =
      groupP geo320 arg4 arg5 arg7 arg8 arg9 arg10 arg17 harg17 arg18 0#32 v25 (k0_off20 v0) (k0_off20_inb v0 v4 hw2 h) := rfl

theorem part7_eq (v0 v4 : Elt F .i32) (hw2 : k0_chk2 v0 v4) (v25 : Vec F S1x1024 .f32) (h : k0_cond8 v4 = 1#1) :
    k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 hw2 v25 h =
      groupP geo352 arg4 arg5 arg7 arg8 arg9 arg10 arg17 harg17 arg18 0#32 v25 (k0_off23 v0) (k0_off23_inb v0 v4 hw2 h) := rfl

theorem part8_eq (v0 v4 : Elt F .i32) (hw2 : k0_chk2 v0 v4) (v25 : Vec F S1x1024 .f32) (h : k0_cond9 v4 = 1#1) :
    k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 hw2 v25 h =
      groupP geo384 arg4 arg5 arg7 arg8 arg9 arg10 arg17 harg17 arg18 0#32 v25 (k0_off26 v0) (k0_off26_inb v0 v4 hw2 h) := rfl

theorem part9_eq (v0 v4 : Elt F .i32) (hw2 : k0_chk2 v0 v4) (v25 : Vec F S1x1024 .f32) (h : k0_cond10 v4 = 1#1) :
    k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 hw2 v25 h =
      groupP geo416 arg4 arg5 arg7 arg8 arg9 arg10 arg17 harg17 arg18 0#32 v25 (k0_off29 v0) (k0_off29_inb v0 v4 hw2 h) := rfl

theorem part10_eq (v0 v4 : Elt F .i32) (hw2 : k0_chk2 v0 v4) (v25 : Vec F S1x1024 .f32) (h : k0_cond11 v4 = 1#1)
    (j : Fin (k0_t10_loop v4).trips) :
    k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 hw2 v25 h 0#32 1#32 j =
      groupP geo512 arg4 arg5 arg7 arg8 arg9 arg15 arg17 harg17 arg18 (baseW v4 j) v25 (k0_off32 v0) (k0_off32_inb v0 v4 hw2 j h) := rfl

theorem part12_eq (v0 : Elt F .i32) (h12 : k0_cond12 i = 1#1) (v82 : Elt F .i32) (hw3 : k0_chk3 i v0 v82) (v103 : Vec F S1x32 .f32) (h14 : k0_cond14 v82 = 1#1) :
    k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 h12 v82 hw3 v103 h14 =
      groupP geo32 arg11 arg12 arg7 arg8 arg9 arg14 arg17 harg17 arg18 0#32 v103 (k0_off40 v0) (k0_off40_inb i v0 v82 hw3 h12 h14) := rfl

end parts

end Cert.KernelIdeal.Moe

end

end
-- ==== Proof.Moe.Group.lean ====
/-
  What one compacted group does, as a rule: from the buffers owned at known contents it reaches its end with
  the weights and the base in hand and with the accumulator holding the sum of the seven slices on the rows
  computed and zero on the other cleared rows.
-/
module

public import proofs.«01_k».proof.Proof.Moe.Body
public import Idealize.ShloMosaic.Lib.ValueIdxCore

@[expose] public section

set_option maxRecDepth 16384

noncomputable section

namespace Cert.KernelIdeal.Moe

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Cert.KernelIdeal Cert.KernelIdeal.Gen Cert.Moe

variable {F : FTy → Type} [FloatOps F]

/-- A rectangle's places overwritten, the rest kept. -/
def paste {α : Type} {s : Shape} (r : Rect s) (w : r.shape.Idx → α) (X : s.Idx → α) : s.Idx → α := by
  classical exact fun y => if h : ∃ x, y = r.idx x then w h.choose else X y

theorem paste_in {α : Type} {s : Shape} (r : Rect s) (w : r.shape.Idx → α) (X : s.Idx → α) (x : r.shape.Idx) :
    paste r w X (r.idx x) = w x := by
  unfold paste
  have h : ∃ x', r.idx x = r.idx x' := ⟨x, rfl⟩
  rw [dif_pos h]
  exact congrArg w (r.emb.injective h.choose_spec.symm)

theorem paste_out {α : Type} {s : Shape} (r : Rect s) (w : r.shape.Idx → α) (X : s.Idx → α) (y : s.Idx)
    (h : ∀ x, y ≠ r.idx x) : paste r w X y = X y := by
  unfold paste
  exact dif_neg fun ⟨x, hx⟩ => h x hx

/-- The top-left corner of a matrix of the same width holds its place's rows. -/
theorem corner_idx {A a B : ℕ} (h : ∀ x, (![0, 0] : Fin 2 → ℕ) x + (mat a B).size x ≤ (mat A B).size x)
    (x : (mat a B).Idx) (d : Fin 2) : ((corner (A := A) (B := B) a B h).idx x d : ℕ) = x d := by
  fin_cases d <;> simp [LoadRect.idx]

theorem corner_full {A B : ℕ} (h : ∀ x, (![0, 0] : Fin 2 → ℕ) x + (mat A B).size x ≤ (mat A B).size x)
    (x : (mat A B).Idx) : (corner (A := A) (B := B) A B h).idx x = x :=
  funext fun d => Fin.ext (corner_idx h x d)

variable {n k T : ℕ} (g : Geo n k T)

/-- Slice `j` of the gate and up weights. -/
def colChunk (W : Vec F S1x1024x3584 .bf16) (j : Fin k0_t1_loop.trips) : Vec F S1x1024x512 .bf16 := fun x =>
  W ((Rect.unit (s := S1x1024x3584) (k0_off3 j) S1x1024x512.size (k0_off3_inb j)).idx x)

/-- Slice `j` of the down weights. -/
def rowChunk (W : Vec F S1x3584x1024 .bf16) (j : Fin k0_t1_loop.trips) : Vec F S1x512x1024 .bf16 := fun x =>
  W ((Rect.unit (s := S1x3584x1024) (k0_off4 j) S1x512x1024.size (k0_off4_inb j)).idx x)

/-- The computed rows of the accumulator before slice `j`. -/
def accG (xc : Vec F (mat n 1024) .bf16) (G U : Vec F S1x1024x3584 .bf16) (D : Vec F S1x3584x1024 .bf16) :
    ℕ → Vec F (mat n 1024) .f32
  | 0 => fun _ => Scalar.ofBits .f32 0x00000000#32
  | j + 1 => if h : j < k0_t1_loop.trips then
      tripG g xc (colChunk G ⟨j, h⟩) (colChunk U ⟨j, h⟩) (accG xc G U D j) (rowChunk D ⟨j, h⟩)
    else accG xc G U D j

/-- The accumulator's scattered rows: `Y` on the computed ones, zero below. -/
def padG (Y : Vec F (mat n 1024) .f32) : Vec F (mat k 1024) .f32 := fun x =>
  if h : (x 0 : ℕ) < n then Y (ValueIdx.ix2 ⟨x 0, h⟩ (x 1)) else Scalar.ofBits .f32 0x00000000#32

/-- The accumulator buffer holds `Y` on the computed rows and zero on the other cleared ones. -/
def Holds (V : Vec F S512x1024 .f32) (Y : Vec F (mat n 1024) .f32) : Prop :=
  ∀ x, V ((corner (A := 512) k 1024 g.inbK).idx x) = padG (k := k) Y x

/-- A computed row among the cleared ones. -/
def up (x : (mat n 1024).Idx) : (mat k 1024).Idx :=
  ValueIdx.ix2 ⟨x 0, lt_of_lt_of_le (x 0).isLt g.nk⟩ (x 1)

theorem padG_up (Y : Vec F (mat n 1024) .f32) (x : (mat n 1024).Idx) : padG (k := k) Y (up g x) = Y x := by
  have h : ((up g x) 0 : ℕ) < n := (x 0).isLt
  unfold padG
  rw [dif_pos h]
  refine congrArg Y (funext fun d => ?_)
  match d with
  | 0 => rfl
  | 1 => rfl

theorem corner_up (x : (mat n 1024).Idx) :
    (corner (A := 512) n 1024 g.inbN).idx x = (corner (A := 512) k 1024 g.inbK).idx (up g x) := by
  refine funext fun d => Fin.ext ?_
  rw [corner_idx, corner_idx]
  match d with
  | 0 => rfl
  | 1 => rfl

theorem Holds.top {V : Vec F S512x1024 .f32} {Y : Vec F (mat n 1024) .f32} (h : Holds g V Y) :
    (fun x => V ((corner (A := 512) n 1024 g.inbN).idx x)) = Y := by
  funext x
  rw [corner_up g x]
  exact (h (up g x)).trans (padG_up g Y x)

/-- Storing the computed rows keeps the rest zero. -/
theorem Holds.store {V : Vec F S512x1024 .f32} {Y : Vec F (mat n 1024) .f32} (h : Holds g V Y) (Y' : Vec F (mat n 1024) .f32) :
    Holds g (paste (corner (A := 512) n 1024 g.inbN) Y' V) Y' := by
  intro x
  by_cases hx : (x 0 : ℕ) < n
  · let x' : (mat n 1024).Idx := ValueIdx.ix2 ⟨x 0, hx⟩ (x 1)
    have e : x = up g x' := funext fun d => by
      match d with
      | 0 => rfl
      | 1 => rfl
    rw [e, ← corner_up g x', padG_up]
    exact paste_in _ _ _ _
  · rw [paste_out]
    · refine (h x).trans ?_
      unfold padG
      rw [dif_neg hx, dif_neg hx]
    · intro x' e
      have e0 := congrArg (fun i : S512x1024.Idx => (i 0 : ℕ)) e
      have e1 : (x 0 : ℕ) = x' 0 := by
        have := e0
        rw [show (((corner (A := 512) k 1024 g.inbK).idx x) 0 : ℕ) = x 0 from corner_idx g.inbK x 0,
          show (((corner (A := 512) n 1024 g.inbN).idx x') 0 : ℕ) = x' 0 from corner_idx g.inbN x' 0] at this
        exact this
      exact hx (e1 ▸ (x' 0).isLt)

/-- After the clearing store every cleared row is zero. -/
theorem Holds.zero (V : Vec F S512x1024 .f32) :
    Holds g (paste (corner (A := 512) k 1024 g.inbK) (zeroG (F := F) g) V) (fun _ => Scalar.ofBits .f32 0x00000000#32) := by
  intro x
  refine (paste_in _ _ _ _).trans ?_
  unfold padG zeroG
  split <;> rfl

end Cert.KernelIdeal.Moe

end

end
-- ==== Proof.Moe.Triple.lean ====
/-
  The group's program carried through: the seven slices by the loop's invariant, then the whole group.
-/
module

public import proofs.«01_k».proof.Proof.Moe.Group
public import Idealize.ShloMosaic.Lib.Pipeline.Kit

@[expose] public section

set_option maxRecDepth 16384

noncomputable section

namespace Cert.KernelIdeal.Moe

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Idealize.ShloMosaic.Rounds
open Cert.KernelIdeal Cert.KernelIdeal.Gen Cert.Moe

variable {F : FTy → Type} [FloatOps F]

local notation "𝕄" => MT nD τ sig Unit (Elt F) ℕ (UR sig nD τ) ℕ

variable {defs : Defs nD τ sig (Elt F) Λ₀} (𝒱 : Variants) (c : Dev nD) (bd : Option 𝒱.V) (E : Set ℕ)
variable {n k T : ℕ} (g : Geo n k T)
variable (x : Memref sig .tc .vmem (mat T 1024) .bf16) (gate : Memref sig .tc .vmem (mat 8 T) .f32)
  (wg wu : Memref sig .tc .vmem S1x1024x3584 .bf16) (wd : Memref sig .tc .vmem S1x3584x1024 .bf16)
  (base : Memref sig .tc .vmem (mat T 1024) .f32)
  (xc : Memref sig .tc .vmem S512x1024 .bf16) (hxc : xc.IsWhole) (y : Memref sig .tc .vmem S512x1024 .f32)

/-- The three weight blocks, owned at their contents. -/
def wts (G U : Vec F S1x1024x3584 .bf16) (D : Vec F S1x3584x1024 .bf16) : sProp (MT nD τ sig Unit (Elt F) ℕ (UR sig nD τ) ℕ) :=
  iprop(owns (c : Thread nD τ) wg fullShare G ∗ owns (c : Thread nD τ) wu fullShare U ∗ owns (c : Thread nD τ) wd fullShare D)

/-- The state between two slices: the compacted rows in place, the accumulator holding the slices so far. -/
def between (G U : Vec F S1x1024x3584 .bf16) (D : Vec F S1x3584x1024 .bf16) (X : Vec F (mat n 1024) .bf16) (j : ℕ) :
    sProp (MT nD τ sig Unit (Elt F) ℕ (UR sig nD τ) ℕ) :=
  iprop(wts c wg wu wd G U D
    ∗ (∃ V : Vec F S512x1024 .bf16, ⌜(fun z => V ((corner (A := 512) n 1024 g.inbN).idx z)) = X⌝ ∗ owns (c : Thread nD τ) xc fullShare V)
    ∗ ∃ V : Vec F S512x1024 .f32, ⌜Holds g V (accG g X G U D j)⌝ ∗ owns (c : Thread nD τ) y fullShare V)

/-- One slice takes the state before it to the state after it. -/
theorem tripP_wp (G U : Vec F S1x1024x3584 .bf16) (D : Vec F S1x3584x1024 .bf16) (X : Vec F (mat n 1024) .bf16)
    (j : Fin k0_t1_loop.trips) (a : Unit) :
    between c g wg wu wd xc y G U D X j
      ⊢ wp frame (wpE defs 𝒱 (c : Thread nD τ) bd) E (tripP g wg wu wd xc y j a)
          (fun _ => between c g wg wu wd xc y G U D X (j + 1)) := by
  unfold between wts
  iintro ⟨⟨HG, HU, HD⟩, ⟨%V, %hV, HX⟩, ⟨%Y, %hY, HY⟩⟩
  unfold tripP
  iapply (load_owns 𝒱 c bd E xc _ _ _ fullShare V) $$ HX
  iintro HX
  iapply (load_owns 𝒱 c bd E wg _ _ _ fullShare G) $$ HG
  iintro HG
  iapply (load_owns 𝒱 c bd E wu _ _ _ fullShare U) $$ HU
  iintro HU
  iapply (load_owns 𝒱 c bd E y _ _ _ fullShare Y) $$ HY
  iintro HY
  iapply (load_owns 𝒱 c bd E wd _ _ _ fullShare D) $$ HD
  iintro HD
  iapply (load_owns 𝒱 c bd E y _ _ _ fullShare Y) $$ HY
  iintro HY
  iapply (store_owns 𝒱 c bd E y _ _ _ _ _ Y _ (paste_in _ _ _) (paste_out _ _ _)) $$ HY
  iintro HY
  rw [show (Pure.pure PUnit.unit : Prog (TpuEff nD τ sig (Elt F) Λ₀ .tc) Unit) = Prog.ret PUnit.unit from rfl, wp_ret]
  imodintro
  isplitl [HG HU HD]
  · isplitl [HG]
    · iexact HG
    isplitl [HU]
    · iexact HU
    iexact HD
  isplitl [HX]
  · iexists V
    isplitr
    · ipureintro; exact hV
    iexact HX
  iexists _
  isplitr
  swap
  · iexact HY
  ipureintro
  have e : accG g X G U D (j + 1) = tripG g X (colChunk G j) (colChunk U j) (accG g X G U D j) (rowChunk D j) := by
    rw [accG, dif_pos j.isLt]
  have e' : tripG g (fun z => V ((corner (A := 512) n 1024 g.inbN).idx z)) (colChunk G j) (colChunk U j)
      (fun z => Y ((corner (A := 512) n 1024 g.inbN).idx z)) (rowChunk D j)
      = tripG g X (colChunk G j) (colChunk U j) (accG g X G U D j) (rowChunk D j) :=
    congrArg₂ (fun P R => tripG g P (colChunk G j) (colChunk U j) R (rowChunk D j)) hV (hY.top g)
  rw [e, ← e']
  exact hY.store g _

/-- The scratch pair at any contents. -/
def scratch : sProp (MT nD τ sig Unit (Elt F) ℕ (UR sig nD τ) ℕ) :=
  iprop((∃ V : Vec F S512x1024 .bf16, owns (c : Thread nD τ) xc fullShare V)
    ∗ ∃ V : Vec F S512x1024 .f32, owns (c : Thread nD τ) y fullShare V)

/-- The rows the group computes: the seven slices summed. -/
def rowsG (b : BitVec 32) (rank : Vec F (mat 1 T) .f32) (A : Vec F (mat T 1024) .bf16) (G U : Vec F S1x1024x3584 .bf16)
    (D : Vec F S1x3584x1024 .bf16) : Vec F (mat k 1024) .f32 :=
  padG (accG g (xcG g b rank A) G U D k0_t1_loop.trips)

/-- One group, from buffers owned at known contents. -/
theorem groupP_wp (b : BitVec 32) (rank : Vec F (mat 1 T) .f32) (off : Fin 2 → ℕ)
    (inb : ∀ a, off a + (mat 1 T).size a ≤ (mat 8 T).size a)
    (A : Vec F (mat T 1024) .bf16) (Gt : Vec F (mat 8 T) .f32) (B : Vec F (mat T 1024) .f32)
    (G U : Vec F S1x1024x3584 .bf16) (D : Vec F S1x3584x1024 .bf16)
    {α : Type} (kk : (Σ' (_ : FVec F (mat k T) .bf16), Vec F (mat T 1024) .f32) → Prog (TpuEff nD τ sig (Elt F) Λ₀ .tc) α)
    (Q : α → sProp (MT nD τ sig Unit (Elt F) ℕ (UR sig nD τ) ℕ)) :
    iprop(owns (c : Thread nD τ) x fullShare A ∗ owns (c : Thread nD τ) gate fullShare Gt ∗ owns (c : Thread nD τ) base fullShare B
        ∗ wts c wg wu wd G U D ∗ scratch c xc y)
      ⊢ iprop((iprop(owns (c : Thread nD τ) x fullShare A ∗ owns (c : Thread nD τ) gate fullShare Gt ∗ owns (c : Thread nD τ) base fullShare B
            ∗ wts c wg wu wd G U D ∗ (∃ V : Vec F S512x1024 .bf16, owns (c : Thread nD τ) xc fullShare V)
            ∗ ∃ V : Vec F S512x1024 .f32, ⌜(fun z => V ((corner (A := 512) k 1024 g.inbK).idx z)) = rowsG g b rank A G U D⌝
              ∗ owns (c : Thread nD τ) y fullShare V)
          -∗ wp frame (wpE defs 𝒱 (c : Thread nD τ) bd) E
            (kk ⟨wG g b rank fun z => Gt ((Rect.unit (s := mat 8 T) off (mat 1 T).size inb).idx z), B⟩) Q)
        -∗ wp frame (wpE defs 𝒱 (c : Thread nD τ) bd) E (groupP g x gate wg wu wd base xc hxc y b rank off inb >>= kk) Q) := by
  unfold scratch
  iintro ⟨HA, HGt, HB, HW, ⟨%V, HX⟩, ⟨%Y, HY⟩⟩ HK
  rw [wp_bind]
  unfold groupP
  iapply (load_owns 𝒱 c bd E x _ _ _ fullShare A) $$ HA
  iintro HA
  iapply (load_owns 𝒱 c bd E xc _ _ _ fullShare V) $$ HX
  iintro HX
  iapply (store_owns 𝒱 c bd E xc _ _ _ _ _ V _ (paste_in _ _ _) (paste_out _ _ _)) $$ HX
  iintro HX
  iapply (load_owns 𝒱 c bd E y _ _ _ fullShare Y) $$ HY
  iintro HY
  iapply (store_owns 𝒱 c bd E y _ _ _ _ _ Y _ (paste_in _ _ _) (paste_out _ _ _)) $$ HY
  iintro HY
  iapply (Scf.wp_for_bind frame (wpE defs 𝒱 (c : Thread nD τ) bd) E _ _ _ _ _ _
    (fun j _ => between c g wg wu wd xc y G U D (xcG g b rank A) j)
    (fun j a => tripP_wp 𝒱 c bd E g wg wu wd xc y G U D _ j a)) $$ [HW HX HY]
  · unfold between
    isplitl [HW]
    · iexact HW
    isplitl [HX]
    · iexists _
      isplitr
      swap
      · iexact HX
      ipureintro
      refine funext fun z => (paste_in _ _ _ z).trans ?_
      simp only [corner_full]
    · iexists _
      isplitr
      swap
      · iexact HY
      ipureintro
      exact Holds.zero g Y
  iintro %_ HI
  unfold between
  icases HI with ⟨HW, ⟨%V', %hV', HX⟩, ⟨%Y', %hY', HY⟩⟩
  iapply (load_owns 𝒱 c bd E gate _ _ _ fullShare Gt) $$ HGt
  iintro HGt
  iapply (load_owns 𝒱 c bd E base _ _ _ fullShare B) $$ HB
  iintro HB
  rw [wp_pure]
  imodintro
  simp only [corner_full]
  iapply HK
  isplitl [HA]
  · iexact HA
  isplitl [HGt]
  · iexact HGt
  isplitl [HB]
  · iexact HB
  isplitl [HW]
  · iexact HW
  isplitl [HX]
  · iexists V'
    iexact HX
  iexists Y'
  isplitr
  swap
  · iexact HY
  ipureintro
  exact funext hY'

end Cert.KernelIdeal.Moe

end

end
-- ==== Proof.Moe.Stage.lean ====
/-
  The steps of the kernel's body over one tile: a copy of the base, one group added to the base, and the loop
  of groups that a count beyond the last single group takes. Each step runs under a condition on the count and
  hands on the rest of the program, which is how the body's conditionals are printed.
-/
module

public import proofs.«01_k».proof.Proof.Moe.Triple

@[expose] public section

set_option maxRecDepth 16384

noncomputable section

namespace Cert.KernelIdeal.Moe

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Idealize.ShloMosaic.Rounds
open Cert.KernelIdeal Cert.KernelIdeal.Gen Cert.Moe

variable {F : FTy → Type} [FloatOps F]

local notation "𝕄" => MT nD τ sig Unit (Elt F) ℕ (UR sig nD τ) ℕ

/-! ## Programs -/

section programs

variable {n k T : ℕ} (g : Geo n k T)
variable (x : Memref sig .tc .vmem (mat T 1024) .bf16) (gate : Memref sig .tc .vmem (mat 8 T) .f32)
  (wg wu : Memref sig .tc .vmem S1x1024x3584 .bf16) (wd : Memref sig .tc .vmem S1x3584x1024 .bf16)
  (base out : Memref sig .tc .vmem (mat T 1024) .f32)
  (xc : Memref sig .tc .vmem S512x1024 .bf16) (hxc : xc.IsWhole) (y : Memref sig .tc .vmem S512x1024 .f32)
variable {α : Type}

/-- Copy the base to the output where `cnd` holds, then go on. -/
def copyIf (g : Geo n k T) (cnd : Prop) [Decidable cnd] (rest : Prog (TpuEff nD τ sig (Elt F) Λ₀ .tc) α) :
    Prog (TpuEff nD τ sig (Elt F) Λ₀ .tc) α :=
  if _h : cnd then
    (Prog.lift (.load base (corner (A := T) T 1024 g.inbT).toLoadRect (View.loadsAt_vmem g.posT)) : Prog _ (Vec F (mat T 1024) .f32)) >>= fun v =>
    (Prog.lift (.load out (corner (A := T) T 1024 g.inbT).toLoadRect (View.loadsAt_vmem g.posT)) : Prog _ (Vec F (mat T 1024) .f32)) >>= fun _ =>
    Prog.lift (.store out (corner (A := T) T 1024 g.inbT) v Finset.univ (View.stores_vmem_bits_univ g.posT rfl) (.inl rfl)) >>= fun _ =>
    rest
  else rest

/-- One group into the output: its weights and base, then the scattered rows added and stored. -/
def addGroup (f : Vec F (mat T 1024) .f32 → Vec F (mat T 1024) .f32) (b : BitVec 32) (rank : Vec F (mat 1 T) .f32) (off : Fin 2 → ℕ)
    (inb : ∀ a, off a + (mat 1 T).size a ≤ (mat 8 T).size a) (rest : Prog (TpuEff nD τ sig (Elt F) Λ₀ .tc) α) :
    Prog (TpuEff nD τ sig (Elt F) Λ₀ .tc) α :=
  groupP g x gate wg wu wd base xc hxc y b rank off inb >>= fun p =>
  (Prog.lift (.load y (corner (A := 512) k 1024 g.inbK).toLoadRect (View.loadsAt_vmem g.posK)) : Prog _ (Vec F (mat k 1024) .f32)) >>= fun v =>
  (Prog.lift (.load out (corner (A := T) T 1024 g.inbT).toLoadRect (View.loadsAt_vmem g.posT)) : Prog _ (Vec F (mat T 1024) .f32)) >>= fun _ =>
  Prog.lift (.store out (corner (A := T) T 1024 g.inbT) (outG g p.1 (f p.2) v) Finset.univ (View.stores_vmem_bits_univ g.posT rfl) (.inl rfl)) >>= fun _ =>
  rest

/-- One group where `cnd` holds, then go on. -/
def groupIf (cnd : Prop) [Decidable cnd] (b : BitVec 32) (rank : Vec F (mat 1 T) .f32) (off : Fin 2 → ℕ)
    (inb : cnd → ∀ a, off a + (mat 1 T).size a ≤ (mat 8 T).size a) (rest : Prog (TpuEff nD τ sig (Elt F) Λ₀ .tc) α) :
    Prog (TpuEff nD τ sig (Elt F) Λ₀ .tc) α :=
  if h : cnd then addGroup g x gate wg wu wd base out xc hxc y (fun v => v) b rank off (inb h) rest else rest

/-! ## Values -/

/-- Row `w` of an eight-row table. -/
def rowAt {e : EltTy} (w : BitVec 32) (M : Vec F (mat 8 T) e) : Vec F (mat 1 T) e := fun z =>
  M (ValueIdx.ix2 ⟨min w.toNat 7, by omega⟩ (z 1))

theorem rowAt_unit {e : EltTy} (w : BitVec 32) (M : Vec F (mat 8 T) e) (off : Fin 2 → ℕ) (hoff : off = ![w.toNat, 0])
    (inb : ∀ a, off a + (mat 1 T).size a ≤ (mat 8 T).size a) :
    (fun z => M ((Rect.unit (s := mat 8 T) off (mat 1 T).size inb).idx z)) = rowAt w M := by
  subst hoff
  funext z
  have h0 : w.toNat + 1 ≤ 8 := inb 0
  have hz : ((z 0 : Fin 1) : ℕ) = 0 := by have : ((z 0 : Fin 1) : ℕ) < 1 := (z 0 : Fin 1).isLt
                                          omega
  refine congrArg M (funext fun d => Fin.ext ?_)
  match d with
  | 0 => show w.toNat + 1 * ((z 0 : Fin 1) : ℕ) = min w.toNat 7
         omega
  | 1 => show 0 + 1 * ((z 1 : Fin T) : ℕ) = ((z 1 : Fin T) : ℕ)
         omega

/-- What one group leaves in the output, over the base it starts from. -/
def gv (b v0 : BitVec 32) (A : Vec F (mat T 1024) .bf16) (Gt : Vec F (mat 8 T) .f32) (rank : Vec F (mat 1 T) .f32) (B : Vec F (mat T 1024) .f32)
    (G U : Vec F S1x1024x3584 .bf16) (D : Vec F S1x3584x1024 .bf16) : Vec F (mat T 1024) .f32 :=
  outG g (wG g b rank (rowAt v0 Gt)) B (rowsG g b rank A G U D)

end programs

/-! ## Rules -/

variable {defs : Defs nD τ sig (Elt F) Λ₀} (𝒱 : Variants) (c : Dev nD) (bd : Option 𝒱.V) (E : Set ℕ)
variable {n k T : ℕ} (g : Geo n k T)
variable (x : Memref sig .tc .vmem (mat T 1024) .bf16) (gate : Memref sig .tc .vmem (mat 8 T) .f32)
  (wg wu : Memref sig .tc .vmem S1x1024x3584 .bf16) (wd : Memref sig .tc .vmem S1x3584x1024 .bf16)
  (base out : Memref sig .tc .vmem (mat T 1024) .f32)
  (xc : Memref sig .tc .vmem S512x1024 .bf16) (hxc : xc.IsWhole) (y : Memref sig .tc .vmem S512x1024 .f32)
variable {α : Type} {Q : α → sProp (MT nD τ sig Unit (Elt F) ℕ (UR sig nD τ) ℕ)}
variable (A : Vec F (mat T 1024) .bf16) (Gt : Vec F (mat 8 T) .f32) (B : Vec F (mat T 1024) .f32)
  (G U : Vec F S1x1024x3584 .bf16) (D : Vec F S1x3584x1024 .bf16) (O : Vec F (mat T 1024) .f32)

/-- What a tile's groups read, but for the base: tokens, gates, weights and the scratch pair. -/
def ctx : sProp (MT nD τ sig Unit (Elt F) ℕ (UR sig nD τ) ℕ) :=
  iprop(owns (c : Thread nD τ) x fullShare A ∗ owns (c : Thread nD τ) gate fullShare Gt ∗ wts c wg wu wd G U D ∗ scratch c xc y)

theorem copyIf_wp (cnd : Prop) [Decidable cnd] (rest : Prog (TpuEff nD τ sig (Elt F) Λ₀ .tc) α) :
    iprop(owns (c : Thread nD τ) base fullShare B ∗ owns (c : Thread nD τ) out fullShare O)
      ⊢ iprop((iprop(owns (c : Thread nD τ) base fullShare B ∗ owns (c : Thread nD τ) out fullShare (if cnd then B else O))
          -∗ wp frame (wpE defs 𝒱 (c : Thread nD τ) bd) E rest Q)
        -∗ wp frame (wpE defs 𝒱 (c : Thread nD τ) bd) E (copyIf base out g cnd rest) Q) := by
  unfold copyIf
  by_cases h : cnd
  · rw [dif_pos h, if_pos h]
    iintro ⟨HB, HO⟩ HK
    iapply (load_owns 𝒱 c bd E base _ _ _ fullShare B) $$ HB
    iintro HB
    iapply (load_owns 𝒱 c bd E out _ _ _ fullShare O) $$ HO
    iintro HO
    iapply (store_owns 𝒱 c bd E out _ _ _ _ _ O B (fun _ => rfl) (fun z hz => absurd (corner_full g.inbT z).symm (hz z))) $$ HO
    iintro HO
    iapply HK
    isplitl [HB]
    · iexact HB
    iexact HO
  · rw [dif_neg h, if_neg h]
    iintro HH HK
    iapply HK
    iexact HH

/-- One group, the base owned as a buffer of its own. -/
theorem addGroup_wp (f : Vec F (mat T 1024) .f32 → Vec F (mat T 1024) .f32) (hf : ∀ v, f v = v)
    (b v0 : BitVec 32) (rank : Vec F (mat 1 T) .f32) (off : Fin 2 → ℕ) (hoff : off = ![v0.toNat, 0])
    (inb : ∀ a, off a + (mat 1 T).size a ≤ (mat 8 T).size a) (rest : Prog (TpuEff nD τ sig (Elt F) Λ₀ .tc) α) :
    iprop(ctx c x gate wg wu wd xc y A Gt G U D ∗ owns (c : Thread nD τ) base fullShare B ∗ owns (c : Thread nD τ) out fullShare O)
      ⊢ iprop((iprop(ctx c x gate wg wu wd xc y A Gt G U D ∗ owns (c : Thread nD τ) base fullShare B
            ∗ owns (c : Thread nD τ) out fullShare (gv g b v0 A Gt rank B G U D))
          -∗ wp frame (wpE defs 𝒱 (c : Thread nD τ) bd) E rest Q)
        -∗ wp frame (wpE defs 𝒱 (c : Thread nD τ) bd) E (addGroup g x gate wg wu wd base out xc hxc y f b rank off inb rest) Q) := by
  unfold addGroup ctx
  iintro ⟨⟨HA, HGt, HW, HS⟩, HB, HO⟩ HK
  iapply (groupP_wp 𝒱 c bd E g x gate wg wu wd base xc hxc y b rank off inb A Gt B G U D) $$ [HA HGt HB HW HS]
  · isplitl [HA]
    · iexact HA
    isplitl [HGt]
    · iexact HGt
    isplitl [HB]
    · iexact HB
    isplitl [HW]
    · iexact HW
    iexact HS
  iintro ⟨HA, HGt, HB, HW, HX, ⟨%V, %hV, HY⟩⟩
  iapply (load_owns 𝒱 c bd E y _ _ _ fullShare V) $$ HY
  iintro HY
  iapply (load_owns 𝒱 c bd E out _ _ _ fullShare O) $$ HO
  iintro HO
  iapply (store_owns 𝒱 c bd E out _ _ _ _ _ O (gv g b v0 A Gt rank B G U D)
    (fun z => by
      have e := rowAt_unit v0 Gt off hoff inb
      rw [corner_full g.inbT z]
      unfold gv
      rw [← e, ← hV, hf]
      rfl)
    (fun z hz => absurd (corner_full g.inbT z).symm (hz z))) $$ HO
  iintro HO
  iapply HK
  isplitl [HA HGt HW HX HY]
  · isplitl [HA]
    · iexact HA
    isplitl [HGt]
    · iexact HGt
    isplitl [HW]
    · iexact HW
    unfold scratch
    isplitl [HX]
    · iexact HX
    iexists V
    iexact HY
  isplitl [HB]
  · iexact HB
  iexact HO

theorem groupIf_wp (cnd : Prop) [Decidable cnd]
    (b v0 : BitVec 32) (rank : Vec F (mat 1 T) .f32) (off : Fin 2 → ℕ) (hoff : off = ![v0.toNat, 0])
    (inb : cnd → ∀ a, off a + (mat 1 T).size a ≤ (mat 8 T).size a) (rest : Prog (TpuEff nD τ sig (Elt F) Λ₀ .tc) α) :
    iprop(ctx c x gate wg wu wd xc y A Gt G U D ∗ owns (c : Thread nD τ) base fullShare B ∗ owns (c : Thread nD τ) out fullShare O)
      ⊢ iprop((iprop(ctx c x gate wg wu wd xc y A Gt G U D ∗ owns (c : Thread nD τ) base fullShare B
            ∗ owns (c : Thread nD τ) out fullShare (if cnd then gv g b v0 A Gt rank B G U D else O))
          -∗ wp frame (wpE defs 𝒱 (c : Thread nD τ) bd) E rest Q)
        -∗ wp frame (wpE defs 𝒱 (c : Thread nD τ) bd) E (groupIf g x gate wg wu wd base out xc hxc y cnd b rank off inb rest) Q) := by
  unfold groupIf
  by_cases h : cnd
  · rw [dif_pos h, if_pos h]
    exact addGroup_wp 𝒱 c bd E g x gate wg wu wd base out xc hxc y A Gt B G U D O _ (fun _ => rfl) b v0 rank off hoff (inb h) rest
  · rw [dif_neg h, if_neg h]
    iintro HH HK
    iapply HK
    iexact HH

end Cert.KernelIdeal.Moe

end

end
-- ==== Proof.Moe.Parts.lean ====
/-
  The printed body, read as the sequence of the steps of `Stage`.
-/
module

public import proofs.«01_k».proof.Proof.Moe.Stage

@[expose] public section

set_option maxRecDepth 65536

noncomputable section

namespace Cert.KernelIdeal.Moe

open Idealize.ShloMosaic Idealize.ShloMosaic.TcCoe Idealize.SL.Sem
open Cert.KernelIdeal Cert.KernelIdeal.Gen

variable {F : FTy → Type} [FloatOps F]

variable (i : grid0.Coords) (arg1 : Memref sig .tc .smem S1 .i32) (harg1 : arg1.IsWhole) (arg2 : Memref sig .tc .smem S128 .i32) (harg2 : arg2.IsWhole) (arg3 : Memref sig .tc .smem S8 .i32) (harg3 : arg3.IsWhole)
  (arg4 : Memref sig .tc .vmem S1024x1024 .bf16) (harg4 : arg4.IsWhole) (arg5 : Memref sig .tc .vmem S8x1024 .f32) (harg5 : arg5.IsWhole) (arg6 : Memref sig .tc .vmem S8x1024 .f32) (harg6 : arg6.IsWhole)
  (arg7 : Memref sig .tc .vmem S1x1024x3584 .bf16) (harg7 : arg7.IsWhole) (arg8 : Memref sig .tc .vmem S1x1024x3584 .bf16) (harg8 : arg8.IsWhole) (arg9 : Memref sig .tc .vmem S1x3584x1024 .bf16) (harg9 : arg9.IsWhole) (arg10 : Memref sig .tc .vmem S1024x1024 .f32) (harg10 : arg10.IsWhole)
  (arg11 : Memref sig .tc .vmem S32x1024 .bf16) (harg11 : arg11.IsWhole) (arg12 : Memref sig .tc .vmem S8x32 .f32) (harg12 : arg12.IsWhole) (arg13 : Memref sig .tc .vmem S8x32 .f32) (harg13 : arg13.IsWhole) (arg14 : Memref sig .tc .vmem S32x1024 .f32) (harg14 : arg14.IsWhole)
  (arg15 : Memref sig .tc .vmem S1024x1024 .f32) (harg15 : arg15.IsWhole) (arg16 : Memref sig .tc .vmem S32x1024 .f32) (harg16 : arg16.IsWhole) (arg17 : Memref sig .tc .vmem S512x1024 .bf16) (harg17 : arg17.IsWhole) (arg18 : Memref sig .tc .vmem S512x1024 .f32) (harg18 : arg18.IsWhole)

section step

variable {α : Type} {n k T : ℕ} {g : Geo n k T}
  {x : Memref sig .tc .vmem (mat T 1024) .bf16} {gate : Memref sig .tc .vmem (mat 8 T) .f32}
  {wg wu : Memref sig .tc .vmem S1x1024x3584 .bf16} {wd : Memref sig .tc .vmem S1x3584x1024 .bf16}
  {base out : Memref sig .tc .vmem (mat T 1024) .f32}
  {xc : Memref sig .tc .vmem S512x1024 .bf16} {hxc : xc.IsWhole} {y : Memref sig .tc .vmem S512x1024 .f32}
  {cnd : Prop} [Decidable cnd] {p rest rest' : Prog (TpuEff nD τ sig (Elt F) Λ₀ .tc) α}

theorem copyIf_step (h : p = copyIf base out g cnd rest) (h' : rest = rest') : p = copyIf base out g cnd rest' := h' ▸ h

theorem groupIf_step {b : BitVec 32} {rank : Vec F (mat 1 T) .f32} {off : Fin 2 → ℕ}
    {inb : cnd → ∀ a, off a + (mat 1 T).size a ≤ (mat 8 T).size a}
    (h : p = groupIf g x gate wg wu wd base out xc hxc y cnd b rank off inb rest) (h' : rest = rest') :
    p = groupIf g x gate wg wu wd base out xc hxc y cnd b rank off inb rest' := h' ▸ h

theorem bind_step {β : Type} (q : Prog (TpuEff nD τ sig (Elt F) Λ₀ .tc) β) {f f' : β → Prog (TpuEff nD τ sig (Elt F) Λ₀ .tc) α}
    (h : ∀ v, f v = f' v) : q >>= f = q >>= f' := congrArg (q >>= ·) (funext h)

end step

/-- The body's first part: the expert's number, the tile's count, its ranks, the copy for an empty tile and the two smallest groups. -/
theorem part15_eq : ∃ f : Elt F .i32 → BitVec 32, k0_part15 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 =
    (smemLoad arg1 (Rect.unit (s := S1) ![0] S1.size inb_S1_S1_0) numel1_S1 rfl >>= fun (v0 : Elt F .i32) =>
    (Prog.lift (TpuEff.assume (k0_chk1 i v0) (k0_chk1.dec i v0)) : Prog (TpuEff nD τ sig (Elt F) Λ₀ .tc) (PLift (k0_chk1 i v0))) >>= fun w1 =>
    smemLoad arg2 (Rect.unit (s := S128) (k0_off1 i v0) S1.size (k0_off1_inb i v0 w1.down)) numel1_S1 rfl >>= fun (v4 : Elt F .i32) =>
    (Prog.lift (TpuEff.assume (k0_chk2 v0 v4) (k0_chk2.dec v0 v4)) : Prog (TpuEff nD τ sig (Elt F) Λ₀ .tc) (PLift (k0_chk2 v0 v4))) >>= fun w2 =>
    (Prog.lift (.load arg6 (Rect.unit (s := S8x1024) (k0_off2 v0) S1x1024.size (k0_off2_inb i v0 w1.down)).toLoadRect (View.loadsAt_vmem h_S1x1024)) :
      Prog _ (Vec F S1x1024 .f32)) >>= fun v25 =>
    copyIf arg10 arg15 geo160 (k0_cond1 v4 = 1#1) <|
    groupIf geo160 arg4 arg5 arg7 arg8 arg9 arg10 arg15 arg17 harg17 arg18 (k0_cond2 v4 = 1#1) 0#32 v25 (k0_off5 v0) (k0_off5_inb v0 v4 w2.down) <|
    groupIf geo192 arg4 arg5 arg7 arg8 arg9 arg10 arg15 arg17 harg17 arg18 (k0_cond3 v4 = 1#1) 0#32 v25 (k0_off8 v0) (k0_off8_inb v0 v4 w2.down) <|
    pure ⟨BitVec.ofNat 32 (i 0).val, v0, w1.down, v4, w2.down, f v4, v25, 7#32⟩) := by
  apply Exists.intro
  rw [k0_part15_eq_skeleton]
  unfold k0_part15_skel
  refine bind_step _ fun v0 => ?_
  refine bind_step _ fun w1 => ?_
  refine bind_step _ fun v4 => ?_
  refine bind_step _ fun w2 => ?_
  refine bind_step _ fun v25 => ?_
  refine copyIf_step rfl ?_
  iterate 2 refine groupIf_step rfl ?_
  rfl

/-- Its second part: the other single groups. -/
theorem part16_eq (v0 v4 : Elt F .i32) (hw2 : k0_chk2 v0 v4) (v23 : BitVec 32) (v25 : Vec F S1x1024 .f32) (c7 : BitVec 32) : ∃ r,
    k0_part16 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 hw2 v23 v25 c7 =
    (groupIf geo224 arg4 arg5 arg7 arg8 arg9 arg10 arg15 arg17 harg17 arg18 (k0_cond4 v4 = 1#1) 0#32 v25 (k0_off11 v0) (k0_off11_inb v0 v4 hw2) <|
    groupIf geo256 arg4 arg5 arg7 arg8 arg9 arg10 arg15 arg17 harg17 arg18 (k0_cond5 v4 = 1#1) 0#32 v25 (k0_off14 v0) (k0_off14_inb v0 v4 hw2) <|
    groupIf geo288 arg4 arg5 arg7 arg8 arg9 arg10 arg15 arg17 harg17 arg18 (k0_cond6 v4 = 1#1) 0#32 v25 (k0_off17 v0) (k0_off17_inb v0 v4 hw2) <|
    groupIf geo320 arg4 arg5 arg7 arg8 arg9 arg10 arg15 arg17 harg17 arg18 (k0_cond7 v4 = 1#1) 0#32 v25 (k0_off20 v0) (k0_off20_inb v0 v4 hw2) <|
    groupIf geo352 arg4 arg5 arg7 arg8 arg9 arg10 arg15 arg17 harg17 arg18 (k0_cond8 v4 = 1#1) 0#32 v25 (k0_off23 v0) (k0_off23_inb v0 v4 hw2) <|
    groupIf geo384 arg4 arg5 arg7 arg8 arg9 arg10 arg15 arg17 harg17 arg18 (k0_cond9 v4 = 1#1) 0#32 v25 (k0_off26 v0) (k0_off26_inb v0 v4 hw2) <|
    groupIf geo416 arg4 arg5 arg7 arg8 arg9 arg10 arg15 arg17 harg17 arg18 (k0_cond10 v4 = 1#1) 0#32 v25 (k0_off29 v0) (k0_off29_inb v0 v4 hw2) <|
    pure r) := by
  apply Exists.intro
  rw [k0_part16_eq_skeleton]
  unfold k0_part16_skel
  iterate 7 refine groupIf_step rfl ?_
  rfl

/-- One trip of the loop of groups. -/
theorem trip10_eq (v0 v4 : Elt F .i32) (hw2 : k0_chk2 v0 v4) (v25 : Vec F S1x1024 .f32) (h : k0_cond11 v4 = 1#1)
    (j : Fin (k0_t10_loop v4).trips) (a : Unit) :
    k0_t10_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 hw2 v25 h j a =
      addGroup geo512 arg4 arg5 arg7 arg8 arg9 arg15 arg15 arg17 harg17 arg18 (fun v => shapeCast S1024x1024 v shapeCasts_S1024x1024_S1024x1024)
        (baseW v4 j) v25 (k0_off32 v0) (k0_off32_inb v0 v4 hw2 j h) (pure ⟨⟩) := rfl

/-- The last part for a tile of many tokens: the base copied, then the loop of groups, then the loop the printer leaves for a
    remainder, which makes no trip. -/
def manyIf (v0 v4 : Elt F .i32) (hw2 : k0_chk2 v0 v4) (v25 : Vec F S1x1024 .f32) (rest : Prog (TpuEff nD τ sig (Elt F) Λ₀ .tc) Unit) :
    Prog (TpuEff nD τ sig (Elt F) Λ₀ .tc) Unit :=
  if h : k0_cond11 v4 = 1#1 then
    (Prog.lift (.load arg10 (corner (A := 1024) 1024 1024 geo512.inbT).toLoadRect (View.loadsAt_vmem geo512.posT)) : Prog _ (Vec F S1024x1024 .f32)) >>= fun v =>
    (Prog.lift (.load arg15 (corner (A := 1024) 1024 1024 geo512.inbT).toLoadRect (View.loadsAt_vmem geo512.posT)) : Prog _ (Vec F S1024x1024 .f32)) >>= fun _ =>
    Prog.lift (.store arg15 (corner (A := 1024) 1024 1024 geo512.inbT) v Finset.univ (View.stores_vmem_bits_univ geo512.posT rfl) (.inl rfl)) >>= fun _ =>
    Scf.Loop.for (k0_t10_loop v4) (k0_t10_ok v0 v4 hw2 h) ⟨⟩ (k0_t10_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 hw2 v25 h) >>= fun _ =>
    Scf.Loop.for (k0_t12_loop v4) (k0_t12_ok v0 v4 hw2 h) ⟨⟩ (k0_t12_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 hw2 v25 h (k0_t12_loop v4).lb) >>= fun _ =>
    rest
  else rest

/-- The sample's step for a count beyond one group: never taken, since a sample has as many tokens as one group's rows. -/
def manySample (v0 : Elt F .i32) (h12 : k0_cond12 i = 1#1) (v82 : Elt F .i32) (hw3 : k0_chk3 i v0 v82) (v103 : Vec F S1x32 .f32) :
    Prog (TpuEff nD τ sig (Elt F) Λ₀ .tc) PUnit :=
  if h : k0_cond15 v82 = 1#1 then
    (Prog.lift (.load arg14 (corner (A := 32) 32 1024 geo32.inbT).toLoadRect (View.loadsAt_vmem geo32.posT)) : Prog _ (Vec F S32x1024 .f32)) >>= fun v =>
    (Prog.lift (.load arg16 (corner (A := 32) 32 1024 geo32.inbT).toLoadRect (View.loadsAt_vmem geo32.posT)) : Prog _ (Vec F S32x1024 .f32)) >>= fun _ =>
    Prog.lift (.store arg16 (corner (A := 32) 32 1024 geo32.inbT) v Finset.univ (View.stores_vmem_bits_univ geo32.posT rfl) (.inl rfl)) >>= fun _ =>
    Scf.Loop.for (k0_t15_loop v82) (k0_t15_ok i v0 v82 hw3 h12 h) ⟨⟩ (k0_t15_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 h12 v82 hw3 v103 h) >>= fun _ =>
    Scf.Loop.for (k0_t17_loop v82) (k0_t17_ok i v0 v82 hw3 h12 h) ⟨⟩ (k0_t17_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 h12 v82 hw3 v103 h (k0_t17_loop v82).lb) >>= fun _ =>
    pure ⟨⟩
  else pure ⟨⟩

/-- At the last point, the sample's tokens. -/
def sampleP (v0 : Elt F .i32) (hw1 : k0_chk1 i v0) : Prog (TpuEff nD τ sig (Elt F) Λ₀ .tc) PUnit :=
  if h12 : k0_cond12 i = 1#1 then
    smemLoad arg3 (Rect.unit (s := S8) (k0_off36 v0) S1.size (k0_off36_inb i v0 hw1 h12)) numel1_S1 rfl >>= fun (v82 : Elt F .i32) =>
    (Prog.lift (TpuEff.assume (k0_chk3 i v0 v82) (k0_chk3.dec i v0 v82)) : Prog (TpuEff nD τ sig (Elt F) Λ₀ .tc) (PLift (k0_chk3 i v0 v82))) >>= fun w3 =>
    (Prog.lift (.load arg13 (Rect.unit (s := S8x32) (k0_off37 v0) S1x32.size (k0_off37_inb i v0 hw1 h12)).toLoadRect (View.loadsAt_vmem h_S1x32)) :
      Prog _ (Vec F S1x32 .f32)) >>= fun v103 =>
    copyIf arg14 arg16 geo32 (k0_cond13 v82 = 1#1) <|
    groupIf geo32 arg11 arg12 arg7 arg8 arg9 arg14 arg16 arg17 harg17 arg18 (k0_cond14 v82 = 1#1) 0#32 v103 (k0_off40 v0)
      (k0_off40_inb i v0 v82 w3.down h12) <|
    manySample i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 h12 v82 w3.down v103
  else pure ⟨⟩

/-- The whole body: its two parts, then the tail. -/
theorem body_eq : cc0_moe_expert (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 =
    (k0_part15 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 >>= fun r =>
    k0_part16 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 r.2.1 r.2.2.2.1 r.2.2.2.2.1 r.2.2.2.2.2.1 r.2.2.2.2.2.2.1 r.2.2.2.2.2.2.2 >>= fun _ =>
    manyIf i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 r.2.1 r.2.2.2.1 r.2.2.2.2.1 r.2.2.2.2.2.2.1 (sampleP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 r.2.1 r.2.2.1)) := by
  rw [cc0_moe_expert_eq_skeleton]
  unfold cc0_moe_expert_skel
  refine bind_step _ fun r => ?_
  refine bind_step _ fun _ => ?_
  rfl

end Cert.KernelIdeal.Moe

end

end
-- ==== Proof.Moe.Run.lean ====
/-
  The kernel's body over one tile: what it leaves in the two outputs, as a function of what it reads, and the
  proof that it leaves it.
-/
module

public import proofs.«01_k».proof.Proof.Moe.Parts
public import Idealize.ShloMosaic.Lib.Pipeline.Value
public import Idealize.ShloMosaic.Lib.ValueIdxRank1

@[expose] public section

set_option maxRecDepth 65536

noncomputable section

namespace Cert.KernelIdeal.Moe

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Idealize.ShloMosaic.Rounds
open Cert.KernelIdeal Cert.KernelIdeal.Gen Cert.Moe

variable {F : FTy → Type} [FloatOps F]

local notation "𝕄" => MT nD τ sig Unit (Elt F) ℕ (UR sig nD τ) ℕ

/-! ## What the body leaves -/

/-- The expert's number. -/
def eidOf (T0 : Vec F S1 .i32) : BitVec 32 := T0 (ValueIdx.ix1 0)

/-- The tile's count for the expert. -/
def cntOf (i : grid0.Coords) (v0 : BitVec 32) (T1 : Vec F S128 .i32) : BitVec 32 := T1 (ValueIdx.ix1 ⟨min (k0_off1 i v0 0) 127, by omega⟩)

/-- The sample's count for the expert. -/
def cntsOf (v0 : BitVec 32) (T2 : Vec F S8 .i32) : BitVec 32 := T2 (ValueIdx.ix1 ⟨min v0.toNat 7, by omega⟩)

/-- The output after `j` groups of 512. -/
def manyV (v0 v4 : BitVec 32) (A : Vec F S1024x1024 .bf16) (Gt R : Vec F S8x1024 .f32) (B : Vec F S1024x1024 .f32)
    (G U : Vec F S1x1024x3584 .bf16) (D : Vec F S1x3584x1024 .bf16) : ℕ → Vec F S1024x1024 .f32
  | 0 => B
  | j + 1 => if h : j < (k0_t10_loop v4).trips then
      gv geo512 (baseW v4 ⟨j, h⟩) v0 A Gt (rowAt v0 R) (manyV v0 v4 A Gt R B G U D j) G U D
    else manyV v0 v4 A Gt R B G U D j

/-- What the single groups leave in the prompt's tile. -/
def fewOut (v0 v4 : BitVec 32) (A : Vec F S1024x1024 .bf16) (Gt R : Vec F S8x1024 .f32) (B : Vec F S1024x1024 .f32)
    (G U : Vec F S1x1024x3584 .bf16) (D : Vec F S1x3584x1024 .bf16) (O : Vec F S1024x1024 .f32) : Vec F S1024x1024 .f32 :=
  if k0_cond10 v4 = 1#1 then gv geo416 0#32 v0 A Gt (rowAt v0 R) B G U D else
  if k0_cond9 v4 = 1#1 then gv geo384 0#32 v0 A Gt (rowAt v0 R) B G U D else
  if k0_cond8 v4 = 1#1 then gv geo352 0#32 v0 A Gt (rowAt v0 R) B G U D else
  if k0_cond7 v4 = 1#1 then gv geo320 0#32 v0 A Gt (rowAt v0 R) B G U D else
  if k0_cond6 v4 = 1#1 then gv geo288 0#32 v0 A Gt (rowAt v0 R) B G U D else
  if k0_cond5 v4 = 1#1 then gv geo256 0#32 v0 A Gt (rowAt v0 R) B G U D else
  if k0_cond4 v4 = 1#1 then gv geo224 0#32 v0 A Gt (rowAt v0 R) B G U D else
  if k0_cond3 v4 = 1#1 then gv geo192 0#32 v0 A Gt (rowAt v0 R) B G U D else
  if k0_cond2 v4 = 1#1 then gv geo160 0#32 v0 A Gt (rowAt v0 R) B G U D else
  if k0_cond1 v4 = 1#1 then B else O

/-- What the body leaves in the prompt's tile. -/
def tileOut (v0 v4 : BitVec 32) (A : Vec F S1024x1024 .bf16) (Gt R : Vec F S8x1024 .f32) (B : Vec F S1024x1024 .f32)
    (G U : Vec F S1x1024x3584 .bf16) (D : Vec F S1x3584x1024 .bf16) (O : Vec F S1024x1024 .f32) : Vec F S1024x1024 .f32 :=
  if k0_cond11 v4 = 1#1 then manyV v0 v4 A Gt R B G U D (k0_t10_loop v4).trips else fewOut v0 v4 A Gt R B G U D O

/-- What the body leaves in the sample's tokens at the last point. -/
def sampleOut (v0 v82 : BitVec 32) (A : Vec F S32x1024 .bf16) (Gt R : Vec F S8x32 .f32) (B : Vec F S32x1024 .f32)
    (G U : Vec F S1x1024x3584 .bf16) (D : Vec F S1x3584x1024 .bf16) (O : Vec F S32x1024 .f32) : Vec F S32x1024 .f32 :=
  if k0_cond14 v82 = 1#1 then gv geo32 0#32 v0 A Gt (rowAt v0 R) B G U D else if k0_cond13 v82 = 1#1 then B else O

/-! ## The words read from the tables -/

theorem eid_read (T0 : Vec F S1 .i32) :
    T0 ((Rect.unit (s := S1) ![0] S1.size inb_S1_S1_0).idx (Shape.Idx.first (numel1_S1.symm ▸ Nat.one_pos))) = eidOf T0 := by
  refine congrArg T0 (funext fun d => Fin.ext ?_)
  have h := ((Rect.unit (s := S1) ![0] S1.size inb_S1_S1_0).idx (Shape.Idx.first (numel1_S1.symm ▸ Nat.one_pos)) d).isLt
  have hd : d = 0 := Fin.eq_zero d
  subst hd
  have h' : _ < 1 := h
  exact Nat.lt_one_iff.1 h'

theorem first_zero (x : S1.Idx) : ((x 0 : Fin 1) : ℕ) = 0 := Nat.lt_one_iff.1 (x 0 : Fin 1).isLt

theorem cnt_read (i : grid0.Coords) (v0 : BitVec 32) (T1 : Vec F S128 .i32) (h : ∀ a, (k0_off1 i v0) a + S1.size a ≤ S128.size a) :
    T1 ((Rect.unit (s := S128) (k0_off1 i v0) S1.size h).idx (Shape.Idx.first (numel1_S1.symm ▸ Nat.one_pos))) = cntOf i v0 T1 := by
  refine congrArg T1 (funext fun d => Fin.ext ?_)
  have hd : d = 0 := Fin.eq_zero d
  subst hd
  have h0 : k0_off1 i v0 0 + 1 ≤ 128 := h 0
  have h1 := first_zero (Shape.Idx.first (s := S1) (numel1_S1.symm ▸ Nat.one_pos))
  show k0_off1 i v0 0 + 1 * ((Shape.Idx.first (s := S1) (numel1_S1.symm ▸ Nat.one_pos) 0 : Fin 1) : ℕ) = min (k0_off1 i v0 0) 127
  omega

theorem cnts_read (v0 : BitVec 32) (T2 : Vec F S8 .i32) (h : ∀ a, (k0_off36 v0) a + S1.size a ≤ S8.size a) :
    T2 ((Rect.unit (s := S8) (k0_off36 v0) S1.size h).idx (Shape.Idx.first (numel1_S1.symm ▸ Nat.one_pos))) = cntsOf v0 T2 := by
  refine congrArg T2 (funext fun d => Fin.ext ?_)
  have hd : d = 0 := Fin.eq_zero d
  subst hd
  have h0 : v0.toNat + 1 ≤ 8 := h 0
  have h1 := first_zero (Shape.Idx.first (s := S1) (numel1_S1.symm ▸ Nat.one_pos))
  show v0.toNat + 1 * ((Shape.Idx.first (s := S1) (numel1_S1.symm ▸ Nat.one_pos) 0 : Fin 1) : ℕ) = min v0.toNat 7
  omega

/-! ## The loop of groups -/

section rules

variable {defs : Defs nD τ sig (Elt F) Λ₀} (𝒱 : Variants) (c : Dev nD) (bd : Option 𝒱.V) (E : Set ℕ)

/-- One group whose base is the output itself. -/
theorem addGroup_self_wp {n k T : ℕ} (g : Geo n k T)
    (x : Memref sig .tc .vmem (mat T 1024) .bf16) (gate : Memref sig .tc .vmem (mat 8 T) .f32)
    (wg wu : Memref sig .tc .vmem S1x1024x3584 .bf16) (wd : Memref sig .tc .vmem S1x3584x1024 .bf16)
    (out : Memref sig .tc .vmem (mat T 1024) .f32)
    (xc : Memref sig .tc .vmem S512x1024 .bf16) (hxc : xc.IsWhole) (y : Memref sig .tc .vmem S512x1024 .f32)
    {α : Type} {Q : α → sProp (MT nD τ sig Unit (Elt F) ℕ (UR sig nD τ) ℕ)}
    (A : Vec F (mat T 1024) .bf16) (Gt : Vec F (mat 8 T) .f32)
    (G U : Vec F S1x1024x3584 .bf16) (D : Vec F S1x3584x1024 .bf16) (O : Vec F (mat T 1024) .f32)
    (f : Vec F (mat T 1024) .f32 → Vec F (mat T 1024) .f32) (hf : ∀ v, f v = v)
    (b v0 : BitVec 32) (rank : Vec F (mat 1 T) .f32) (off : Fin 2 → ℕ) (hoff : off = ![v0.toNat, 0])
    (inb : ∀ a, off a + (mat 1 T).size a ≤ (mat 8 T).size a) (rest : Prog (TpuEff nD τ sig (Elt F) Λ₀ .tc) α) :
    iprop(ctx c x gate wg wu wd xc y A Gt G U D ∗ owns (c : Thread nD τ) out fullShare O)
      ⊢ iprop((iprop(ctx c x gate wg wu wd xc y A Gt G U D
            ∗ owns (c : Thread nD τ) out fullShare (gv g b v0 A Gt rank O G U D))
          -∗ wp frame (wpE defs 𝒱 (c : Thread nD τ) bd) E rest Q)
        -∗ wp frame (wpE defs 𝒱 (c : Thread nD τ) bd) E (addGroup g x gate wg wu wd out out xc hxc y f b rank off inb rest) Q) := by
  unfold addGroup ctx
  iintro ⟨⟨HA, HGt, HW, HS⟩, HO⟩ HK
  iapply (groupP_wp 𝒱 c bd E g x gate wg wu wd out xc hxc y b rank off inb A Gt O G U D) $$ [HA HGt HO HW HS]
  · isplitl [HA]
    · iexact HA
    isplitl [HGt]
    · iexact HGt
    isplitl [HO]
    · iexact HO
    isplitl [HW]
    · iexact HW
    iexact HS
  iintro ⟨HA, HGt, HO, HW, HX, ⟨%V, %hV, HY⟩⟩
  iapply (load_owns 𝒱 c bd E y _ _ _ fullShare V) $$ HY
  iintro HY
  iapply (load_owns 𝒱 c bd E out _ _ _ fullShare O) $$ HO
  iintro HO
  iapply (store_owns 𝒱 c bd E out _ _ _ _ _ O (gv g b v0 A Gt rank O G U D)
    (fun z => by
      have e := rowAt_unit v0 Gt off hoff inb
      rw [corner_full g.inbT z]
      unfold gv
      rw [← e, ← hV, hf]
      rfl)
    (fun z hz => absurd (corner_full g.inbT z).symm (hz z))) $$ HO
  iintro HO
  iapply HK
  isplitl [HA HGt HW HX HY]
  · isplitl [HA]
    · iexact HA
    isplitl [HGt]
    · iexact HGt
    isplitl [HW]
    · iexact HW
    unfold scratch
    isplitl [HX]
    · iexact HX
    iexists V
    iexact HY
  iexact HO

variable (i : grid0.Coords) (arg1 : Memref sig .tc .smem S1 .i32) (harg1 : arg1.IsWhole) (arg2 : Memref sig .tc .smem S128 .i32) (harg2 : arg2.IsWhole) (arg3 : Memref sig .tc .smem S8 .i32) (harg3 : arg3.IsWhole)
  (arg4 : Memref sig .tc .vmem S1024x1024 .bf16) (harg4 : arg4.IsWhole) (arg5 : Memref sig .tc .vmem S8x1024 .f32) (harg5 : arg5.IsWhole) (arg6 : Memref sig .tc .vmem S8x1024 .f32) (harg6 : arg6.IsWhole)
  (arg7 : Memref sig .tc .vmem S1x1024x3584 .bf16) (harg7 : arg7.IsWhole) (arg8 : Memref sig .tc .vmem S1x1024x3584 .bf16) (harg8 : arg8.IsWhole) (arg9 : Memref sig .tc .vmem S1x3584x1024 .bf16) (harg9 : arg9.IsWhole) (arg10 : Memref sig .tc .vmem S1024x1024 .f32) (harg10 : arg10.IsWhole)
  (arg11 : Memref sig .tc .vmem S32x1024 .bf16) (harg11 : arg11.IsWhole) (arg12 : Memref sig .tc .vmem S8x32 .f32) (harg12 : arg12.IsWhole) (arg13 : Memref sig .tc .vmem S8x32 .f32) (harg13 : arg13.IsWhole) (arg14 : Memref sig .tc .vmem S32x1024 .f32) (harg14 : arg14.IsWhole)
  (arg15 : Memref sig .tc .vmem S1024x1024 .f32) (harg15 : arg15.IsWhole) (arg16 : Memref sig .tc .vmem S32x1024 .f32) (harg16 : arg16.IsWhole) (arg17 : Memref sig .tc .vmem S512x1024 .bf16) (harg17 : arg17.IsWhole) (arg18 : Memref sig .tc .vmem S512x1024 .f32) (harg18 : arg18.IsWhole)
variable (A : Vec F S1024x1024 .bf16) (Gt R : Vec F S8x1024 .f32) (G U : Vec F S1x1024x3584 .bf16) (D : Vec F S1x3584x1024 .bf16)
  (B O : Vec F S1024x1024 .f32)

/-- The tile of many tokens. -/
theorem manyIf_wp {Q : Unit → sProp (MT nD τ sig Unit (Elt F) ℕ (UR sig nD τ) ℕ)} (v0 v4 : Elt F .i32) (hw2 : k0_chk2 v0 v4)
    (h0 : k0_cond11 v4 = 1#1 → (k0_t12_loop v4).trips = 0) (rest : Prog (TpuEff nD τ sig (Elt F) Λ₀ .tc) Unit) :
    iprop(ctx c arg4 arg5 arg7 arg8 arg9 arg17 arg18 A Gt G U D ∗ owns (c : Thread nD τ) arg10 fullShare B ∗ owns (c : Thread nD τ) arg15 fullShare O)
      ⊢ iprop((iprop(ctx c arg4 arg5 arg7 arg8 arg9 arg17 arg18 A Gt G U D ∗ owns (c : Thread nD τ) arg10 fullShare B
            ∗ owns (c : Thread nD τ) arg15 fullShare (if k0_cond11 v4 = 1#1 then manyV v0 v4 A Gt R B G U D (k0_t10_loop v4).trips else O))
          -∗ wp frame (wpE defs 𝒱 (c : Thread nD τ) bd) E rest Q)
        -∗ wp frame (wpE defs 𝒱 (c : Thread nD τ) bd) E (manyIf i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 hw2 (rowAt v0 R) rest) Q) := by
  unfold manyIf
  by_cases h : k0_cond11 v4 = 1#1
  · rw [dif_pos h, if_pos h]
    iintro ⟨HC, HB, HO⟩ HK
    iapply (load_owns 𝒱 c bd E arg10 _ _ _ fullShare B) $$ HB
    iintro HB
    iapply (load_owns 𝒱 c bd E arg15 _ _ _ fullShare O) $$ HO
    iintro HO
    iapply (store_owns 𝒱 c bd E arg15 _ _ _ _ _ O B (fun _ => rfl) (fun z hz => absurd (corner_full geo512.inbT z).symm (hz z))) $$ HO
    iintro HO
    iapply (Scf.wp_for_bind frame (wpE defs 𝒱 (c : Thread nD τ) bd) E _ _ _ _ _ _
      (fun j _ => iprop(ctx c arg4 arg5 arg7 arg8 arg9 arg17 arg18 A Gt G U D
        ∗ owns (c : Thread nD τ) arg15 fullShare (manyV v0 v4 A Gt R B G U D j))) ?step) $$ [HC HO]
    case step =>
      intro j a
      rw [trip10_eq]
      iintro ⟨HC, HO⟩
      iapply (addGroup_self_wp 𝒱 c bd E geo512 arg4 arg5 arg7 arg8 arg9 arg15 arg17 harg17 arg18 A Gt G U D _ _
        (fun v => shapeCast_self v _) (baseW v4 j) v0 (rowAt v0 R) _ rfl _ _) $$ [HC HO]
      · isplitl [HC]
        · iexact HC
        iexact HO
      iintro ⟨HC, HO⟩
      rw [wp_pure]
      imodintro
      isplitl [HC]
      · iexact HC
      rw [show manyV v0 v4 A Gt R B G U D (j + 1) = gv geo512 (baseW v4 j) v0 A Gt (rowAt v0 R) (manyV v0 v4 A Gt R B G U D j) G U D from by
        rw [manyV, dif_pos j.isLt]]
      iexact HO
    · isplitl [HC]
      · iexact HC
      iexact HO
    iintro %_ ⟨HC, HO⟩
    iapply (Scf.wp_for_bind frame (wpE defs 𝒱 (c : Thread nD τ) bd) E _ _ _ _ _ _
      (fun _ _ => iprop(ctx c arg4 arg5 arg7 arg8 arg9 arg17 arg18 A Gt G U D
        ∗ owns (c : Thread nD τ) arg15 fullShare (manyV v0 v4 A Gt R B G U D (k0_t10_loop v4).trips)))
      (fun j => absurd (lt_of_lt_of_eq j.isLt (h0 h)) (Nat.not_lt_zero _))) $$ [HC HO]
    · isplitl [HC]
      · iexact HC
      iexact HO
    iintro %_ ⟨HC, HO⟩
    iapply HK
    isplitl [HC]
    · iexact HC
    isplitl [HB]
    · iexact HB
    iexact HO
  · rw [dif_neg h, if_neg h]
    iintro HH HK
    iapply HK
    iexact HH

end rules

end Cert.KernelIdeal.Moe

end

end
-- ==== Proof.Moe.Whole.lean ====
/-
  The whole body: its parts in sequence, from everything it is handed to everything it leaves.
-/
module

public import proofs.«01_k».proof.Proof.Moe.Run

@[expose] public section

set_option maxRecDepth 65536

noncomputable section

namespace Cert.KernelIdeal.Moe

open Idealize.ShloMosaic Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Idealize.ShloMosaic.Rounds
open Cert.KernelIdeal Cert.KernelIdeal.Gen Cert.Moe

variable {F : FTy → Type} [FloatOps F]

local notation "𝕄" => MT nD τ sig Unit (Elt F) ℕ (UR sig nD τ) ℕ

variable {defs : Defs nD τ sig (Elt F) Λ₀} (𝒱 : Variants) (c : Dev nD) (bd : Option 𝒱.V) (E : Set ℕ)
variable (i : grid0.Coords) (arg1 : Memref sig .tc .smem S1 .i32) (harg1 : arg1.IsWhole) (arg2 : Memref sig .tc .smem S128 .i32) (harg2 : arg2.IsWhole) (arg3 : Memref sig .tc .smem S8 .i32) (harg3 : arg3.IsWhole)
  (arg4 : Memref sig .tc .vmem S1024x1024 .bf16) (harg4 : arg4.IsWhole) (arg5 : Memref sig .tc .vmem S8x1024 .f32) (harg5 : arg5.IsWhole) (arg6 : Memref sig .tc .vmem S8x1024 .f32) (harg6 : arg6.IsWhole)
  (arg7 : Memref sig .tc .vmem S1x1024x3584 .bf16) (harg7 : arg7.IsWhole) (arg8 : Memref sig .tc .vmem S1x1024x3584 .bf16) (harg8 : arg8.IsWhole) (arg9 : Memref sig .tc .vmem S1x3584x1024 .bf16) (harg9 : arg9.IsWhole) (arg10 : Memref sig .tc .vmem S1024x1024 .f32) (harg10 : arg10.IsWhole)
  (arg11 : Memref sig .tc .vmem S32x1024 .bf16) (harg11 : arg11.IsWhole) (arg12 : Memref sig .tc .vmem S8x32 .f32) (harg12 : arg12.IsWhole) (arg13 : Memref sig .tc .vmem S8x32 .f32) (harg13 : arg13.IsWhole) (arg14 : Memref sig .tc .vmem S32x1024 .f32) (harg14 : arg14.IsWhole)
  (arg15 : Memref sig .tc .vmem S1024x1024 .f32) (harg15 : arg15.IsWhole) (arg16 : Memref sig .tc .vmem S32x1024 .f32) (harg16 : arg16.IsWhole) (arg17 : Memref sig .tc .vmem S512x1024 .bf16) (harg17 : arg17.IsWhole) (arg18 : Memref sig .tc .vmem S512x1024 .f32) (harg18 : arg18.IsWhole)
variable (q0 q1 q2 : PosShare TreeShare) (T0 : Vec F S1 .i32) (T1 : Vec F S128 .i32) (T2 : Vec F S8 .i32)
  (A : Vec F S1024x1024 .bf16) (Gt R : Vec F S8x1024 .f32) (G U : Vec F S1x1024x3584 .bf16) (D : Vec F S1x3584x1024 .bf16)
  (B O : Vec F S1024x1024 .f32) (As : Vec F S32x1024 .bf16) (Gs Rs : Vec F S8x32 .f32) (Bs Os : Vec F S32x1024 .f32)

/-- What the words of the tables must satisfy at a grid point: the offsets they name lie within their arrays, some step of the
    prompt's tile and, at the last point, of the sample is taken, and no loop has trips left over. -/
structure Fit (i : grid0.Coords) (v0 v4 v82 : BitVec 32) : Prop where
  chk1 : k0_chk1 i v0
  chk2 : k0_chk2 v0 v4
  chk3 : k0_chk3 i v0 v82
  rest : k0_cond11 v4 = 1#1 → (k0_t12_loop v4).trips = 0
  small : ¬ k0_cond15 v82 = 1#1

/-- The first two parts: the words, the tile's ranks, and the single groups. -/
theorem parts_wp {Q : PUnit → sProp (MT nD τ sig Unit (Elt F) ℕ (UR sig nD τ) ℕ)}
    (hf : Fit i (eidOf T0) (cntOf i (eidOf T0) T1) (cntsOf (eidOf T0) T2)) :
    iprop(owns (c : Thread nD τ) arg1 q0 T0 ∗ owns (c : Thread nD τ) arg2 q1 T1 ∗ owns (c : Thread nD τ) arg3 q2 T2
        ∗ owns (c : Thread nD τ) arg4 fullShare A ∗ owns (c : Thread nD τ) arg5 fullShare Gt ∗ owns (c : Thread nD τ) arg6 fullShare R ∗ owns (c : Thread nD τ) arg7 fullShare G ∗ owns (c : Thread nD τ) arg8 fullShare U ∗ owns (c : Thread nD τ) arg9 fullShare D ∗ owns (c : Thread nD τ) arg10 fullShare B ∗ owns (c : Thread nD τ) arg11 fullShare As ∗ owns (c : Thread nD τ) arg12 fullShare Gs ∗ owns (c : Thread nD τ) arg13 fullShare Rs ∗ owns (c : Thread nD τ) arg14 fullShare Bs
        ∗ owns (c : Thread nD τ) arg15 fullShare O ∗ owns (c : Thread nD τ) arg16 fullShare Os ∗ scratch c arg17 arg18)
      ⊢ iprop((iprop(owns (c : Thread nD τ) arg1 q0 T0 ∗ owns (c : Thread nD τ) arg2 q1 T1 ∗ owns (c : Thread nD τ) arg3 q2 T2
        ∗ owns (c : Thread nD τ) arg4 fullShare A ∗ owns (c : Thread nD τ) arg5 fullShare Gt ∗ owns (c : Thread nD τ) arg6 fullShare R ∗ owns (c : Thread nD τ) arg7 fullShare G ∗ owns (c : Thread nD τ) arg8 fullShare U ∗ owns (c : Thread nD τ) arg9 fullShare D ∗ owns (c : Thread nD τ) arg10 fullShare B ∗ owns (c : Thread nD τ) arg11 fullShare As ∗ owns (c : Thread nD τ) arg12 fullShare Gs ∗ owns (c : Thread nD τ) arg13 fullShare Rs ∗ owns (c : Thread nD τ) arg14 fullShare Bs
        ∗ owns (c : Thread nD τ) arg15 fullShare (tileOut (eidOf T0) (cntOf i (eidOf T0) T1) A Gt R B G U D O) ∗ owns (c : Thread nD τ) arg16 fullShare (if k0_cond12 i = 1#1 then sampleOut (eidOf T0) (cntsOf (eidOf T0) T2) As Gs Rs Bs G U D Os else Os) ∗ scratch c arg17 arg18)
          -∗ Q ⟨⟩)
        -∗ wp frame (wpE defs 𝒱 (c : Thread nD τ) bd) E (cc0_moe_expert (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q) := by
  obtain ⟨hc1, hc2, hc3, ht12, h15⟩ := hf
  iintro ⟨HT0, HT1, HT2, HA, HGt, HR, HG, HU, HD, HB, HAs, HGs, HRs, HBs, HO, HOs, HS⟩ HK
  rw [body_eq, wp_bind]
  obtain ⟨f, e15⟩ := part15_eq (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
  rw [e15]
  iapply (smem_owns 𝒱 c bd E arg1 _ numel1_S1 rfl _ q0 T0) $$ HT0
  iintro HT0
  rw [eid_read T0]
  generalize hv0 : eidOf T0 = v0 at *
  iapply (wp_assume 𝒱 (c : Thread nD τ) bd E hc1)
  iapply (smem_owns 𝒱 c bd E arg2 _ numel1_S1 rfl _ q1 T1) $$ HT1
  iintro HT1
  rw [cnt_read i v0 T1]
  generalize hv4 : cntOf i v0 T1 = v4 at *
  iapply (wp_assume 𝒱 (c : Thread nD τ) bd E hc2)
  iapply (load_owns 𝒱 c bd E arg6 _ _ _ fullShare R) $$ HR
  iintro HR
  rw [rowAt_unit v0 R (k0_off2 v0) rfl (k0_off2_inb i v0 hc1)]
  iapply (copyIf_wp 𝒱 c bd E geo160 arg10 arg15 B O (k0_cond1 (v4 : BitVec 32) = 1#1) _) $$ [HB HO]
  · isplitl [HB]
    · iexact HB
    iexact HO
  iintro ⟨HB, HO⟩
  ihave HC : ctx c arg4 arg5 arg7 arg8 arg9 arg17 arg18 A Gt G U D $$ [HA HGt HG HU HD HS]
  · unfold ctx wts
    isplitl [HA]
    · iexact HA
    isplitl [HGt]
    · iexact HGt
    isplitl [HG HU HD]
    · isplitl [HG]
      · iexact HG
      isplitl [HU]
      · iexact HU
      iexact HD
    iexact HS
  iapply (groupIf_wp 𝒱 c bd E geo160 arg4 arg5 arg7 arg8 arg9 arg10 arg15 arg17 harg17 arg18 A Gt B G U D _ (k0_cond2 (v4 : BitVec 32) = 1#1) 0#32 v0 (rowAt v0 R) _ rfl _ _) $$ [HC HB HO]
  · isplitl [HC]
    · iexact HC
    isplitl [HB]
    · iexact HB
    iexact HO
  iintro ⟨HC, HB, HO⟩
  iapply (groupIf_wp 𝒱 c bd E geo192 arg4 arg5 arg7 arg8 arg9 arg10 arg15 arg17 harg17 arg18 A Gt B G U D _ (k0_cond3 (v4 : BitVec 32) = 1#1) 0#32 v0 (rowAt v0 R) _ rfl _ _) $$ [HC HB HO]
  · isplitl [HC]
    · iexact HC
    isplitl [HB]
    · iexact HB
    iexact HO
  iintro ⟨HC, HB, HO⟩
  rw [wp_pure]
  imodintro
  rw [wp_bind]
  obtain ⟨r16, e16⟩ := part16_eq (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v4 hc2 (f v4) (rowAt v0 R) 7#32
  dsimp only
  rw [e16]
  iapply (groupIf_wp 𝒱 c bd E geo224 arg4 arg5 arg7 arg8 arg9 arg10 arg15 arg17 harg17 arg18 A Gt B G U D _ (k0_cond4 (v4 : BitVec 32) = 1#1) 0#32 v0 (rowAt v0 R) _ rfl _ _) $$ [HC HB HO]
  · isplitl [HC]
    · iexact HC
    isplitl [HB]
    · iexact HB
    iexact HO
  iintro ⟨HC, HB, HO⟩
  iapply (groupIf_wp 𝒱 c bd E geo256 arg4 arg5 arg7 arg8 arg9 arg10 arg15 arg17 harg17 arg18 A Gt B G U D _ (k0_cond5 (v4 : BitVec 32) = 1#1) 0#32 v0 (rowAt v0 R) _ rfl _ _) $$ [HC HB HO]
  · isplitl [HC]
    · iexact HC
    isplitl [HB]
    · iexact HB
    iexact HO
  iintro ⟨HC, HB, HO⟩
  iapply (groupIf_wp 𝒱 c bd E geo288 arg4 arg5 arg7 arg8 arg9 arg10 arg15 arg17 harg17 arg18 A Gt B G U D _ (k0_cond6 (v4 : BitVec 32) = 1#1) 0#32 v0 (rowAt v0 R) _ rfl _ _) $$ [HC HB HO]
  · isplitl [HC]
    · iexact HC
    isplitl [HB]
    · iexact HB
    iexact HO
  iintro ⟨HC, HB, HO⟩
  iapply (groupIf_wp 𝒱 c bd E geo320 arg4 arg5 arg7 arg8 arg9 arg10 arg15 arg17 harg17 arg18 A Gt B G U D _ (k0_cond7 (v4 : BitVec 32) = 1#1) 0#32 v0 (rowAt v0 R) _ rfl _ _) $$ [HC HB HO]
  · isplitl [HC]
    · iexact HC
    isplitl [HB]
    · iexact HB
    iexact HO
  iintro ⟨HC, HB, HO⟩
  iapply (groupIf_wp 𝒱 c bd E geo352 arg4 arg5 arg7 arg8 arg9 arg10 arg15 arg17 harg17 arg18 A Gt B G U D _ (k0_cond8 (v4 : BitVec 32) = 1#1) 0#32 v0 (rowAt v0 R) _ rfl _ _) $$ [HC HB HO]
  · isplitl [HC]
    · iexact HC
    isplitl [HB]
    · iexact HB
    iexact HO
  iintro ⟨HC, HB, HO⟩
  iapply (groupIf_wp 𝒱 c bd E geo384 arg4 arg5 arg7 arg8 arg9 arg10 arg15 arg17 harg17 arg18 A Gt B G U D _ (k0_cond9 (v4 : BitVec 32) = 1#1) 0#32 v0 (rowAt v0 R) _ rfl _ _) $$ [HC HB HO]
  · isplitl [HC]
    · iexact HC
    isplitl [HB]
    · iexact HB
    iexact HO
  iintro ⟨HC, HB, HO⟩
  iapply (groupIf_wp 𝒱 c bd E geo416 arg4 arg5 arg7 arg8 arg9 arg10 arg15 arg17 harg17 arg18 A Gt B G U D _ (k0_cond10 (v4 : BitVec 32) = 1#1) 0#32 v0 (rowAt v0 R) _ rfl _ _) $$ [HC HB HO]
  · isplitl [HC]
    · iexact HC
    isplitl [HB]
    · iexact HB
    iexact HO
  iintro ⟨HC, HB, HO⟩
  rw [wp_pure]
  imodintro
  iapply (manyIf_wp 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 A Gt R G U D B _ v0 v4 hc2 ht12 _) $$ [HC HB HO]
  · isplitl [HC]
    · iexact HC
    isplitl [HB]
    · iexact HB
    iexact HO
  iintro ⟨HC, HB, HO⟩
  unfold sampleP
  by_cases h12 : k0_cond12 i = 1#1
  · rw [dif_pos h12, if_pos h12]
    iapply (smem_owns 𝒱 c bd E arg3 _ numel1_S1 rfl _ q2 T2) $$ HT2
    iintro HT2
    rw [cnts_read v0 T2]
    generalize hv82 : cntsOf v0 T2 = v82 at *
    iapply (wp_assume 𝒱 (c : Thread nD τ) bd E hc3)
    iapply (load_owns 𝒱 c bd E arg13 _ _ _ fullShare Rs) $$ HRs
    iintro HRs
    rw [rowAt_unit v0 Rs (k0_off37 v0) rfl (k0_off37_inb i v0 hc1 h12)]
    iapply (copyIf_wp 𝒱 c bd E geo32 arg14 arg16 Bs Os (k0_cond13 (v82 : BitVec 32) = 1#1) _) $$ [HBs HOs]
    · isplitl [HBs]
      · iexact HBs
      iexact HOs
    iintro ⟨HBs, HOs⟩
    unfold ctx
    icases HC with ⟨HA, HGt, HW, HS⟩
    iapply (groupIf_wp 𝒱 c bd E geo32 arg11 arg12 arg7 arg8 arg9 arg14 arg16 arg17 harg17 arg18 As Gs Bs G U D _ (k0_cond14 (v82 : BitVec 32) = 1#1) 0#32 v0 (rowAt v0 Rs) _ rfl _ _) $$ [HAs HGs HW HS HBs HOs]
    · isplitl [HAs HGs HW HS]
      · unfold ctx
        isplitl [HAs]
        · iexact HAs
        isplitl [HGs]
        · iexact HGs
        isplitl [HW]
        · iexact HW
        iexact HS
      isplitl [HBs]
      · iexact HBs
      iexact HOs
    iintro ⟨HC, HBs, HOs⟩
    unfold ctx wts
    icases HC with ⟨HAs, HGs, ⟨HG, HU, HD⟩, HS⟩
    unfold manySample
    rw [dif_neg h15, wp_pure]
    imodintro
    iapply HK
    isplitl [HT0]
    · iexact HT0
    isplitl [HT1]
    · iexact HT1
    isplitl [HT2]
    · iexact HT2
    isplitl [HA]
    · iexact HA
    isplitl [HGt]
    · iexact HGt
    isplitl [HR]
    · iexact HR
    isplitl [HG]
    · iexact HG
    isplitl [HU]
    · iexact HU
    isplitl [HD]
    · iexact HD
    isplitl [HB]
    · iexact HB
    isplitl [HAs]
    · iexact HAs
    isplitl [HGs]
    · iexact HGs
    isplitl [HRs]
    · iexact HRs
    isplitl [HBs]
    · iexact HBs
    isplitl [HO]
    · iexact HO
    isplitl [HOs]
    · iexact HOs
    iexact HS
  · rw [dif_neg h12, if_neg h12, wp_pure]
    imodintro
    unfold ctx wts
    icases HC with ⟨HA, HGt, ⟨HG, HU, HD⟩, HS⟩
    iapply HK
    isplitl [HT0]
    · iexact HT0
    isplitl [HT1]
    · iexact HT1
    isplitl [HT2]
    · iexact HT2
    isplitl [HA]
    · iexact HA
    isplitl [HGt]
    · iexact HGt
    isplitl [HR]
    · iexact HR
    isplitl [HG]
    · iexact HG
    isplitl [HU]
    · iexact HU
    isplitl [HD]
    · iexact HD
    isplitl [HB]
    · iexact HB
    isplitl [HAs]
    · iexact HAs
    isplitl [HGs]
    · iexact HGs
    isplitl [HRs]
    · iexact HRs
    isplitl [HBs]
    · iexact HBs
    isplitl [HO]
    · iexact HO
    isplitl [HOs]
    · iexact HOs
    iexact HS

end Cert.KernelIdeal.Moe

end

end
-- ==== Proof.Moe.Words.lean ====
/-
  The words of the tables: what the offsets, the branch conditions and the loop bounds the kernel computes from them
  come to, when the expert's number is below eight and the counts are at most a tile's tokens.
-/
module

public import proofs.«01_k».proof.Proof.Moe.Whole

@[expose] public section

set_option maxRecDepth 65536

noncomputable section

namespace Cert.KernelIdeal.Moe

open Idealize.ShloMosaic Idealize.ShloMosaic.TcCoe
open Cert.KernelIdeal Cert.KernelIdeal.Gen Cert.Moe

variable {F : FTy → Type} [FloatOps F]

/-- The tables hold an expert's number and counts in range. -/
structure Ready (pf : pre0.Contents (Elt F)) : Prop where
  eid : (eidOf (F := F) (pf 0)).toNat < 8
  cnt : ∀ i : grid0.Coords, (cntOf (F := F) i (eidOf (F := F) (pf 0)) (pf 1)).toNat ≤ 1024
  cnts : (cntsOf (F := F) (eidOf (F := F) (pf 0)) (pf 2)).toNat ≤ 32

/-- A word below a bound has the property every number below the bound has. -/
theorem word_of_all {P : BitVec 32 → Prop} {n : ℕ} (h : ∀ k : Fin n, P (BitVec.ofNat 32 k.val)) {w : BitVec 32}
    (hw : w.toNat < n) : P w := by
  have e := h ⟨w.toNat, hw⟩
  rwa [BitVec.ofNat_toNat, BitVec.setWidth_eq] at e

/-- Some step of the tile stores the prompt's output. -/
def Stored (v4 : BitVec 32) : Prop :=
  k0_cond1 v4 = 1#1 ∨ k0_cond2 v4 = 1#1 ∨ k0_cond3 v4 = 1#1 ∨ k0_cond4 v4 = 1#1 ∨ k0_cond5 v4 = 1#1 ∨ k0_cond6 v4 = 1#1
    ∨ k0_cond7 v4 = 1#1 ∨ k0_cond8 v4 = 1#1 ∨ k0_cond9 v4 = 1#1 ∨ k0_cond10 v4 = 1#1 ∨ k0_cond11 v4 = 1#1
instance (v4 : BitVec 32) : Decidable (Stored v4) := by unfold Stored; infer_instance

/-- What the conditions on a tile's count say of the count: each single group has room for the members, the groups of 512
    together have room, and no loop has trips left over. -/
def Sized (v4 : BitVec 32) : Prop :=
  (k0_cond1 v4 = 1#1 → v4.toNat ≤ 0) ∧ (k0_cond2 v4 = 1#1 → v4.toNat ≤ 160) ∧ (k0_cond3 v4 = 1#1 → v4.toNat ≤ 192)
    ∧ (k0_cond4 v4 = 1#1 → v4.toNat ≤ 224) ∧ (k0_cond5 v4 = 1#1 → v4.toNat ≤ 256) ∧ (k0_cond6 v4 = 1#1 → v4.toNat ≤ 288)
    ∧ (k0_cond7 v4 = 1#1 → v4.toNat ≤ 320) ∧ (k0_cond8 v4 = 1#1 → v4.toNat ≤ 352) ∧ (k0_cond9 v4 = 1#1 → v4.toNat ≤ 384)
    ∧ (k0_cond10 v4 = 1#1 → v4.toNat ≤ 416)
    ∧ (k0_cond11 v4 = 1#1 → v4.toNat ≤ 512 * (k0_t10_loop v4).trips ∧ (k0_t10_loop v4).trips ≤ 2 ∧ (k0_t10_loop v4).OK
      ∧ (k0_t12_loop v4).OK ∧ (k0_t12_loop v4).trips = 0)
instance (v4 : BitVec 32) : Decidable (Sized v4) := by unfold Sized; infer_instance

set_option maxHeartbeats 4000000 in
/-- Every count up to 1024 takes a step. -/
theorem stored_all : ∀ k : Fin 1025, Stored (BitVec.ofNat 32 k.val) := by decide +kernel

set_option maxHeartbeats 4000000 in
/-- Every count up to 1024 has room in the step it takes. -/
theorem sized_all : ∀ k : Fin 1025, Sized (BitVec.ofNat 32 k.val) := by decide +kernel

/-- The conditions on the sample's count: one of the first two steps is taken, the one with room, never the third. -/
def SizedS (v82 : BitVec 32) : Prop :=
  (k0_cond13 v82 = 1#1 ∨ k0_cond14 v82 = 1#1) ∧ ¬ k0_cond15 v82 = 1#1 ∧ (k0_cond13 v82 = 1#1 → v82.toNat ≤ 0)
instance (v82 : BitVec 32) : Decidable (SizedS v82) := by unfold SizedS; infer_instance

theorem sizedS_all : ∀ k : Fin 33, SizedS (BitVec.ofNat 32 k.val) := by decide +kernel

/-- The row offsets: the expert's row of an array of eight. -/
theorem off_row {v0 : BitVec 32} (h : v0.toNat < 8) (n : ℕ) :
    ∀ a, (![(Scalar.indexCast v0).toNat, (0#32 : Index).toNat] : Fin 2 → ℕ) a + (⟨2, ![1, n]⟩ : Shape).size a ≤ (⟨2, ![8, n]⟩ : Shape).size a := by
  intro a
  have e : (Scalar.indexCast v0).toNat = v0.toNat := rfl
  fin_cases a
  · show (Scalar.indexCast v0).toNat + 1 ≤ 8
    omega
  · show 0 + n ≤ n
    omega

/-- The tile's place in the table of counts: eight experts a tile. -/
theorem off1_val (i : grid0.Coords) {v0 : BitVec 32} (h : v0.toNat < 8) : k0_off1 i v0 0 = 8 * (i 0).val + v0.toNat := by
  have hi : (i 0).val < 16 := (i 0).isLt
  show (BitVec.ofNat 32 (i 0).val * 8#32 + v0).toNat = _
  rw [BitVec.toNat_add, BitVec.toNat_mul, BitVec.toNat_ofNat, BitVec.toNat_ofNat]
  omega

/-- The place is within the table. -/
theorem off1_inb (i : grid0.Coords) {v0 : BitVec 32} (h : v0.toNat < 8) : ∀ a, (k0_off1 i v0) a + S1.size a ≤ S128.size a := by
  intro a
  have hi : (i 0).val < 16 := (i 0).isLt
  obtain rfl : a = 0 := Fin.eq_zero a
  rw [off1_val i h]
  show _ + 1 ≤ 128
  omega

/-- The expert's place in the sample's table of counts. -/
theorem off36_inb {v0 : BitVec 32} (h : v0.toNat < 8) : ∀ a, (k0_off36 v0) a + S1.size a ≤ S8.size a := by
  intro a
  obtain rfl : a = 0 := Fin.eq_zero a
  show v0.toNat + 1 ≤ 8
  omega

/-- Tables in range fit, at every grid point. -/
theorem fit_of_ready {pf : pre0.Contents (Elt F)} (h : Ready pf) (i : grid0.Coords) :
    Fit i (eidOf (F := F) (pf 0)) (cntOf (F := F) i (eidOf (F := F) (pf 0)) (pf 1)) (cntsOf (F := F) (eidOf (F := F) (pf 0)) (pf 2)) := by
  obtain ⟨he, hc, hs⟩ := h
  have hz := word_of_all sized_all (Nat.lt_succ_of_le (hc i))
  have hS := word_of_all sizedS_all (Nat.lt_succ_of_le hs)
  generalize cntOf (F := F) i (eidOf (F := F) (pf 0)) (pf 1) = v4 at *
  generalize cntsOf (F := F) (eidOf (F := F) (pf 0)) (pf 2) = v82 at *
  generalize eidOf (F := F) (pf 0) = v0 at *
  obtain ⟨-, -, -, -, -, -, -, -, -, -, h11⟩ := hz
  have r := off_row he 1024
  have r' := off_row he 32
  exact {
    chk1 := ⟨off1_inb i he, r, fun _ => off36_inb he, fun _ => r'⟩
    chk2 := ⟨fun _ => r, fun _ => r, fun _ => r, fun _ => r, fun _ => r, fun _ => r, fun _ => r, fun _ => r, fun _ => r,
      fun k => (h11 k).2.2.1, fun _ _ => r, fun k => (h11 k).2.2.2.1, fun _ _ => r⟩
    chk3 := ⟨fun _ _ => r', fun _ k => absurd k hS.2.1, fun _ _ _ => r', fun _ k => absurd k hS.2.1, fun _ _ _ => r'⟩
    rest := fun k => (h11 k).2.2.2.2
    small := hS.2.1 }

/-- The table's words as the pipeline's idle conditions read them. -/
theorem atD_eid (pf : pre0.Contents (Elt F)) : pf.atD 0 ![0] = eidOf (F := F) (pf 0) :=
  (dif_pos (show ∀ a : Fin 1, (![0] : Fin 1 → ℕ) a + 1 ≤ S1.size a from by decide)).trans
    (congrArg (pf 0) (funext fun a => Fin.ext (by obtain rfl : a = (0 : Fin 1) := Subsingleton.elim (α := Fin 1) a 0; rfl)))
theorem atD_cnt (pf : pre0.Contents (Elt F)) (i : grid0.Coords) {v0 : BitVec 32} (h : v0.toNat < 8) :
    pf.atD 1 (k0_off1 i v0) = cntOf (F := F) i v0 (pf 1) := by
  have hb := off1_inb i h
  refine (dif_pos (show ∀ a : Fin 1, k0_off1 i v0 a + 1 ≤ S128.size a from fun a => by
    obtain rfl : a = (0 : Fin 1) := Fin.eq_zero a; exact hb 0)).trans (congrArg (pf 1) (funext fun a => Fin.ext ?_))
  obtain rfl : a = (0 : Fin 1) := Subsingleton.elim (α := Fin 1) a 0
  have h0 : k0_off1 i v0 0 + 1 ≤ 128 := hb 0
  show k0_off1 i v0 0 = min (k0_off1 i v0 0) 127
  omega
theorem atD_cnts (pf : pre0.Contents (Elt F)) {v0 : BitVec 32} (h : v0.toNat < 8) :
    pf.atD 2 (k0_off36 v0) = cntsOf (F := F) v0 (pf 2) := by
  have hb := off36_inb h
  refine (dif_pos (show ∀ a : Fin 1, k0_off36 v0 a + 1 ≤ S8.size a from fun a => by
    obtain rfl : a = (0 : Fin 1) := Fin.eq_zero a; exact hb 0)).trans (congrArg (pf 2) (funext fun a => Fin.ext ?_))
  obtain rfl : a = (0 : Fin 1) := Subsingleton.elim (α := Fin 1) a 0
  show v0.toNat = min v0.toNat 7
  omega

/-- The last point's condition. -/
theorem last_iff : ∀ i : grid0.Coords, k0_cond12 i = 1#1 ↔ (i 0).val = 15 := fun i => by
  have h : ∀ k : Fin 16, (Scalar.cmpi .ne (Scalar.extui (Scalar.cmpi .eq (BitVec.ofNat 32 k.val) 15#32) : BitVec 32) 0#32 = 1#1) ↔ k.val = 15 := by decide
  exact h (i 0)

/-- No step stores the prompt's output. -/
def unstored (v4 : BitVec 32) : Bool :=
  !(k0_cond1 v4 == 1#1) && !(k0_cond2 v4 == 1#1) && !(k0_cond3 v4 == 1#1) && !(k0_cond4 v4 == 1#1) && !(k0_cond5 v4 == 1#1)
    && !(k0_cond6 v4 == 1#1) && !(k0_cond7 v4 == 1#1) && !(k0_cond8 v4 == 1#1) && !(k0_cond9 v4 == 1#1) && !(k0_cond10 v4 == 1#1)
    && !(k0_cond11 v4 == 1#1)

/-- With tables in range the prompt's output is stored at every point. -/
theorem live_tile {pf : pre0.Contents (Elt F)} (h : Ready pf) (i : grid0.Coords) : idle0 pf 11 i = false := by
  have hs := word_of_all stored_all (Nat.lt_succ_of_le (h.cnt i))
  show unstored (pf.atD 1 (k0_off1 i (pf.atD 0 ![0]))) = false
  rw [atD_eid, atD_cnt pf i h.eid]
  revert hs
  generalize cntOf (F := F) i (eidOf (F := F) (pf 0)) (pf 1) = v4
  intro hs
  unfold unstored
  rcases hs with e | e | e | e | e | e | e | e | e | e | e <;> simp [e]

/-- The sample's output is stored at the last point, -/
theorem live_sample {pf : pre0.Contents (Elt F)} (h : Ready pf) (i : grid0.Coords) (hi : k0_cond12 i = 1#1) : idle0 pf 12 i = false := by
  have hs := (word_of_all sizedS_all (Nat.lt_succ_of_le h.cnts)).1
  show (!(k0_cond12 i == 1#1 && k0_cond13 (pf.atD 2 (k0_off36 (pf.atD 0 ![0]))) == 1#1) && _ && _) = false
  rw [atD_eid, atD_cnts pf h.eid]
  revert hs
  generalize cntsOf (F := F) (eidOf (F := F) (pf 0)) (pf 2) = v82
  intro hs
  rcases hs with e | e <;> simp [e, hi]

/-- and at no other. -/
theorem idle_sample (pf : pre0.Contents (Elt F)) (i : grid0.Coords) (hi : ¬ k0_cond12 i = 1#1) : idle0 pf 12 i = true := by
  simp [idle0, hi]

/-- Tables in range satisfy the pipeline's condition. -/
theorem ok_of_ready {pf : pre0.Contents (Elt F)} (h : Ready pf) : ok0 pf := by
  have h3 : ∀ i, cc0_transform_3 inb_S1_S1_0 numel1_S1 pf i = ![(eidOf (F := F) (pf 0)).toNat, 0, 0] := fun i => by
    unfold cc0_transform_3; rw [show pf.at 0 (Rect.unit (s := S1) ![0] S1.size inb_S1_S1_0) numel1_S1 = eidOf (F := F) (pf 0) from eid_read (F := F) (pf 0)]; rfl
  have h4 : ∀ i, cc0_transform_4 inb_S1_S1_0 numel1_S1 pf i = ![(eidOf (F := F) (pf 0)).toNat, 0, 0] := fun i => h3 i
  have h5 : ∀ i, cc0_transform_5 inb_S1_S1_0 numel1_S1 pf i = ![(eidOf (F := F) (pf 0)).toNat, 0, 0] := fun i => h3 i
  have he := h.eid
  have k1 : ∀ a : Fin 3, ((![(eidOf (F := F) (pf 0)).toNat, 0, 0] : Fin 3 → ℕ) a + 1) * S1x1024x3584.size a ≤ S8x1024x3584.size a := fun a => by
    fin_cases a
    · show ((eidOf (F := F) (pf 0)).toNat + 1) * 1 ≤ 8
      omega
    · exact (by decide : (0 + 1) * 1024 ≤ 1024)
    · exact (by decide : (0 + 1) * 3584 ≤ 3584)
  have k2 : ∀ a : Fin 3, ((![(eidOf (F := F) (pf 0)).toNat, 0, 0] : Fin 3 → ℕ) a + 1) * S1x3584x1024.size a ≤ S8x3584x1024.size a := fun a => by
    fin_cases a
    · show ((eidOf (F := F) (pf 0)).toNat + 1) * 1 ≤ 8
      omega
    · exact (by decide : (0 + 1) * 3584 ≤ 3584)
    · exact (by decide : (0 + 1) * 1024 ≤ 1024)
  refine ⟨fun i => ⟨fun a => by rw [h3]; exact k1 a, .inr (Affine.block_words_dvd (of_decide_eq_true rfl) (by decide))⟩,
    fun i => ⟨fun a => by rw [h4]; exact k1 a, .inr (Affine.block_words_dvd (of_decide_eq_true rfl) (by decide))⟩,
    fun i => ⟨fun a => by rw [h5]; exact k2 a, .inr (Affine.block_words_dvd (of_decide_eq_true rfl) (by decide))⟩,
    ⟨rfl, rfl, rfl, (by decide : ∀ a a' : Fin 2, a.val = a'.val → S1024x1024.size a = S1024x1024.size a'),
      fun c a a' e => by obtain rfl : a = a' := Fin.ext e; rfl,
      (by decide +kernel : ∀ u u' : Fin grid0.N, u'.val < u.val → (spec0 6).fetchAt cc0_transform_6 u = true → (spec0 11).flushAt cc0_transform_11 u' = true →
        cc0_transform_11 (grid0.coords u') ≠ cc0_transform_11 (grid0.coords u))⟩,
    ⟨rfl, rfl, rfl, (by decide : ∀ a a' : Fin 2, a.val = a'.val → S32x1024.size a = S32x1024.size a'),
      fun c a a' e => by obtain rfl : a = a' := Fin.ext e; rfl,
      (by decide +kernel : ∀ u u' : Fin grid0.N, u'.val < u.val → (spec0 10).fetchAt cc0_transform_10 u = true → (spec0 12).flushAt cc0_transform_12 u' = true →
        cc0_transform_12 (grid0.coords u') ≠ cc0_transform_12 (grid0.coords u))⟩⟩

end Cert.KernelIdeal.Moe

end
-- ==== Proof.Moe.Launch.lean ====
/-
  The launch: the memory the region finds, the pipeline at the tables' words, each window's block, and the body's
  triple at every grid point.
-/
module

public import proofs.«01_k».proof.Proof.Moe.Words
public import proofs.«01_k».proof.Proof.Gen.KernelIdeal.Launch
public import Idealize.ShloMosaic.Lib.Pipeline.Kit
public import Idealize.ShloMosaic.Lib.Pipeline.FrameBody
public import Idealize.ShloMosaic.Lib.Claim

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Moe

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the region is entered: after the two copies before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The main function up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer the copies do not write is found as it was launched. -/
theorem V_kept (c : Dev nD) (b : Ref sig .tc) (h0 : b ≠ main_v0_0) (h1 : b ≠ main_v0_1) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

/-- The tables when the region is entered. -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- The pipeline at the tables, which are in range. -/
abbrev adm (h : Ready (tbl m)) : (pcfg0 (F := F)).Adm := ⟨tbl m, ok_of_ready h⟩
abbrev cfgM (h : Ready (tbl m)) : Pipeline.Cfg sig Λ₀ := cfg0 (adm m h)

/-- The tables' halves the region hands the body. -/
theorem PhiT_eq (c : Dev nD) : (Pipeline.ΦT pre0 (tbl m) c : sProp 𝕄)
    = iprop(owns (c : Thread nD τ) (Memref.whole main_arg0) fullShare.right (tbl m 0) ∗ owns (c : Thread nD τ) (Memref.whole main_arg1) fullShare.right (tbl m 1)
      ∗ owns (c : Thread nD τ) (Memref.whole main_arg2) fullShare.right (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  exact congrArg₂ BI.sep (owns_whole (c : Thread nD τ) main_arg0 fullShare.right (tbl m 0)).symm
    (congrArg₂ BI.sep (owns_whole (c : Thread nD τ) main_arg1 fullShare.right (tbl m 1)).symm (owns_whole (c : Thread nD τ) main_arg2 fullShare.right (tbl m 2)).symm)

/-- The scratch buffers and the generator register the region hands the body. -/
theorem PhiA_eq (c : Dev nD) :
    (Pipeline.ΦA spec0 c : sProp 𝕄)
      = iprop(scratch c (Memref.whole cc0_scratch0 : Memref sig .tc .vmem S512x1024 .bf16) (Memref.whole cc0_scratch1 : Memref sig .tc .vmem S512x1024 .f32) ∗ (∃ r, prngReg c r)) := by
  unfold Pipeline.ΦA scratch; rw [scopedRest0_eq]; simp only [owns_whole]; try rfl

/-- A window's block at a grid point, read off its array as the region finds it. -/
def iblk (h : Ready (tbl m)) (c : Dev nD) (w : Fin (cfgM m h).W) (t : Fin (cfgM m h).N) : (((cfgM m h).win w).xblock ((cfgM m h).grid.coords t)).Idx → Elt F ((cfgM m h).win w).elt :=
  (((cfgM m h).win w).blk t).view.read (Elt F) (V m c (Pipeline.arrRef spec0 w))

/-- The prompt's output block after the body at a point. -/
def tileV (h : Ready (tbl m)) (c : Dev nD) (t : Fin (cfgM m h).N) : Vec F S1024x1024 .f32 :=
  tileOut (eidOf (F := F) (tbl m 0)) (cntOf (F := F) (grid0.coords t) (eidOf (F := F) (tbl m 0)) (tbl m 1)) (iblk m h c 0 t) (iblk m h c 1 t) (iblk m h c 2 t)
    (iblk m h c 6 t) (iblk m h c 3 t) (iblk m h c 4 t) (iblk m h c 5 t) (iblk m h c 6 t)

/-- The sample's output block after the body at the last point. -/
def sampleV (h : Ready (tbl m)) (c : Dev nD) (t : Fin (cfgM m h).N) : Vec F S32x1024 .f32 :=
  sampleOut (eidOf (F := F) (tbl m 0)) (cntsOf (F := F) (eidOf (F := F) (tbl m 0)) (tbl m 2)) (iblk m h c 7 t) (iblk m h c 8 t) (iblk m h c 9 t)
    (iblk m h c 10 t) (iblk m h c 3 t) (iblk m h c 4 t) (iblk m h c 5 t) (iblk m h c 10 t)

/-- What the pipeline's proof holds at each point: the arrays as the region finds them, the inputs' blocks kept, the outputs'
    as the body leaves them. -/
def dats (h : Ready (tbl m)) (_ : Fin 1) (c : Dev nD) : Dat τ (Elt F) Unit ℕ (UR sig nD τ) ℕ (cfgM m h) c where
  A w := V m c (Pipeline.arrRef spec0 w)
  after w t := match w with
    | ⟨0, _⟩ => iblk m h c 0 t
    | ⟨1, _⟩ => iblk m h c 1 t
    | ⟨2, _⟩ => iblk m h c 2 t
    | ⟨3, _⟩ => iblk m h c 3 t
    | ⟨4, _⟩ => iblk m h c 4 t
    | ⟨5, _⟩ => iblk m h c 5 t
    | ⟨6, _⟩ => iblk m h c 6 t
    | ⟨7, _⟩ => iblk m h c 7 t
    | ⟨8, _⟩ => iblk m h c 8 t
    | ⟨9, _⟩ => iblk m h c 9 t
    | ⟨10, _⟩ => iblk m h c 10 t
    | ⟨11, _⟩ => tileV m h c t
    | ⟨12, _⟩ => sampleV m h c t
  Φ _ := iprop(Pipeline.ΦA spec0 c ∗ Pipeline.ΦT pre0 (tbl m) c)
  q _ := fullShare
  owed _ := 0

theorem A_eq (h : Ready (tbl m)) (c : Dev nD) (w : Fin (cfgM m h).W) : (dats m h 0 c).A w = V m c (Pipeline.arrRef spec0 w) := by
  dsimp only [dats]

theorem after_tile (h : Ready (tbl m)) (c : Dev nD) (t : Fin (cfgM m h).N) : (dats m h 0 c).after 11 t = tileV m h c t := by dsimp only [dats]; try rfl
theorem after_sample (h : Ready (tbl m)) (c : Dev nD) (t : Fin (cfgM m h).N) : (dats m h 0 c).after 12 t = sampleV m h c t := by dsimp only [dats]; try rfl

/-! An input's current buffer holds its block at every point, fetched there or not. -/

theorem before_0 (h : Ready (tbl m)) (c : Dev nD) (t : Fin (cfgM m h).N) (d) : (dats m h 0 c).before 0 t d = iblk m h c 0 t :=
  (dats m h 0 c).before_in_eq_fetched 0 rfl (fun _ => rfl) (fun _ _ _ => rfl) (fun _ => rfl) t d
theorem before_1 (h : Ready (tbl m)) (c : Dev nD) (t : Fin (cfgM m h).N) (d) : (dats m h 0 c).before 1 t d = iblk m h c 1 t :=
  (dats m h 0 c).before_in_eq_fetched 1 rfl (fun _ => rfl) (fun _ _ _ => rfl) (fun _ => rfl) t d
theorem before_2 (h : Ready (tbl m)) (c : Dev nD) (t : Fin (cfgM m h).N) (d) : (dats m h 0 c).before 2 t d = iblk m h c 2 t :=
  (dats m h 0 c).before_in_eq_fetched 2 rfl (fun _ => rfl) (fun _ _ _ => rfl) (fun _ => rfl) t d
theorem before_3 (h : Ready (tbl m)) (c : Dev nD) (t : Fin (cfgM m h).N) (d) : (dats m h 0 c).before 3 t d = iblk m h c 3 t :=
  (dats m h 0 c).before_in_eq_fetched 3 rfl (fun _ => rfl) (fun _ _ _ => rfl) (fun _ => rfl) t d
theorem before_4 (h : Ready (tbl m)) (c : Dev nD) (t : Fin (cfgM m h).N) (d) : (dats m h 0 c).before 4 t d = iblk m h c 4 t :=
  (dats m h 0 c).before_in_eq_fetched 4 rfl (fun _ => rfl) (fun _ _ _ => rfl) (fun _ => rfl) t d
theorem before_5 (h : Ready (tbl m)) (c : Dev nD) (t : Fin (cfgM m h).N) (d) : (dats m h 0 c).before 5 t d = iblk m h c 5 t :=
  (dats m h 0 c).before_in_eq_fetched 5 rfl (fun _ => rfl) (fun _ _ _ => rfl) (fun _ => rfl) t d
theorem before_6 (h : Ready (tbl m)) (c : Dev nD) (t : Fin (cfgM m h).N) (d) : (dats m h 0 c).before 6 t d = iblk m h c 6 t :=
  (dats m h 0 c).before_in_eq_fetched 6 rfl (fun _ => rfl) (fun _ _ _ => rfl) (fun _ => rfl) t d
theorem before_7 (h : Ready (tbl m)) (c : Dev nD) (t : Fin (cfgM m h).N) (d) : (dats m h 0 c).before 7 t d = iblk m h c 7 t :=
  (dats m h 0 c).before_in_eq_fetched 7 rfl (fun _ => rfl) (fun _ _ _ => rfl) (fun _ => rfl) t d
theorem before_8 (h : Ready (tbl m)) (c : Dev nD) (t : Fin (cfgM m h).N) (d) : (dats m h 0 c).before 8 t d = iblk m h c 8 t :=
  (dats m h 0 c).before_in_eq_fetched 8 rfl (fun _ => rfl) (fun _ _ _ => rfl) (fun _ => rfl) t d
theorem before_9 (h : Ready (tbl m)) (c : Dev nD) (t : Fin (cfgM m h).N) (d) : (dats m h 0 c).before 9 t d = iblk m h c 9 t :=
  (dats m h 0 c).before_in_eq_fetched 9 rfl (fun _ => rfl) (fun _ _ _ => rfl) (fun _ => rfl) t d
theorem before_10 (h : Ready (tbl m)) (c : Dev nD) (t : Fin (cfgM m h).N) (d) : (dats m h 0 c).before 10 t d = iblk m h c 10 t :=
  (dats m h 0 c).before_in_eq_fetched 10 rfl (fun _ => rfl) (fun _ _ _ => rfl) (fun _ => rfl) t d

end Cert.KernelIdeal.Moe

end
-- ==== Proof.Moe.Pre.lean ====
/-
  What the precondition says of the tables: the words' ranges in every number system, and the ranks, gates and counts as
  naturals over the extended reals.
-/
module

public import proofs.«01_k».proof.Proof.Gen.Pre_routed
public import Idealize.ShloMosaic.Lib.Pointwise
public import Idealize.ShloMosaic.Lib.WordCmp
public import Idealize.ShloMosaic.Lib.Affine

@[expose] public section

set_option maxRecDepth 16384

noncomputable section

namespace Cert.Pre_routed.Moe

open Idealize.ShloMosaic Idealize.ShloMosaic.TcCoe
open Cert.Pre_routed

attribute [local instance] Cert.Pre_routed.Gen.facts

/-- A word between 0 and 1024 as signed numbers is a natural up to 1024. -/
theorem upto_1024 (v : BitVec 32) (h : IntOp.andi (IntOp.cmpi .sge v 0#32) (IntOp.cmpi .sle v 1024#32) = 1#1) :
    v.toNat ≤ 1024 := by
  rw [IntOp.andi_eq_one, IntOp.cmpi_sge, IntOp.cmpi_sle] at h
  have := BitVec.toInt_eq_toNat_cond v
  have h1 := h.1; have h2 := h.2
  simp only [BitVec.reduceToInt] at h1 h2
  split_ifs at this <;> omega

/-- A word between 0 and 32 as signed numbers is a natural up to 32. -/
theorem upto_32 (v : BitVec 32) (h : IntOp.andi (IntOp.cmpi .sge v 0#32) (IntOp.cmpi .sle v 32#32) = 1#1) :
    v.toNat ≤ 32 := by
  rw [IntOp.andi_eq_one, IntOp.cmpi_sge, IntOp.cmpi_sle] at h
  have := BitVec.toInt_eq_toNat_cond v
  have h1 := h.1; have h2 := h.2
  simp only [BitVec.reduceToInt] at h1 h2
  split_ifs at this <;> omega

/-- A word from 0 to 7 as signed numbers is a natural below 8. -/
theorem below_8 (v : BitVec 32) (h : IntOp.andi (IntOp.cmpi .sge v 0#32) (IntOp.cmpi .slt v 8#32) = 1#1) :
    v.toNat < 8 := by
  revert h; word_cmp

section
variable {F : FTy → Type} [FloatOps F]
variable {eid : IVec S1 32} {cnt : IVec S128 32} {cnts : IVec S8 32} {xn : FVec F S16384x1024 .bf16}
  {gate rank : FVec F S8x16384 .f32} {wg wu : FVec F S8x1024x3584 .bf16} {wd : FVec F S8x3584x1024 .bf16}
  {hh : FVec F S16384x1024 .f32} {xns : FVec F S32x1024 .bf16} {gates ranks : FVec F S8x32 .f32}
  {hs : FVec F S32x1024 .f32}

/-- The precondition's integer part: the expert is one of the eight and no count is past its tile's length. -/
theorem ranges (h : fn (F := F) eid cnt cnts xn gate rank wg wu wd hh xns gates ranks hs = fun _ => 1#1) :
    (eid (ix1 0)).toNat < 8 ∧ (∀ k : Fin 128, (cnt (ix1 k)).toNat ≤ 1024) ∧ ∀ k : Fin 8, (cnts (ix1 k)).toNat ≤ 32 := by
  have all : ∀ (a : Fin 8) (i : Fin 16), (eid (ix1 0)).toNat < 8 ∧
      (cnt (ix1 ⟨i.val * 8 + a.val, by omega⟩)).toNat ≤ 1024 ∧ (cnts (ix1 a)).toNat ≤ 32 := by
    intro a i
    have q := congrFun h (ix4 a i 0 0)
    pointwise [fn, fn_part1, fn_part2, fn_part3, fn_part4, fn_where, fn_where_0, fn_where_1, fn_where_2, fn_where_3,
      fn_where_4] at q
    obtain ⟨h1, h2⟩ := IntOp.andi_eq_one.1 q
    obtain ⟨hE, h3⟩ := IntOp.andi_eq_one.1 h1
    obtain ⟨-, h4⟩ := IntOp.andi_eq_one.1 h3
    obtain ⟨-, h5⟩ := IntOp.andi_eq_one.1 h2
    exact ⟨below_8 _ hE, upto_1024 _ (IntOp.andi_eq_one.1 h4).1, upto_32 _ (IntOp.andi_eq_one.1 h5).1⟩
  refine ⟨(all 0 0).1, fun k => ?_, fun k => (all k 0).2.2⟩
  have := (all ⟨k.val % 8, by omega⟩ ⟨k.val / 8, by omega⟩).2.1
  have e : (⟨k.val / 8 * 8 + k.val % 8, by omega⟩ : Fin 128) = k := Fin.ext (by dsimp only; omega)
  rwa [e] at this
end

section
variable {eid : IVec S1 32} {cnt : IVec S128 32} {cnts : IVec S8 32} {xn : FVec Ideal S16384x1024 .bf16}
  {gate rank : FVec Ideal S8x16384 .f32} {wg wu : FVec Ideal S8x1024x3584 .bf16} {wd : FVec Ideal S8x3584x1024 .bf16}
  {hh : FVec Ideal S16384x1024 .f32} {xns : FVec Ideal S32x1024 .bf16} {gates ranks : FVec Ideal S8x32 .f32}
  {hs : FVec Ideal S32x1024 .f32}

/-- The sum of ones over the members is their number. -/
theorem sum_ones {n : ℕ} (p : Fin n → Prop) [DecidablePred p] :
    (∑ x, if p x then (1 : EReal) else 0) = ((Finset.univ.filter p).card : EReal) := by
  rw [Finset.sum_boole]

/-- A tile's tables over the extended reals: a member's rank is the number of earlier members, another's gate is 0, and
    the count word is the number of members. -/
structure Served {n : ℕ} (w : BitVec 32) (gate rank : Fin n → EReal) : Prop where
  slot : ∀ t, 0 ≤ rank t → rank t = ((Finset.univ.filter fun x => x < t ∧ 0 ≤ rank x).card : EReal)
  idle : ∀ t, ¬ 0 ≤ rank t → gate t = 0
  count : (Finset.univ.filter fun x => 0 ≤ rank x).card = w.toNat

/-- The tables from the precondition's bits. -/
theorem served_of {n : ℕ} (hn : n < 2 ^ 31) {w : BitVec 32} (hw : w.toNat < 2 ^ 31) {gate rank : Fin n → EReal} {z : EReal}
    (hr : ∀ t, rank t = if 0 ≤ rank t then ∑ x, Scalar.select (IntOp.cmpi .sgt (BitVec.ofNat 32 t.val)
      (BitVec.ofNat 32 x.val)) (if 0 ≤ rank x then 1 else 0) 0 else z)
    (hg : ∀ t, IntOp.ori (BitVec.ofBool (decide (0 ≤ rank t))) (BitVec.ofBool (decide (gate t = 0))) = 1#1)
    (hc : (FloatOps.sitofp (F := Ideal) .f32 w : EReal) = ∑ x, if 0 ≤ rank x then 1 else 0) : Served w gate rank where
  slot t ht := by
    rw [hr t, if_pos ht, ← sum_ones]
    refine Finset.sum_congr rfl fun x _ => ?_
    by_cases hx : x < t
    · refine (if_pos ((WordCmp.cmpi_sgt_ofNat_eq_one_iff (w := 32) (by omega) (by omega)).2 hx)).trans ?_
      exact if_congr (by simp [hx]) rfl rfl
    · exact (if_neg fun q => hx ((WordCmp.cmpi_sgt_ofNat_eq_one_iff (w := 32) (by omega) (by omega)).1 q)).trans
        (if_neg fun q => hx q.1).symm
  idle t ht := by
    have q := hg t
    rw [decide_eq_false ht] at q
    by_contra hz
    rw [decide_eq_false hz] at q
    exact absurd q (by decide)
  count := by
    rw [sum_ones] at hc
    have e : (FloatOps.sitofp (F := Ideal) .f32 w : EReal) = ((w.toNat : ℕ) : EReal) := by
      show ((w.toInt : ℝ) : EReal) = _
      have := BitVec.toInt_eq_toNat_of_lt (x := w) (by omega)
      rw [this]; norm_cast
    rw [e] at hc
    exact_mod_cast hc.symm

/-- The precondition's tables: every expert's over every tile, and over the sample tokens. -/
theorem served (h : fn (F := Ideal) eid cnt cnts xn gate rank wg wu wd hh xns gates ranks hs = fun _ => 1#1) (a : Fin 8) :
    (∀ i : Fin 16, Served (cnt (ix1 ⟨i.val * 8 + a.val, by omega⟩))
      (fun t : Fin 1024 => gate (ix2 a ⟨i.val * 1024 + t.val, by omega⟩))
      (fun t : Fin 1024 => rank (ix2 a ⟨i.val * 1024 + t.val, by omega⟩))) ∧
    Served (cnts (ix1 a)) (fun t : Fin 32 => gates (ix2 a t)) (fun t : Fin 32 => ranks (ix2 a t)) := by
  have hb := ranges h
  have one : ∀ {b : Bool}, BitVec.ofBool b = 1#1 → b = true := by decide
  have q : ∀ (i : Fin 16) (t : Fin 1024) (s : Fin 32), _ := fun i t s => congrFun h (ix4 a i t s)
  pointwise [fn, fn_part1, fn_part2, fn_part3, fn_part4, fn_where, fn_where_0, fn_where_1, fn_where_2, fn_where_3,
    fn_where_4, id_eq] at q
  simp only [IntOp.andi_eq_one] at q
  refine ⟨fun i => served_of (by norm_num) (by have := hb.2.1 ⟨i.val * 8 + a.val, by omega⟩; omega)
      (fun t => of_decide_eq_true (one (q i t 0).1.2.1.1)) (fun t => (q i t 0).1.2.1.2)
      (of_decide_eq_true (one (q i 0 0).1.2.2.2)),
    served_of (by norm_num) (by have := hb.2.2 a; omega)
      (fun t => of_decide_eq_true (one (q 0 0 t).2.1.1)) (fun t => (q 0 0 t).2.1.2)
      (of_decide_eq_true (one (q 0 0 0).2.2.2))⟩

end

end Cert.Pre_routed.Moe

end

end
-- ==== Proof.Moe.Entry.lean ====
/-
  The precondition at the launch: the tables the region finds are in range.
-/
module

public import proofs.«01_k».proof.Proof.Moe.Launch
public import proofs.«01_k».proof.Proof.Moe.Pre

@[expose] public section

set_option maxRecDepth 16384

noncomputable section

namespace Cert.KernelIdeal.Moe

open Idealize.ShloMosaic Idealize.ShloMosaic.TcCoe
open Cert.KernelIdeal Cert.KernelIdeal.Gen Cert.Moe

attribute [local instance] Cert.Pre_routed.Gen.facts

variable {F : FTy → Type} [FloatOps F]
variable (m : (ℓ : Loc nD τ sig) → Buf (Elt F) ℓ)

/-- The precondition of the arguments a core holds. -/
abbrev Routed (c : Dev nD) : Prop :=
  Cert.Pre_routed.fn (F := F) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))
    = fun _ => 1#1

/-- The region finds the tables as they were launched. -/
theorem tbl_0 : tbl m 0 = m (((0 : Dev nD).tc : Thread nD τ).loc main_arg0) := V_kept m 0 main_arg0 (by decide) (by decide)
theorem tbl_1 : tbl m 1 = m (((0 : Dev nD).tc : Thread nD τ).loc main_arg1) := V_kept m 0 main_arg1 (by decide) (by decide)
theorem tbl_2 : tbl m 2 = m (((0 : Dev nD).tc : Thread nD τ).loc main_arg2) := V_kept m 0 main_arg2 (by decide) (by decide)

/-- Where the precondition holds the tables are in range. -/
theorem ready (h : Routed m 0) : Ready (tbl m) where
  eid := by
    rw [tbl_0, eidOf, ← ix1_eq_valueIdx]
    exact (Cert.Pre_routed.Moe.ranges h).1
  cnt i := by
    rw [tbl_1, cntOf, ← ix1_eq_valueIdx]
    exact (Cert.Pre_routed.Moe.ranges h).2.1 _
  cnts := by
    rw [tbl_2, cntsOf, ← ix1_eq_valueIdx]
    exact (Cert.Pre_routed.Moe.ranges h).2.2 _

end Cert.KernelIdeal.Moe

end
-- ==== Proof.Moe.Frame.lean ====
/-
  The frame: the body's triple at every grid point is the pipeline's obligation, so the program runs to the end and leaves
  its arguments as they were.
-/
module

public import proofs.«01_k».proof.Proof.Moe.Launch

@[expose] public section

set_option maxRecDepth 16384

noncomputable section

namespace Cert.KernelIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Moe

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's current buffer at a point. -/

abbrev ms0 (h : Ready (tbl m)) (t : Fin (cfgM m h).N) : Memref sig .tc .vmem S1024x1024 .bf16 := spec0_0.stage ((cfgM m h).slots t 0)
abbrev ms1 (h : Ready (tbl m)) (t : Fin (cfgM m h).N) : Memref sig .tc .vmem S8x1024 .f32 := spec0_1.stage ((cfgM m h).slots t 1)
abbrev ms2 (h : Ready (tbl m)) (t : Fin (cfgM m h).N) : Memref sig .tc .vmem S8x1024 .f32 := spec0_2.stage ((cfgM m h).slots t 2)
abbrev ms3 (h : Ready (tbl m)) (t : Fin (cfgM m h).N) : Memref sig .tc .vmem S1x1024x3584 .bf16 := spec0_3.stage ((cfgM m h).slots t 3)
abbrev ms4 (h : Ready (tbl m)) (t : Fin (cfgM m h).N) : Memref sig .tc .vmem S1x1024x3584 .bf16 := spec0_4.stage ((cfgM m h).slots t 4)
abbrev ms5 (h : Ready (tbl m)) (t : Fin (cfgM m h).N) : Memref sig .tc .vmem S1x3584x1024 .bf16 := spec0_5.stage ((cfgM m h).slots t 5)
abbrev ms6 (h : Ready (tbl m)) (t : Fin (cfgM m h).N) : Memref sig .tc .vmem S1024x1024 .f32 := spec0_6.stage ((cfgM m h).slots t 6)
abbrev ms7 (h : Ready (tbl m)) (t : Fin (cfgM m h).N) : Memref sig .tc .vmem S32x1024 .bf16 := spec0_7.stage ((cfgM m h).slots t 7)
abbrev ms8 (h : Ready (tbl m)) (t : Fin (cfgM m h).N) : Memref sig .tc .vmem S8x32 .f32 := spec0_8.stage ((cfgM m h).slots t 8)
abbrev ms9 (h : Ready (tbl m)) (t : Fin (cfgM m h).N) : Memref sig .tc .vmem S8x32 .f32 := spec0_9.stage ((cfgM m h).slots t 9)
abbrev ms10 (h : Ready (tbl m)) (t : Fin (cfgM m h).N) : Memref sig .tc .vmem S32x1024 .f32 := spec0_10.stage ((cfgM m h).slots t 10)
abbrev ms11 (h : Ready (tbl m)) (t : Fin (cfgM m h).N) : Memref sig .tc .vmem S1024x1024 .f32 := spec0_11.stage ((cfgM m h).slots t 11)
abbrev ms12 (h : Ready (tbl m)) (t : Fin (cfgM m h).N) : Memref sig .tc .vmem S32x1024 .f32 := spec0_12.stage ((cfgM m h).slots t 12)

/-- The body at a point, on the buffers the pipeline hands it. -/
abbrev bodyAt (h : Ready (tbl m)) (t : Fin (cfgM m h).N) : Prog (TpuEff nD τ sig (Elt F) Λ₀ .tc) PUnit :=
  cc0_moe_expert (grid0.coords t) (Memref.whole main_arg0) (Memref.isWhole_whole _) (Memref.whole main_arg1) (Memref.isWhole_whole _) (Memref.whole main_arg2) (Memref.isWhole_whole _) (spec0_0.stage ((cfgM m h).slots t 0)) (hstage0_0 (((cfgM m h).slots t 0).cast nbuf0_0)) (spec0_1.stage ((cfgM m h).slots t 1)) (hstage0_1 (((cfgM m h).slots t 1).cast nbuf0_1)) (spec0_2.stage ((cfgM m h).slots t 2)) (hstage0_2 (((cfgM m h).slots t 2).cast nbuf0_2)) (spec0_3.stage ((cfgM m h).slots t 3)) (hstage0_3 (((cfgM m h).slots t 3).cast nbuf0_3)) (spec0_4.stage ((cfgM m h).slots t 4)) (hstage0_4 (((cfgM m h).slots t 4).cast nbuf0_4)) (spec0_5.stage ((cfgM m h).slots t 5)) (hstage0_5 (((cfgM m h).slots t 5).cast nbuf0_5)) (spec0_6.stage ((cfgM m h).slots t 6)) (hstage0_6 (((cfgM m h).slots t 6).cast nbuf0_6)) (spec0_7.stage ((cfgM m h).slots t 7)) (hstage0_7 (((cfgM m h).slots t 7).cast nbuf0_7)) (spec0_8.stage ((cfgM m h).slots t 8)) (hstage0_8 (((cfgM m h).slots t 8).cast nbuf0_8)) (spec0_9.stage ((cfgM m h).slots t 9)) (hstage0_9 (((cfgM m h).slots t 9).cast nbuf0_9)) (spec0_10.stage ((cfgM m h).slots t 10)) (hstage0_10 (((cfgM m h).slots t 10).cast nbuf0_10)) (spec0_11.stage ((cfgM m h).slots t 11)) (hstage0_11 (((cfgM m h).slots t 11).cast nbuf0_11)) (spec0_12.stage ((cfgM m h).slots t 12)) (hstage0_12 (((cfgM m h).slots t 12).cast nbuf0_12)) (Memref.whole cc0_scratch0) (Memref.isWhole_whole _) (Memref.whole cc0_scratch1) (Memref.isWhole_whole _)

/-- A memref owned at contents is owned at equal contents. -/
theorem owns_at (c : Dev nD) {sh : Shape} {e : EltTy} (M : Memref sig .tc .vmem sh e) {X Y : Vec F sh e} (h : X = Y) :
    owns (c : Thread nD τ) M fullShare X ⊢ (owns (c : Thread nD τ) M fullShare Y : sProp (MT nD τ sig Unit (Elt F) ℕ (UR sig nD τ) ℕ)) := by
  subst h; exact .rfl

/-- Two conditionals that differ only where the condition fails. -/
theorem else_congr {α : Type} {P : Prop} [Decidable P] {x y y' : α} (h : ¬ P → y = y') : (if P then x else y) = if P then x else y' := by
  by_cases e : P
  · rw [if_pos e, if_pos e]
  · rw [if_neg e, if_neg e, h e]

/-- Where some step stores the prompt's output, what it held before does not matter. -/
theorem tileOut_any {v4 : BitVec 32} (h : Stored v4) (v0 : BitVec 32) (A : Vec F S1024x1024 .bf16) (Gt R : Vec F S8x1024 .f32) (B : Vec F S1024x1024 .f32)
    (G U : Vec F S1x1024x3584 .bf16) (D : Vec F S1x3584x1024 .bf16) (O O' : Vec F S1024x1024 .f32) :
    tileOut v0 v4 A Gt R B G U D O = tileOut v0 v4 A Gt R B G U D O' := by
  unfold tileOut fewOut
  refine else_congr fun h11 => else_congr fun h10 => else_congr fun h9 => else_congr fun h8 => else_congr fun h7 => else_congr fun h6 =>
    else_congr fun h5 => else_congr fun h4 => else_congr fun h3 => else_congr fun h2 => else_congr fun h1 => ?_
  rcases h with e | e | e | e | e | e | e | e | e | e | e
  · exact absurd e h1
  · exact absurd e h2
  · exact absurd e h3
  · exact absurd e h4
  · exact absurd e h5
  · exact absurd e h6
  · exact absurd e h7
  · exact absurd e h8
  · exact absurd e h9
  · exact absurd e h10
  · exact absurd e h11

/-- The same of the sample's output. -/
theorem sampleOut_any {v82 : BitVec 32} (h : k0_cond13 v82 = 1#1 ∨ k0_cond14 v82 = 1#1) (v0 : BitVec 32) (A : Vec F S32x1024 .bf16) (Gt R : Vec F S8x32 .f32) (B : Vec F S32x1024 .f32)
    (G U : Vec F S1x1024x3584 .bf16) (D : Vec F S1x3584x1024 .bf16) (O O' : Vec F S32x1024 .f32) :
    sampleOut v0 v82 A Gt R B G U D O = sampleOut v0 v82 A Gt R B G U D O' := by
  unfold sampleOut
  split_ifs with h14 h13
  · rfl
  · rfl
  · exact absurd h (by simp [h13, h14])

/-- The last point is the one where the sample's output is stored and written back. -/
theorem noFlush (h : Ready (tbl m)) : ∀ t : Fin (cfgM m h).N, ¬ k0_cond12 (grid0.coords t) = 1#1 → ((cfgM m h).win 12).flush t = false :=
  (by decide +kernel : ∀ t : Fin grid0.N, ¬ k0_cond12 (grid0.coords t) = 1#1 → Pipeline.Window.flushOf grid0 true cc0_transform_12 t = false)

/-- What the body is called with at a point, -/
def bodyPre (h : Ready (tbl m)) (c : Dev nD) (t : Fin (cfgM m h).N) : sProp (MT nD τ sig Unit (Elt F) ℕ (UR sig nD τ) ℕ) :=
  iprop((dats m h 0 c).Φ t.castSucc ∗ (dats m h 0 c).owesAt () t.castSucc
    ∗ (∃ d, owns (c : Thread nD τ) (ms0 m h t) fullShare ((dats m h 0 c).before 0 t d))
    ∗ (∃ d, owns (c : Thread nD τ) (ms1 m h t) fullShare ((dats m h 0 c).before 1 t d))
    ∗ (∃ d, owns (c : Thread nD τ) (ms2 m h t) fullShare ((dats m h 0 c).before 2 t d))
    ∗ (∃ d, owns (c : Thread nD τ) (ms3 m h t) fullShare ((dats m h 0 c).before 3 t d))
    ∗ (∃ d, owns (c : Thread nD τ) (ms4 m h t) fullShare ((dats m h 0 c).before 4 t d))
    ∗ (∃ d, owns (c : Thread nD τ) (ms5 m h t) fullShare ((dats m h 0 c).before 5 t d))
    ∗ (∃ d, owns (c : Thread nD τ) (ms6 m h t) fullShare ((dats m h 0 c).before 6 t d))
    ∗ (∃ d, owns (c : Thread nD τ) (ms7 m h t) fullShare ((dats m h 0 c).before 7 t d))
    ∗ (∃ d, owns (c : Thread nD τ) (ms8 m h t) fullShare ((dats m h 0 c).before 8 t d))
    ∗ (∃ d, owns (c : Thread nD τ) (ms9 m h t) fullShare ((dats m h 0 c).before 9 t d))
    ∗ (∃ d, owns (c : Thread nD τ) (ms10 m h t) fullShare ((dats m h 0 c).before 10 t d))
    ∗ (∃ d, owns (c : Thread nD τ) (ms11 m h t) fullShare ((dats m h 0 c).before 11 t d))
    ∗ (∃ d, owns (c : Thread nD τ) (ms12 m h t) fullShare ((dats m h 0 c).before 12 t d)))

/-- and what it returns. -/
def bodyPost (h : Ready (tbl m)) (c : Dev nD) (t : Fin (cfgM m h).N) : sProp (MT nD τ sig Unit (Elt F) ℕ (UR sig nD τ) ℕ) :=
  iprop((dats m h 0 c).Φ t.succ ∗ (dats m h 0 c).owesAt () t.succ
    ∗ (dats m h 0 c).leavesExact 0 t
    ∗ (dats m h 0 c).leavesExact 1 t
    ∗ (dats m h 0 c).leavesExact 2 t
    ∗ (dats m h 0 c).leavesExact 3 t
    ∗ (dats m h 0 c).leavesExact 4 t
    ∗ (dats m h 0 c).leavesExact 5 t
    ∗ (dats m h 0 c).leavesExact 6 t
    ∗ (dats m h 0 c).leavesExact 7 t
    ∗ (dats m h 0 c).leavesExact 8 t
    ∗ (dats m h 0 c).leavesExact 9 t
    ∗ (dats m h 0 c).leavesExact 10 t
    ∗ (dats m h 0 c).leavesExact 11 t
    ∗ (dats m h 0 c).leavesExact 12 t)

/-- What an input's buffer, or the prompt's output's, must hold when the body returns. -/
theorem leaves_0 (h : Ready (tbl m)) (c : Dev nD) (t : Fin (cfgM m h).N) :
    (dats m h 0 c).leavesExact 0 t = owns (c : Thread nD τ) (ms0 m h t) fullShare (iblk m h c 0 t) := rfl
theorem leaves_1 (h : Ready (tbl m)) (c : Dev nD) (t : Fin (cfgM m h).N) :
    (dats m h 0 c).leavesExact 1 t = owns (c : Thread nD τ) (ms1 m h t) fullShare (iblk m h c 1 t) := rfl
theorem leaves_2 (h : Ready (tbl m)) (c : Dev nD) (t : Fin (cfgM m h).N) :
    (dats m h 0 c).leavesExact 2 t = owns (c : Thread nD τ) (ms2 m h t) fullShare (iblk m h c 2 t) := rfl
theorem leaves_3 (h : Ready (tbl m)) (c : Dev nD) (t : Fin (cfgM m h).N) :
    (dats m h 0 c).leavesExact 3 t = owns (c : Thread nD τ) (ms3 m h t) fullShare (iblk m h c 3 t) := rfl
theorem leaves_4 (h : Ready (tbl m)) (c : Dev nD) (t : Fin (cfgM m h).N) :
    (dats m h 0 c).leavesExact 4 t = owns (c : Thread nD τ) (ms4 m h t) fullShare (iblk m h c 4 t) := rfl
theorem leaves_5 (h : Ready (tbl m)) (c : Dev nD) (t : Fin (cfgM m h).N) :
    (dats m h 0 c).leavesExact 5 t = owns (c : Thread nD τ) (ms5 m h t) fullShare (iblk m h c 5 t) := rfl
theorem leaves_6 (h : Ready (tbl m)) (c : Dev nD) (t : Fin (cfgM m h).N) :
    (dats m h 0 c).leavesExact 6 t = owns (c : Thread nD τ) (ms6 m h t) fullShare (iblk m h c 6 t) := rfl
theorem leaves_7 (h : Ready (tbl m)) (c : Dev nD) (t : Fin (cfgM m h).N) :
    (dats m h 0 c).leavesExact 7 t = owns (c : Thread nD τ) (ms7 m h t) fullShare (iblk m h c 7 t) := rfl
theorem leaves_8 (h : Ready (tbl m)) (c : Dev nD) (t : Fin (cfgM m h).N) :
    (dats m h 0 c).leavesExact 8 t = owns (c : Thread nD τ) (ms8 m h t) fullShare (iblk m h c 8 t) := rfl
theorem leaves_9 (h : Ready (tbl m)) (c : Dev nD) (t : Fin (cfgM m h).N) :
    (dats m h 0 c).leavesExact 9 t = owns (c : Thread nD τ) (ms9 m h t) fullShare (iblk m h c 9 t) := rfl
theorem leaves_10 (h : Ready (tbl m)) (c : Dev nD) (t : Fin (cfgM m h).N) :
    (dats m h 0 c).leavesExact 10 t = owns (c : Thread nD τ) (ms10 m h t) fullShare (iblk m h c 10 t) := rfl
theorem leaves_11 (h : Ready (tbl m)) (c : Dev nD) (t : Fin (cfgM m h).N) :
    (dats m h 0 c).leavesExact 11 t = owns (c : Thread nD τ) (ms11 m h t) fullShare (tileV m h c t) := by
  unfold Dat.leavesExact
  rw [show (cfgM m h).idle 11 ((cfgM m h).grid.coords t) = false from live_tile h (grid0.coords t)]
  rfl
theorem leaves_12 (h : Ready (tbl m)) (c : Dev nD) (t : Fin (cfgM m h).N) (ht : k0_cond12 (grid0.coords t) = 1#1) :
    (dats m h 0 c).leavesExact 12 t = owns (c : Thread nD τ) (ms12 m h t) fullShare (sampleV m h c t) := by
  unfold Dat.leavesExact
  rw [show (cfgM m h).idle 12 ((cfgM m h).grid.coords t) = false from live_sample h (grid0.coords t) ht]
  rfl

set_option maxHeartbeats 2400000 in
/-- The body's triple at a point, in the pipeline's terms. -/
theorem sound_body (h : Ready (tbl m)) (c : Dev nD) (t : Fin (cfgM m h).N) :
    bodyPre m h c t ⊢ wp frame (wpE (defs₀ (F := F)) Variants.none c none) Set.univ (bodyAt m h t) (fun _ => bodyPost m h c t) := by
  unfold bodyPre bodyPost bodyAt
  simp only [before_0, before_1, before_2, before_3, before_4, before_5, before_6, before_7, before_8, before_9, before_10]
  rw [show (dats m h 0 c).Φ t.succ = (dats m h 0 c).Φ t.castSucc from rfl,
    show (dats m h 0 c).owesAt () t.succ = (dats m h 0 c).owesAt () t.castSucc from rfl]
  rw [show (dats m h 0 c).Φ t.castSucc = iprop(Pipeline.ΦA spec0 c ∗ Pipeline.ΦT pre0 (tbl m) c) from rfl, PhiT_eq, PhiA_eq]
  rw [leaves_0, leaves_1, leaves_2, leaves_3, leaves_4, leaves_5, leaves_6, leaves_7, leaves_8, leaves_9, leaves_10, leaves_11]
  iintro ⟨⟨⟨HS, Hg⟩, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (parts_wp Variants.none c none Set.univ (grid0.coords t) _ _ _ _ _ _ _ _ _ _ _ _ _ _ _ _ _ _ _ _ _ _ _ _ _ _ _ _ _ _ _ _ _ _ _ _ fullShare.right fullShare.right fullShare.right
    (tbl m 0) (tbl m 1) (tbl m 2) (iblk m h c 0 t) (iblk m h c 1 t) (iblk m h c 2 t) (iblk m h c 3 t) (iblk m h c 4 t) (iblk m h c 5 t) (iblk m h c 6 t)
    ((dats m h 0 c).before 11 t d11) (iblk m h c 7 t) (iblk m h c 8 t) (iblk m h c 9 t) (iblk m h c 10 t) ((dats m h 0 c).before 12 t d12) (fit_of_ready h (grid0.coords t)))
    $$ [HT0 HT1 HT2 H0 H1 H2 H3 H4 H5 H6 H7 H8 H9 H10 H11 H12 HS]
  · isplitl [HT0]; · iexact HT0
    isplitl [HT1]; · iexact HT1
    isplitl [HT2]; · iexact HT2
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HS
  iintro ⟨HT0, HT1, HT2, H0, H1, H2, H3, H4, H5, H6, H7, H8, H9, H10, H11, H12, HS⟩
  isplitl [HS Hg HT0 HT1 HT2]
  · isplitl [HS Hg]
    · isplitl [HS]
      · iexact HS
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iapply (owns_at c (ms11 m h t) (tileOut_any (word_of_all stored_all (Nat.lt_succ_of_le (h.cnt (grid0.coords t)))) _ _ _ _ _ _ _ _ _ (iblk m h c 6 t)))
    iexact H11
  by_cases ht : k0_cond12 (grid0.coords t) = 1#1
  · rw [leaves_12 m h c t ht]
    iapply (owns_at c (ms12 m h t) ((if_pos ht).trans (sampleOut_any (word_of_all sizedS_all (Nat.lt_succ_of_le h.cnts)).1 _ _ _ _ _ _ _ _ _ (iblk m h c 10 t))))
    iexact H12
  · rw [Dat.leavesExact_idle (dats m h 0 c) 12 t (idle_sample (tbl m) (grid0.coords t) ht) (noFlush m h t ht)]
    iexists d12
    iapply (owns_at c (ms12 m h t) (if_neg ht))
    iexact H12

/-- The body table's row at a point is the body there. -/
theorem defs₀_row (h : Ready (tbl m)) (t : Fin (cfgM m h).N) :
    defs₀ (F := F) .tc (cfgM m h).body ((cfgM m h).bodyArgs t ((cfgM m h).slots t)) = bodyAt m h t := by
  unfold defs₀; rw [Defs.onTc_tc]

/-- The pipeline's obligation of the body. -/
theorem body_obligation (h : Ready (tbl m)) (c : Dev nD) : BodyObligation (dats (F := F) m h 0 c) (defs₀ (F := F)) Variants.none () Set.univ := fun t => by
  rw [bigSep_W0, bigSep_W0, defs₀_row m h]
  exact triple_restated (sound_body m h c t) rfl .rfl fun _ => .rfl

set_option backward.isDefEq.respectTransparency.types false in
/-- The program runs to the end: the arrays at what the proof data say, the other buffers as the region found them, and no
    semaphore counting. -/
theorem run_main (h : Ready (tbl m)) : θ_run defs (onTc (τ := τ) (main (F := F))) (s₀ m ρ) (fun r => (Pipeline.FramePost (Pipeline.pin pcfgs fun _ => adm m h) (dats m h) 0 (V m)) r ∧ r.2.sem = fun _ => 0) :=
  Pipeline.θ_run_frameP (Q' := _) pcfgs (fun _ => adm m h) (dats m h) (0 : Fin 1) launch0 defs₀ Variants.none m ρ main
    (hbody := fun c => (body_obligation m h c).loose) (hshare := fun c => (dats m h 0 c).share_full fun _ => rfl)
    (howed := fun _ _ => rfl) (V := V m) (hmain := hmain m Variants.none) (hA := A_eq m h) (hpf := V_pre m)
    (hΦ := fun _ _ => rfl)

/-- What the claims ask of every final state: the arguments as they were. -/
def Kept (m m' : (ℓ : Loc nD τ sig) → Buf (Elt F) ℓ) : Prop := ∀ c : Dev nD,
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)
    ∧ m' ((c.tc : Thread nD τ).loc main_arg7) = m ((c.tc : Thread nD τ).loc main_arg7)
    ∧ m' ((c.tc : Thread nD τ).loc main_arg8) = m ((c.tc : Thread nD τ).loc main_arg8)
    ∧ m' ((c.tc : Thread nD τ).loc main_arg9) = m ((c.tc : Thread nD τ).loc main_arg9)
    ∧ m' ((c.tc : Thread nD τ).loc main_arg10) = m ((c.tc : Thread nD τ).loc main_arg10)
    ∧ m' ((c.tc : Thread nD τ).loc main_arg11) = m ((c.tc : Thread nD τ).loc main_arg11)
    ∧ m' ((c.tc : Thread nD τ).loc main_arg12) = m ((c.tc : Thread nD τ).loc main_arg12)
    ∧ m' ((c.tc : Thread nD τ).loc main_arg13) = m ((c.tc : Thread nD τ).loc main_arg13)

/-- The region leaves the arguments as they were. -/
theorem kept {r : PUnit × MemSt nD τ sig (Elt F)} (h : Ready (tbl m)) (e : Pipeline.FramePost (Pipeline.pin pcfgs fun _ => adm m h) (dats m h) 0 (V m) r) :
    Kept m r.2.mem := fun c =>
    have e := e c
    ⟨(e.2 main_arg0 (by decide : main_arg0 ∈ Pipeline.restRefs sig spec0)).trans (V_kept m c main_arg0 (by decide) (by decide)),
    (e.2 main_arg1 (by decide : main_arg1 ∈ Pipeline.restRefs sig spec0)).trans (V_kept m c main_arg1 (by decide) (by decide)),
    (e.2 main_arg2 (by decide : main_arg2 ∈ Pipeline.restRefs sig spec0)).trans (V_kept m c main_arg2 (by decide) (by decide)),
    (e.1 0).trans (((dats m h 0 c).arrAt_in 0 rfl _).trans ((A_eq m h c 0).trans (V_kept m c main_arg3 (by decide) (by decide)))),
    (e.1 1).trans (((dats m h 0 c).arrAt_in 1 rfl _).trans ((A_eq m h c 1).trans (V_kept m c main_arg4 (by decide) (by decide)))),
    (e.1 2).trans (((dats m h 0 c).arrAt_in 2 rfl _).trans ((A_eq m h c 2).trans (V_kept m c main_arg5 (by decide) (by decide)))),
    (e.1 3).trans (((dats m h 0 c).arrAt_in 3 rfl _).trans ((A_eq m h c 3).trans (V_kept m c main_arg6 (by decide) (by decide)))),
    (e.1 4).trans (((dats m h 0 c).arrAt_in 4 rfl _).trans ((A_eq m h c 4).trans (V_kept m c main_arg7 (by decide) (by decide)))),
    (e.1 5).trans (((dats m h 0 c).arrAt_in 5 rfl _).trans ((A_eq m h c 5).trans (V_kept m c main_arg8 (by decide) (by decide)))),
    (e.1 6).trans (((dats m h 0 c).arrAt_in 6 rfl _).trans ((A_eq m h c 6).trans (V_kept m c main_arg9 (by decide) (by decide)))),
    (e.1 7).trans (((dats m h 0 c).arrAt_in 7 rfl _).trans ((A_eq m h c 7).trans (V_kept m c main_arg10 (by decide) (by decide)))),
    (e.1 8).trans (((dats m h 0 c).arrAt_in 8 rfl _).trans ((A_eq m h c 8).trans (V_kept m c main_arg11 (by decide) (by decide)))),
    (e.1 9).trans (((dats m h 0 c).arrAt_in 9 rfl _).trans ((A_eq m h c 9).trans (V_kept m c main_arg12 (by decide) (by decide)))),
    (e.1 10).trans (((dats m h 0 c).arrAt_in 10 rfl _).trans ((A_eq m h c 10).trans (V_kept m c main_arg13 (by decide) (by decide))))⟩

/-- The frame: the program ends, keeps its arguments, and leaves no semaphore counting. -/
theorem frame (h : Ready (tbl m)) : θ_run defs (onTc (τ := τ) (main (F := F))) ⟨m, fun _ => 0, ρ⟩ (fun r => Kept m r.2.mem ∧ r.2.sem = fun _ => 0) :=
  (θ_run defs _ _).mono (fun _ e => ⟨kept m h e.1, e.2⟩) (run_main m ρ h)

end Cert.KernelIdeal.Moe

end
-- ==== Proof.Moe.Frames.lean ====
/-
  The frames: both programs run to the end from a memory the precondition holds of and keep their arguments, and so does
  the reference from any memory.
-/
module

public import proofs.«01_k».proof.Defs
public import proofs.«01_k».proof.Proof.Gen.Kernel
public import proofs.«01_k».proof.Proof.Moe.Twin
public import proofs.«01_k».proof.Proof.Moe.RefEnd
public import proofs.«01_k».proof.Proof.Moe.Entry
public import proofs.«01_k».proof.Proof.Moe.Frame

@[expose] public section

set_option maxRecDepth 16384

noncomputable section

namespace Cert.KernelIdeal.Moe

open Idealize.ShloMosaic Idealize.ShloMosaic.TcCoe Idealize.SL.Sem

attribute [local instance] Cert.Kernel.Gen.facts Cert.KernelIdeal.Gen.facts Cert.ReferenceIdeal.Gen.facts Cert.Pre_routed.Gen.facts

/-- The idealized program's frame. -/
theorem frame_ideal : Cert.quiescent_KernelIdeal := fun m g h => frame m g (ready m (h 0))

set_option maxHeartbeats 4000000 in
/-- The kernel's own frame: it is the idealized program's text read at the machine's floats. -/
theorem frame_bits : Cert.quiescent_Kernel := fun m g h => by
  have e := frame (F := Bits) m g (ready m (h 0))
  rw [Cert.Moe.defs_eq, Cert.Moe.main_eq]
  exact e

/-- The reference's frame, whatever its arguments. -/
theorem frame_reference : Cert.quiescent_ReferenceIdeal := fun m g _ =>
  (θ_run _ _ _).mono (fun _ e => e.2.2) (Cert.ReferenceIdeal.Moe.run m g)

/-- And so where the precondition holds. -/
theorem frame_reference_pre : Cert.quiescent_ReferenceIdeal_pre_routed := fun m g _ =>
  (θ_run _ _ _).mono (fun _ e => e.2.2) (Cert.ReferenceIdeal.Moe.run m g)

end Cert.KernelIdeal.Moe

end
-- ==== Proof.Moe.Blocks.lean ====
/-
  The windows' blocks at coordinates: what each input's block holds of its array at a grid point, and where an output's
  block lies in its array.
-/
module

public import proofs.«01_k».proof.Proof.Moe.Frame
public import Idealize.ShloMosaic.Lib.Pipeline.ValueKit

@[expose] public section

set_option maxRecDepth 16384

noncomputable section

namespace Cert.KernelIdeal.Moe

open Idealize.ShloMosaic Idealize.ShloMosaic.TcCoe
open Idealize.ShloMosaic.Pipeline (Dat Cfg Window)
open Cert.KernelIdeal Cert.KernelIdeal.Gen Cert.Moe

variable {F : FTy → Type} [FloatOps F]
variable (m : (ℓ : Loc nD τ sig) → Buf (Elt F) ℓ)

/-- A grid point's coordinate is its number. -/
theorem coord_val : ∀ t : Fin grid0.N, (grid0.coords t 0).val = t.val := by decide +kernel

theorem point_lt (t : Fin grid0.N) : t.val < 16 := lt_of_lt_of_eq t.isLt N_0

/-- Token `p` of tile `t`, among the prompt's tokens. -/
def tok (t : Fin grid0.N) (p : Fin 1024) : Fin 16384 := ⟨t.val * 1024 + p.val, by have := point_lt t; omega⟩

/-- The expert's number, as an index. -/
def ex (h : Ready (tbl m)) : Fin 8 := ⟨(eidOf (F := F) (tbl m 0)).toNat, h.eid⟩

theorem coord_word (t : Fin grid0.N) : (BitVec.ofNat 32 (grid0.coords t 0).val).toNat = t.val := by
  have := point_lt t
  rw [coord_val, BitVec.toNat_ofNat]
  omega

/-- The expert's number as the index maps of the weights read it. -/
theorem eid_word (inb : ∀ a, (![0] : Fin 1 → Nat) a + S1.size a ≤ S1.size a) (n1 : S1.numel = 1) :
    (tbl m).at 0 (Rect.unit (s := S1) ![0] S1.size inb) n1 = eidOf (F := F) (tbl m 0) :=
  congrArg (tbl m 0) (funext fun a => Fin.ext (by obtain rfl : a = (0 : Fin 1) := Subsingleton.elim (α := Fin 1) a 0; rfl))

variable (h : Ready (tbl m)) (c : Dev nD) (t : Fin grid0.N)

/-- Window 0: the tile's rows of the normalised tokens. -/
theorem read_0 (p i : Fin 1024) : iblk m h c 0 t (ValueIdx.ix2 p i) = m ((c : Thread nD τ).loc main_arg3) (ValueIdx.ix2 (tok t p) i) := by
  refine (congrFun (V_kept m c main_arg3 (by decide) (by decide)) _).trans
    (congrArg (m ((c : Thread nD τ).loc main_arg3)) (funext fun a => Fin.ext ?_))
  refine (((cfgM m h).win 0).rect_emb_val t (ValueIdx.ix2 p i) a).trans ?_
  match a with
  | ⟨0, _⟩ => exact congrArg (fun k => k * 1024 + p.val) (coord_word t)
  | ⟨1, _⟩ => exact Nat.zero_add _

/-- Window 6: the tile's rows of the residual. -/
theorem read_6 (p i : Fin 1024) : iblk m h c 6 t (ValueIdx.ix2 p i) = m ((c : Thread nD τ).loc main_arg9) (ValueIdx.ix2 (tok t p) i) := by
  refine (congrFun (V_kept m c main_arg9 (by decide) (by decide)) _).trans
    (congrArg (m ((c : Thread nD τ).loc main_arg9)) (funext fun a => Fin.ext ?_))
  refine (((cfgM m h).win 6).rect_emb_val t (ValueIdx.ix2 p i) a).trans ?_
  match a with
  | ⟨0, _⟩ => exact congrArg (fun k => k * 1024 + p.val) (coord_word t)
  | ⟨1, _⟩ => exact Nat.zero_add _

/-- Window 1: the tile's columns of the gates. -/
theorem read_1 (a : Fin 8) (p : Fin 1024) : iblk m h c 1 t (ValueIdx.ix2 a p) = m ((c : Thread nD τ).loc main_arg4) (ValueIdx.ix2 a (tok t p)) := by
  refine (congrFun (V_kept m c main_arg4 (by decide) (by decide)) _).trans
    (congrArg (m ((c : Thread nD τ).loc main_arg4)) (funext fun b => Fin.ext ?_))
  refine (((cfgM m h).win 1).rect_emb_val t (ValueIdx.ix2 a p) b).trans ?_
  match b with
  | ⟨0, _⟩ => exact Nat.zero_add _
  | ⟨1, _⟩ => exact congrArg (fun k => k * 1024 + p.val) (coord_word t)

/-- Window 2: the tile's columns of the ranks. -/
theorem read_2 (a : Fin 8) (p : Fin 1024) : iblk m h c 2 t (ValueIdx.ix2 a p) = m ((c : Thread nD τ).loc main_arg5) (ValueIdx.ix2 a (tok t p)) := by
  refine (congrFun (V_kept m c main_arg5 (by decide) (by decide)) _).trans
    (congrArg (m ((c : Thread nD τ).loc main_arg5)) (funext fun b => Fin.ext ?_))
  refine (((cfgM m h).win 2).rect_emb_val t (ValueIdx.ix2 a p) b).trans ?_
  match b with
  | ⟨0, _⟩ => exact Nat.zero_add _
  | ⟨1, _⟩ => exact congrArg (fun k => k * 1024 + p.val) (coord_word t)

/-- Windows 3, 4 and 5: the expert's three weights. -/
theorem read_3 (i : Fin 1024) (f : Fin 3584) : iblk m h c 3 t (ValueIdx.ix3 0 i f) = m ((c : Thread nD τ).loc main_arg6) (ValueIdx.ix3 (ex m h) i f) := by
  refine (congrFun (V_kept m c main_arg6 (by decide) (by decide)) _).trans
    (congrArg (m ((c : Thread nD τ).loc main_arg6)) (funext fun b => Fin.ext ?_))
  refine (((cfgM m h).win 3).rect_emb_val t (ValueIdx.ix3 0 i f) b).trans ?_
  match b with
  | ⟨0, _⟩ => exact (congrArg (fun w : BitVec 32 => w.toNat * 1 + 0) (eid_word m _ _)).trans (Nat.mul_one _)
  | ⟨1, _⟩ => exact Nat.zero_add _
  | ⟨2, _⟩ => exact Nat.zero_add _
theorem read_4 (i : Fin 1024) (f : Fin 3584) : iblk m h c 4 t (ValueIdx.ix3 0 i f) = m ((c : Thread nD τ).loc main_arg7) (ValueIdx.ix3 (ex m h) i f) := by
  refine (congrFun (V_kept m c main_arg7 (by decide) (by decide)) _).trans
    (congrArg (m ((c : Thread nD τ).loc main_arg7)) (funext fun b => Fin.ext ?_))
  refine (((cfgM m h).win 4).rect_emb_val t (ValueIdx.ix3 0 i f) b).trans ?_
  match b with
  | ⟨0, _⟩ => exact (congrArg (fun w : BitVec 32 => w.toNat * 1 + 0) (eid_word m _ _)).trans (Nat.mul_one _)
  | ⟨1, _⟩ => exact Nat.zero_add _
  | ⟨2, _⟩ => exact Nat.zero_add _
theorem read_5 (f : Fin 3584) (i : Fin 1024) : iblk m h c 5 t (ValueIdx.ix3 0 f i) = m ((c : Thread nD τ).loc main_arg8) (ValueIdx.ix3 (ex m h) f i) := by
  refine (congrFun (V_kept m c main_arg8 (by decide) (by decide)) _).trans
    (congrArg (m ((c : Thread nD τ).loc main_arg8)) (funext fun b => Fin.ext ?_))
  refine (((cfgM m h).win 5).rect_emb_val t (ValueIdx.ix3 0 f i) b).trans ?_
  match b with
  | ⟨0, _⟩ => exact (congrArg (fun w : BitVec 32 => w.toNat * 1 + 0) (eid_word m _ _)).trans (Nat.mul_one _)
  | ⟨1, _⟩ => exact Nat.zero_add _
  | ⟨2, _⟩ => exact Nat.zero_add _

/-- Windows 7 to 10: the sample's arrays whole. -/
theorem read_7 : iblk m h c 7 t = m ((c : Thread nD τ).loc main_arg10) := by
  refine funext fun y => (congrFun (V_kept m c main_arg10 (by decide) (by decide)) _).trans
    (congrArg (m ((c : Thread nD τ).loc main_arg10)) (funext fun b => Fin.ext ?_))
  refine (((cfgM m h).win 7).rect_emb_val t y b).trans ?_
  match b with
  | ⟨0, _⟩ => exact Nat.zero_add _
  | ⟨1, _⟩ => exact Nat.zero_add _
theorem read_8 : iblk m h c 8 t = m ((c : Thread nD τ).loc main_arg11) := by
  refine funext fun y => (congrFun (V_kept m c main_arg11 (by decide) (by decide)) _).trans
    (congrArg (m ((c : Thread nD τ).loc main_arg11)) (funext fun b => Fin.ext ?_))
  refine (((cfgM m h).win 8).rect_emb_val t y b).trans ?_
  match b with
  | ⟨0, _⟩ => exact Nat.zero_add _
  | ⟨1, _⟩ => exact Nat.zero_add _
theorem read_9 : iblk m h c 9 t = m ((c : Thread nD τ).loc main_arg12) := by
  refine funext fun y => (congrFun (V_kept m c main_arg12 (by decide) (by decide)) _).trans
    (congrArg (m ((c : Thread nD τ).loc main_arg12)) (funext fun b => Fin.ext ?_))
  refine (((cfgM m h).win 9).rect_emb_val t y b).trans ?_
  match b with
  | ⟨0, _⟩ => exact Nat.zero_add _
  | ⟨1, _⟩ => exact Nat.zero_add _
theorem read_10 : iblk m h c 10 t = m ((c : Thread nD τ).loc main_arg13) := by
  refine funext fun y => (congrFun (V_kept m c main_arg13 (by decide) (by decide)) _).trans
    (congrArg (m ((c : Thread nD τ).loc main_arg13)) (funext fun b => Fin.ext ?_))
  refine (((cfgM m h).win 10).rect_emb_val t y b).trans ?_
  match b with
  | ⟨0, _⟩ => exact Nat.zero_add _
  | ⟨1, _⟩ => exact Nat.zero_add _

end Cert.KernelIdeal.Moe

end
-- ==== Proof.Moe.Gather.lean ====
/-
  One group over the extended reals: the one-hot products gather a member's row and scatter its result exactly, so the group
  adds to each member's token its gate times the feed-forward of its row, and nothing elsewhere.
-/
module

public import proofs.«01_k».proof.Proof.Moe.Run
public import Idealize.ShloMosaic.Lib.MatmulPlain
public import Idealize.ShloMosaic.Lib.ValueIdx
public import Idealize.ShloMosaic.Lib.Pipeline.Value
public import Idealize.ShloMosaic.Lib.IdealHost
public import Idealize.ShloMosaic.Lib.Pointwise.Reshape

@[expose] public section

set_option maxRecDepth 16384

noncomputable section

namespace Cert.KernelIdeal.Moe

open Idealize.ShloMosaic Idealize.ShloMosaic.TcCoe
open Cert.KernelIdeal Cert.KernelIdeal.Gen Cert.Moe

variable {n k T : ℕ} (g : Geo n k T)

/-- A slot word as a real: no wrap below 2³¹. -/
theorem slot_real {b : BitVec 32} {r m : ℕ} (hr : r < m) (hb : b.toNat + m ≤ 2 ^ 31) :
    (FloatOps.sitofp (F := Ideal) .f32 (BitVec.ofNat 32 r + b) : EReal) = ((b.toNat + r : ℕ) : EReal) := by
  have e : (BitVec.ofNat 32 r + b).toNat = b.toNat + r := by
    rw [BitVec.toNat_add, BitVec.toNat_ofNat]; omega
  show (((BitVec.ofNat 32 r + b).toInt : ℝ) : EReal) = _
  rw [BitVec.toInt_eq_toNat_of_lt (by omega), e]
  norm_cast

/-- The one-hot bit of slot `r` and token `t`. -/
theorem hit_apply {m : ℕ} (hi : (mat m T).Iotas .tc 32 [0]) (hb : (mat 1 T).Broadcasts (mat m T)) (b : BitVec 32)
    (rank : Vec Ideal (mat 1 T) .f32) (hm : b.toNat + m ≤ 2 ^ 31) (r : Fin m) (t : Fin T) :
    hit hi hb b rank (ValueIdx.ix2 r t)
      = BitVec.ofBool (decide (((b.toNat + r.val : ℕ) : EReal) = rank (ValueIdx.ix2 0 t))) := by
  have e : broadcastTo (mat m T) rank hb (ValueIdx.ix2 r t) = rank (ValueIdx.ix2 0 t) := by
    refine broadcastTo_apply rank hb (ValueIdx.ix2 r t) (ValueIdx.ix2 0 t) fun a => ?_
    match a with
    | 0 => rfl
    | 1 =>
      show (t : ℕ) = if T = 1 then 0 else t.val
      split_ifs with h
      · have := t.isLt; omega
      · rfl
  show BitVec.ofBool (decide ((FloatOps.sitofp (F := Ideal) .f32 (BitVec.ofNat 32 (0 * m + r.val) + b) : EReal)
    = broadcastTo (mat m T) rank hb (ValueIdx.ix2 r t))) = _
  rw [e, Nat.zero_mul, Nat.zero_add, slot_real r.isLt hm]

/-- The scattering weight of slot `r` and token `t`. -/
theorem wG_apply (b : BitVec 32) (rank gate : Vec Ideal (mat 1 T) .f32) (hm : b.toNat + k ≤ 2 ^ 31) (r : Fin k) (t : Fin T) :
    wG g b rank gate (ValueIdx.ix2 r t)
      = if ((b.toNat + r.val : ℕ) : EReal) = rank (ValueIdx.ix2 0 t) then gate (ValueIdx.ix2 0 t) else 0 := by
  have e : broadcastTo (mat k T) (shapeCast (mat 1 T) gate g.castG) g.bcK (ValueIdx.ix2 r t) = gate (ValueIdx.ix2 0 t) := by
    rw [shapeCast_self]
    refine broadcastTo_apply gate g.bcK (ValueIdx.ix2 r t) (ValueIdx.ix2 0 t) fun a => ?_
    match a with
    | 0 => rfl
    | 1 =>
      show (t : ℕ) = if T = 1 then 0 else t.val
      split_ifs with h
      · have := t.isLt; omega
      · rfl
  show (if hit g.iotaK g.bcK b rank (ValueIdx.ix2 r t) = 1#1 then
      broadcastTo (mat k T) (shapeCast (mat 1 T) gate g.castG) g.bcK (ValueIdx.ix2 r t) else Ideal.ofBits .f32 0x00000000#32) = _
  rw [hit_apply g.iotaK g.bcK b rank hm r t, e, Ideal.ofBits_zero_f32]
  by_cases h : ((b.toNat + r.val : ℕ) : EReal) = rank (ValueIdx.ix2 0 t)
  · rw [decide_eq_true h, if_pos h]; rfl
  · rw [decide_eq_false h, if_neg h]; rfl

/-- The gathered row of slot `r`: the sum of the rows of the tokens at that slot. -/
theorem xcG_apply (b : BitVec 32) (rank : Vec Ideal (mat 1 T) .f32) (x : Vec Ideal (mat T 1024) .bf16)
    (hm : b.toNat + n ≤ 2 ^ 31) (r : Fin n) (c : Fin 1024) :
    xcG g b rank x (ValueIdx.ix2 r c)
      = ∑ t : Fin T, (if ((b.toNat + r.val : ℕ) : EReal) = rank (ValueIdx.ix2 0 t) then 1 else 0) * x (ValueIdx.ix2 t c) := by
  unfold xcG
  rw [shapeCast_self]
  show FloatOps.matmul (F := Ideal) (φ₂ := .bf16) (DotDims.plain n T 1024) none _ x _ (ValueIdx.ix2 r c) = _
  rw [Ideal.matmul_plain_apply]
  show Ideal.ofBits .f32 0x00000000#32 + _ = _
  rw [Ideal.ofBits_zero_f32, zero_add]
  refine Finset.sum_congr rfl fun t _ => congrArg (· * x (ValueIdx.ix2 t c)) ?_
  show (if hit g.iotaN g.bcN b rank (ValueIdx.ix2 r t) = 1#1 then Ideal.ofBits .f32 0x3F800000#32
    else Ideal.ofBits .f32 0x00000000#32) = _
  rw [hit_apply g.iotaN g.bcN b rank hm r t, Ideal.ofBits_zero_f32, Ideal.ofBits_one_f32]
  by_cases h : ((b.toNat + r.val : ℕ) : EReal) = rank (ValueIdx.ix2 0 t)
  · rw [decide_eq_true h, if_pos h]; rfl
  · rw [decide_eq_false h, if_neg h]; rfl

/-- The slot of exactly one token gathers that token's row. -/
theorem xcG_member (b : BitVec 32) (rank : Vec Ideal (mat 1 T) .f32) (x : Vec Ideal (mat T 1024) .bf16)
    (hm : b.toNat + n ≤ 2 ^ 31) (r : Fin n) (t : Fin T) (ht : ((b.toNat + r.val : ℕ) : EReal) = rank (ValueIdx.ix2 0 t))
    (inj : ∀ t', rank (ValueIdx.ix2 0 t') = rank (ValueIdx.ix2 0 t) → t' = t) (c : Fin 1024) :
    xcG g b rank x (ValueIdx.ix2 r c) = x (ValueIdx.ix2 t c) := by
  rw [xcG_apply g b rank x hm, Finset.sum_eq_single t]
  · rw [if_pos ht, one_mul]
  · intro t' _ h
    rw [if_neg fun e => h (inj t' (e.symm.trans ht)), zero_mul]
  · intro h; exact absurd (Finset.mem_univ t) h

/-- The sum that scatters: token `t` takes its gate times the accumulator's row at its slot. -/
theorem outG_apply (w : FVec Ideal (mat k T) .bf16) (base : Vec Ideal (mat T 1024) .f32) (y : Vec Ideal (mat k 1024) .f32)
    (t : Fin T) (c : Fin 1024) :
    outG g w base y (ValueIdx.ix2 t c)
      = base (ValueIdx.ix2 t c) + ∑ r : Fin k, w (ValueIdx.ix2 r t) * y (ValueIdx.ix2 r c) := by
  show base (ValueIdx.ix2 t c) + FloatOps.matmul (F := Ideal) (⟨[0], [0], [1], [1], [], [], g.dotOut⟩ :
    DotDims (mat k T) (mat k 1024) (mat T 1024)) none w y _ (ValueIdx.ix2 t c) = _
  let D : DotDims (mat k T) (mat k 1024) (mat T 1024) := ⟨[0], [0], [1], [1], [], [], g.dotOut⟩
  rw [Ideal.matmul_apply, ← Equiv.sum_comp (ValueIdx.contrEquiv1 D k rfl rfl).symm]
  refine congrArg (base (ValueIdx.ix2 t c) + ·) ?_
  show Ideal.ofBits .f32 0x00000000#32 + _ = _
  rw [Ideal.ofBits_zero_f32, zero_add]
  refine Finset.sum_congr rfl fun r _ => ?_
  have hr := ValueIdx.contrEquiv1_symm_val D k rfl rfl r
  have el : D.lhsIdx (ValueIdx.ix2 t c) ((ValueIdx.contrEquiv1 D k rfl rfl).symm r) = ValueIdx.ix2 r t := by
    funext a; apply Fin.ext
    match a with
    | ⟨0, _⟩ => exact hr
    | ⟨1, _⟩ => rfl
  have er : D.rhsIdx (ValueIdx.ix2 t c) ((ValueIdx.contrEquiv1 D k rfl rfl).symm r) = ValueIdx.ix2 r c := by
    funext a; apply Fin.ext
    match a with
    | ⟨0, _⟩ => exact hr
    | ⟨1, _⟩ => rfl
  rw [el, er]

/-! ## The feed-forward -/

/-- Hidden unit `f` of a row: the gate product through silu, times the up product. -/
def hidden (row : Fin 1024 → EReal) (G U : Vec Ideal S1x1024x3584 .bf16) (f : Fin 3584) : EReal :=
  (∑ i, row i * G (ValueIdx.ix3 0 i f)) * Ideal.logistic (∑ i, row i * G (ValueIdx.ix3 0 i f))
    * ∑ i, row i * U (ValueIdx.ix3 0 i f)

/-- The feed-forward of a row. -/
def ffn (row : Fin 1024 → EReal) (G U : Vec Ideal S1x1024x3584 .bf16) (D : Vec Ideal S1x3584x1024 .bf16) (c : Fin 1024) : EReal :=
  ∑ f : Fin 3584, hidden row G U f * D (ValueIdx.ix3 0 f c)

/-- A matrix under a unit axis, read without it. -/
theorem cast_mat {a b : ℕ} {α : Type} (x : (⟨3, ![1, a, b]⟩ : Shape).Idx → α) (h : (⟨3, ![1, a, b]⟩ : Shape).ShapeCasts (mat a b))
    (i : Fin a) (j : Fin b) : shapeCast (mat a b) x h (ValueIdx.ix2 i j) = x (ValueIdx.ix3 0 i j) := by
  refine congrArg x (Shape.reshapeEquiv_eq_of_rowMajor _ ?_)
  rw [rowMajor_val3 _ (a * b) b rfl rfl, rowMajor_val2 _ b rfl]
  show 0 * (a * b) + i.val * b + j.val = i.val * b + j.val
  omega

/-- The hidden axis is taken in seven slices. -/
theorem trips_seven : k0_t1_loop.trips = 7 := by decide

theorem off3_val : ∀ j : Fin k0_t1_loop.trips, k0_off3 j 2 = 512 * j.val := by decide
theorem off4_val : ∀ j : Fin k0_t1_loop.trips, k0_off4 j 1 = 512 * j.val := by decide

/-- A column slice's element in the whole weight. -/
theorem colChunk_apply (W : Vec Ideal S1x1024x3584 .bf16) (j : Fin k0_t1_loop.trips) (i : Fin 1024) (f : Fin 512)
    (h : 512 * j.val + f.val < 3584) : colChunk W j (ValueIdx.ix3 0 i f) = W (ValueIdx.ix3 0 i ⟨512 * j.val + f.val, h⟩) := by
  refine congrArg W (funext fun a => Fin.ext ?_)
  match a with
  | 0 => rfl
  | 1 => show 0 + 1 * i.val = i.val; omega
  | 2 => show k0_off3 j 2 + 1 * f.val = 512 * j.val + f.val; rw [off3_val]; omega

/-- A row slice's element in the whole weight. -/
theorem rowChunk_apply (W : Vec Ideal S1x3584x1024 .bf16) (j : Fin k0_t1_loop.trips) (f : Fin 512) (c : Fin 1024)
    (h : 512 * j.val + f.val < 3584) : rowChunk W j (ValueIdx.ix3 0 f c) = W (ValueIdx.ix3 0 ⟨512 * j.val + f.val, h⟩ c) := by
  refine congrArg W (funext fun a => Fin.ext ?_)
  match a with
  | 0 => rfl
  | 1 => show k0_off4 j 1 + 1 * f.val = 512 * j.val + f.val; rw [off4_val]; omega
  | 2 => show 0 + 1 * c.val = c.val; omega

/-- A plain product onto zeros, read at an index. -/
theorem prod_apply {M K N : ℕ} (w : DotDims.WF (mat M K) (mat K N) (mat M N) [1] [0] [0] [1] [] [])
    (l : FVec Ideal (mat M K) .bf16) (x : FVec Ideal (mat K N) .bf16) (r : Fin M) (c : Fin N) :
    (matmul (F := Ideal) (⟨[1], [0], [0], [1], [], [], w⟩ : DotDims (mat M K) (mat K N) (mat M N)) none l x
      (constant (mat M N) .f32 0x00000000#32)) (ValueIdx.ix2 r c)
      = ∑ i : Fin K, l (ValueIdx.ix2 r i) * x (ValueIdx.ix2 i c) := by
  refine (Ideal.matmul_plain_apply none l x (constant (mat M N) .f32 0x00000000#32) r c).trans ?_
  show Ideal.ofBits .f32 0x00000000#32 + _ = _
  rw [Ideal.ofBits_zero_f32, zero_add]

/-- A product with an `n × 1024` left factor and one slice of a weight. -/
theorem slice_apply (xc : FVec Ideal (mat n 1024) .bf16) (W : FVec Ideal S1x1024x512 .bf16) (r : Fin n) (f : Fin 512) :
    (matmul (F := Ideal) (⟨[1], [0], [0], [1], [], [], g.dotUp⟩ : DotDims (mat n 1024) (mat 1024 512) (mat n 512)) none xc
      (shapeCast S1024x512 W shapeCasts_S1x1024x512_S1024x512 : FVec Ideal S1024x512 .bf16)
      (constant (mat n 512) .f32 0x00000000#32)) (ValueIdx.ix2 r f)
      = ∑ i : Fin 1024, xc (ValueIdx.ix2 r i) * W (ValueIdx.ix3 0 i f) := by
  refine (prod_apply g.dotUp xc (shapeCast S1024x512 W shapeCasts_S1x1024x512_S1024x512) r f).trans ?_
  exact Finset.sum_congr rfl fun i _ => congrArg (xc (ValueIdx.ix2 r i) * ·) (cast_mat W _ i f)

/-- The hidden units' nonlinearity, read at an index. -/
theorem unit_apply {s : Shape} (a u : FVec Ideal s .f32) (x : s.Idx) :
    (truncf .bf16 (mulf (mulf a (logistic a)) u) bitsLt_bf16_f32 : FVec Ideal s .bf16) x = a x * Ideal.logistic (a x) * u x := rfl

/-- A sum at an index. -/
theorem add_apply {s : Shape} (a u : FVec Ideal s .f32) (x : s.Idx) : addf a u x = a x + u x := rfl

/-- One slice of the hidden axis adds its units' shares. -/
theorem tripG_apply (xc : FVec Ideal (mat n 1024) .bf16) (G U : FVec Ideal S1x1024x512 .bf16) (y : FVec Ideal (mat n 1024) .f32)
    (D : FVec Ideal S1x512x1024 .bf16) (r : Fin n) (c : Fin 1024) :
    tripG (F := Ideal) g xc G U y D (ValueIdx.ix2 r c) = y (ValueIdx.ix2 r c) + ∑ f : Fin 512,
      ((∑ i, xc (ValueIdx.ix2 r i) * G (ValueIdx.ix3 0 i f)) * Ideal.logistic (∑ i, xc (ValueIdx.ix2 r i) * G (ValueIdx.ix3 0 i f))
        * ∑ i, xc (ValueIdx.ix2 r i) * U (ValueIdx.ix3 0 i f)) * D (ValueIdx.ix3 0 f c) := by
  unfold tripG
  dsimp only
  refine (congrFun (shapeCast_self _ g.castN) (ValueIdx.ix2 r c)).trans ?_
  refine (add_apply _ _ _).trans (congrArg (y (ValueIdx.ix2 r c) + ·) ?_)
  refine (prod_apply g.dotDown _ _ r c).trans ?_
  refine Finset.sum_congr rfl fun f _ => congrArg₂ (fun p q : EReal => p * q) ?_ (cast_mat D _ f c)
  refine (unit_apply _ _ _).trans ?_
  rw [slice_apply g xc G r f, slice_apply g xc U r f]

/-- The accumulator before slice `j`: the shares of the first `512 j` hidden units. -/
theorem accG_apply (xc : Vec Ideal (mat n 1024) .bf16) (G U : Vec Ideal S1x1024x3584 .bf16) (D : Vec Ideal S1x3584x1024 .bf16)
    (r : Fin n) (c : Fin 1024) (j : ℕ) (hj : j ≤ 7) :
    accG g xc G U D j (ValueIdx.ix2 r c) = ∑ f ∈ Finset.range (512 * j),
      if h : f < 3584 then hidden (fun i => xc (ValueIdx.ix2 r i)) G U ⟨f, h⟩ * D (ValueIdx.ix3 0 ⟨f, h⟩ c) else 0 := by
  induction j with
  | zero => exact Ideal.ofBits_zero_f32
  | succ j ih =>
    have hlt : j < k0_t1_loop.trips := by rw [trips_seven]; omega
    unfold accG
    rw [dif_pos hlt, tripG_apply, ih (by omega), Nat.mul_succ, Finset.sum_range_add]
    refine congrArg (_ + ·) ?_
    rw [Finset.sum_range]
    refine Finset.sum_congr rfl fun f _ => ?_
    have hf : 512 * j + f.val < 3584 := by omega
    rw [dif_pos hf, rowChunk_apply D ⟨j, hlt⟩ f c hf]
    simp only [colChunk_apply _ ⟨j, hlt⟩ _ f hf]
    rfl

/-- A computed row is the feed-forward of the gathered row. -/
theorem rowsG_apply (b : BitVec 32) (rank : Vec Ideal (mat 1 T) .f32) (A : Vec Ideal (mat T 1024) .bf16)
    (G U : Vec Ideal S1x1024x3584 .bf16) (D : Vec Ideal S1x3584x1024 .bf16) (r : Fin k) (hr : r.val < n) (c : Fin 1024) :
    rowsG g b rank A G U D (ValueIdx.ix2 r c) = ffn (fun i => xcG g b rank A (ValueIdx.ix2 ⟨r.val, hr⟩ i)) G U D c := by
  unfold rowsG padG
  refine (dif_pos (show ((ValueIdx.ix2 r c) 0 : ℕ) < n from hr)).trans ?_
  refine (accG_apply g _ G U D ⟨r.val, hr⟩ c k0_t1_loop.trips (by rw [trips_seven])).trans ?_
  rw [trips_seven, Finset.sum_range]
  exact Finset.sum_congr rfl fun f _ => dif_pos f.isLt

/-! ## A group's step -/

section step

variable (b v0 : BitVec 32) (A : Vec Ideal (mat T 1024) .bf16) (Gt : Vec Ideal (mat 8 T) .f32) (rank : Vec Ideal (mat 1 T) .f32)
  (B : Vec Ideal (mat T 1024) .f32) (G U : Vec Ideal S1x1024x3584 .bf16) (D : Vec Ideal S1x3584x1024 .bf16)

/-- A token whose slot the group computes gets its gate times its feed-forward. -/
theorem gv_member (hm : b.toNat + k ≤ 2 ^ 31) (t : Fin T) (s : ℕ) (hs : rank (ValueIdx.ix2 0 t) = (s : EReal))
    (inj : ∀ t', rank (ValueIdx.ix2 0 t') = rank (ValueIdx.ix2 0 t) → t' = t) (h0 : b.toNat ≤ s) (h1 : s < b.toNat + n)
    (c : Fin 1024) :
    gv g b v0 A Gt rank B G U D (ValueIdx.ix2 t c)
      = B (ValueIdx.ix2 t c) + rowAt v0 Gt (ValueIdx.ix2 0 t) * ffn (fun i => A (ValueIdx.ix2 t i)) G U D c := by
  have hnk := g.nk
  have hsn : s - b.toNat < n := by omega
  have hsum : b.toNat + (s - b.toNat) = s := by omega
  unfold gv
  rw [outG_apply]
  refine congrArg (B (ValueIdx.ix2 t c) + ·) ?_
  rw [Finset.sum_eq_single (⟨s - b.toNat, by omega⟩ : Fin k)]
  · rw [wG_apply g b rank _ hm, rowsG_apply g b rank A G U D _ hsn, if_pos (by rw [hs]; exact congrArg _ hsum)]
    refine congrArg (_ * ffn · G U D c) (funext fun i => ?_)
    exact xcG_member g b rank A (by omega) ⟨s - b.toNat, hsn⟩ t (by rw [hs]; exact congrArg _ hsum) inj i
  · intro r _ hr
    rw [wG_apply g b rank _ hm, if_neg, zero_mul]
    intro e
    rw [hs] at e
    have e' : b.toNat + r.val = s := by exact_mod_cast e
    exact hr (Fin.ext (by show r.val = s - b.toNat; omega))
  · intro h; exact absurd (Finset.mem_univ _) h

/-- A token at none of the group's slots keeps its row. -/
theorem gv_other (hm : b.toNat + k ≤ 2 ^ 31) (t : Fin T)
    (h : ∀ r < k, ((b.toNat + r : ℕ) : EReal) ≠ rank (ValueIdx.ix2 0 t)) (c : Fin 1024) :
    gv g b v0 A Gt rank B G U D (ValueIdx.ix2 t c) = B (ValueIdx.ix2 t c) := by
  unfold gv
  rw [outG_apply, Finset.sum_eq_zero, add_zero]
  intro r _
  rw [wG_apply g b rank _ hm, if_neg (h r.val r.isLt), zero_mul]

end step

end Cert.KernelIdeal.Moe

end

end
-- ==== Proof.Moe.Tile.lean ====
/-
  A tile over the extended reals: whichever of its groups the kernel takes, every token of the tile ends with its gate times
  its feed-forward added to what it held.
-/
module

public import proofs.«01_k».proof.Proof.Moe.Gather
public import proofs.«01_k».proof.Proof.Moe.Words
public import proofs.«01_k».proof.Proof.Moe.Pre

@[expose] public section

set_option maxRecDepth 16384

noncomputable section

namespace Cert.KernelIdeal.Moe

open Idealize.ShloMosaic Idealize.ShloMosaic.TcCoe
open Cert.KernelIdeal Cert.KernelIdeal.Gen Cert.Moe
open Cert.Pre_routed.Moe (Served)

/-! ## Slots -/

section slots

variable {T : ℕ} {w : BitVec 32} {gate rank : Fin T → EReal} (hS : Served w gate rank)

/-- A token's slot: the number of earlier members. -/
def slotOf (rank : Fin T → EReal) (t : Fin T) : ℕ := (Finset.univ.filter fun x => x < t ∧ 0 ≤ rank x).card

include hS in
/-- A member's slot is below the count. -/
theorem slot_lt {t : Fin T} (ht : 0 ≤ rank t) : slotOf rank t < w.toNat := by
  rw [← hS.count]
  refine Finset.card_lt_card ⟨fun x hx => ?_, fun h => ?_⟩
  · exact Finset.mem_filter.2 ⟨Finset.mem_univ _, (Finset.mem_filter.1 hx).2.2⟩
  · exact lt_irrefl t (Finset.mem_filter.1 (h (Finset.mem_filter.2 ⟨Finset.mem_univ t, ht⟩))).2.1

/-- An earlier member has a smaller slot. -/
theorem slot_mono {t t' : Fin T} (h : t' < t) (ht' : 0 ≤ rank t') : slotOf rank t' < slotOf rank t := by
  refine Finset.card_lt_card ⟨fun x hx => ?_, fun q => ?_⟩
  · have := (Finset.mem_filter.1 hx).2
    exact Finset.mem_filter.2 ⟨Finset.mem_univ _, this.1.trans h, this.2⟩
  · exact lt_irrefl t' (Finset.mem_filter.1 (q (Finset.mem_filter.2 ⟨Finset.mem_univ t', h, ht'⟩))).2.1

include hS in
/-- No two members share a rank. -/
theorem slot_inj {t t' : Fin T} (ht : 0 ≤ rank t) (h : rank t' = rank t) : t' = t := by
  have ht' : 0 ≤ rank t' := h ▸ ht
  have e : slotOf rank t' = slotOf rank t := by
    have q := h
    rw [hS.slot t ht, hS.slot t' ht'] at q
    exact_mod_cast q
  rcases lt_trichotomy t' t with q | q | q
  · exact absurd e (slot_mono q ht').ne
  · exact q
  · exact absurd e (slot_mono q ht).ne'

end slots

/-! ## One group from slot 0, then many -/

section tile

variable {n k T : ℕ} (g : Geo n k T) (v0 w : BitVec 32) (A : Vec Ideal (mat T 1024) .bf16) (Gt R : Vec Ideal (mat 8 T) .f32)
  (B : Vec Ideal (mat T 1024) .f32) (G U : Vec Ideal S1x1024x3584 .bf16) (D : Vec Ideal S1x3584x1024 .bf16)

/-- The expert's row of a table of eight rows. -/
abbrev rowE (v0 : BitVec 32) (M : Vec Ideal (mat 8 T) .f32) (t : Fin T) : EReal := M (ValueIdx.ix2 ⟨min v0.toNat 7, by omega⟩ t)

/-- What a token's row should end with. -/
def plus (t : Fin T) (c : Fin 1024) : EReal :=
  B (ValueIdx.ix2 t c) + rowE v0 Gt t * ffn (fun i => A (ValueIdx.ix2 t i)) G U D c

variable (hS : Served w (rowE v0 Gt) (rowE v0 R))

include hS in
/-- A token of another expert's ends with what it held. -/
theorem plus_idle (t : Fin T) (ht : ¬ 0 ≤ rowE v0 R t) (c : Fin 1024) : plus v0 A Gt B G U D t c = B (ValueIdx.ix2 t c) := by
  unfold plus
  rw [hS.idle t ht, zero_mul, add_zero]

/-- No slot is a negative rank. -/
theorem slot_ne (b r : ℕ) {x : EReal} (hx : ¬ 0 ≤ x) : ((b + r : ℕ) : EReal) ≠ x := fun e =>
  hx (e ▸ (by exact_mod_cast Nat.zero_le (b + r)))

include hS in
/-- One group with room for all members. -/
theorem group_value (hn : w.toNat ≤ n) (t : Fin T) (c : Fin 1024) :
    gv g 0#32 v0 A Gt (rowAt v0 R) B G U D (ValueIdx.ix2 t c) = plus v0 A Gt B G U D t c := by
  have hk := g.k512
  have hm : (0#32 : BitVec 32).toNat + k ≤ 2 ^ 31 := by rw [show (0#32 : BitVec 32).toNat = 0 from rfl]; omega
  by_cases ht : 0 ≤ rowE v0 R t
  · refine gv_member g 0#32 v0 A Gt (rowAt v0 R) B G U D hm t (slotOf (rowE v0 R) t) (hS.slot t ht)
      (fun t' h => slot_inj hS ht h) (Nat.zero_le _) ?_ c
    rw [show (0#32 : BitVec 32).toNat = 0 from rfl]
    have := slot_lt hS ht
    omega
  · rw [plus_idle v0 w A Gt R B G U D hS t ht]
    exact gv_other g 0#32 v0 A Gt (rowAt v0 R) B G U D hm t (fun r _ => slot_ne _ r ht) c

end tile

section whole

variable (v0 w : BitVec 32) (A : Vec Ideal S1024x1024 .bf16) (Gt R : Vec Ideal S8x1024 .f32)
  (B : Vec Ideal S1024x1024 .f32) (G U : Vec Ideal S1x1024x3584 .bf16) (D : Vec Ideal S1x3584x1024 .bf16)

/-- The word for slot `512 j`. -/
theorem baseW_val (h2 : (k0_t10_loop w).trips ≤ 2) (j : Fin (k0_t10_loop w).trips) : (baseW w j).toNat = 512 * j.val := by
  obtain ⟨j, hj⟩ := j
  have : j = 0 ∨ j = 1 := by omega
  rcases this with rfl | rfl <;> rfl

variable (hS : Served w (rowE v0 Gt) (rowE v0 R))

include hS in
/-- After `j` groups of 512 the members of the first `512 j` slots are done. -/
theorem many_value (h2 : (k0_t10_loop w).trips ≤ 2) (t : Fin 1024) (c : Fin 1024) (j : ℕ) (hj : j ≤ (k0_t10_loop w).trips) :
    manyV v0 w A Gt R B G U D j (ValueIdx.ix2 t c)
      = if 0 ≤ rowE v0 R t ∧ slotOf (rowE v0 R) t < 512 * j then plus v0 A Gt B G U D t c else B (ValueIdx.ix2 t c) := by
  induction j with
  | zero => rw [if_neg (by omega)]; rfl
  | succ j ih =>
    have hlt : j < (k0_t10_loop w).trips := hj
    have hb := baseW_val w h2 ⟨j, hlt⟩
    dsimp only at hb
    have hm : (baseW w ⟨j, hlt⟩).toNat + 512 ≤ 2 ^ 31 := by rw [hb]; omega
    have ih := ih (by omega)
    unfold manyV
    rw [dif_pos hlt]
    by_cases ht : 0 ≤ rowE v0 R t
    · by_cases h1 : slotOf (rowE v0 R) t < 512 * j
      · rw [if_pos ⟨ht, by omega⟩, gv_other geo512 _ v0 A Gt (rowAt v0 R) _ G U D hm t _ c, ih, if_pos ⟨ht, h1⟩]
        intro r _ e
        have e' : ((baseW w ⟨j, hlt⟩).toNat + r : ℕ) = slotOf (rowE v0 R) t := by
          have q : ((_ : ℕ) : EReal) = (slotOf (rowE v0 R) t : EReal) := e.trans (hS.slot t ht)
          exact_mod_cast q
        omega
      · by_cases h3 : slotOf (rowE v0 R) t < 512 * (j + 1)
        · rw [if_pos ⟨ht, h3⟩]
          refine (gv_member geo512 _ v0 A Gt (rowAt v0 R) _ G U D hm t (slotOf (rowE v0 R) t) (hS.slot t ht)
            (fun t' h => slot_inj hS ht h) (by omega) (by omega) c).trans ?_
          rw [ih, if_neg (by omega)]
          rfl
        · rw [if_neg (by omega), gv_other geo512 _ v0 A Gt (rowAt v0 R) _ G U D hm t _ c, ih, if_neg (by omega)]
          intro r hr e
          have e' : ((baseW w ⟨j, hlt⟩).toNat + r : ℕ) = slotOf (rowE v0 R) t := by
            have q : ((_ : ℕ) : EReal) = (slotOf (rowE v0 R) t : EReal) := e.trans (hS.slot t ht)
            exact_mod_cast q
          omega
    · rw [if_neg fun q => ht q.1, gv_other geo512 _ v0 A Gt (rowAt v0 R) _ G U D hm t (fun r _ => slot_ne _ r ht) c, ih,
        if_neg fun q => ht q.1]

include hS in
/-- The prompt's tile. -/
theorem tile_value (hw : w.toNat ≤ 1024) (O : Vec Ideal S1024x1024 .f32) (t : Fin 1024) (c : Fin 1024) :
    tileOut v0 w A Gt R B G U D O (ValueIdx.ix2 t c) = plus v0 A Gt B G U D t c := by
  have hz := word_of_all sized_all (Nat.lt_succ_of_le hw)
  have hs := word_of_all stored_all (Nat.lt_succ_of_le hw)
  obtain ⟨h1, h2, h3, h4, h5, h6, h7, h8, h9, h10, h11⟩ := hz
  unfold tileOut
  by_cases e11 : k0_cond11 w = 1#1
  · obtain ⟨hr, ht2, -⟩ := h11 e11
    rw [if_pos e11, many_value v0 w A Gt R B G U D hS ht2 t c _ le_rfl]
    by_cases ht : 0 ≤ rowE v0 R t
    · rw [if_pos ⟨ht, (slot_lt hS ht).trans_le hr⟩]
    · rw [if_neg fun q => ht q.1, plus_idle v0 w A Gt R B G U D hS t ht]
  rw [if_neg e11]
  unfold fewOut
  by_cases e10 : k0_cond10 w = 1#1
  · rw [if_pos e10]; exact group_value geo416 v0 w A Gt R B G U D hS (h10 e10) t c
  rw [if_neg e10]
  by_cases e9 : k0_cond9 w = 1#1
  · rw [if_pos e9]; exact group_value geo384 v0 w A Gt R B G U D hS (h9 e9) t c
  rw [if_neg e9]
  by_cases e8 : k0_cond8 w = 1#1
  · rw [if_pos e8]; exact group_value geo352 v0 w A Gt R B G U D hS (h8 e8) t c
  rw [if_neg e8]
  by_cases e7 : k0_cond7 w = 1#1
  · rw [if_pos e7]; exact group_value geo320 v0 w A Gt R B G U D hS (h7 e7) t c
  rw [if_neg e7]
  by_cases e6 : k0_cond6 w = 1#1
  · rw [if_pos e6]; exact group_value geo288 v0 w A Gt R B G U D hS (h6 e6) t c
  rw [if_neg e6]
  by_cases e5 : k0_cond5 w = 1#1
  · rw [if_pos e5]; exact group_value geo256 v0 w A Gt R B G U D hS (h5 e5) t c
  rw [if_neg e5]
  by_cases e4 : k0_cond4 w = 1#1
  · rw [if_pos e4]; exact group_value geo224 v0 w A Gt R B G U D hS (h4 e4) t c
  rw [if_neg e4]
  by_cases e3 : k0_cond3 w = 1#1
  · rw [if_pos e3]; exact group_value geo192 v0 w A Gt R B G U D hS (h3 e3) t c
  rw [if_neg e3]
  by_cases e2 : k0_cond2 w = 1#1
  · rw [if_pos e2]; exact group_value geo160 v0 w A Gt R B G U D hS (h2 e2) t c
  rw [if_neg e2]
  have e1 : k0_cond1 w = 1#1 := by
    rcases hs with e | e | e | e | e | e | e | e | e | e | e
    exacts [e, absurd e e2, absurd e e3, absurd e e4, absurd e e5, absurd e e6, absurd e e7, absurd e e8, absurd e e9,
      absurd e e10, absurd e e11]
  rw [if_pos e1, plus_idle v0 w A Gt R B G U D hS t]
  intro ht
  have := slot_lt hS ht
  have := h1 e1
  omega

end whole

/-- The sample's tokens. -/
theorem sample_value (v0 w : BitVec 32) (A : Vec Ideal S32x1024 .bf16) (Gt R : Vec Ideal S8x32 .f32)
    (B : Vec Ideal S32x1024 .f32) (G U : Vec Ideal S1x1024x3584 .bf16) (D : Vec Ideal S1x3584x1024 .bf16)
    (hS : Served w (rowE v0 Gt) (rowE v0 R)) (hw : w.toNat ≤ 32) (O : Vec Ideal S32x1024 .f32) (t : Fin 32) (c : Fin 1024) :
    sampleOut v0 w A Gt R B G U D O (ValueIdx.ix2 t c) = plus v0 A Gt B G U D t c := by
  obtain ⟨hs, -, h13⟩ := word_of_all sizedS_all (Nat.lt_succ_of_le hw)
  unfold sampleOut
  by_cases e14 : k0_cond14 w = 1#1
  · rw [if_pos e14]; exact group_value geo32 v0 w A Gt R B G U D hS hw t c
  have e13 : k0_cond13 w = 1#1 := hs.resolve_right e14
  rw [if_neg e14, if_pos e13, plus_idle v0 w A Gt R B G U D hS t]
  intro ht
  have := slot_lt hS ht
  have := h13 e13
  omega

end Cert.KernelIdeal.Moe

end

end
-- ==== Proof.Moe.RefValue.lean ====
/-
  The reference over the extended reals: its two results at an index, as sums of products of the arguments.
-/
module

public import proofs.«01_k».proof.Proof.Moe.RefRun
public import proofs.«01_k».proof.Proof.Moe.Gather
public import Idealize.ShloMosaic.Lib.StackMember
public import Idealize.ShloMosaic.Lib.DynamicIndex

@[expose] public section

set_option maxRecDepth 16384

noncomputable section

namespace Cert.ReferenceIdeal.Moe

open Idealize.ShloMosaic Idealize.ShloMosaic.TcCoe
open Cert.ReferenceIdeal Cert.ReferenceIdeal.Gen
open Cert.KernelIdeal.Moe (mat)

/-- Hidden unit `f` of a row: the gate product through silu, times the up product. -/
def unitR (row : Fin 1024 → EReal) (G U : Fin 1024 → Fin 3584 → EReal) (f : Fin 3584) : EReal :=
  (∑ i, row i * G i f) * Ideal.logistic (∑ i, row i * G i f) * ∑ i, row i * U i f

/-- The feed-forward of a row. -/
def ffnR (row : Fin 1024 → EReal) (G U : Fin 1024 → Fin 3584 → EReal) (D : Fin 3584 → Fin 1024 → EReal) (c : Fin 1024) : EReal :=
  ∑ f : Fin 3584, unitR row G U f * D f c

/-- The expert's number without its axis. -/
theorem scalar_word (e : Vec Ideal S1 .i32) (j : S_.Idx) : shapeCast S_ e shapeCasts_S1_S_ j = e (ValueIdx.ix1 0) :=
  congrArg e (funext fun a => by obtain rfl : a = (0 : Fin 1) := Subsingleton.elim (α := Fin 1) a 0; exact Subsingleton.elim (α := Fin 1) _ _)

/-- A small word read signed. -/
theorem word_int {w : BitVec 32} {k : Fin 8} (h : w.toNat = k.val) : w.toInt = (k.val : ℤ) := by
  rw [BitVec.toInt_eq_toNat_of_lt (by omega), h]

/-- A widened entry is the entry. -/
theorem ext_apply {s : Shape} (x : FVec Ideal s .bf16) (h : FTy.bits .bf16 < FTy.bits .f32) (j : s.Idx) : (extf .f32 x h : FVec Ideal s .f32) j = x j := rfl

variable {e : Vec Ideal S1 .i32} {k : Fin 8} (hk : (e (ValueIdx.ix1 0)).toNat = k.val)

include hk in
/-- The expert's matrix, 1024 by 3584, at an index. -/
theorem wide_apply (w : Vec Ideal S8x1024x3584 .bf16) (i : Fin 1024) (f : Fin 3584) :
    wide e w (ValueIdx.ix2 i f) = w (ValueIdx.ix3 k i f) := by
  unfold wide
  refine (ext_apply _ _ _).trans ((Cert.KernelIdeal.Moe.cast_mat _ shapeCasts_S1x1024x3584_S1024x3584 i f).trans ?_)
  have hoff : S8x1024x3584.Slices ![k.val, 0, 0] S1x1024x3584 := ⟨rfl, fun a => by
    match a with
    | 0 => show k.val + 1 ≤ 8; omega
    | 1 => exact le_of_eq (Nat.zero_add 1024)
    | 2 => exact le_of_eq (Nat.zero_add 3584)⟩
  rw [Host.dynamicSlice_eq_extractStridedSlice S1x1024x3584 w _ ![k.val, 0, 0] sliceFits_S8x1024x3584_S1x1024x3584 hoff (fun a => by
    match a with
    | 0 => exact (congrArg BitVec.toInt (scalar_word e _)).trans (word_int hk)
    | 1 => rfl
    | 2 => rfl)]
  refine congrArg w (funext fun a => Fin.ext ?_)
  match a with
  | 0 => rfl
  | 1 => exact Nat.zero_add _
  | 2 => exact Nat.zero_add _

include hk in
/-- The expert's matrix, 3584 by 1024, at an index. -/
theorem tall_apply (w : Vec Ideal S8x3584x1024 .bf16) (f : Fin 3584) (i : Fin 1024) :
    tall e w (ValueIdx.ix2 f i) = w (ValueIdx.ix3 k f i) := by
  unfold tall
  refine (ext_apply _ _ _).trans ((Cert.KernelIdeal.Moe.cast_mat _ shapeCasts_S1x3584x1024_S3584x1024 f i).trans ?_)
  have hoff : S8x3584x1024.Slices ![k.val, 0, 0] S1x3584x1024 := ⟨rfl, fun a => by
    match a with
    | 0 => show k.val + 1 ≤ 8; omega
    | 1 => exact le_of_eq (Nat.zero_add 3584)
    | 2 => exact le_of_eq (Nat.zero_add 1024)⟩
  rw [Host.dynamicSlice_eq_extractStridedSlice S1x3584x1024 w _ ![k.val, 0, 0] sliceFits_S8x3584x1024_S1x3584x1024 hoff (fun a => by
    match a with
    | 0 => exact (congrArg BitVec.toInt (scalar_word e _)).trans (word_int hk)
    | 1 => rfl
    | 2 => rfl)]
  refine congrArg w (funext fun a => Fin.ext ?_)
  match a with
  | 0 => rfl
  | 1 => exact Nat.zero_add _
  | 2 => exact Nat.zero_add _

/-- One row of eight, without its unit axis. -/
theorem row_slice {T : ℕ} (g : Vec Ideal (mat 8 T) .f32) (start : Fin 2 → ℤ) (h : (mat 8 T).Slices (fun _ => 0) (mat 1 T))
    (hc : (mat 1 T).ShapeCasts ⟨1, ![T]⟩) (h0 : start 0 = (k.val : ℤ)) (h1 : start 1 = 0) (t : Fin T) :
    shapeCast ⟨1, ![T]⟩ (Host.dynamicSlice (mat 1 T) g start h) hc (ValueIdx.ix1 t) = g (ValueIdx.ix2 k t) := by
  refine (shapeCast_apply _ hc (ValueIdx.ix1 t) (ValueIdx.ix2 0 t) ?_).trans ?_
  · rw [rowMajor_val2 _ T rfl, rowMajor_val1]
    show 0 * T + t.val = t.val
    omega
  have hoff : (mat 8 T).Slices ![k.val, 0] (mat 1 T) := ⟨rfl, fun a => by
    match a with
    | 0 => show k.val + 1 ≤ 8; omega
    | 1 => show 0 + T ≤ T; omega⟩
  rw [Host.dynamicSlice_eq_extractStridedSlice (mat 1 T) g start ![k.val, 0] h hoff (fun a => by
    match a with
    | 0 => exact h0
    | 1 => exact h1)]
  refine congrArg g (funext fun a => Fin.ext ?_)
  match a with
  | 0 => rfl
  | 1 => exact Nat.zero_add _

/-- A vector as a column. -/
theorem stand_apply {T : ℕ} (hT : T ≠ 1) (hb : (⟨1, ![T]⟩ : Shape).BroadcastsInDim (mat T 1) ![0]) (x : FVec Ideal ⟨1, ![T]⟩ .f32) (t : Fin T) :
    broadcastInDim (mat T 1) ![0] hb x (ValueIdx.ix2 t 0) = x (ValueIdx.ix1 t) := by
  refine broadcastInDim_apply ![0] hb x (ValueIdx.ix2 t 0) (ValueIdx.ix1 t) fun a => ?_
  match a with
  | 0 => exact (if_neg hT).symm

/-- One row of eight, as a column. -/
theorem col_apply {T : ℕ} (hT : T ≠ 1) (g : Vec Ideal (mat 8 T) .f32) (start : Fin 2 → ℤ) (h : (mat 8 T).Slices (fun _ => 0) (mat 1 T))
    (hc : (mat 1 T).ShapeCasts ⟨1, ![T]⟩) (hb : (⟨1, ![T]⟩ : Shape).BroadcastsInDim (mat T 1) ![0])
    (h0 : start 0 = (k.val : ℤ)) (h1 : start 1 = 0) (t : Fin T) :
    broadcastInDim (mat T 1) ![0] hb (shapeCast ⟨1, ![T]⟩ (Host.dynamicSlice (mat 1 T) g start h) hc) (ValueIdx.ix2 t 0) = g (ValueIdx.ix2 k t) := by
  exact (stand_apply hT hb _ t).trans (row_slice g start h hc h0 h1 t)

include hk in
/-- The prompt's gates of the expert. -/
theorem column_apply (g : Vec Ideal S8x16384 .f32) (t : Fin 16384) : column e g (ValueIdx.ix2 t 0) = g (ValueIdx.ix2 k t) := by
  have q := col_apply (T := 16384) (k := k) (by decide) g
    (fun k => (![shapeCast S_ e shapeCasts_S1_S_, constantI S_ 32 0#32] k (Shape.Idx.first h_S_)).toInt)
    sliceFits_S8x16384_S1x16384 shapeCasts_S1x16384_S16384 bcast_S16384_S16384x1_0
    ((congrArg BitVec.toInt (scalar_word e _)).trans (word_int hk)) rfl t
  exact q

include hk in
/-- The sample's gates of the expert. -/
theorem columnS_apply (g : Vec Ideal S8x32 .f32) (t : Fin 32) :
    columnS (shapeCast S_ e shapeCasts_S1_S_) g (ValueIdx.ix2 t 0) = g (ValueIdx.ix2 k t) := by
  have q := col_apply (T := 32) (k := k) (by decide) g
    (fun k => (![shapeCast S_ e shapeCasts_S1_S_, constantI S_ 32 0#32] k (Shape.Idx.first h_S_)).toInt)
    sliceFits_S8x32_S1x32 shapeCasts_S1x32_S32 bcast_S32_S32x1_0
    ((congrArg BitVec.toInt (scalar_word e _)).trans (word_int hk)) rfl t
  exact q

/-- A column spread over the rows' entries. -/
theorem spread_apply {T : ℕ} (hT : T ≠ 1) (h : (mat T 1).BroadcastsInDim (mat T 1024) ![0, 1]) (g : FVec Ideal (mat T 1) .f32) (t : Fin T) (c : Fin 1024) :
    broadcastInDim (mat T 1024) ![0, 1] h g (ValueIdx.ix2 t c) = g (ValueIdx.ix2 t 0) := by
  refine broadcastInDim_apply ![0, 1] h g (ValueIdx.ix2 t c) (ValueIdx.ix2 t 0) fun a => ?_
  match a with
  | 0 => exact (if_neg hT).symm
  | 1 => rfl

/-- Silu at an index, over either set of tokens. -/
theorem silu_apply {s : Shape} (h : S_.BroadcastsInDim s ![]) (x : FVec Ideal s .f32) (j : s.Idx) :
    mulf x (Host.divf (broadcastInDim s ![] h (constant (F := Ideal) S_ .f32 0x3F800000#32))
      (addf (broadcastInDim s ![] h (constant (F := Ideal) S_ .f32 0x3F800000#32)) (Host.exp (Host.negf x)))) j = x j * Ideal.logistic (x j) := by
  show x j * Ideal.div (Ideal.ofBits .f32 0x3F800000#32) (Ideal.ofBits .f32 0x3F800000#32 + Ideal.exp (-(x j))) = _
  rw [Ideal.ofBits_one_f32]
  rfl

theorem swish_apply (x : FVec Ideal S16384x3584 .f32) (j : S16384x3584.Idx) : swish (F := Ideal) x j = x j * Ideal.logistic (x j) :=
  silu_apply bcast_S_S16384x3584 x j
theorem swishS_apply (x : FVec Ideal S32x3584 .f32) (j : S32x3584.Idx) : swishS (F := Ideal) x j = x j * Ideal.logistic (x j) :=
  silu_apply bcast_S_S32x3584 x j

/-- The plain product at an index. -/
theorem dot_apply {M K N : ℕ} (w : DotDims.WF (mat M K) (mat K N) (mat M N) [1] [0] [0] [1] [] [])
    (l : FVec Ideal (mat M K) .f32) (x : FVec Ideal (mat K N) .f32) (r : Fin M) (c : Fin N) :
    Host.dotGeneral (F := Ideal) (⟨[1], [0], [0], [1], [], [], w⟩ : DotDims (mat M K) (mat K N) (mat M N)) none l x (ValueIdx.ix2 r c)
      = ∑ i : Fin K, l (ValueIdx.ix2 r i) * x (ValueIdx.ix2 i c) :=
  StackMember.dotGeneral_plain_apply none l x r c

/-- The sum both results are: the residual and the expert's gate times the feed-forward. -/
theorem sum_apply {T : ℕ} (hT : T ≠ 1) (hb : (mat T 1).BroadcastsInDim (mat T 1024) ![0, 1]) (hs : S_.BroadcastsInDim (mat T 3584) ![])
    (wu : DotDims.WF (mat T 1024) (mat 1024 3584) (mat T 3584) [1] [0] [0] [1] [] [])
    (wd : DotDims.WF (mat T 3584) (mat 3584 1024) (mat T 1024) [1] [0] [0] [1] [] [])
    (G U : FVec Ideal (mat 1024 3584) .f32) (D : FVec Ideal (mat 3584 1024) .f32) (g : FVec Ideal (mat T 1) .f32)
    (x h : FVec Ideal (mat T 1024) .f32) (s : FVec Ideal (mat T 3584) .f32 → FVec Ideal (mat T 3584) .f32)
    (hsil : ∀ y j, s y j = y j * Ideal.logistic (y j)) (t : Fin T) (c : Fin 1024) :
    addf h (mulf (broadcastInDim (mat T 1024) ![0, 1] hb g)
      (Host.dotGeneral (F := Ideal) (⟨[1], [0], [0], [1], [], [], wd⟩ : DotDims (mat T 3584) (mat 3584 1024) (mat T 1024)) none
        (mulf (s (Host.dotGeneral (F := Ideal) (⟨[1], [0], [0], [1], [], [], wu⟩ : DotDims (mat T 1024) (mat 1024 3584) (mat T 3584)) none x G))
          (Host.dotGeneral (F := Ideal) (⟨[1], [0], [0], [1], [], [], wu⟩ : DotDims (mat T 1024) (mat 1024 3584) (mat T 3584)) none x U)) D)) (ValueIdx.ix2 t c)
      = h (ValueIdx.ix2 t c) + g (ValueIdx.ix2 t 0)
        * ffnR (fun i => x (ValueIdx.ix2 t i)) (fun i f => G (ValueIdx.ix2 i f)) (fun i f => U (ValueIdx.ix2 i f)) (fun f i => D (ValueIdx.ix2 f i)) c := by
  refine congrArg (h (ValueIdx.ix2 t c) + ·) (congrArg₂ (· * ·) (spread_apply hT hb g t c) ((dot_apply wd _ D t c).trans ?_))
  refine Finset.sum_congr rfl fun f _ => congrArg (· * D (ValueIdx.ix2 f c)) ?_
  refine (congrArg₂ (· * ·) (hsil _ (ValueIdx.ix2 t f)) (dot_apply wu x U t f)).trans ?_
  rw [dot_apply wu x G t f]
  rfl

/-- The prompt's result at an index. -/
theorem promptOf_apply (G U : Vec Ideal S1024x3584 .f32) (D : Vec Ideal S3584x1024 .f32) (g : Vec Ideal S16384x1 .f32)
    (x : Vec Ideal S16384x1024 .bf16) (h : Vec Ideal S16384x1024 .f32) (t : Fin 16384) (c : Fin 1024) :
    promptOf G U D g x h (ValueIdx.ix2 t c) = h (ValueIdx.ix2 t c) + g (ValueIdx.ix2 t 0)
      * ffnR (fun i => x (ValueIdx.ix2 t i)) (fun i f => G (ValueIdx.ix2 i f)) (fun i f => U (ValueIdx.ix2 i f)) (fun f i => D (ValueIdx.ix2 f i)) c := by
  have q := sum_apply (T := 16384) (by decide) bcast_S16384x1_S16384x1024_0_1 bcast_S_S16384x3584 dot_S16384x1024_S1024x3584_S16384x3584_1_0_0_1_n_n_wf
    dot_S16384x3584_S3584x1024_S16384x1024_1_0_0_1_n_n_wf G U D g (extf (F := Ideal) .f32 (x : FVec Ideal S16384x1024 .bf16) bitsLt_bf16_f32) h (swish (F := Ideal))
    swish_apply t c
  exact q

/-- The sample's result at an index. -/
theorem sampleOf_apply (G U : Vec Ideal S1024x3584 .f32) (D : Vec Ideal S3584x1024 .f32) (g : Vec Ideal S32x1 .f32)
    (x : Vec Ideal S32x1024 .bf16) (h : Vec Ideal S32x1024 .f32) (t : Fin 32) (c : Fin 1024) :
    sampleOf G U D g x h (ValueIdx.ix2 t c) = h (ValueIdx.ix2 t c) + g (ValueIdx.ix2 t 0)
      * ffnR (fun i => x (ValueIdx.ix2 t i)) (fun i f => G (ValueIdx.ix2 i f)) (fun i f => U (ValueIdx.ix2 i f)) (fun f i => D (ValueIdx.ix2 f i)) c := by
  have q := sum_apply (T := 32) (by decide) bcast_S32x1_S32x1024_0_1 bcast_S_S32x3584 dot_S32x1024_S1024x3584_S32x3584_1_0_0_1_n_n_wf
    dot_S32x3584_S3584x1024_S32x1024_1_0_0_1_n_n_wf G U D g (extf (F := Ideal) .f32 (x : FVec Ideal S32x1024 .bf16) bitsLt_bf16_f32) h (swishS (F := Ideal))
    swishS_apply t c
  exact q

/-- A result as a function of the arguments: the residual, and the expert's gate times the feed-forward of the token's row. -/
def outP (k : Fin 8) {T : ℕ} (x : Vec Ideal (mat T 1024) .bf16) (g : Vec Ideal (mat 8 T) .f32) (G U : Vec Ideal S8x1024x3584 .bf16)
    (D : Vec Ideal S8x3584x1024 .bf16) (h : Vec Ideal (mat T 1024) .f32) (t : Fin T) (c : Fin 1024) : EReal :=
  h (ValueIdx.ix2 t c) + g (ValueIdx.ix2 k t) * ffnR (fun i => x (ValueIdx.ix2 t i)) (fun i f => G (ValueIdx.ix3 k i f))
    (fun i f => U (ValueIdx.ix3 k i f)) (fun f i => D (ValueIdx.ix3 k f i)) c

include hk in
/-- The prompt's result is that function. -/
theorem prompt_eq (G U : Vec Ideal S8x1024x3584 .bf16) (D : Vec Ideal S8x3584x1024 .bf16) (g : Vec Ideal S8x16384 .f32)
    (x : Vec Ideal S16384x1024 .bf16) (h : Vec Ideal S16384x1024 .f32) (t : Fin 16384) (c : Fin 1024) :
    promptOf (wide e G) (wide e U) (tall e D) (column e g) x h (ValueIdx.ix2 t c) = outP k x g G U D h t c := by
  rw [promptOf_apply, column_apply hk]
  simp only [wide_apply hk, tall_apply hk]
  rfl

include hk in
/-- The sample's result is that function. -/
theorem sample_eq (G U : Vec Ideal S8x1024x3584 .bf16) (D : Vec Ideal S8x3584x1024 .bf16) (g : Vec Ideal S8x32 .f32)
    (x : Vec Ideal S32x1024 .bf16) (h : Vec Ideal S32x1024 .f32) (t : Fin 32) (c : Fin 1024) :
    sampleOf (wide e G) (wide e U) (tall e D) (columnS (shapeCast S_ e shapeCasts_S1_S_) g) x h (ValueIdx.ix2 t c) = outP k x g G U D h t c := by
  rw [sampleOf_apply, columnS_apply hk]
  simp only [wide_apply hk, tall_apply hk]
  rfl

end Cert.ReferenceIdeal.Moe

end
-- ==== Proof.Moe.Value.lean ====
/-
  The idealized program's results over the extended reals: every point's block is that block of the result as a function of
  the arguments, and the blocks cover the arrays.
-/
module

public import proofs.«01_k».proof.Proof.Moe.Blocks
public import proofs.«01_k».proof.Proof.Moe.Entry
public import proofs.«01_k».proof.Proof.Moe.Tile
public import proofs.«01_k».proof.Proof.Moe.RefValue

@[expose] public section

set_option maxRecDepth 16384

noncomputable section

namespace Cert.KernelIdeal.Moe

open Idealize.ShloMosaic Idealize.ShloMosaic.TcCoe
open Idealize.ShloMosaic.Pipeline (Dat Cfg Window)
open Cert.KernelIdeal Cert.KernelIdeal.Gen Cert.Moe
open Cert.ReferenceIdeal.Moe (outP ffnR unitR)
open Cert.Pre_routed.Moe (Served)

attribute [local instance] Cert.Pre_routed.Gen.facts

variable (m : (ℓ : Loc nD τ sig) → Buf (Elt Ideal) ℓ) (h : Ready (tbl m)) (c : Dev nD)

/-- The prompt's result, of the arguments. -/
def wantP (t : Fin 16384) (i : Fin 1024) : EReal :=
  outP (T := 16384) (ex m h) (m ((c : Thread nD τ).loc main_arg3)) (m ((c : Thread nD τ).loc main_arg4)) (m ((c : Thread nD τ).loc main_arg6))
    (m ((c : Thread nD τ).loc main_arg7)) (m ((c : Thread nD τ).loc main_arg8)) (m ((c : Thread nD τ).loc main_arg9)) t i

/-- The sample's result, of the arguments. -/
def wantS (t : Fin 32) (i : Fin 1024) : EReal :=
  outP (T := 32) (ex m h) (m ((c : Thread nD τ).loc main_arg10)) (m ((c : Thread nD τ).loc main_arg11)) (m ((c : Thread nD τ).loc main_arg6))
    (m ((c : Thread nD τ).loc main_arg7)) (m ((c : Thread nD τ).loc main_arg8)) (m ((c : Thread nD τ).loc main_arg13)) t i

/-- The expert's row of an array of eight. -/
theorem rowE_ex {T : ℕ} (M : Vec Ideal (mat 8 T) .f32) (p : Fin T) : rowE (eidOf (F := Ideal) (tbl m 0)) M p = M (ValueIdx.ix2 (ex m h) p) := by
  refine congrArg (fun a => M (ValueIdx.ix2 a p)) (Fin.ext ?_)
  have := h.eid
  show min (eidOf (F := Ideal) (tbl m 0)).toNat 7 = (eidOf (F := Ideal) (tbl m 0)).toNat
  omega

/-- The feed-forward over blocks whose entries are known. -/
theorem ffn_of (row : Fin 1024 → EReal) (G U : Vec Ideal S1x1024x3584 .bf16) (D : Vec Ideal S1x3584x1024 .bf16)
    (g u : Fin 1024 → Fin 3584 → EReal) (d : Fin 3584 → Fin 1024 → EReal) (hG : ∀ j f, G (ValueIdx.ix3 0 j f) = g j f)
    (hU : ∀ j f, U (ValueIdx.ix3 0 j f) = u j f) (hD : ∀ f j, D (ValueIdx.ix3 0 f j) = d f j) (i : Fin 1024) :
    ffn row G U D i = ffnR row g u d i := by
  obtain rfl : (fun j f => G (ValueIdx.ix3 0 j f)) = g := funext fun j => funext fun f => hG j f
  obtain rfl : (fun j f => U (ValueIdx.ix3 0 j f)) = u := funext fun j => funext fun f => hU j f
  obtain rfl : (fun f j => D (ValueIdx.ix3 0 f j)) = d := funext fun f => funext fun j => hD f j
  rfl

/-- The feed-forward over the blocks is the feed-forward over the expert's weights. -/
theorem ffn_ex (t : Fin grid0.N) (row : Fin 1024 → EReal) (i : Fin 1024) :
    ffn row (iblk m h c 3 t) (iblk m h c 4 t) (iblk m h c 5 t) i
      = ffnR row (fun j f => m ((c : Thread nD τ).loc main_arg6) (ValueIdx.ix3 (ex m h) j f))
        (fun j f => m ((c : Thread nD τ).loc main_arg7) (ValueIdx.ix3 (ex m h) j f))
        (fun f j => m ((c : Thread nD τ).loc main_arg8) (ValueIdx.ix3 (ex m h) f j)) i :=
  ffn_of row _ _ _ _ _ _ (fun j f => read_3 m h c t j f) (fun j f => read_4 m h c t j f) (fun f j => read_5 m h c t f j) i

variable (hR : Routed m 0)

include hR in
/-- The expert's tables over a tile. -/
theorem served_tile (t : Fin grid0.N) :
    Served (cntOf (F := Ideal) (grid0.coords t) (eidOf (F := Ideal) (tbl m 0)) (tbl m 1))
      (rowE (eidOf (F := Ideal) (tbl m 0)) (iblk m h c 1 t)) (rowE (eidOf (F := Ideal) (tbl m 0)) (iblk m h c 2 t)) := by
  obtain rfl : c = 0 := Subsingleton.elim _ _
  have s := (Cert.Pre_routed.Moe.served hR (ex m h)).1 ⟨t.val, point_lt t⟩
  simp only [ix1_eq_valueIdx, ix2_eq_valueIdx] at s
  have e1 : rowE (eidOf (F := Ideal) (tbl m 0)) (iblk m h 0 1 t) = fun p => m (((0 : Dev nD) : Thread nD τ).loc main_arg4) (ValueIdx.ix2 (ex m h) (tok t p)) :=
    funext fun p => (rowE_ex m h _ p).trans (read_1 m h 0 t (ex m h) p)
  have e2 : rowE (eidOf (F := Ideal) (tbl m 0)) (iblk m h 0 2 t) = fun p => m (((0 : Dev nD) : Thread nD τ).loc main_arg5) (ValueIdx.ix2 (ex m h) (tok t p)) :=
    funext fun p => (rowE_ex m h _ p).trans (read_2 m h 0 t (ex m h) p)
  have ec : cntOf (F := Ideal) (grid0.coords t) (eidOf (F := Ideal) (tbl m 0)) (tbl m 1)
      = m (((0 : Dev nD) : Thread nD τ).loc main_arg1) (ValueIdx.ix1 ⟨t.val * 8 + (ex m h).val, by have := point_lt t; omega⟩) := by
    unfold cntOf
    rw [tbl_1]
    refine congrArg (fun a => m (((0 : Dev nD) : Thread nD τ).loc main_arg1) (ValueIdx.ix1 a)) (Fin.ext ?_)
    have hp := point_lt t
    have he := h.eid
    show min (k0_off1 (grid0.coords t) (eidOf (F := Ideal) (tbl m 0)) 0) 127 = t.val * 8 + (eidOf (F := Ideal) (tbl m 0)).toNat
    rw [off1_val _ he, coord_val]
    omega
  rw [e1, e2, ec]
  exact s

include hR in
/-- The expert's tables over the sample. -/
theorem served_sample (t : Fin grid0.N) :
    Served (cntsOf (F := Ideal) (eidOf (F := Ideal) (tbl m 0)) (tbl m 2))
      (rowE (eidOf (F := Ideal) (tbl m 0)) (iblk m h c 8 t)) (rowE (eidOf (F := Ideal) (tbl m 0)) (iblk m h c 9 t)) := by
  obtain rfl : c = 0 := Subsingleton.elim _ _
  have s := (Cert.Pre_routed.Moe.served hR (ex m h)).2
  simp only [ix1_eq_valueIdx, ix2_eq_valueIdx] at s
  have e1 : rowE (eidOf (F := Ideal) (tbl m 0)) (iblk m h 0 8 t) = fun p => m (((0 : Dev nD) : Thread nD τ).loc main_arg11) (ValueIdx.ix2 (ex m h) p) :=
    funext fun p => (rowE_ex m h _ p).trans (congrFun (read_8 m h 0 t) _)
  have e2 : rowE (eidOf (F := Ideal) (tbl m 0)) (iblk m h 0 9 t) = fun p => m (((0 : Dev nD) : Thread nD τ).loc main_arg12) (ValueIdx.ix2 (ex m h) p) :=
    funext fun p => (rowE_ex m h _ p).trans (congrFun (read_9 m h 0 t) _)
  have ec : cntsOf (F := Ideal) (eidOf (F := Ideal) (tbl m 0)) (tbl m 2)
      = m (((0 : Dev nD) : Thread nD τ).loc main_arg2) (ValueIdx.ix1 (ex m h)) := by
    unfold cntsOf
    rw [tbl_2]
    refine congrArg (fun a => m (((0 : Dev nD) : Thread nD τ).loc main_arg2) (ValueIdx.ix1 a)) (Fin.ext ?_)
    have he := h.eid
    show min (eidOf (F := Ideal) (tbl m 0)).toNat 7 = (eidOf (F := Ideal) (tbl m 0)).toNat
    omega
  rw [e1, e2, ec]
  exact s

include hR in
/-- A tile's block at an index. -/
theorem tile_at (t : Fin grid0.N) (p i : Fin 1024) : tileV m h c t (ValueIdx.ix2 p i) = wantP m h c (tok t p) i := by
  refine (tile_value _ _ _ _ _ _ _ _ _ (served_tile m h c hR t) (h.cnt _) _ p i).trans ?_
  refine congrArg₂ (· + ·) (read_6 m h c t p i) (congrArg₂ (· * ·) ((rowE_ex m h _ p).trans (read_1 m h c t (ex m h) p)) ?_)
  exact (ffn_ex m h c t _ i).trans (congrArg (fun r => ffnR r _ _ _ i) (funext fun j => read_0 m h c t p j))

include hR in
/-- The sample's block at an index. -/
theorem sample_at (t : Fin grid0.N) (p : Fin 32) (i : Fin 1024) : sampleV m h c t (ValueIdx.ix2 p i) = wantS m h c p i := by
  refine (sample_value _ _ _ _ _ _ _ _ _ (served_sample m h c hR t) h.cnts _ p i).trans ?_
  refine congrArg₂ (· + ·) (congrFun (read_10 m h c t) _) (congrArg₂ (· * ·) ((rowE_ex m h _ p).trans (congrFun (read_8 m h c t) _)) ?_)
  exact (ffn_ex m h c t _ i).trans (congrArg (fun r => ffnR r _ _ _ i) (funext fun j => congrFun (read_7 m h c t) _))

/-- The prompt's array, as the function's. -/
def arrP : Buf (Elt Ideal) ((c : Thread nD τ).loc main_v0_0) := fun y => wantP m h c (y 0) (y 1)
/-- The sample's array, as the function's. -/
def arrS : Buf (Elt Ideal) ((c : Thread nD τ).loc main_v0_1) := fun y => wantS m h c (y 0) (y 1)

include hR in
/-- What a point writes back of the prompt. -/
theorem flushed_11 (t : Fin (cfgM m h).N) :
    (dats m h 0 c).flushed 11 t = (((cfgM m h).win 11).blk t).view.read (Elt Ideal) (arrP m h c) := by
  show ((cfgM m h).win 11).cut (grid0.coords t) ((dats m h 0 c).after 11 t) = _
  rw [after_tile]
  refine funext fun (y : S1024x1024.Idx) => ?_
  obtain ⟨p, i, rfl⟩ : ∃ (p i : Fin 1024), y = ValueIdx.ix2 p i := ⟨y 0, y 1, ValueIdx.eq_ix2 y⟩
  refine (tile_at m h c hR t p i).trans ?_
  show _ = wantP m h c ((((cfgM m h).win 11).blk t).view.emb (ValueIdx.ix2 p i) (0 : Fin 2)) ((((cfgM m h).win 11).blk t).view.emb (ValueIdx.ix2 p i) (1 : Fin 2))
  refine congrArg₂ (wantP m h c) (Fin.ext ?_) (Fin.ext ?_)
  · exact ((((cfgM m h).win 11).rect_emb_val t (ValueIdx.ix2 p i) (0 : Fin 2)).trans (congrArg (fun k => k * 1024 + p.val) (coord_word t))).symm
  · exact ((((cfgM m h).win 11).rect_emb_val t (ValueIdx.ix2 p i) (1 : Fin 2)).trans (Nat.zero_add _)).symm

include hR in
/-- What the last point writes back of the sample. -/
theorem flushed_12 (t : Fin (cfgM m h).N) :
    (dats m h 0 c).flushed 12 t = (((cfgM m h).win 12).blk t).view.read (Elt Ideal) (arrS m h c) := by
  show ((cfgM m h).win 12).cut (grid0.coords t) ((dats m h 0 c).after 12 t) = _
  rw [after_sample]
  refine funext fun (y : S32x1024.Idx) => ?_
  obtain ⟨p, i, rfl⟩ : ∃ (p : Fin 32) (i : Fin 1024), y = ValueIdx.ix2 p i := ⟨y 0, y 1, ValueIdx.eq_ix2 y⟩
  refine (sample_at m h c hR t p i).trans ?_
  show _ = wantS m h c ((((cfgM m h).win 12).blk t).view.emb (ValueIdx.ix2 p i) (0 : Fin 2)) ((((cfgM m h).win 12).blk t).view.emb (ValueIdx.ix2 p i) (1 : Fin 2))
  refine congrArg₂ (wantS m h c) (Fin.ext ?_) (Fin.ext ?_)
  · exact ((((cfgM m h).win 12).rect_emb_val t (ValueIdx.ix2 p i) (0 : Fin 2)).trans (Nat.zero_add _)).symm
  · exact ((((cfgM m h).win 12).rect_emb_val t (ValueIdx.ix2 p i) (1 : Fin 2)).trans (Nat.zero_add _)).symm

/-- Every point writes its block of the prompt back, and the last one the sample. -/
theorem flush_11 : ∀ t : Fin (cfgM m h).N, ((cfgM m h).win 11).flush t = true :=
  (by decide +kernel : ∀ t : Fin grid0.N, Pipeline.Window.flushOf grid0 true cc0_transform_11 t = true)
theorem flush_12 : ((cfgM m h).win 12).flush t0_15 = true :=
  (by decide +kernel : Pipeline.Window.flushOf grid0 true cc0_transform_12 t0_15 = true)

/-- The prompt's blocks cover its array, -/
theorem cover_11 (y : S16384x1024.Idx) :
    ∃ t : Fin (cfgM m h).N, ((cfgM m h).win 11).flush t = true ∧ y ∈ (((cfgM m h).win 11).blk t).view.set := by
  have h0 : (y 0 : ℕ) < 16384 := (y 0).isLt
  have h1 : (y 1 : ℕ) < 1024 := (y 1).isLt
  let t : Fin grid0.N := ⟨(y 0 : ℕ) / 1024, by rw [N_0]; omega⟩
  refine ⟨t, flush_11 m h t, ?_⟩
  show y ∈ ((View.whole main_v0_0).slice (((cfgM m h).win 11).rect t)).set
  erw [View.set_slice_whole]
  refine (Pipeline.Window.mem_rect_iff ((cfgM m h).win 11) t y (by rfl)).mpr fun a => ?_
  have e : ((cfgM m h).win 11).index t (0 : Fin 2) * ((cfgM m h).win 11).size (0 : Fin 2) = t.val * 1024 := congrArg (· * 1024) (coord_word t)
  have ht : t.val = (y 0 : ℕ) / 1024 := rfl
  have g0 : t.val * 1024 ≤ (y 0 : ℕ) := by omega
  have g1 : (y 0 : ℕ) < t.val * 1024 + 1024 := by omega
  match a with
  | ⟨0, _⟩ => exact ⟨le_of_eq_of_le e g0, lt_of_lt_of_eq g1 (congrArg (· + 1024) e).symm⟩
  | ⟨1, _⟩ => exact ⟨le_of_eq_of_le (Nat.zero_mul 1024) (Nat.zero_le _), lt_of_lt_of_eq h1 (Nat.zero_add 1024).symm⟩

/-- and the sample's one block its own. -/
theorem cover_12 (y : S32x1024.Idx) :
    ∃ t : Fin (cfgM m h).N, ((cfgM m h).win 12).flush t = true ∧ y ∈ (((cfgM m h).win 12).blk t).view.set := by
  have h0 : (y 0 : ℕ) < 32 := (y 0).isLt
  have h1 : (y 1 : ℕ) < 1024 := (y 1).isLt
  refine ⟨t0_15, flush_12 m h, ?_⟩
  show y ∈ ((View.whole main_v0_1).slice (((cfgM m h).win 12).rect t0_15)).set
  erw [View.set_slice_whole]
  refine (Pipeline.Window.mem_rect_iff ((cfgM m h).win 12) t0_15 y (by rfl)).mpr fun a => ?_
  match a with
  | ⟨0, _⟩ => exact ⟨le_of_eq_of_le (Nat.zero_mul 32) (Nat.zero_le _), lt_of_lt_of_eq h0 (Nat.zero_add 32).symm⟩
  | ⟨1, _⟩ => exact ⟨le_of_eq_of_le (Nat.zero_mul 1024) (Nat.zero_le _), lt_of_lt_of_eq h1 (Nat.zero_add 1024).symm⟩

include hR in
/-- So the two arrays end holding the two functions. -/
theorem final_11 : (dats m h 0 c).arrAt 11 (cfgM m h).N = arrP m h c :=
  (dats m h 0 c).arrAt_eq_of_cover 11 (arrP m h c) (fun t _ => flushed_11 m h c hR t) (cover_11 m h)

include hR in
theorem final_12 : (dats m h 0 c).arrAt 12 (cfgM m h).N = arrS m h c :=
  (dats m h 0 c).arrAt_eq_of_cover 12 (arrS m h c) (fun t _ => flushed_12 m h c hR t) (cover_12 m h)

end Cert.KernelIdeal.Moe

end
-- ==== Proof.Moe.Algebra.lean ====
/-
  The value claim: over the extended reals the idealized program and the reference end with the same two results.
-/
module

public import proofs.«01_k».proof.Defs
public import proofs.«01_k».proof.Proof.Moe.Value
public import proofs.«01_k».proof.Proof.Moe.RefEnd

@[expose] public section

set_option maxRecDepth 16384

noncomputable section

namespace Cert.KernelIdeal.Moe

open Idealize.ShloMosaic Idealize.ShloMosaic.TcCoe Idealize.SL.Sem
open Cert.KernelIdeal Cert.KernelIdeal.Gen Cert.Moe
open Cert.ReferenceIdeal.Moe (promptR sampleR prompt_eq sample_eq)

attribute [local instance] Cert.KernelIdeal.Gen.facts Cert.ReferenceIdeal.Gen.facts Cert.Pre_routed.Gen.facts

variable (m : (ℓ : Loc nD τ sig) → Buf (Elt Ideal) ℓ)

/-- The expert's number is the first table's word. -/
theorem word_ex (h : Ready (tbl m)) (c : Dev nD) :
    BitVec.toNat (m ((c.tc : Thread nD τ).loc main_arg0) (ValueIdx.ix1 (0 : Fin 1)) : BitVec 32) = (ex m h).val := by
  obtain rfl : c = 0 := Subsingleton.elim _ _
  show _ = (eidOf (F := Ideal) (tbl m 0)).toNat
  rw [tbl_0]
  rfl

/-- The idealized program's run: its two results as functions of the arguments, the arguments as they were. -/
theorem run_value (g : Dev nD → PrngReg) (h : Ready (tbl m)) (hR : Routed m 0) :
    θ_run defs (onTc (τ := τ) (main (F := Ideal))) ⟨m, fun _ => 0, g⟩ (fun r =>
      (∀ c : Dev nD, r.2.mem ((c.tc : Thread nD τ).loc main_v0_0) = arrP m h c ∧ r.2.mem ((c.tc : Thread nD τ).loc main_v0_1) = arrS m h c)
        ∧ Kept m r.2.mem) :=
  (θ_run defs _ _).mono (fun _ e => ⟨fun c => ⟨((e.1 c).1 11).trans (final_11 m h c hR), ((e.1 c).1 12).trans (final_12 m h c hR)⟩,
    kept m h e.1⟩) (run_main m g h)

/-- What the two memories' arguments agreeing means, of the arguments the results are functions of. -/
structure Agree (m' : (ℓ : Loc Cert.ReferenceIdeal.nD Cert.ReferenceIdeal.τ Cert.ReferenceIdeal.sig) → Buf (Elt Ideal) ℓ) (c : Dev nD) : Prop where
  a0 : m' ((c.tc : Thread Cert.ReferenceIdeal.nD Cert.ReferenceIdeal.τ).loc Cert.ReferenceIdeal.main_arg0) = m ((c.tc : Thread nD τ).loc main_arg0)
  a3 : m' ((c.tc : Thread Cert.ReferenceIdeal.nD Cert.ReferenceIdeal.τ).loc Cert.ReferenceIdeal.main_arg3) = m ((c.tc : Thread nD τ).loc main_arg3)
  a4 : m' ((c.tc : Thread Cert.ReferenceIdeal.nD Cert.ReferenceIdeal.τ).loc Cert.ReferenceIdeal.main_arg4) = m ((c.tc : Thread nD τ).loc main_arg4)
  a6 : m' ((c.tc : Thread Cert.ReferenceIdeal.nD Cert.ReferenceIdeal.τ).loc Cert.ReferenceIdeal.main_arg6) = m ((c.tc : Thread nD τ).loc main_arg6)
  a7 : m' ((c.tc : Thread Cert.ReferenceIdeal.nD Cert.ReferenceIdeal.τ).loc Cert.ReferenceIdeal.main_arg7) = m ((c.tc : Thread nD τ).loc main_arg7)
  a8 : m' ((c.tc : Thread Cert.ReferenceIdeal.nD Cert.ReferenceIdeal.τ).loc Cert.ReferenceIdeal.main_arg8) = m ((c.tc : Thread nD τ).loc main_arg8)
  a9 : m' ((c.tc : Thread Cert.ReferenceIdeal.nD Cert.ReferenceIdeal.τ).loc Cert.ReferenceIdeal.main_arg9) = m ((c.tc : Thread nD τ).loc main_arg9)
  a10 : m' ((c.tc : Thread Cert.ReferenceIdeal.nD Cert.ReferenceIdeal.τ).loc Cert.ReferenceIdeal.main_arg10) = m ((c.tc : Thread nD τ).loc main_arg10)
  a11 : m' ((c.tc : Thread Cert.ReferenceIdeal.nD Cert.ReferenceIdeal.τ).loc Cert.ReferenceIdeal.main_arg11) = m ((c.tc : Thread nD τ).loc main_arg11)
  a13 : m' ((c.tc : Thread Cert.ReferenceIdeal.nD Cert.ReferenceIdeal.τ).loc Cert.ReferenceIdeal.main_arg13) = m ((c.tc : Thread nD τ).loc main_arg13)

variable (m' : (ℓ : Loc Cert.ReferenceIdeal.nD Cert.ReferenceIdeal.τ Cert.ReferenceIdeal.sig) → Buf (Elt Ideal) ℓ)

/-- The reference's prompt is the idealized program's. -/
theorem prompt_same (h : Ready (tbl m)) (c : Dev nD) (e : Agree m m' c) : promptR (F := Ideal) m' c = arrP m h c := by
  refine funext fun (y : S16384x1024.Idx) => ?_
  obtain ⟨t, i, rfl⟩ : ∃ (t : Fin 16384) (i : Fin 1024), y = ValueIdx.ix2 t i := ⟨y 0, y 1, ValueIdx.eq_ix2 y⟩
  unfold promptR
  rw [e.a0, e.a3, e.a4, e.a6, e.a7, e.a8, e.a9]
  exact prompt_eq (word_ex m h c) _ _ _ _ _ _ t i

/-- The reference's sample is the idealized program's. -/
theorem sample_same (h : Ready (tbl m)) (c : Dev nD) (e : Agree m m' c) : sampleR (F := Ideal) m' c = arrS m h c := by
  refine funext fun (y : S32x1024.Idx) => ?_
  obtain ⟨t, i, rfl⟩ : ∃ (t : Fin 32) (i : Fin 1024), y = ValueIdx.ix2 t i := ⟨y 0, y 1, ValueIdx.eq_ix2 y⟩
  unfold sampleR
  rw [e.a0, e.a6, e.a7, e.a8, e.a10, e.a11, e.a13]
  exact sample_eq (word_ex m h c) _ _ _ _ _ _ t i

/-- The value claim. -/
theorem algebraic : Cert.algebraic_KernelIdeal_ReferenceIdeal := by
  intro m g m' g' hpre agree
  have h := ready m (hpre 0)
  refine ⟨arrP m h, arrS m h, (θ_run _ _ _).mono (fun _ e c => ⟨(e.1 c).1, (e.1 c).2, e.2 c⟩) (run_value m g h (hpre 0)), ?_⟩
  have same : ∀ c : Dev nD, Agree m m' c := fun c => by
    obtain ⟨a0, -, -, a3, a4, -, a6, a7, a8, a9, a10, a11, -, a13⟩ := agree c
    exact ⟨a0, a3, a4, a6, a7, a8, a9, a10, a11, a13⟩
  exact (θ_run _ _ _).mono (fun _ e c => ⟨(e.1 c).trans (prompt_same m m' h c (same c)), (e.2.1 c).trans (sample_same m m' h c (same c)), e.2.2.1 c⟩)
    (Cert.ReferenceIdeal.Moe.run m' g')

end Cert.KernelIdeal.Moe

end
-- ==== Proof.Rows.Norm.lean ====
/-
  The layer's row functions over the extended reals: the normalisation of a row and the per-layer epilogue, and the kernel's
  and the reference's spellings of both read at an index.
-/
module

public import proofs.«01_k».proof.Proof.Moe.RefValue

@[expose] public section

set_option maxRecDepth 16384

noncomputable section

namespace Cert.Rows

open Idealize.ShloMosaic Idealize.ShloMosaic.TcCoe
open Cert.KernelIdeal.Moe (mat prod_apply cast_mat)
open Cert.ReferenceIdeal.Moe (dot_apply spread_apply stand_apply)

/-- The inverse root mean square of a row. -/
def invR (row : Fin 1024 → EReal) : EReal :=
  Ideal.rsqrt (Ideal.div (∑ j, row j * row j) (Ideal.ofBits .f32 0x44800000#32) + Ideal.ofBits .f32 0x358637BD#32)

/-- A row normalised, times a gain. -/
def rmsR (row gain : Fin 1024 → EReal) (c : Fin 1024) : EReal := row c * invR row * gain c

/-- The epilogue of a row: its gated per-layer input added to it. -/
def pleR (row : Fin 1024 → EReal) (p : Fin 256 → EReal) (gain : Fin 1024 → EReal) (G : Fin 1024 → Fin 1024 → EReal)
    (P : Fin 256 → Fin 1024 → EReal) (c : Fin 1024) : EReal :=
  row c + Ideal.logistic (∑ j, rmsR row gain j * G j c) * ∑ k, p k * P k c

variable {T : ℕ}

/-! ## The kernel's spelling -/

/-- The sums of a vector's rows. -/
theorem sums_apply (h : (mat T 1024).Reduces [1] ⟨1, ![T]⟩) (hφ : FKind.Formats .f32) (x : FVec Ideal (mat T 1024) .f32) (t : Fin T) :
    multiReduction .add [1] ⟨1, ![T]⟩ x 0x00000000#32 h hφ rfl (ValueIdx.ix1 t) = ∑ j : Fin 1024, x (ValueIdx.ix2 t j) := by
  refine (Ideal.multiReduction_add_single x _ h hφ rfl (ValueIdx.ix1 t)).trans ?_
  show ∑ k : Fin 1024, x (h.lift (ValueIdx.ix1 t) k) = _
  refine Finset.sum_congr rfl fun k _ => congrArg x (funext fun a => Fin.ext ?_)
  match a with
  | 0 => rfl
  | 1 => rfl

/-- A vector stood up as a column. -/
theorem column_apply (h : (⟨1, ![T]⟩ : Shape).ShapeCasts (mat T 1)) (x : FVec Ideal ⟨1, ![T]⟩ .f32) (t : Fin T) :
    shapeCast (mat T 1) x h (ValueIdx.ix2 t 0) = x (ValueIdx.ix1 t) := by
  refine shapeCast_apply _ h (ValueIdx.ix2 t 0) (ValueIdx.ix1 t) ?_
  rw [rowMajor_val2 _ 1 rfl, rowMajor_val1]
  show t.val = t.val * 1 + 0
  omega

/-- A column over the lanes. -/
theorem lanes_apply (hT : T ≠ 1) (h : (mat T 1).Broadcasts (mat T 1024)) (x : FVec Ideal (mat T 1) .f32) (t : Fin T) (c : Fin 1024) :
    broadcastTo (mat T 1024) x h (ValueIdx.ix2 t c) = x (ValueIdx.ix2 t 0) := by
  refine broadcastTo_apply x h (ValueIdx.ix2 t c) (ValueIdx.ix2 t 0) fun a => ?_
  match a with
  | 0 => exact (if_neg hT).symm
  | 1 => rfl

/-- A gain over the rows. -/
theorem gain_apply (h : (mat 1 1024).Broadcasts (mat T 1024)) (x : FVec Ideal (mat 1 1024) .f32) (t : Fin T) (c : Fin 1024) :
    broadcastTo (mat T 1024) x h (ValueIdx.ix2 t c) = x (ValueIdx.ix2 0 c) := by
  refine broadcastTo_apply x h (ValueIdx.ix2 t c) (ValueIdx.ix2 0 c) fun a => ?_
  match a with
  | 0 => rfl
  | 1 => rfl

/-- The kernel's column of inverse root mean squares. -/
def invK (hr : (mat T 1024).Reduces [1] ⟨1, ![T]⟩) (hc : (⟨1, ![T]⟩ : Shape).ShapeCasts (mat T 1)) (x : FVec Ideal (mat T 1024) .f32) :
    FVec Ideal (mat T 1) .f32 :=
  rsqrt (addf (divf (shapeCast (mat T 1) (multiReduction .add [1] ⟨1, ![T]⟩ (mulf x x) 0x00000000#32 hr (.inl rfl) rfl) hc)
    (broadcast (mat T 1) (Scalar.ofBits .f32 0x44800000#32))) (broadcast (mat T 1) (Scalar.ofBits .f32 0x358637BD#32)))

theorem invK_apply (hr : (mat T 1024).Reduces [1] ⟨1, ![T]⟩) (hc : (⟨1, ![T]⟩ : Shape).ShapeCasts (mat T 1))
    (x : FVec Ideal (mat T 1024) .f32) (t : Fin T) : invK hr hc x (ValueIdx.ix2 t 0) = invR fun j => x (ValueIdx.ix2 t j) := by
  have e := (column_apply hc (multiReduction .add [1] ⟨1, ![T]⟩ (mulf x x) 0x00000000#32 hr (.inl rfl) rfl) t).trans
    (sums_apply hr (.inl rfl) (mulf x x) t)
  exact congrArg (fun s => Ideal.rsqrt (Ideal.div s (Ideal.ofBits .f32 0x44800000#32) + Ideal.ofBits .f32 0x358637BD#32)) e

/-- The kernel's normalisation. -/
def rmsK (hr : (mat T 1024).Reduces [1] ⟨1, ![T]⟩) (hc : (⟨1, ![T]⟩ : Shape).ShapeCasts (mat T 1)) (hb : (mat T 1).Broadcasts (mat T 1024))
    (hg : (mat 1 1024).Broadcasts (mat T 1024)) (x : FVec Ideal (mat T 1024) .f32) (g : FVec Ideal (mat 1 1024) .f32) : FVec Ideal (mat T 1024) .f32 :=
  mulf (mulf x (broadcastTo (mat T 1024) (invK hr hc x) hb)) (broadcastTo (mat T 1024) g hg)

theorem rmsK_apply (hT : T ≠ 1) (hr : (mat T 1024).Reduces [1] ⟨1, ![T]⟩) (hc : (⟨1, ![T]⟩ : Shape).ShapeCasts (mat T 1))
    (hb : (mat T 1).Broadcasts (mat T 1024)) (hg : (mat 1 1024).Broadcasts (mat T 1024)) (x : FVec Ideal (mat T 1024) .f32)
    (g : FVec Ideal (mat 1 1024) .f32) (t : Fin T) (c : Fin 1024) :
    rmsK hr hc hb hg x g (ValueIdx.ix2 t c) = rmsR (fun j => x (ValueIdx.ix2 t j)) (fun j => g (ValueIdx.ix2 0 j)) c :=
  congrArg₂ (· * ·) (congrArg (x (ValueIdx.ix2 t c) * ·) ((lanes_apply hT hb _ t c).trans (invK_apply hr hc x t))) (gain_apply hg g t c)

/-- The kernel's epilogue. -/
def pleK (hr : (mat T 1024).Reduces [1] ⟨1, ![T]⟩) (hc : (⟨1, ![T]⟩ : Shape).ShapeCasts (mat T 1)) (hb : (mat T 1).Broadcasts (mat T 1024))
    (hg : (mat 1 1024).Broadcasts (mat T 1024)) (hp : (⟨3, ![1, T, 256]⟩ : Shape).ShapeCasts (mat T 256))
    (wG : DotDims.WF (mat T 1024) (mat 1024 1024) (mat T 1024) [1] [0] [0] [1] [] [])
    (wP : DotDims.WF (mat T 256) (mat 256 1024) (mat T 1024) [1] [0] [0] [1] [] []) (hl : FTy.bits .bf16 < FTy.bits .f32)
    (x : FVec Ideal (mat T 1024) .f32) (p : FVec Ideal ⟨3, ![1, T, 256]⟩ .f32) (g : FVec Ideal (mat 1 1024) .f32)
    (G : FVec Ideal (mat 1024 1024) .bf16) (P : FVec Ideal (mat 256 1024) .bf16) : FVec Ideal (mat T 1024) .f32 :=
  addf x (mulf
    (logistic (matmul (F := Ideal) (⟨[1], [0], [0], [1], [], [], wG⟩ : DotDims (mat T 1024) (mat 1024 1024) (mat T 1024)) none
      (truncf .bf16 (rmsK hr hc hb hg x g) hl) G (constant (mat T 1024) .f32 0x00000000#32)))
    (matmul (F := Ideal) (⟨[1], [0], [0], [1], [], [], wP⟩ : DotDims (mat T 256) (mat 256 1024) (mat T 1024)) none
      (truncf .bf16 (shapeCast (mat T 256) p hp : FVec Ideal (mat T 256) .f32) hl) P (constant (mat T 1024) .f32 0x00000000#32)))

theorem pleK_apply (hT : T ≠ 1) (hr : (mat T 1024).Reduces [1] ⟨1, ![T]⟩) (hc : (⟨1, ![T]⟩ : Shape).ShapeCasts (mat T 1)) (hb : (mat T 1).Broadcasts (mat T 1024))
    (hg : (mat 1 1024).Broadcasts (mat T 1024)) (hp : (⟨3, ![1, T, 256]⟩ : Shape).ShapeCasts (mat T 256))
    (wG : DotDims.WF (mat T 1024) (mat 1024 1024) (mat T 1024) [1] [0] [0] [1] [] [])
    (wP : DotDims.WF (mat T 256) (mat 256 1024) (mat T 1024) [1] [0] [0] [1] [] []) (hl : FTy.bits .bf16 < FTy.bits .f32)
    (x : FVec Ideal (mat T 1024) .f32) (p : FVec Ideal ⟨3, ![1, T, 256]⟩ .f32) (g : FVec Ideal (mat 1 1024) .f32)
    (G : FVec Ideal (mat 1024 1024) .bf16) (P : FVec Ideal (mat 256 1024) .bf16) (t : Fin T) (c : Fin 1024) :
    pleK hr hc hb hg hp wG wP hl x p g G P (ValueIdx.ix2 t c)
      = pleR (fun j => x (ValueIdx.ix2 t j)) (fun k => p (ValueIdx.ix3 0 t k)) (fun j => g (ValueIdx.ix2 0 j)) (fun j c => G (ValueIdx.ix2 j c))
        (fun k c => P (ValueIdx.ix2 k c)) c := by
  refine congrArg (x (ValueIdx.ix2 t c) + ·) (congrArg₂ (· * ·) (congrArg Ideal.logistic ?_) ?_)
  · refine (prod_apply wG _ G t c).trans (Finset.sum_congr rfl fun j _ => congrArg (· * G (ValueIdx.ix2 j c)) ?_)
    exact rmsK_apply hT hr hc hb hg x g t j
  · refine (prod_apply wP _ P t c).trans (Finset.sum_congr rfl fun k _ => congrArg (· * P (ValueIdx.ix2 k c)) ?_)
    exact cast_mat p hp t k

/-! ## The reference's spelling -/

/-- The reference's column of inverse root mean squares. -/
def invH (h1 : (mat T 1024).ReducesTo [1] ⟨1, ![T]⟩) (h0 : 0 < (⟨0, ![]⟩ : Shape).numel) (hs : (⟨1, ![T]⟩ : Shape).BroadcastsInDim (mat T 1) ![0])
    (hn : (⟨0, ![]⟩ : Shape).BroadcastsInDim (mat T 1) ![]) (x : FVec Ideal (mat T 1024) .f32) : FVec Ideal (mat T 1) .f32 :=
  Host.rsqrt (addf (Host.divf (broadcastInDim (mat T 1) ![0] hs (Host.reduceAdd (mulf x x) (constant ⟨0, ![]⟩ .f32 0x00000000#32) h1 h0))
    (broadcastInDim (mat T 1) ![] hn (constant ⟨0, ![]⟩ .f32 0x44800000#32))) (broadcastInDim (mat T 1) ![] hn (constant ⟨0, ![]⟩ .f32 0x358637BD#32)))

theorem sumsH_apply (h1 : (mat T 1024).ReducesTo [1] ⟨1, ![T]⟩) (hr : (mat T 1024).Reduces [1] ⟨1, ![T]⟩) (h0 : 0 < (⟨0, ![]⟩ : Shape).numel)
    (x : FVec Ideal (mat T 1024) .f32) (t : Fin T) :
    Host.reduceAdd x (constant ⟨0, ![]⟩ .f32 0x00000000#32) h1 h0 (ValueIdx.ix1 t) = ∑ j : Fin 1024, x (ValueIdx.ix2 t j) := by
  refine (Ideal.hostReduceAdd_single h1 hr x (Ideal.ofBits .f32 0x00000000#32) (ValueIdx.ix1 t)).trans ?_
  rw [Ideal.ofBits_zero_f32, zero_add]
  show ∑ k : Fin 1024, x (hr.lift (ValueIdx.ix1 t) k) = _
  refine Finset.sum_congr rfl fun k _ => congrArg x (funext fun a => Fin.ext ?_)
  match a with
  | 0 => rfl
  | 1 => rfl

theorem invH_apply (hT : T ≠ 1) (h1 : (mat T 1024).ReducesTo [1] ⟨1, ![T]⟩) (hr : (mat T 1024).Reduces [1] ⟨1, ![T]⟩) (h0 : 0 < (⟨0, ![]⟩ : Shape).numel)
    (hs : (⟨1, ![T]⟩ : Shape).BroadcastsInDim (mat T 1) ![0])
    (hn : (⟨0, ![]⟩ : Shape).BroadcastsInDim (mat T 1) ![]) (x : FVec Ideal (mat T 1024) .f32) (t : Fin T) :
    invH h1 h0 hs hn x (ValueIdx.ix2 t 0) = invR fun j => x (ValueIdx.ix2 t j) := by
  have e := (stand_apply hT hs (Host.reduceAdd (mulf x x) (constant ⟨0, ![]⟩ .f32 0x00000000#32) h1 h0) t).trans
    (sumsH_apply h1 hr h0 (mulf x x) t)
  exact congrArg (fun s => Ideal.rsqrt (Ideal.div s (Ideal.ofBits .f32 0x44800000#32) + Ideal.ofBits .f32 0x358637BD#32)) e

/-- The reference's normalisation. -/
def rmsH (h1 : (mat T 1024).ReducesTo [1] ⟨1, ![T]⟩) (h0 : 0 < (⟨0, ![]⟩ : Shape).numel) (hs : (⟨1, ![T]⟩ : Shape).BroadcastsInDim (mat T 1) ![0])
    (hn : (⟨0, ![]⟩ : Shape).BroadcastsInDim (mat T 1) ![]) (hb : (mat T 1).BroadcastsInDim (mat T 1024) ![0, 1])
    (hg : (mat 1 1024).BroadcastsInDim (mat T 1024) ![0, 1]) (x : FVec Ideal (mat T 1024) .f32) (g : FVec Ideal (mat 1 1024) .f32) : FVec Ideal (mat T 1024) .f32 :=
  mulf (mulf x (broadcastInDim (mat T 1024) ![0, 1] hb (invH h1 h0 hs hn x))) (broadcastInDim (mat T 1024) ![0, 1] hg g)

theorem rmsH_apply (hT : T ≠ 1) (h1 : (mat T 1024).ReducesTo [1] ⟨1, ![T]⟩) (hr : (mat T 1024).Reduces [1] ⟨1, ![T]⟩) (h0 : 0 < (⟨0, ![]⟩ : Shape).numel)
    (hs : (⟨1, ![T]⟩ : Shape).BroadcastsInDim (mat T 1) ![0])
    (hn : (⟨0, ![]⟩ : Shape).BroadcastsInDim (mat T 1) ![]) (hb : (mat T 1).BroadcastsInDim (mat T 1024) ![0, 1])
    (hg : (mat 1 1024).BroadcastsInDim (mat T 1024) ![0, 1]) (x : FVec Ideal (mat T 1024) .f32) (g : FVec Ideal (mat 1 1024) .f32) (t : Fin T) (c : Fin 1024) :
    rmsH h1 h0 hs hn hb hg x g (ValueIdx.ix2 t c) = rmsR (fun j => x (ValueIdx.ix2 t j)) (fun j => g (ValueIdx.ix2 0 j)) c := by
  refine congrArg₂ (· * ·) (congrArg (x (ValueIdx.ix2 t c) * ·) ((spread_apply hT hb _ t c).trans (invH_apply hT h1 hr h0 hs hn x t))) ?_
  refine broadcastInDim_apply ![0, 1] hg g (ValueIdx.ix2 t c) (ValueIdx.ix2 0 c) fun a => ?_
  match a with
  | 0 => rfl
  | 1 => rfl

/-- The reference's sigmoid at an index. -/
theorem sigm_apply {s : Shape} (h : (⟨0, ![]⟩ : Shape).BroadcastsInDim s ![]) (x : FVec Ideal s .f32) (j : s.Idx) :
    Host.divf (broadcastInDim s ![] h (constant (F := Ideal) ⟨0, ![]⟩ .f32 0x3F800000#32))
      (addf (broadcastInDim s ![] h (constant (F := Ideal) ⟨0, ![]⟩ .f32 0x3F800000#32)) (Host.exp (Host.negf x))) j = Ideal.logistic (x j) := by
  show Ideal.div (Ideal.ofBits .f32 0x3F800000#32) (Ideal.ofBits .f32 0x3F800000#32 + Ideal.exp (-(x j))) = _
  rw [Ideal.ofBits_one_f32]
  rfl

/-- The reference's epilogue, of the layer's per-layer input. -/
def pleH (h1 : (mat T 1024).ReducesTo [1] ⟨1, ![T]⟩) (h0 : 0 < (⟨0, ![]⟩ : Shape).numel) (hs : (⟨1, ![T]⟩ : Shape).BroadcastsInDim (mat T 1) ![0])
    (hn : (⟨0, ![]⟩ : Shape).BroadcastsInDim (mat T 1) ![]) (hb : (mat T 1).BroadcastsInDim (mat T 1024) ![0, 1])
    (hg : (mat 1 1024).BroadcastsInDim (mat T 1024) ![0, 1]) (ho : (⟨0, ![]⟩ : Shape).BroadcastsInDim (mat T 1024) ![])
    (hp : (⟨3, ![1, T, 256]⟩ : Shape).ShapeCasts (mat T 256))
    (wG : DotDims.WF (mat T 1024) (mat 1024 1024) (mat T 1024) [1] [0] [0] [1] [] [])
    (wP : DotDims.WF (mat T 256) (mat 256 1024) (mat T 1024) [1] [0] [0] [1] [] []) (hl : FTy.bits .bf16 < FTy.bits .f32)
    (x : FVec Ideal (mat T 1024) .f32) (p : FVec Ideal ⟨3, ![1, T, 256]⟩ .f32) (g : FVec Ideal (mat 1 1024) .f32)
    (G : FVec Ideal (mat 1024 1024) .bf16) (P : FVec Ideal (mat 256 1024) .bf16) : FVec Ideal (mat T 1024) .f32 :=
  addf x (mulf (Host.divf (broadcastInDim (mat T 1024) ![] ho (constant ⟨0, ![]⟩ .f32 0x3F800000#32))
    (addf (broadcastInDim (mat T 1024) ![] ho (constant ⟨0, ![]⟩ .f32 0x3F800000#32)) (Host.exp (Host.negf
      (Host.dotGeneral (F := Ideal) (⟨[1], [0], [0], [1], [], [], wG⟩ : DotDims (mat T 1024) (mat 1024 1024) (mat T 1024)) none
        (rmsH h1 h0 hs hn hb hg x g) (extf .f32 G hl))))))
    (Host.dotGeneral (F := Ideal) (⟨[1], [0], [0], [1], [], [], wP⟩ : DotDims (mat T 256) (mat 256 1024) (mat T 1024)) none
      (shapeCast (mat T 256) p hp) (extf .f32 P hl)))

theorem pleH_apply (hT : T ≠ 1) (h1 : (mat T 1024).ReducesTo [1] ⟨1, ![T]⟩) (hr : (mat T 1024).Reduces [1] ⟨1, ![T]⟩) (h0 : 0 < (⟨0, ![]⟩ : Shape).numel)
    (hs : (⟨1, ![T]⟩ : Shape).BroadcastsInDim (mat T 1) ![0])
    (hn : (⟨0, ![]⟩ : Shape).BroadcastsInDim (mat T 1) ![]) (hb : (mat T 1).BroadcastsInDim (mat T 1024) ![0, 1])
    (hg : (mat 1 1024).BroadcastsInDim (mat T 1024) ![0, 1]) (ho : (⟨0, ![]⟩ : Shape).BroadcastsInDim (mat T 1024) ![])
    (hp : (⟨3, ![1, T, 256]⟩ : Shape).ShapeCasts (mat T 256))
    (wG : DotDims.WF (mat T 1024) (mat 1024 1024) (mat T 1024) [1] [0] [0] [1] [] [])
    (wP : DotDims.WF (mat T 256) (mat 256 1024) (mat T 1024) [1] [0] [0] [1] [] []) (hl : FTy.bits .bf16 < FTy.bits .f32)
    (x : FVec Ideal (mat T 1024) .f32) (p : FVec Ideal ⟨3, ![1, T, 256]⟩ .f32) (g : FVec Ideal (mat 1 1024) .f32)
    (G : FVec Ideal (mat 1024 1024) .bf16) (P : FVec Ideal (mat 256 1024) .bf16) (t : Fin T) (c : Fin 1024) :
    pleH h1 h0 hs hn hb hg ho hp wG wP hl x p g G P (ValueIdx.ix2 t c)
      = pleR (fun j => x (ValueIdx.ix2 t j)) (fun k => p (ValueIdx.ix3 0 t k)) (fun j => g (ValueIdx.ix2 0 j)) (fun j c => G (ValueIdx.ix2 j c))
        (fun k c => P (ValueIdx.ix2 k c)) c := by
  refine congrArg (x (ValueIdx.ix2 t c) + ·) (congrArg₂ (· * ·) ?_ ?_)
  · have e := (dot_apply wG (rmsH h1 h0 hs hn hb hg x g) (extf .f32 G hl) t c).trans
      (Finset.sum_congr rfl fun j _ => congrArg (· * G (ValueIdx.ix2 j c)) (rmsH_apply hT h1 hr h0 hs hn hb hg x g t j))
    exact (sigm_apply ho _ _).trans (congrArg Ideal.logistic e)
  · refine (dot_apply wP _ (extf .f32 P hl) t c).trans (Finset.sum_congr rfl fun k _ => congrArg (· * P (ValueIdx.ix2 k c)) ?_)
    exact cast_mat p hp t k

end Cert.Rows

end
-- ==== Proof.Finish.Value.lean ====
/-
  The finishing call's idealized program over the extended reals: its four chunks are the epilogue and the last normalisation
  of their rows, so the output's array is that function of the arguments.
-/
module

public import proofs.«01_k».proof.Proof.Rows.Norm
public import proofs.«01_k».proof.Proof.Gen.FinishIdeal.Value
public import Idealize.ShloMosaic.Lib.Pipeline.ValueKit

@[expose] public section

set_option maxRecDepth 16384

noncomputable section

namespace Cert.FinishIdeal.Rows

open Idealize.ShloMosaic Idealize.ShloMosaic.TcCoe Idealize.SL.Sem
open Idealize.ShloMosaic.Pipeline (Dat Cfg Window)
open Cert.FinishIdeal Cert.FinishIdeal.Gen Cert.Rows

/-- The finished row: its epilogue, normalised. -/
def finR (row : Fin 1024 → EReal) (p : Fin 256 → EReal) (gain : Fin 1024 → EReal) (G : Fin 1024 → Fin 1024 → EReal)
    (P : Fin 256 → Fin 1024 → EReal) (last : Fin 1024 → EReal) (c : Fin 1024) : EReal :=
  rmsR (fun j => pleR row p gain G P j) last c

/-- A chunk of 256 rows, finished. -/
def chunk (x : Vec Ideal S256x1024 .f32) (p : Vec Ideal S1x256x256 .f32) (g : Vec Ideal S1x1024 .f32) (G : Vec Ideal S1024x1024 .bf16)
    (P : Vec Ideal S256x1024 .bf16) (l : Vec Ideal S1x1024 .f32) : Vec Ideal S256x1024 .f32 :=
  rmsK (T := 256) reduces_S256x1024_S256 shapeCasts_S256_S256x1 broadcasts_S256x1_S256x1024 broadcasts_S1x1024_S256x1024
    (pleK (T := 256) reduces_S256x1024_S256 shapeCasts_S256_S256x1 broadcasts_S256x1_S256x1024 broadcasts_S1x1024_S256x1024
      shapeCasts_S1x256x256_S256x256 dot_S256x1024_S1024x1024_S256x1024_1_0_0_1_n_n_wf dot_S256x256_S256x1024_S256x1024_1_0_0_1_n_n_wf
      bitsLt_bf16_f32 x p g G P) l

theorem chunk_apply (x : Vec Ideal S256x1024 .f32) (p : Vec Ideal S1x256x256 .f32) (g : Vec Ideal S1x1024 .f32) (G : Vec Ideal S1024x1024 .bf16)
    (P : Vec Ideal S256x1024 .bf16) (l : Vec Ideal S1x1024 .f32) (r : Fin 256) (c : Fin 1024) :
    chunk x p g G P l (ValueIdx.ix2 r c) = finR (fun j => x (ValueIdx.ix2 r j)) (fun k => p (ValueIdx.ix3 0 r k)) (fun j => g (ValueIdx.ix2 0 j))
      (fun j c => G (ValueIdx.ix2 j c)) (fun k c => P (ValueIdx.ix2 k c)) (fun j => l (ValueIdx.ix2 0 j)) c := by
  refine (rmsK_apply (T := 256) (by decide) _ _ _ _ _ l r c).trans (congrArg (fun f => rmsR f (fun j => l (ValueIdx.ix2 0 j)) c) (funext fun j => ?_))
  exact pleK_apply (T := 256) (by decide) _ _ _ _ _ _ _ _ x p g G P r j

/-! ## The four stores are the four chunks -/

theorem store_0 (x : Vec Ideal S256x1024 .f32) (p : Vec Ideal S1x256x256 .f32) (g : Vec Ideal S1x1024 .f32) (G : Vec Ideal S1024x1024 .bf16)
    (P : Vec Ideal S256x1024 .bf16) (l : Vec Ideal S1x1024 .f32) : k0_pay2 (F := Ideal) x p g G P l = chunk x p g G P l := rfl
theorem store_1 (x : Vec Ideal S256x1024 .f32) (p : Vec Ideal S1x256x256 .f32) (g : Vec Ideal S1x1024 .f32) (G : Vec Ideal S1024x1024 .bf16)
    (P : Vec Ideal S256x1024 .bf16) (l : Vec Ideal S1x1024 .f32) :
    k0_pay5 (F := Ideal) (k0_pay3 x p g G P) l (k0_pay4 x p g G P) = chunk x p g G P l := rfl
theorem store_2 (x : Vec Ideal S256x1024 .f32) (p : Vec Ideal S1x256x256 .f32) (g : Vec Ideal S1x1024 .f32) (G : Vec Ideal S1024x1024 .bf16)
    (P : Vec Ideal S256x1024 .bf16) (l : Vec Ideal S1x1024 .f32) :
    k0_pay9 (F := Ideal) (k0_pay6 x p g G P) l (k0_pay7 x p g G P) k0_pay8 = chunk x p g G P l := rfl
theorem store_3 (x : Vec Ideal S256x1024 .f32) (p : Vec Ideal S1x256x256 .f32) (g : Vec Ideal S1x1024 .f32) (G : Vec Ideal S1024x1024 .bf16)
    (P : Vec Ideal S256x1024 .bf16) (l : Vec Ideal S1x1024 .f32) :
    k0_pay1 (F := Ideal) (k0_pay10 x p g G P) l (k0_pay11 x p g G P) k0_pay12 = chunk x p g G P l := rfl

/-- The finished row at an index of a block. -/
def blockR (x0 : Vec Ideal S1024x1024 .f32) (x1 : Vec Ideal S1x1024x256 .f32) (x2 : Vec Ideal S1x1024 .f32) (x3 : Vec Ideal S1024x1024 .bf16)
    (x4 : Vec Ideal S256x1024 .bf16) (x5 : Vec Ideal S1x1024 .f32) (p c : Fin 1024) : EReal :=
  finR (fun j => x0 (ValueIdx.ix2 p j)) (fun k => x1 (ValueIdx.ix3 0 p k)) (fun j => x2 (ValueIdx.ix2 0 j))
    (fun j c => x3 (ValueIdx.ix2 j c)) (fun k c => x4 (ValueIdx.ix2 k c)) (fun j => x5 (ValueIdx.ix2 0 j)) c

theorem z2 : (![0, 0] : Fin 2 → ℕ) = fun _ => 0 := funext fun a => by
  match a with
  | 0 => rfl
  | 1 => rfl

/-- A chunk of the blocks at an offset is those rows of the block, finished. -/
theorem chunk_block (x0 : Vec Ideal S1024x1024 .f32) (x1 : Vec Ideal S1x1024x256 .f32) (x2 : Vec Ideal S1x1024 .f32) (x3 : Vec Ideal S1024x1024 .bf16)
    (x4 : Vec Ideal S256x1024 .bf16) (x5 : Vec Ideal S1x1024 .f32) (o : ℕ) (ho : o + 256 ≤ 1024)
    (i0 : ∀ a, (![o, 0] : Fin 2 → ℕ) a + S256x1024.size a ≤ S1024x1024.size a)
    (i1 : ∀ a, (![0, o, 0] : Fin 3 → ℕ) a + S1x256x256.size a ≤ S1x1024x256.size a) (y : S256x1024.Idx) :
    chunk (View.ld x0 (Rect.unit (s := S1024x1024) ![o, 0] S256x1024.size i0)) (View.ld x1 (Rect.unit (s := S1x1024x256) ![0, o, 0] S1x256x256.size i1))
      (View.ld x2 r0_2) (View.ld x3 r0_3) (View.ld x4 r0_4) (View.ld x5 r0_2) y
      = blockR x0 x1 x2 x3 x4 x5 ((Rect.unit (s := S1024x1024) ![o, 0] S256x1024.size i0).emb y (0 : Fin 2)) ((Rect.unit (s := S1024x1024) ![o, 0] S256x1024.size i0).emb y (1 : Fin 2)) := by
  obtain ⟨r, c, rfl⟩ : ∃ (r : Fin 256) (c : Fin 1024), y = ValueIdx.ix2 r c := ⟨y 0, y 1, ValueIdx.eq_ix2 y⟩
  have hq : (Rect.unit (s := S1024x1024) ![o, 0] S256x1024.size i0).emb (ValueIdx.ix2 r c) (0 : Fin 2) = (⟨o + r.val, by omega⟩ : Fin 1024) :=
    Fin.ext (by show o + 1 * r.val = o + r.val; omega)
  have hc : (Rect.unit (s := S1024x1024) ![o, 0] S256x1024.size i0).emb (ValueIdx.ix2 r c) (1 : Fin 2) = c :=
    Fin.ext (by show 0 + 1 * c.val = c.val; omega)
  rw [hq, hc, chunk_apply, View.ld_unit_zero z2, View.ld_unit_zero z2, View.ld_unit_zero z2, View.ld_unit_zero z2]
  have e0 : ∀ j : Fin 1024, View.ld x0 (Rect.unit (s := S1024x1024) ![o, 0] S256x1024.size i0) (ValueIdx.ix2 r j) = x0 (ValueIdx.ix2 ⟨o + r.val, by omega⟩ j) :=
    fun j => View.ld_unit_apply_of x0 _ _ i0 _ _ fun a => by
      match a with
      | 0 => rfl
      | 1 => exact (Nat.zero_add _).symm
  have e1 : ∀ k : Fin 256, View.ld x1 (Rect.unit (s := S1x1024x256) ![0, o, 0] S1x256x256.size i1) (ValueIdx.ix3 0 r k) = x1 (ValueIdx.ix3 0 ⟨o + r.val, by omega⟩ k) :=
    fun k => View.ld_unit_apply_of x1 _ _ i1 _ _ fun a => by
      match a with
      | 0 => rfl
      | 1 => rfl
      | 2 => exact (Nat.zero_add _).symm
  simp only [e0, e1]
  rfl

/-- The output's block at an index. -/
theorem out_apply (x0 : Vec Ideal S1024x1024 .f32) (x1 : Vec Ideal S1x1024x256 .f32) (x2 : Vec Ideal S1x1024 .f32) (x3 : Vec Ideal S1024x1024 .bf16)
    (x4 : Vec Ideal S256x1024 .bf16) (x5 : Vec Ideal S1x1024 .f32) (y : S1024x1024.Idx) :
    out0_6 x0 x1 x2 x3 x4 x5 y = blockR x0 x1 x2 x3 x4 x5 (y 0) (y 1) := by
  unfold out0_6
  refine View.canon_apply_of_pieces (Val := Elt Ideal) (e := EltTy.f32) (S := S1024x1024) (fun y : S1024x1024.Idx => blockR x0 x1 x2 x3 x4 x5 (y (0 : Fin 2)) (y (1 : Fin 2))) _ ?_ y (cover0_6 _ _ _ _ y)
  rintro q hq
  simp only [List.mem_cons, List.not_mem_nil, or_false] at hq
  rcases hq with rfl | rfl | rfl | rfl <;> intro z
  · exact (congrFun (store_3 _ _ _ _ _ _) z).trans (chunk_block x0 x1 x2 x3 x4 x5 768 (by decide) _ _ z)
  · exact (congrFun (store_2 _ _ _ _ _ _) z).trans (chunk_block x0 x1 x2 x3 x4 x5 512 (by decide) _ _ z)
  · exact (congrFun (store_1 _ _ _ _ _ _) z).trans (chunk_block x0 x1 x2 x3 x4 x5 256 (by decide) _ _ z)
  · exact (congrFun (store_0 _ _ _ _ _ _) z).trans (chunk_block x0 x1 x2 x3 x4 x5 0 (by decide) _ _ z)

/-! ## The blocks -/

variable (m : (ℓ : Loc nD τ sig) → Buf (Elt Ideal) ℓ) (c : Dev nD) (t : Fin grid0.N)

theorem coord_val : ∀ t : Fin grid0.N, (grid0.coords t 0).val = t.val := by decide +kernel

theorem point_lt (t : Fin grid0.N) : t.val < 16 := lt_of_lt_of_eq t.isLt N_0

/-- Token `p` of tile `t`. -/
def tok (t : Fin grid0.N) (p : Fin 1024) : Fin 16384 := ⟨t.val * 1024 + p.val, by have := point_lt t; omega⟩

theorem coord_word (t : Fin grid0.N) : (BitVec.ofNat 32 (grid0.coords t 0).val).toNat = t.val := by
  have := point_lt t
  rw [coord_val, BitVec.toNat_ofNat]
  omega

/-- The tile's rows of the residual stream, -/
theorem read_0 (p i : Fin 1024) : iblk m c 0 t (ValueIdx.ix2 p i) = m ((c : Thread nD τ).loc main_arg0) (ValueIdx.ix2 (tok t p) i) := by
  refine congrArg (m ((c : Thread nD τ).loc main_arg0)) (funext fun a => Fin.ext ?_)
  refine ((cfg0.win 0).rect_emb_val t (ValueIdx.ix2 p i) a).trans ?_
  match a with
  | ⟨0, _⟩ => exact congrArg (fun k => k * 1024 + p.val) (coord_word t)
  | ⟨1, _⟩ => exact Nat.zero_add _

/-- of the second layer's per-layer input, -/
theorem read_1 (p : Fin 1024) (k : Fin 256) : iblk m c 1 t (ValueIdx.ix3 0 p k) = m ((c : Thread nD τ).loc main_arg1) (ValueIdx.ix3 1 (tok t p) k) := by
  refine congrArg (m ((c : Thread nD τ).loc main_arg1)) (funext fun a => Fin.ext ?_)
  refine ((cfg0.win 1).rect_emb_val t (ValueIdx.ix3 0 p k) a).trans ?_
  match a with
  | ⟨0, _⟩ => rfl
  | ⟨1, _⟩ => exact congrArg (fun k => k * 1024 + p.val) (coord_word t)
  | ⟨2, _⟩ => exact Nat.zero_add _

/-- and the weights whole. -/
theorem read_2 : iblk m c 2 t = m ((c : Thread nD τ).loc main_arg2) := by
  refine funext fun y => congrArg (m ((c : Thread nD τ).loc main_arg2)) (funext fun b => Fin.ext ?_)
  refine ((cfg0.win 2).rect_emb_val t y b).trans ?_
  match b with
  | ⟨0, _⟩ => exact Nat.zero_add _
  | ⟨1, _⟩ => exact Nat.zero_add _
theorem read_3 : iblk m c 3 t = m ((c : Thread nD τ).loc main_arg3) := by
  refine funext fun y => congrArg (m ((c : Thread nD τ).loc main_arg3)) (funext fun b => Fin.ext ?_)
  refine ((cfg0.win 3).rect_emb_val t y b).trans ?_
  match b with
  | ⟨0, _⟩ => exact Nat.zero_add _
  | ⟨1, _⟩ => exact Nat.zero_add _
theorem read_4 : iblk m c 4 t = m ((c : Thread nD τ).loc main_arg4) := by
  refine funext fun y => congrArg (m ((c : Thread nD τ).loc main_arg4)) (funext fun b => Fin.ext ?_)
  refine ((cfg0.win 4).rect_emb_val t y b).trans ?_
  match b with
  | ⟨0, _⟩ => exact Nat.zero_add _
  | ⟨1, _⟩ => exact Nat.zero_add _
theorem read_5 : iblk m c 5 t = m ((c : Thread nD τ).loc main_arg5) := by
  refine funext fun y => congrArg (m ((c : Thread nD τ).loc main_arg5)) (funext fun b => Fin.ext ?_)
  refine ((cfg0.win 5).rect_emb_val t y b).trans ?_
  match b with
  | ⟨0, _⟩ => exact Nat.zero_add _
  | ⟨1, _⟩ => exact Nat.zero_add _

/-- The result at a token, of arguments. -/
def want (h : Vec Ideal S16384x1024 .f32) (pm : Vec Ideal S2x16384x256 .f32) (gp : Vec Ideal S1x1024 .f32) (wpg : Vec Ideal S1024x1024 .bf16)
    (wpp : Vec Ideal S256x1024 .bf16) (gf : Vec Ideal S1x1024 .f32) (t : Fin 16384) (i : Fin 1024) : EReal :=
  finR (fun j => h (ValueIdx.ix2 t j)) (fun k => pm (ValueIdx.ix3 1 t k)) (fun j => gp (ValueIdx.ix2 0 j))
    (fun j c => wpg (ValueIdx.ix2 j c)) (fun k c => wpp (ValueIdx.ix2 k c)) (fun j => gf (ValueIdx.ix2 0 j)) i

/-- The result's array. -/
def arr : Buf (Elt Ideal) ((c : Thread nD τ).loc main_v0) := fun y =>
  want (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (y 0) (y 1)

/-- A block whose rows are a tile's gives the tile's results. -/
theorem block_want (h : Vec Ideal S16384x1024 .f32) (pm : Vec Ideal S2x16384x256 .f32) (gp : Vec Ideal S1x1024 .f32) (wpg : Vec Ideal S1024x1024 .bf16)
    (wpp : Vec Ideal S256x1024 .bf16) (gf : Vec Ideal S1x1024 .f32) (x0 : Vec Ideal S1024x1024 .f32) (x1 : Vec Ideal S1x1024x256 .f32)
    (h0 : ∀ p i, x0 (ValueIdx.ix2 p i) = h (ValueIdx.ix2 (tok t p) i)) (h1 : ∀ p k, x1 (ValueIdx.ix3 0 p k) = pm (ValueIdx.ix3 1 (tok t p) k)) (p i : Fin 1024) :
    blockR x0 x1 gp wpg wpp gf p i = want h pm gp wpg wpp gf (tok t p) i := by
  unfold blockR want
  simp only [h0, h1]

/-- What a point writes back. -/
theorem flushed (t : Fin cfg0.N) : (dats m 0 c).flushed 6 t = ((cfg0.win 6).blk t).view.read (Elt Ideal) (arr m c) := by
  rw [Value.flushed6, read_2, read_3, read_4, read_5]
  refine funext fun (y : S1024x1024.Idx) => ?_
  obtain ⟨p, i, rfl⟩ : ∃ (p i : Fin 1024), y = ValueIdx.ix2 p i := ⟨y 0, y 1, ValueIdx.eq_ix2 y⟩
  refine (out_apply _ _ _ _ _ _ (ValueIdx.ix2 p i)).trans ((block_want t _ _ _ _ _ _ _ _ (read_0 m c t) (read_1 m c t) p i).trans ?_)
  show _ = want _ _ _ _ _ _ (((cfg0.win 6).blk t).view.emb (ValueIdx.ix2 p i) (0 : Fin 2)) (((cfg0.win 6).blk t).view.emb (ValueIdx.ix2 p i) (1 : Fin 2))
  refine congrArg₂ (want _ _ _ _ _ _) (Fin.ext ?_) (Fin.ext ?_)
  · exact (((cfg0.win 6).rect_emb_val t (ValueIdx.ix2 p i) (0 : Fin 2)).trans (congrArg (fun k => k * 1024 + p.val) (coord_word t))).symm
  · exact (((cfg0.win 6).rect_emb_val t (ValueIdx.ix2 p i) (1 : Fin 2)).trans (Nat.zero_add _)).symm

/-- The blocks cover the array. -/
theorem cover (y : S16384x1024.Idx) : ∃ t : Fin cfg0.N, (cfg0.win 6).flush t = true ∧ y ∈ ((cfg0.win 6).blk t).view.set := by
  have h0 : (y 0 : ℕ) < 16384 := (y 0).isLt
  have h1 : (y 1 : ℕ) < 1024 := (y 1).isLt
  let t : Fin grid0.N := ⟨(y 0 : ℕ) / 1024, by rw [N_0]; omega⟩
  refine ⟨t, flush0_6 t, ?_⟩
  show y ∈ ((View.whole main_v0).slice ((cfg0.win 6).rect t)).set
  erw [View.set_slice_whole]
  refine (Pipeline.Window.mem_rect_iff (cfg0.win 6) t y (by rfl)).mpr fun a => ?_
  have e : (cfg0.win 6).index t (0 : Fin 2) * (cfg0.win 6).size (0 : Fin 2) = t.val * 1024 := congrArg (· * 1024) (coord_word t)
  have ht : t.val = (y 0 : ℕ) / 1024 := rfl
  have g0 : t.val * 1024 ≤ (y 0 : ℕ) := by omega
  have g1 : (y 0 : ℕ) < t.val * 1024 + 1024 := by omega
  match a with
  | ⟨0, _⟩ => exact ⟨le_of_eq_of_le e g0, lt_of_lt_of_eq g1 (congrArg (· + 1024) e).symm⟩
  | ⟨1, _⟩ => exact ⟨le_of_eq_of_le (Nat.zero_mul 1024) (Nat.zero_le _), lt_of_lt_of_eq h1 (Nat.zero_add 1024).symm⟩

/-- So the array ends holding the function. -/
theorem final : (dats m 0 c).arrAt 6 cfg0.N = arr m c :=
  (dats m 0 c).arrAt_eq_of_cover 6 (arr m c) (fun t _ => flushed m c t) cover

end Cert.FinishIdeal.Rows

end
-- ==== Proof.Finish.Ref.lean ====
/-
  The finishing reference over the extended reals: its result is the same function of the arguments, index by index.
-/
module

public import proofs.«01_k».proof.Proof.Finish.Value
public import proofs.«01_k».proof.Proof.Gen.FinishRefIdeal.Run

@[expose] public section

set_option maxRecDepth 16384

noncomputable section

namespace Cert.FinishRefIdeal.Rows

open Idealize.ShloMosaic Idealize.ShloMosaic.TcCoe Idealize.SL.Sem
open Cert.FinishRefIdeal Cert.FinishRefIdeal.Gen Cert.Rows
open Cert.FinishIdeal.Rows (finR want)

attribute [local instance] Cert.FinishRefIdeal.Gen.facts

/-- The reference's epilogue of the arguments. -/
def refP (h : Vec Ideal S16384x1024 .f32) (pm : Vec Ideal S2x16384x256 .f32) (gp : Vec Ideal S1x1024 .f32) (wpg : Vec Ideal S1024x1024 .bf16)
    (wpp : Vec Ideal S256x1024 .bf16) : Vec Ideal S16384x1024 .f32 :=
  pleH (T := 16384) reducesTo_S16384x1024_S16384_d1 h_S_ bcast_S16384_S16384x1_0 bcast_S_S16384x1 bcast_S16384x1_S16384x1024_0_1
    bcast_S1x1024_S16384x1024_0_1 bcast_S_S16384x1024 shapeCasts_S1x16384x256_S16384x256 dot_S16384x1024_S1024x1024_S16384x1024_1_0_0_1_n_n_wf
    dot_S16384x256_S256x1024_S16384x1024_1_0_0_1_n_n_wf bitsLt_bf16_f32 h
    (extractStridedSlice S1x16384x256 ![1, 0, 0] pm slices_S2x16384x256_S1x16384x256_1_0_0) gp wpg wpp

/-- The reference's result of the arguments. -/
def refF (h : Vec Ideal S16384x1024 .f32) (pm : Vec Ideal S2x16384x256 .f32) (gp : Vec Ideal S1x1024 .f32) (wpg : Vec Ideal S1024x1024 .bf16)
    (wpp : Vec Ideal S256x1024 .bf16) (gf : Vec Ideal S1x1024 .f32) : Vec Ideal S16384x1024 .f32 :=
  rmsH (T := 16384) reducesTo_S16384x1024_S16384_d1 h_S_ bcast_S16384_S16384x1_0 bcast_S_S16384x1 bcast_S16384x1_S16384x1024_0_1
    bcast_S1x1024_S16384x1024_0_1 (refP h pm gp wpg wpp) gf

theorem reduces_rows : (S16384x1024).Reduces [1] S16384 := by decide

/-- The layer's slice at an index. -/
theorem layer_apply (pm : Vec Ideal S2x16384x256 .f32) (t : Fin 16384) (k : Fin 256) :
    extractStridedSlice S1x16384x256 ![1, 0, 0] pm slices_S2x16384x256_S1x16384x256_1_0_0 (ValueIdx.ix3 0 t k) = pm (ValueIdx.ix3 1 t k) := by
  refine congrArg pm (funext fun a => Fin.ext ?_)
  match a with
  | ⟨0, _⟩ => rfl
  | ⟨1, _⟩ => exact Nat.zero_add _
  | ⟨2, _⟩ => exact Nat.zero_add _

/-- The reference's result at an index. -/
theorem ref_apply (h : Vec Ideal S16384x1024 .f32) (pm : Vec Ideal S2x16384x256 .f32) (gp : Vec Ideal S1x1024 .f32) (wpg : Vec Ideal S1024x1024 .bf16)
    (wpp : Vec Ideal S256x1024 .bf16) (gf : Vec Ideal S1x1024 .f32) (t : Fin 16384) (i : Fin 1024) :
    refF h pm gp wpg wpp gf (ValueIdx.ix2 t i) = want h pm gp wpg wpp gf t i := by
  refine (rmsH_apply (T := 16384) (by decide) _ reduces_rows _ _ _ _ _ _ gf t i).trans
    (congrArg (fun f => rmsR f (fun j => gf (ValueIdx.ix2 0 j)) i) (funext fun j => ?_))
  refine (pleH_apply (T := 16384) (by decide) _ reduces_rows _ _ _ _ _ _ _ _ _ _ h _ gp wpg wpp t j).trans ?_
  exact congrArg (fun p => pleR (fun j => h (ValueIdx.ix2 t j)) p (fun j => gp (ValueIdx.ix2 0 j)) (fun j c => wpg (ValueIdx.ix2 j c))
    (fun k c => wpp (ValueIdx.ix2 k c)) j) (funext fun k => layer_apply pm t k)

/-- The run's named term is that function of the arguments. -/
theorem res_eq (m : (ℓ : Loc nD τ sig) → Buf (Elt Ideal) ℓ) (c : Dev nD) :
    Value.res_main_v37 (F := Ideal) m c = refF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

end Cert.FinishRefIdeal.Rows

end
-- ==== Proof.Finish.Claims.lean ====
/-
  The finishing call's claims: the three frames, and over the extended reals the idealized program and the reference end
  with the same result.
-/
module

public import proofs.«01_k».proof.Defs
public import proofs.«01_k».proof.Proof.Finish.Ref
public import proofs.«01_k».proof.Proof.Gen.Finish.Frame

@[expose] public section

set_option maxRecDepth 16384

noncomputable section

namespace Cert.FinishIdeal.Rows

open Idealize.ShloMosaic Idealize.ShloMosaic.TcCoe Idealize.SL.Sem
open Cert.FinishRefIdeal.Rows (refF ref_apply res_eq)

attribute [local instance] Cert.Finish.Gen.facts Cert.FinishIdeal.Gen.facts Cert.FinishRefIdeal.Gen.facts

/-- The kernel's frame, from any memory. -/
theorem frame_bits : Cert.quiescent_Finish := fun m g _ => Cert.Finish.Gen.frame m g

/-- The idealized program's frame. -/
theorem frame_ideal : Cert.quiescent_FinishIdeal := fun m g _ => Cert.FinishIdeal.Gen.frame m g

/-- The reference's result where the arguments agree. -/
theorem same (m : (ℓ : Loc nD τ sig) → Buf (Elt Ideal) ℓ)
    (m' : (ℓ : Loc Cert.FinishRefIdeal.nD Cert.FinishRefIdeal.τ Cert.FinishRefIdeal.sig) → Buf (Elt Ideal) ℓ) (c : Dev nD)
    (a0 : m' ((c.tc : Thread Cert.FinishRefIdeal.nD Cert.FinishRefIdeal.τ).loc Cert.FinishRefIdeal.main_arg0) = m ((c.tc : Thread nD τ).loc main_arg0))
    (a1 : m' ((c.tc : Thread Cert.FinishRefIdeal.nD Cert.FinishRefIdeal.τ).loc Cert.FinishRefIdeal.main_arg1) = m ((c.tc : Thread nD τ).loc main_arg1))
    (a2 : m' ((c.tc : Thread Cert.FinishRefIdeal.nD Cert.FinishRefIdeal.τ).loc Cert.FinishRefIdeal.main_arg2) = m ((c.tc : Thread nD τ).loc main_arg2))
    (a3 : m' ((c.tc : Thread Cert.FinishRefIdeal.nD Cert.FinishRefIdeal.τ).loc Cert.FinishRefIdeal.main_arg3) = m ((c.tc : Thread nD τ).loc main_arg3))
    (a4 : m' ((c.tc : Thread Cert.FinishRefIdeal.nD Cert.FinishRefIdeal.τ).loc Cert.FinishRefIdeal.main_arg4) = m ((c.tc : Thread nD τ).loc main_arg4))
    (a5 : m' ((c.tc : Thread Cert.FinishRefIdeal.nD Cert.FinishRefIdeal.τ).loc Cert.FinishRefIdeal.main_arg5) = m ((c.tc : Thread nD τ).loc main_arg5)) :
    Cert.FinishRefIdeal.Value.res_main_v37 (F := Ideal) m' c = arr m c := by
  refine funext fun (y : S16384x1024.Idx) => ?_
  obtain ⟨t, i, rfl⟩ : ∃ (t : Fin 16384) (i : Fin 1024), y = ValueIdx.ix2 t i := ⟨y 0, y 1, ValueIdx.eq_ix2 y⟩
  rw [res_eq, a0, a1, a2, a3, a4, a5]
  exact ref_apply _ _ _ _ _ _ t i

/-- The reference's frame. -/
theorem frame_reference : Cert.quiescent_FinishRefIdeal := fun m g _ =>
  (θ_run _ _ _).mono (fun r e => ⟨fun c => (e c).2, sem_eq_zero_of_no_sems (by decide) r.2⟩) (Cert.FinishRefIdeal.Value.run m g)

/-- The value claim. -/
theorem algebraic : Cert.algebraic_FinishIdeal_FinishRefIdeal := by
  intro m g m' g' _ agree
  refine ⟨arr m, (θ_run _ _ _).mono (fun _ e c => ⟨(e c).1.trans (final m c), (e c).2⟩) (Value.run_blocks m g), ?_⟩
  refine (θ_run _ _ _).mono (fun _ e c => ?_) (Cert.FinishRefIdeal.Value.run m' g')
  obtain ⟨a0, a1, a2, a3, a4, a5⟩ := agree c
  exact ⟨(e c).1.trans (same m m' c a0 a1 a2 a3 a4 a5), (e c).2⟩

end Cert.FinishIdeal.Rows

end
-- ==== Proof.Dense.Trip.lean ====
/-
  The dense feed-forward's idealized program over the extended reals: what its loop leaves in the accumulator, and its block at
  an index, opened from the run.
-/
module

public import proofs.«01_k».proof.Proof.Rows.Norm
public import proofs.«01_k».proof.Proof.Gen.DenseIdeal.Value
public import Idealize.ShloMosaic.Lib.Pipeline.ValueKit

@[expose] public section

set_option maxRecDepth 16384

noncomputable section

namespace Cert.DenseIdeal.Rows

open Idealize.ShloMosaic Idealize.ShloMosaic.TcCoe Idealize.SL.Sem
open Cert.DenseIdeal Cert.DenseIdeal.Gen Cert.Rows

/-- A slice of 512 columns. -/
def cols (W : Vec Ideal S1024x3584 .bf16) (k : Fin k0_t1_loop.trips) : Vec Ideal S1024x512 .bf16 :=
  View.ld W (Rect.unit (s := S1024x3584) (k0_off1 k) S1024x512.size (k0_off1_inb k))

/-- A slice of 512 rows. -/
def rows (W : Vec Ideal S3584x1024 .bf16) (k : Fin k0_t1_loop.trips) : Vec Ideal S512x1024 .bf16 :=
  View.ld W (Rect.unit (s := S3584x1024) (k0_off2 k) S512x1024.size (k0_off2_inb k))

/-- The accumulator before a slice. -/
def acc (xn : Vec Ideal S1024x1024 .bf16) (G U : Vec Ideal S1024x3584 .bf16) (D : Vec Ideal S3584x1024 .bf16) : ℕ → Vec Ideal S1024x1024 .f32
  | 0 => k0_pay2 (F := Ideal)
  | k + 1 => if h : k < k0_t1_loop.trips then
      k0_pay3 (F := Ideal) xn (cols G ⟨k, h⟩) (cols U ⟨k, h⟩) (acc xn G U D k) (rows D ⟨k, h⟩)
    else acc xn G U D k

theorem z2 : (![0, 0] : Fin 2 → ℕ) = fun _ => 0 := funext fun a => by
  match a with
  | 0 => rfl
  | 1 => rfl

/-- A whole store hides what was there. -/
theorem canon_whole {e : EltTy} (inb : ∀ a, (![0, 0] : Fin 2 → ℕ) a + S1024x1024.size a ≤ S1024x1024.size a) (w : S1024x1024.Idx → Elt Ideal e)
    (L : List (View.Piece (Elt Ideal) S1024x1024 e)) :
    View.canon ((⟨Rect.unit (s := S1024x1024) ![0, 0] S1024x1024.size inb, w⟩ : View.Piece (Elt Ideal) S1024x1024 e) :: L) = w := by
  refine Eq.trans ?_ (funext fun y => View.canon_cons_emb (Rect.unit (s := S1024x1024) ![0, 0] S1024x1024.size inb) w L y)
  exact (View.ld_unit_zero (S := S1024x1024) z2 inb (View.canon _)).symm

variable (c : Dev nD) (i : grid0.Coords)
  (a1 : Memref sig .tc .vmem S1024x1024 .f32) (h1 : a1.IsWhole)
  (a2 : Memref sig .tc .vmem S1x1024 .f32) (h2 : a2.IsWhole)
  (a3 : Memref sig .tc .vmem S1024x3584 .bf16) (h3 : a3.IsWhole)
  (a4 : Memref sig .tc .vmem S1024x3584 .bf16) (h4 : a4.IsWhole)
  (a5 : Memref sig .tc .vmem S3584x1024 .bf16) (h5 : a5.IsWhole)
  (a6 : Memref sig .tc .vmem S1x1024x256 .f32) (h6 : a6.IsWhole)
  (a7 : Memref sig .tc .vmem S1x1024 .f32) (h7 : a7.IsWhole)
  (a8 : Memref sig .tc .vmem S1024x1024 .bf16) (h8 : a8.IsWhole)
  (a9 : Memref sig .tc .vmem S256x1024 .bf16) (h9 : a9.IsWhole)
  (a10 : Memref sig .tc .vmem S1024x1024 .f32) (h10 : a10.IsWhole)
  (a11 : Memref sig .tc .vmem S1024x1024 .bf16) (h11 : a11.IsWhole)
  (a12 : Memref sig .tc .vmem S1024x1024 .f32) (h12 : a12.IsWhole)
  (x2 x3 : Vec Ideal S1024x3584 .bf16) (x4 : Vec Ideal S3584x1024 .bf16) (X11 : BufTy.Contents (Elt Ideal) a11.view.ty)

/-- What a trip stores. -/
theorem trip_eq (k : Fin k0_t1_loop.trips) (f : BufTy.Contents (Elt Ideal) a12.view.ty) :
    tripL_k0_t1 (F := Ideal) Variants.none c none i a1 h1 a2 h2 a3 h3 a4 h4 a5 h5 a6 h6 a7 h7 a8 h8 a9 h9 a10 h10 a11 h11 a12 h12 (h3.unread x2) (h4.unread x3) (h5.unread x4) X11 k f
      = [(⟨Rect.unit (s := S1024x1024) ![0, 0] S1024x1024.size inb_S1024x1024_S1024x1024_0_0, k0_pay3 (F := Ideal) (a11.view.read (Elt Ideal) X11) (cols x2 k) (cols x3 k) (a12.view.read (Elt Ideal) f)
        (rows x4 k)⟩ : View.Piece (Elt Ideal) S1024x1024 .f32)] := by
  unfold tripL_k0_t1 trip_k0_t1
  dsimp only
  sl_unfold_words
  simp only [View.readAt_eq_ld, Memref.IsWhole.read_unread, View.ld_unit_zero (S := S1024x1024) z2]
  rfl

/-- The accumulator after the trips before `n`. -/
theorem acc_eq (n : ℕ) (hn : n ≤ k0_t1_loop.trips) :
    View.canon (pb_k0_t1 (F := Ideal) Variants.none c none i a1 h1 a2 h2 a3 h3 a4 h4 a5 h5 a6 h6 a7 h7 a8 h8 a9 h9 a10 h10 a11 h11 a12 h12 (h3.unread x2) (h4.unread x3) (h5.unread x4) X11
      (a12.view.writes (Elt Ideal) a12.view.junk [⟨Rect.unit (s := S1024x1024) ![0, 0] S1024x1024.size inb_S1024x1024_S1024x1024_0_0, k0_pay2 (F := Ideal)⟩]) n
      ++ [(⟨Rect.unit (s := S1024x1024) ![0, 0] S1024x1024.size inb_S1024x1024_S1024x1024_0_0, k0_pay2 (F := Ideal)⟩ : View.Piece (Elt Ideal) S1024x1024 .f32)])
      = acc (a11.view.read (Elt Ideal) X11) x2 x3 x4 n := by
  induction n with
  | zero =>
    rw [pb_k0_t1.eq_1, List.nil_append]
    exact canon_whole _ _ _
  | succ n ih =>
    have hlt : n < k0_t1_loop.trips := hn
    have e := pb_k0_t1_succ (F := Ideal) Variants.none c none i a1 h1 a2 h2 a3 h3 a4 h4 a5 h5 a6 h6 a7 h7 a8 h8 a9 h9 a10 h10 a11 h11 a12 h12 (h3.unread x2) (h4.unread x3) (h5.unread x4) X11
      (a12.view.writes (Elt Ideal) a12.view.junk [⟨Rect.unit (s := S1024x1024) ![0, 0] S1024x1024.size inb_S1024x1024_S1024x1024_0_0, k0_pay2 (F := Ideal)⟩]) ⟨n, hlt⟩
    dsimp only at e
    rw [e, trip_eq, List.append_assoc, List.singleton_append, canon_whole, ← View.writes_append]
    rw [show acc (a11.view.read (Elt Ideal) X11) x2 x3 x4 (n + 1) = k0_pay3 (F := Ideal) (a11.view.read (Elt Ideal) X11) (cols x2 ⟨n, hlt⟩) (cols x3 ⟨n, hlt⟩)
      (acc (a11.view.read (Elt Ideal) X11) x2 x3 x4 n) (rows x4 ⟨n, hlt⟩) from dif_pos hlt, ← ih (Nat.le_of_lt hlt)]
    refine congrArg (fun v => k0_pay3 (F := Ideal) _ _ _ v _) (funext fun y => View.read_writes_junk_apply_eq_canon a12.view y _)

end Cert.DenseIdeal.Rows

end
-- ==== Proof.Dense.Sum.lean ====
/-
  The dense feed-forward's accumulator at an index: after the seven slices it is the feed-forward of the normalised rows.
-/
module

public import proofs.«01_k».proof.Proof.Dense.Trip

@[expose] public section

set_option maxRecDepth 16384

noncomputable section

namespace Cert.DenseIdeal.Rows

open Idealize.ShloMosaic Idealize.ShloMosaic.TcCoe
open Cert.DenseIdeal Cert.DenseIdeal.Gen Cert.Rows
open Cert.KernelIdeal.Moe (mat prod_apply unit_apply add_apply)
open Cert.ReferenceIdeal.Moe (unitR ffnR)

/-- A row after the dense feed-forward: the row and the feed-forward of it normalised. -/
def midR (row gain : Fin 1024 → EReal) (G U : Fin 1024 → Fin 3584 → EReal) (D : Fin 3584 → Fin 1024 → EReal) (j : Fin 1024) : EReal :=
  row j + ffnR (fun i => rmsR row gain i) G U D j

/-- The result at a token, of the arguments: the epilogue of its row after the feed-forward. -/
def want (h : Vec Ideal S16384x1024 .f32) (gf : Vec Ideal S1x1024 .f32) (wg wu : Vec Ideal S1024x3584 .bf16) (wd : Vec Ideal S3584x1024 .bf16)
    (pm : Vec Ideal S2x16384x256 .f32) (gp : Vec Ideal S1x1024 .f32) (wpg : Vec Ideal S1024x1024 .bf16) (wpp : Vec Ideal S256x1024 .bf16)
    (t : Fin 16384) (i : Fin 1024) : EReal :=
  pleR (fun j => midR (fun j => h (ValueIdx.ix2 t j)) (fun j => gf (ValueIdx.ix2 0 j)) (fun i f => wg (ValueIdx.ix2 i f)) (fun i f => wu (ValueIdx.ix2 i f))
      (fun f i => wd (ValueIdx.ix2 f i)) j)
    (fun k => pm (ValueIdx.ix3 0 t k)) (fun j => gp (ValueIdx.ix2 0 j)) (fun j c => wpg (ValueIdx.ix2 j c)) (fun k c => wpp (ValueIdx.ix2 k c)) i

/-- The hidden axis is taken in seven slices. -/
theorem trips_seven : k0_t1_loop.trips = 7 := by decide

theorem off1_val : ∀ j : Fin k0_t1_loop.trips, k0_off1 j 1 = 512 * j.val := by decide
theorem off2_val : ∀ j : Fin k0_t1_loop.trips, k0_off2 j 0 = 512 * j.val := by decide

/-- A column slice's element in the whole weight. -/
theorem cols_apply (W : Vec Ideal S1024x3584 .bf16) (j : Fin k0_t1_loop.trips) (i : Fin 1024) (f : Fin 512)
    (h : 512 * j.val + f.val < 3584) : cols W j (ValueIdx.ix2 i f) = W (ValueIdx.ix2 i ⟨512 * j.val + f.val, h⟩) := by
  refine congrArg W (funext fun a => Fin.ext ?_)
  match a with
  | 0 => show 0 + 1 * i.val = i.val; omega
  | 1 => show k0_off1 j 1 + 1 * f.val = 512 * j.val + f.val; rw [off1_val]; omega

/-- A row slice's element in the whole weight. -/
theorem rows_apply (W : Vec Ideal S3584x1024 .bf16) (j : Fin k0_t1_loop.trips) (f : Fin 512) (c : Fin 1024)
    (h : 512 * j.val + f.val < 3584) : rows W j (ValueIdx.ix2 f c) = W (ValueIdx.ix2 ⟨512 * j.val + f.val, h⟩ c) := by
  refine congrArg W (funext fun a => Fin.ext ?_)
  match a with
  | 0 => show k0_off2 j 0 + 1 * f.val = 512 * j.val + f.val; rw [off2_val]; omega
  | 1 => show 0 + 1 * c.val = c.val; omega

/-- One slice of the hidden axis adds its units' shares. -/
theorem slice_apply (xn : Vec Ideal S1024x1024 .bf16) (G U : Vec Ideal S1024x512 .bf16) (y : Vec Ideal S1024x1024 .f32)
    (D : Vec Ideal S512x1024 .bf16) (r c : Fin 1024) :
    k0_pay3 (F := Ideal) xn G U y D (ValueIdx.ix2 r c) = y (ValueIdx.ix2 r c) + ∑ f : Fin 512,
      ((∑ i, xn (ValueIdx.ix2 r i) * G (ValueIdx.ix2 i f)) * Ideal.logistic (∑ i, xn (ValueIdx.ix2 r i) * G (ValueIdx.ix2 i f))
        * ∑ i, xn (ValueIdx.ix2 r i) * U (ValueIdx.ix2 i f)) * D (ValueIdx.ix2 f c) := by
  unfold k0_pay3
  refine (congrFun (shapeCast_self _ shapeCasts_S1024x1024_S1024x1024) (ValueIdx.ix2 r c)).trans ?_
  refine (add_apply _ _ _).trans (congrArg (y (ValueIdx.ix2 r c) + ·) ?_)
  refine (prod_apply dot_S1024x512_S512x1024_S1024x1024_1_0_0_1_n_n_wf _ D r c).trans ?_
  refine Finset.sum_congr rfl fun f _ => congrArg (fun p : EReal => p * D (ValueIdx.ix2 f c)) ?_
  refine (unit_apply _ _ _).trans ?_
  have eg := prod_apply dot_S1024x1024_S1024x512_S1024x512_1_0_0_1_n_n_wf xn G r f
  have eu := prod_apply dot_S1024x1024_S1024x512_S1024x512_1_0_0_1_n_n_wf xn U r f
  exact congrArg₂ (fun p q : EReal => p * Ideal.logistic p * q) eg eu

/-- The accumulator before slice `j`: the shares of the first `512 j` hidden units. -/
theorem acc_apply (xn : Vec Ideal S1024x1024 .bf16) (G U : Vec Ideal S1024x3584 .bf16) (D : Vec Ideal S3584x1024 .bf16)
    (r c : Fin 1024) (j : ℕ) (hj : j ≤ 7) :
    acc xn G U D j (ValueIdx.ix2 r c) = ∑ f ∈ Finset.range (512 * j),
      if h : f < 3584 then unitR (fun i => xn (ValueIdx.ix2 r i)) (fun i f => G (ValueIdx.ix2 i f)) (fun i f => U (ValueIdx.ix2 i f)) ⟨f, h⟩
        * D (ValueIdx.ix2 ⟨f, h⟩ c) else 0 := by
  induction j with
  | zero =>
    show k0_pay2 (F := Ideal) (ValueIdx.ix2 r c) = 0
    unfold k0_pay2
    refine (congrFun (shapeCast_self _ shapeCasts_S1024x1024_S1024x1024) (ValueIdx.ix2 r c)).trans ?_
    exact Ideal.ofBits_zero_f32
  | succ j ih =>
    have hlt : j < k0_t1_loop.trips := by rw [trips_seven]; omega
    unfold acc
    rw [dif_pos hlt, slice_apply, ih (by omega), Nat.mul_succ, Finset.sum_range_add]
    refine congrArg (_ + ·) ?_
    rw [Finset.sum_range]
    refine Finset.sum_congr rfl fun f _ => ?_
    have hf : 512 * j + f.val < 3584 := by omega
    rw [dif_pos hf, rows_apply D ⟨j, hlt⟩ f c hf]
    simp only [cols_apply _ ⟨j, hlt⟩ _ f hf]
    rfl

/-- The loop's left operand: the rows normalised. -/
theorem norm_apply (x : Vec Ideal S1024x1024 .f32) (g : Vec Ideal S1x1024 .f32) (r c : Fin 1024) :
    k0_pay1 (F := Ideal) x g (ValueIdx.ix2 r c) = rmsR (fun j => x (ValueIdx.ix2 r j)) (fun j => g (ValueIdx.ix2 0 j)) c := by
  unfold k0_pay1
  refine (congrFun (shapeCast_self _ shapeCasts_S1024x1024_S1024x1024) (ValueIdx.ix2 r c)).trans ?_
  exact rmsK_apply (T := 1024) (by decide) reduces_S1024x1024_S1024 shapeCasts_S1024_S1024x1 broadcasts_S1024x1_S1024x1024
    broadcasts_S1x1024_S1024x1024 x g r c

/-- What the loop leaves. -/
theorem ffn_apply (x : Vec Ideal S1024x1024 .f32) (g : Vec Ideal S1x1024 .f32) (G U : Vec Ideal S1024x3584 .bf16) (D : Vec Ideal S3584x1024 .bf16)
    (r c : Fin 1024) :
    acc (k0_pay1 (F := Ideal) x g) G U D k0_t1_loop.trips (ValueIdx.ix2 r c)
      = ffnR (fun i => rmsR (fun j => x (ValueIdx.ix2 r j)) (fun j => g (ValueIdx.ix2 0 j)) i) (fun i f => G (ValueIdx.ix2 i f))
        (fun i f => U (ValueIdx.ix2 i f)) (fun f i => D (ValueIdx.ix2 f i)) c := by
  refine (acc_apply _ G U D r c k0_t1_loop.trips (by rw [trips_seven])).trans ?_
  rw [trips_seven, Finset.sum_range]
  simp only [norm_apply]
  exact Finset.sum_congr rfl fun f _ => dif_pos f.isLt

end Cert.DenseIdeal.Rows

end
-- ==== Proof.Dense.Ref.lean ====
/-
  The dense feed-forward's reference over the extended reals: its result is the same function of the arguments, index by index.
-/
module

public import proofs.«01_k».proof.Proof.Dense.Sum
public import proofs.«01_k».proof.Proof.Gen.DenseRefIdeal.Run

@[expose] public section

set_option maxRecDepth 16384

noncomputable section

namespace Cert.DenseRefIdeal.Rows

open Idealize.ShloMosaic Idealize.ShloMosaic.TcCoe Idealize.SL.Sem
open Cert.DenseRefIdeal Cert.DenseRefIdeal.Gen Cert.Rows
open Cert.DenseIdeal.Rows (midR want)
open Cert.ReferenceIdeal.Moe (ffnR dot_apply silu_apply)

attribute [local instance] Cert.DenseRefIdeal.Gen.facts

/-- The reference's normalised rows. -/
def refN (h : Vec Ideal S16384x1024 .f32) (gf : Vec Ideal S1x1024 .f32) : Vec Ideal S16384x1024 .f32 :=
  rmsH (T := 16384) reducesTo_S16384x1024_S16384_d1 h_S_ bcast_S16384_S16384x1_0 bcast_S_S16384x1 bcast_S16384x1_S16384x1024_0_1
    bcast_S1x1024_S16384x1024_0_1 h gf

/-- The reference's silu. -/
def silu (x : FVec Ideal S16384x3584 .f32) : FVec Ideal S16384x3584 .f32 :=
  mulf x (Host.divf (broadcastInDim S16384x3584 ![] bcast_S_S16384x3584 (constant (F := Ideal) S_ .f32 0x3F800000#32))
    (addf (broadcastInDim S16384x3584 ![] bcast_S_S16384x3584 (constant (F := Ideal) S_ .f32 0x3F800000#32)) (Host.exp (Host.negf x))))

/-- The reference's rows through a weight of hidden columns. -/
def refU (h : Vec Ideal S16384x1024 .f32) (gf : Vec Ideal S1x1024 .f32) (w : Vec Ideal S1024x3584 .bf16) : FVec Ideal S16384x3584 .f32 :=
  Host.dotGeneral (F := Ideal) (φ₁ := .f32) dot_S16384x1024_S1024x3584_S16384x3584_1_0_0_1_n_n none (refN h gf) (extf (F := Ideal) .f32 (w : FVec Ideal S1024x3584 .bf16) bitsLt_bf16_f32)

/-- The reference's rows after the feed-forward. -/
def refM (h : Vec Ideal S16384x1024 .f32) (gf : Vec Ideal S1x1024 .f32) (wg wu : Vec Ideal S1024x3584 .bf16) (wd : Vec Ideal S3584x1024 .bf16) : Vec Ideal S16384x1024 .f32 :=
  addf (F := Ideal) (φ := .f32) h (Host.dotGeneral (F := Ideal) dot_S16384x3584_S3584x1024_S16384x1024_1_0_0_1_n_n none
    (mulf (silu (refU h gf wg)) (refU h gf wu)) (extf (F := Ideal) .f32 (wd : FVec Ideal S3584x1024 .bf16) bitsLt_bf16_f32))

/-- The reference's result of the arguments. -/
def refF (h : Vec Ideal S16384x1024 .f32) (gf : Vec Ideal S1x1024 .f32) (wg wu : Vec Ideal S1024x3584 .bf16) (wd : Vec Ideal S3584x1024 .bf16)
    (pm : Vec Ideal S2x16384x256 .f32) (gp : Vec Ideal S1x1024 .f32) (wpg : Vec Ideal S1024x1024 .bf16) (wpp : Vec Ideal S256x1024 .bf16) : Vec Ideal S16384x1024 .f32 :=
  pleH (T := 16384) reducesTo_S16384x1024_S16384_d1 h_S_ bcast_S16384_S16384x1_0 bcast_S_S16384x1 bcast_S16384x1_S16384x1024_0_1
    bcast_S1x1024_S16384x1024_0_1 bcast_S_S16384x1024 shapeCasts_S1x16384x256_S16384x256 dot_S16384x1024_S1024x1024_S16384x1024_1_0_0_1_n_n_wf
    dot_S16384x256_S256x1024_S16384x1024_1_0_0_1_n_n_wf bitsLt_bf16_f32 (refM h gf wg wu wd)
    (extractStridedSlice S1x16384x256 ![0, 0, 0] pm slices_S2x16384x256_S1x16384x256_0_0_0) gp wpg wpp

theorem reduces_rows : (S16384x1024).Reduces [1] S16384 := by decide

/-- The layer's slice at an index. -/
theorem layer_apply (pm : Vec Ideal S2x16384x256 .f32) (t : Fin 16384) (k : Fin 256) :
    extractStridedSlice S1x16384x256 ![0, 0, 0] pm slices_S2x16384x256_S1x16384x256_0_0_0 (ValueIdx.ix3 0 t k) = pm (ValueIdx.ix3 0 t k) := by
  refine congrArg pm (funext fun a => Fin.ext ?_)
  match a with
  | ⟨0, _⟩ => rfl
  | ⟨1, _⟩ => exact Nat.zero_add _
  | ⟨2, _⟩ => exact Nat.zero_add _

/-- A hidden product at an index. -/
theorem unit_apply (h : Vec Ideal S16384x1024 .f32) (gf : Vec Ideal S1x1024 .f32) (w : Vec Ideal S1024x3584 .bf16) (t : Fin 16384) (f : Fin 3584) :
    refU h gf w (ValueIdx.ix2 t f)
      = ∑ i : Fin 1024, rmsR (fun j => h (ValueIdx.ix2 t j)) (fun j => gf (ValueIdx.ix2 0 j)) i * w (ValueIdx.ix2 i f) := by
  refine (dot_apply dot_S16384x1024_S1024x3584_S16384x3584_1_0_0_1_n_n_wf (refN h gf) (extf (F := Ideal) .f32 (w : FVec Ideal S1024x3584 .bf16) bitsLt_bf16_f32) t f).trans ?_
  refine Finset.sum_congr rfl fun i _ => congrArg (fun q : EReal => q * w (ValueIdx.ix2 i f)) ?_
  exact rmsH_apply (T := 16384) (by decide) _ reduces_rows _ _ _ _ _ h gf t i

/-- The rows after the feed-forward at an index. -/
theorem mid_apply (h : Vec Ideal S16384x1024 .f32) (gf : Vec Ideal S1x1024 .f32) (wg wu : Vec Ideal S1024x3584 .bf16) (wd : Vec Ideal S3584x1024 .bf16)
    (t : Fin 16384) (j : Fin 1024) :
    refM h gf wg wu wd (ValueIdx.ix2 t j) = midR (fun j => h (ValueIdx.ix2 t j)) (fun j => gf (ValueIdx.ix2 0 j)) (fun i f => wg (ValueIdx.ix2 i f))
      (fun i f => wu (ValueIdx.ix2 i f)) (fun f i => wd (ValueIdx.ix2 f i)) j := by
  refine congrArg (fun q : EReal => h (ValueIdx.ix2 t j) + q) ?_
  refine (dot_apply dot_S16384x3584_S3584x1024_S16384x1024_1_0_0_1_n_n_wf _ (extf (F := Ideal) .f32 (wd : FVec Ideal S3584x1024 .bf16) bitsLt_bf16_f32) t j).trans ?_
  refine Finset.sum_congr rfl fun f _ => congrArg (fun q : EReal => q * wd (ValueIdx.ix2 f j)) ?_
  have es : silu (refU h gf wg) (ValueIdx.ix2 t f) = refU h gf wg (ValueIdx.ix2 t f) * Ideal.logistic (refU h gf wg (ValueIdx.ix2 t f)) :=
    silu_apply bcast_S_S16384x3584 _ _
  exact (congrArg₂ (fun p q : EReal => p * q) es rfl).trans
    (congrArg₂ (fun p q : EReal => p * Ideal.logistic p * q) (unit_apply h gf wg t f) (unit_apply h gf wu t f))

/-- The reference's result at an index. -/
theorem ref_apply (h : Vec Ideal S16384x1024 .f32) (gf : Vec Ideal S1x1024 .f32) (wg wu : Vec Ideal S1024x3584 .bf16) (wd : Vec Ideal S3584x1024 .bf16)
    (pm : Vec Ideal S2x16384x256 .f32) (gp : Vec Ideal S1x1024 .f32) (wpg : Vec Ideal S1024x1024 .bf16) (wpp : Vec Ideal S256x1024 .bf16) (t : Fin 16384) (i : Fin 1024) :
    refF h gf wg wu wd pm gp wpg wpp (ValueIdx.ix2 t i) = want h gf wg wu wd pm gp wpg wpp t i := by
  refine (pleH_apply (T := 16384) (by decide) _ reduces_rows _ _ _ _ _ _ _ _ _ _ (refM h gf wg wu wd) _ gp wpg wpp t i).trans ?_
  exact congrArg₂ (fun (row : Fin 1024 → EReal) (p : Fin 256 → EReal) => pleR row p (fun j => gp (ValueIdx.ix2 0 j)) (fun j c => wpg (ValueIdx.ix2 j c))
    (fun k c => wpp (ValueIdx.ix2 k c)) i) (funext fun j => mid_apply h gf wg wu wd t j) (funext fun k => layer_apply pm t k)

/-- The run's named term is that function of the arguments. -/
theorem res_eq (m : (ℓ : Loc nD τ sig) → Buf (Elt Ideal) ℓ) (c : Dev nD) :
    Value.res_main_v46 (F := Ideal) m c = refF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6))
      (m ((c.tc : Thread nD τ).loc main_arg7)) (m ((c.tc : Thread nD τ).loc main_arg8)) := by
  unfold Value.res_main_v46 refF refM silu refU refN pleH rmsH invH
  rfl

end Cert.DenseRefIdeal.Rows

end
-- ==== Proof.Dense.Block.lean ====
/-
  The dense feed-forward's output block over the extended reals: its four chunks are the epilogue of the rows after the
  feed-forward.
-/
module

public import proofs.«01_k».proof.Proof.Dense.Trip

@[expose] public section

set_option maxRecDepth 16384

noncomputable section

namespace Cert.DenseIdeal.Rows

open Idealize.ShloMosaic Idealize.ShloMosaic.TcCoe Idealize.SL.Sem
open Cert.DenseIdeal Cert.DenseIdeal.Gen Cert.Rows

/-- A chunk of 256 rows: the epilogue of the rows and their accumulator. -/
def chunk (x : Vec Ideal S256x1024 .f32) (a : Vec Ideal S256x1024 .f32) (p : Vec Ideal S1x256x256 .f32) (g : Vec Ideal S1x1024 .f32) (G : Vec Ideal S1024x1024 .bf16)
    (P : Vec Ideal S256x1024 .bf16) : Vec Ideal S256x1024 .f32 :=
  pleK (T := 256) reduces_S256x1024_S256 shapeCasts_S256_S256x1 broadcasts_S256x1_S256x1024 broadcasts_S1x1024_S256x1024
    shapeCasts_S1x256x256_S256x256 dot_S256x1024_S1024x1024_S256x1024_1_0_0_1_n_n_wf dot_S256x256_S256x1024_S256x1024_1_0_0_1_n_n_wf
    bitsLt_bf16_f32 (addf x a) p g G P

theorem chunk_apply (x : Vec Ideal S256x1024 .f32) (a : Vec Ideal S256x1024 .f32) (p : Vec Ideal S1x256x256 .f32) (g : Vec Ideal S1x1024 .f32) (G : Vec Ideal S1024x1024 .bf16)
    (P : Vec Ideal S256x1024 .bf16) (r : Fin 256) (c : Fin 1024) :
    chunk x a p g G P (ValueIdx.ix2 r c) = pleR (fun j => x (ValueIdx.ix2 r j) + a (ValueIdx.ix2 r j)) (fun k => p (ValueIdx.ix3 0 r k))
      (fun j => g (ValueIdx.ix2 0 j)) (fun j c => G (ValueIdx.ix2 j c)) (fun k c => P (ValueIdx.ix2 k c)) c :=
  pleK_apply (T := 256) (by decide) _ _ _ _ _ _ _ _ (addf x a) p g G P r c

/-! ## The four stores are the four chunks -/

theorem store_0 (x : Vec Ideal S256x1024 .f32) (a : Vec Ideal S256x1024 .f32) (p : Vec Ideal S1x256x256 .f32) (g : Vec Ideal S1x1024 .f32) (G : Vec Ideal S1024x1024 .bf16)
    (P : Vec Ideal S256x1024 .bf16) :
    k0_pay6 (F := Ideal) (k0_pay4 x a) (k0_pay5 p) g G P = chunk x a p g G P := rfl
theorem store_1 (x : Vec Ideal S256x1024 .f32) (a : Vec Ideal S256x1024 .f32) (p : Vec Ideal S1x256x256 .f32) (g : Vec Ideal S1x1024 .f32) (G : Vec Ideal S1024x1024 .bf16)
    (P : Vec Ideal S256x1024 .bf16) :
    k0_pay10 (F := Ideal) (k0_pay7 x a) (k0_pay8 p) g G P (k0_pay9 x a) = chunk x a p g G P := rfl
theorem store_2 (x : Vec Ideal S256x1024 .f32) (a : Vec Ideal S256x1024 .f32) (p : Vec Ideal S1x256x256 .f32) (g : Vec Ideal S1x1024 .f32) (G : Vec Ideal S1024x1024 .bf16)
    (P : Vec Ideal S256x1024 .bf16) :
    k0_pay14 (F := Ideal) (k0_pay11 x a) (k0_pay12 p) P (k0_pay13 x a g G) = chunk x a p g G P := rfl
theorem store_3 (x : Vec Ideal S256x1024 .f32) (a : Vec Ideal S256x1024 .f32) (p : Vec Ideal S1x256x256 .f32) (g : Vec Ideal S1x1024 .f32) (G : Vec Ideal S1024x1024 .bf16)
    (P : Vec Ideal S256x1024 .bf16) :
    k0_pay15 (F := Ideal) x a p g G P = chunk x a p g G P := rfl

/-- The epilogue at an index of a block, of an accumulator. -/
def blockR (x0 A : Vec Ideal S1024x1024 .f32) (x5 : Vec Ideal S1x1024x256 .f32) (x6 : Vec Ideal S1x1024 .f32) (x7 : Vec Ideal S1024x1024 .bf16)
    (x8 : Vec Ideal S256x1024 .bf16) (p c : Fin 1024) : EReal :=
  pleR (fun j => x0 (ValueIdx.ix2 p j) + A (ValueIdx.ix2 p j)) (fun k => x5 (ValueIdx.ix3 0 p k)) (fun j => x6 (ValueIdx.ix2 0 j))
    (fun j c => x7 (ValueIdx.ix2 j c)) (fun k c => x8 (ValueIdx.ix2 k c)) c

/-- A chunk of the blocks at an offset is those rows of the block. -/
theorem chunk_block (x0 A : Vec Ideal S1024x1024 .f32) (x5 : Vec Ideal S1x1024x256 .f32) (x6 : Vec Ideal S1x1024 .f32) (x7 : Vec Ideal S1024x1024 .bf16)
    (x8 : Vec Ideal S256x1024 .bf16) (o : ℕ) (ho : o + 256 ≤ 1024)
    (i0 : ∀ a, (![o, 0] : Fin 2 → ℕ) a + S256x1024.size a ≤ S1024x1024.size a)
    (i1 : ∀ a, (![0, o, 0] : Fin 3 → ℕ) a + S1x256x256.size a ≤ S1x1024x256.size a) (y : S256x1024.Idx) :
    chunk (View.ld x0 (Rect.unit (s := S1024x1024) ![o, 0] S256x1024.size i0)) (View.ld A (Rect.unit (s := S1024x1024) ![o, 0] S256x1024.size i0))
      (View.ld x5 (Rect.unit (s := S1x1024x256) ![0, o, 0] S1x256x256.size i1)) x6 x7 x8 y
      = blockR x0 A x5 x6 x7 x8 ((Rect.unit (s := S1024x1024) ![o, 0] S256x1024.size i0).emb y (0 : Fin 2)) ((Rect.unit (s := S1024x1024) ![o, 0] S256x1024.size i0).emb y (1 : Fin 2)) := by
  obtain ⟨r, c, rfl⟩ : ∃ (r : Fin 256) (c : Fin 1024), y = ValueIdx.ix2 r c := ⟨y 0, y 1, ValueIdx.eq_ix2 y⟩
  have hq : (Rect.unit (s := S1024x1024) ![o, 0] S256x1024.size i0).emb (ValueIdx.ix2 r c) (0 : Fin 2) = (⟨o + r.val, by omega⟩ : Fin 1024) :=
    Fin.ext (by show o + 1 * r.val = o + r.val; omega)
  have hc : (Rect.unit (s := S1024x1024) ![o, 0] S256x1024.size i0).emb (ValueIdx.ix2 r c) (1 : Fin 2) = c :=
    Fin.ext (by show 0 + 1 * c.val = c.val; omega)
  rw [hq, hc, chunk_apply]
  have e0 : ∀ (X : Vec Ideal S1024x1024 .f32) (j : Fin 1024), View.ld X (Rect.unit (s := S1024x1024) ![o, 0] S256x1024.size i0) (ValueIdx.ix2 r j) = X (ValueIdx.ix2 ⟨o + r.val, by omega⟩ j) :=
    fun X j => View.ld_unit_apply_of X _ _ i0 _ _ fun a => by
      match a with
      | 0 => rfl
      | 1 => exact (Nat.zero_add _).symm
  have e1 : ∀ k : Fin 256, View.ld x5 (Rect.unit (s := S1x1024x256) ![0, o, 0] S1x256x256.size i1) (ValueIdx.ix3 0 r k) = x5 (ValueIdx.ix3 0 ⟨o + r.val, by omega⟩ k) :=
    fun k => View.ld_unit_apply_of x5 _ _ i1 _ _ fun a => by
      match a with
      | 0 => rfl
      | 1 => rfl
      | 2 => exact (Nat.zero_add _).symm
  exact congrArg₂ (fun (row : Fin 1024 → EReal) (q : Fin 256 → EReal) => pleR row q (fun j => x6 (ValueIdx.ix2 0 j)) (fun j c => x7 (ValueIdx.ix2 j c))
    (fun k c => x8 (ValueIdx.ix2 k c)) c) (funext fun j => congrArg₂ (fun a b : EReal => a + b) (e0 x0 j) (e0 A j)) (funext e1)

variable (c : Dev nD) (i : grid0.Coords)
  (a1 : Memref sig .tc .vmem S1024x1024 .f32) (h1 : a1.IsWhole)
  (a2 : Memref sig .tc .vmem S1x1024 .f32) (h2 : a2.IsWhole)
  (a3 : Memref sig .tc .vmem S1024x3584 .bf16) (h3 : a3.IsWhole)
  (a4 : Memref sig .tc .vmem S1024x3584 .bf16) (h4 : a4.IsWhole)
  (a5 : Memref sig .tc .vmem S3584x1024 .bf16) (h5 : a5.IsWhole)
  (a6 : Memref sig .tc .vmem S1x1024x256 .f32) (h6 : a6.IsWhole)
  (a7 : Memref sig .tc .vmem S1x1024 .f32) (h7 : a7.IsWhole)
  (a8 : Memref sig .tc .vmem S1024x1024 .bf16) (h8 : a8.IsWhole)
  (a9 : Memref sig .tc .vmem S256x1024 .bf16) (h9 : a9.IsWhole)
  (a10 : Memref sig .tc .vmem S1024x1024 .f32) (h10 : a10.IsWhole)
  (a11 : Memref sig .tc .vmem S1024x1024 .bf16) (h11 : a11.IsWhole)
  (a12 : Memref sig .tc .vmem S1024x1024 .f32) (h12 : a12.IsWhole)
  (x0 : Vec Ideal S1024x1024 .f32) (x1 : Vec Ideal S1x1024 .f32) (x2 x3 : Vec Ideal S1024x3584 .bf16) (x4 : Vec Ideal S3584x1024 .bf16)
    (x5 : Vec Ideal S1x1024x256 .f32) (x6 : Vec Ideal S1x1024 .f32) (x7 : Vec Ideal S1024x1024 .bf16) (x8 : Vec Ideal S256x1024 .bf16)

/-- What the loop's left operand reads as. -/
theorem left_eq : a11.view.read (Elt Ideal) (a11.view.writes (Elt Ideal) a11.view.junk
      [⟨Rect.unit (s := S1024x1024) ![0, 0] S1024x1024.size inb_S1024x1024_S1024x1024_0_0, k0_pay1 (F := Ideal) (View.readAt (Elt Ideal) a1.view (Rect.unit (s := S1024x1024) ![0, 0] S1024x1024.size inb_S1024x1024_S1024x1024_0_0).toLoadRect (h1.unread x0)) (View.readAt (Elt Ideal) a2.view (Rect.unit (s := S1x1024) ![0, 0] S1x1024.size inb_S1x1024_S1x1024_0_0).toLoadRect (h2.unread x1))⟩]) = k0_pay1 (F := Ideal) x0 x1 := by
  refine (funext fun y => View.read_writes_junk_apply_eq_canon a11.view y _).trans ?_
  refine (canon_whole _ _ _).trans ?_
  simp only [View.readAt_eq_ld, Memref.IsWhole.read_unread, View.ld_unit_zero (S := S1024x1024) z2, View.ld_unit_zero (S := S1x1024) z2]

/-- A read of the accumulator after the loop. -/
theorem cov_eq (r : Rect S1024x1024) :
    a12.view.readCov (pb_k0_t1 (F := Ideal) Variants.none c none i a1 h1 a2 h2 a3 h3 a4 h4 a5 h5 a6 h6 a7 h7 a8 h8 a9 h9 a10 h10 a11 h11 a12 h12 (h3.unread x2) (h4.unread x3) (h5.unread x4) (a11.view.writes (Elt Ideal) a11.view.junk
      [⟨Rect.unit (s := S1024x1024) ![0, 0] S1024x1024.size inb_S1024x1024_S1024x1024_0_0, k0_pay1 (F := Ideal) (View.readAt (Elt Ideal) a1.view (Rect.unit (s := S1024x1024) ![0, 0] S1024x1024.size inb_S1024x1024_S1024x1024_0_0).toLoadRect (h1.unread x0)) (View.readAt (Elt Ideal) a2.view (Rect.unit (s := S1x1024) ![0, 0] S1x1024.size inb_S1x1024_S1x1024_0_0).toLoadRect (h2.unread x1))⟩])
      (a12.view.writes (Elt Ideal) a12.view.junk [⟨Rect.unit (s := S1024x1024) ![0, 0] S1024x1024.size inb_S1024x1024_S1024x1024_0_0, k0_pay2 (F := Ideal)⟩]) (Scf.trips k0_t1_loop.lb k0_t1_loop.ub k0_t1_loop.st)
      ++ [(⟨Rect.unit (s := S1024x1024) ![0, 0] S1024x1024.size inb_S1024x1024_S1024x1024_0_0, k0_pay2 (F := Ideal)⟩ : View.Piece (Elt Ideal) S1024x1024 .f32)]) r.toLoadRect
      = View.ld (acc (k0_pay1 (F := Ideal) x0 x1) x2 x3 x4 k0_t1_loop.trips) r := by
  rw [View.readCov_eq_canon']
  refine funext fun y => (congrFun (acc_eq c i a1 h1 a2 h2 a3 h3 a4 h4 a5 h5 a6 h6 a7 h7 a8 h8 a9 h9 a10 h10 a11 h11 a12 h12 x2 x3 x4 _ k0_t1_loop.trips le_rfl) _).trans ?_
  rw [left_eq]

/-- The output's block at an index. -/
theorem out_apply (y : S1024x1024.Idx) :
    out0_A_9 (F := Ideal) c i a1 h1 a2 h2 a3 h3 a4 h4 a5 h5 a6 h6 a7 h7 a8 h8 a9 h9 a10 h10 a11 h11 a12 h12 x0 x1 x2 x3 x4 x5 x6 x7 x8 y
      = blockR x0 (acc (k0_pay1 (F := Ideal) x0 x1) x2 x3 x4 k0_t1_loop.trips) x5 x6 x7 x8 (y 0) (y 1) := by
  unfold out0_A_9
  rw [View.read_writes_eq_canon _ _ _ (cover0_A_9 c i a1 h1 a2 h2 a3 h3 a4 h4 a5 h5 a6 h6 a7 h7 a8 h8 a9 h9 a10 h10 a11 h11 a12 h12 x0 x1 x2 x3 x4 x5 x6 x7 x8)]
  refine View.canon_apply_of_pieces (Val := Elt Ideal) (e := EltTy.f32) (S := S1024x1024)
    (fun y : S1024x1024.Idx => blockR x0 (acc (k0_pay1 (F := Ideal) x0 x1) x2 x3 x4 k0_t1_loop.trips) x5 x6 x7 x8 (y (0 : Fin 2)) (y (1 : Fin 2))) _ ?_ y
    (cover0_A_9 c i a1 h1 a2 h2 a3 h3 a4 h4 a5 h5 a6 h6 a7 h7 a8 h8 a9 h9 a10 h10 a11 h11 a12 h12 x0 x1 x2 x3 x4 x5 x6 x7 x8 y)
  unfold kernelRun0_A
  dsimp only
  sl_unfold_words
  simp only [cov_eq c i a1 h1 a2 h2 a3 h3 a4 h4 a5 h5 a6 h6 a7 h7 a8 h8 a9 h9 a10 h10 a11 h11 a12 h12 x0 x1 x2 x3 x4]
  simp only [View.readAt_eq_ld, Memref.IsWhole.read_unread, View.ld_unit_zero (S := S1024x1024) z2, View.ld_unit_zero (S := S1x1024) z2,
    View.ld_unit_zero (S := S256x1024) z2]
  rintro q hq
  simp only [List.mem_cons, List.not_mem_nil, or_false] at hq
  rcases hq with rfl | rfl | rfl | rfl <;> intro z
  · exact (congrFun (store_3 _ _ _ _ _ _) z).trans (chunk_block x0 _ x5 x6 x7 x8 768 (by decide) _ _ z)
  · exact (congrFun (store_2 _ _ _ _ _ _) z).trans (chunk_block x0 _ x5 x6 x7 x8 512 (by decide) _ _ z)
  · exact (congrFun (store_1 _ _ _ _ _ _) z).trans (chunk_block x0 _ x5 x6 x7 x8 256 (by decide) _ _ z)
  · exact (congrFun (store_0 _ _ _ _ _ _) z).trans (chunk_block x0 _ x5 x6 x7 x8 0 (by decide) _ _ z)

end Cert.DenseIdeal.Rows

end
-- ==== Proof.Dense.Value.lean ====
/-
  The dense feed-forward's idealized program over the extended reals: its output's array is the epilogue of the rows after the
  feed-forward, as a function of the arguments.
-/
module

public import proofs.«01_k».proof.Proof.Dense.Block
public import proofs.«01_k».proof.Proof.Dense.Sum

@[expose] public section

set_option maxRecDepth 16384

noncomputable section

namespace Cert.DenseIdeal.Rows

open Idealize.ShloMosaic Idealize.ShloMosaic.TcCoe Idealize.SL.Sem
open Idealize.ShloMosaic.Pipeline (Dat Cfg Window)
open Cert.DenseIdeal Cert.DenseIdeal.Gen Cert.Rows

/-! ## The blocks -/

variable (m : (ℓ : Loc nD τ sig) → Buf (Elt Ideal) ℓ) (c : Dev nD) (t : Fin grid0.N)

theorem coord_val : ∀ t : Fin grid0.N, (grid0.coords t 0).val = t.val := by decide +kernel

theorem point_lt (t : Fin grid0.N) : t.val < 16 := lt_of_lt_of_eq t.isLt N_0

/-- Token `p` of tile `t`. -/
def tok (t : Fin grid0.N) (p : Fin 1024) : Fin 16384 := ⟨t.val * 1024 + p.val, by have := point_lt t; omega⟩

theorem coord_word (t : Fin grid0.N) : (BitVec.ofNat 32 (grid0.coords t 0).val).toNat = t.val := by
  have := point_lt t
  rw [coord_val, BitVec.toNat_ofNat]
  omega

/-- The tile's rows of the residual stream, -/
theorem read_0 (p i : Fin 1024) : iblk m c 0 t (ValueIdx.ix2 p i) = m ((c : Thread nD τ).loc main_arg0) (ValueIdx.ix2 (tok t p) i) := by
  refine congrArg (m ((c : Thread nD τ).loc main_arg0)) (funext fun a => Fin.ext ?_)
  refine ((cfg0.win 0).rect_emb_val t (ValueIdx.ix2 p i) a).trans ?_
  match a with
  | ⟨0, _⟩ => exact congrArg (fun k => k * 1024 + p.val) (coord_word t)
  | ⟨1, _⟩ => exact Nat.zero_add _

/-- of the first layer's per-layer input, -/
theorem read_5 (p : Fin 1024) (k : Fin 256) : iblk m c 5 t (ValueIdx.ix3 0 p k) = m ((c : Thread nD τ).loc main_arg5) (ValueIdx.ix3 0 (tok t p) k) := by
  refine congrArg (m ((c : Thread nD τ).loc main_arg5)) (funext fun a => Fin.ext ?_)
  refine ((cfg0.win 5).rect_emb_val t (ValueIdx.ix3 0 p k) a).trans ?_
  match a with
  | ⟨0, _⟩ => rfl
  | ⟨1, _⟩ => exact congrArg (fun k => k * 1024 + p.val) (coord_word t)
  | ⟨2, _⟩ => exact Nat.zero_add _

/-- and the gains and weights whole. -/
theorem read_1 : iblk m c 1 t = m ((c : Thread nD τ).loc main_arg1) := by
  refine funext fun y => congrArg (m ((c : Thread nD τ).loc main_arg1)) (funext fun b => Fin.ext ?_)
  refine ((cfg0.win 1).rect_emb_val t y b).trans ?_
  match b with
  | ⟨0, _⟩ => exact Nat.zero_add _
  | ⟨1, _⟩ => exact Nat.zero_add _
theorem read_2 : iblk m c 2 t = m ((c : Thread nD τ).loc main_arg2) := by
  refine funext fun y => congrArg (m ((c : Thread nD τ).loc main_arg2)) (funext fun b => Fin.ext ?_)
  refine ((cfg0.win 2).rect_emb_val t y b).trans ?_
  match b with
  | ⟨0, _⟩ => exact Nat.zero_add _
  | ⟨1, _⟩ => exact Nat.zero_add _
theorem read_3 : iblk m c 3 t = m ((c : Thread nD τ).loc main_arg3) := by
  refine funext fun y => congrArg (m ((c : Thread nD τ).loc main_arg3)) (funext fun b => Fin.ext ?_)
  refine ((cfg0.win 3).rect_emb_val t y b).trans ?_
  match b with
  | ⟨0, _⟩ => exact Nat.zero_add _
  | ⟨1, _⟩ => exact Nat.zero_add _
theorem read_4 : iblk m c 4 t = m ((c : Thread nD τ).loc main_arg4) := by
  refine funext fun y => congrArg (m ((c : Thread nD τ).loc main_arg4)) (funext fun b => Fin.ext ?_)
  refine ((cfg0.win 4).rect_emb_val t y b).trans ?_
  match b with
  | ⟨0, _⟩ => exact Nat.zero_add _
  | ⟨1, _⟩ => exact Nat.zero_add _
theorem read_6 : iblk m c 6 t = m ((c : Thread nD τ).loc main_arg6) := by
  refine funext fun y => congrArg (m ((c : Thread nD τ).loc main_arg6)) (funext fun b => Fin.ext ?_)
  refine ((cfg0.win 6).rect_emb_val t y b).trans ?_
  match b with
  | ⟨0, _⟩ => exact Nat.zero_add _
  | ⟨1, _⟩ => exact Nat.zero_add _
theorem read_7 : iblk m c 7 t = m ((c : Thread nD τ).loc main_arg7) := by
  refine funext fun y => congrArg (m ((c : Thread nD τ).loc main_arg7)) (funext fun b => Fin.ext ?_)
  refine ((cfg0.win 7).rect_emb_val t y b).trans ?_
  match b with
  | ⟨0, _⟩ => exact Nat.zero_add _
  | ⟨1, _⟩ => exact Nat.zero_add _
theorem read_8 : iblk m c 8 t = m ((c : Thread nD τ).loc main_arg8) := by
  refine funext fun y => congrArg (m ((c : Thread nD τ).loc main_arg8)) (funext fun b => Fin.ext ?_)
  refine ((cfg0.win 8).rect_emb_val t y b).trans ?_
  match b with
  | ⟨0, _⟩ => exact Nat.zero_add _
  | ⟨1, _⟩ => exact Nat.zero_add _

/-- The result's array. -/
def arr : Buf (Elt Ideal) ((c : Thread nD τ).loc main_v0) := fun y =>
  want (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) (m ((c : Thread nD τ).loc main_arg8)) (y 0) (y 1)

/-- A block whose rows are a tile's gives the tile's results. -/
theorem block_want (h : Vec Ideal S16384x1024 .f32) (gf : Vec Ideal S1x1024 .f32) (wg wu : Vec Ideal S1024x3584 .bf16) (wd : Vec Ideal S3584x1024 .bf16)
    (pm : Vec Ideal S2x16384x256 .f32) (gp : Vec Ideal S1x1024 .f32) (wpg : Vec Ideal S1024x1024 .bf16) (wpp : Vec Ideal S256x1024 .bf16)
    (x0 : Vec Ideal S1024x1024 .f32) (x5 : Vec Ideal S1x1024x256 .f32)
    (h0 : ∀ p i, x0 (ValueIdx.ix2 p i) = h (ValueIdx.ix2 (tok t p) i)) (h5 : ∀ p k, x5 (ValueIdx.ix3 0 p k) = pm (ValueIdx.ix3 0 (tok t p) k)) (p i : Fin 1024) :
    blockR x0 (acc (k0_pay1 (F := Ideal) x0 gf) wg wu wd k0_t1_loop.trips) x5 gp wpg wpp p i = want h gf wg wu wd pm gp wpg wpp (tok t p) i := by
  unfold blockR want midR
  simp only [ffn_apply, h0, h5]

/-- What a point writes back. -/
theorem flushed (t : Fin cfg0.N) : (dats m 0 c).flushed 9 t = ((cfg0.win 9).blk t).view.read (Elt Ideal) (arr m c) := by
  rw [Value.flushed9_A, read_1, read_2, read_3, read_4, read_6, read_7, read_8]
  refine funext fun (y : S1024x1024.Idx) => ?_
  obtain ⟨p, i, rfl⟩ : ∃ (p i : Fin 1024), y = ValueIdx.ix2 p i := ⟨y 0, y 1, ValueIdx.eq_ix2 y⟩
  refine (out_apply _ _ _ _ _ _ _ _ _ _ _ _ _ _ _ _ _ _ _ _ _ _ _ _ _ _ _ _ _ _ _ _ _ _ _ (ValueIdx.ix2 p i)).trans
    ((block_want t _ _ _ _ _ _ _ _ _ _ _ (read_0 m c t) (read_5 m c t) p i).trans ?_)
  show _ = want _ _ _ _ _ _ _ _ _ (((cfg0.win 9).blk t).view.emb (ValueIdx.ix2 p i) (0 : Fin 2)) (((cfg0.win 9).blk t).view.emb (ValueIdx.ix2 p i) (1 : Fin 2))
  refine congrArg₂ (want _ _ _ _ _ _ _ _ _) (Fin.ext ?_) (Fin.ext ?_)
  · exact (((cfg0.win 9).rect_emb_val t (ValueIdx.ix2 p i) (0 : Fin 2)).trans (congrArg (fun k => k * 1024 + p.val) (coord_word t))).symm
  · exact (((cfg0.win 9).rect_emb_val t (ValueIdx.ix2 p i) (1 : Fin 2)).trans (Nat.zero_add _)).symm

/-- The blocks cover the array. -/
theorem cover (y : S16384x1024.Idx) : ∃ t : Fin cfg0.N, (cfg0.win 9).flush t = true ∧ y ∈ ((cfg0.win 9).blk t).view.set := by
  have h0 : (y 0 : ℕ) < 16384 := (y 0).isLt
  have h1 : (y 1 : ℕ) < 1024 := (y 1).isLt
  let t : Fin grid0.N := ⟨(y 0 : ℕ) / 1024, by rw [N_0]; omega⟩
  refine ⟨t, flush0_9 t, ?_⟩
  show y ∈ ((View.whole main_v0).slice ((cfg0.win 9).rect t)).set
  erw [View.set_slice_whole]
  refine (Pipeline.Window.mem_rect_iff (cfg0.win 9) t y (by rfl)).mpr fun a => ?_
  have e : (cfg0.win 9).index t (0 : Fin 2) * (cfg0.win 9).size (0 : Fin 2) = t.val * 1024 := congrArg (· * 1024) (coord_word t)
  have ht : t.val = (y 0 : ℕ) / 1024 := rfl
  have g0 : t.val * 1024 ≤ (y 0 : ℕ) := by omega
  have g1 : (y 0 : ℕ) < t.val * 1024 + 1024 := by omega
  match a with
  | ⟨0, _⟩ => exact ⟨le_of_eq_of_le e g0, lt_of_lt_of_eq g1 (congrArg (· + 1024) e).symm⟩
  | ⟨1, _⟩ => exact ⟨le_of_eq_of_le (Nat.zero_mul 1024) (Nat.zero_le _), lt_of_lt_of_eq h1 (Nat.zero_add 1024).symm⟩

/-- So the array ends holding the function. -/
theorem final : (dats m 0 c).arrAt 9 cfg0.N = arr m c :=
  (dats m 0 c).arrAt_eq_of_cover 9 (arr m c) (fun t _ => flushed m c t) cover

end Cert.DenseIdeal.Rows

end
-- ==== Proof.Dense.Claims.lean ====
/-
  The dense feed-forward's claims: the three frames, and over the extended reals the idealized program and the reference end
  with the same result.
-/
module

public import proofs.«01_k».proof.Defs
public import proofs.«01_k».proof.Proof.Dense.Ref
public import proofs.«01_k».proof.Proof.Dense.Value
public import proofs.«01_k».proof.Proof.Gen.Dense.Frame

@[expose] public section

set_option maxRecDepth 16384

noncomputable section

namespace Cert.DenseIdeal.Rows

open Idealize.ShloMosaic Idealize.ShloMosaic.TcCoe Idealize.SL.Sem
open Cert.DenseRefIdeal.Rows (refF ref_apply res_eq)

attribute [local instance] Cert.Dense.Gen.facts Cert.DenseIdeal.Gen.facts Cert.DenseRefIdeal.Gen.facts

/-- The kernel's frame, from any memory. -/
theorem frame_bits : Cert.quiescent_Dense := fun m g _ => Cert.Dense.Gen.frame m g

/-- The idealized program's frame. -/
theorem frame_ideal : Cert.quiescent_DenseIdeal := fun m g _ => Cert.DenseIdeal.Gen.frame m g

/-- The reference's result where the arguments agree. -/
theorem same (m : (ℓ : Loc nD τ sig) → Buf (Elt Ideal) ℓ)
    (m' : (ℓ : Loc Cert.DenseRefIdeal.nD Cert.DenseRefIdeal.τ Cert.DenseRefIdeal.sig) → Buf (Elt Ideal) ℓ) (c : Dev nD)
    (a0 : m' ((c.tc : Thread Cert.DenseRefIdeal.nD Cert.DenseRefIdeal.τ).loc Cert.DenseRefIdeal.main_arg0) = m ((c.tc : Thread nD τ).loc main_arg0))
    (a1 : m' ((c.tc : Thread Cert.DenseRefIdeal.nD Cert.DenseRefIdeal.τ).loc Cert.DenseRefIdeal.main_arg1) = m ((c.tc : Thread nD τ).loc main_arg1))
    (a2 : m' ((c.tc : Thread Cert.DenseRefIdeal.nD Cert.DenseRefIdeal.τ).loc Cert.DenseRefIdeal.main_arg2) = m ((c.tc : Thread nD τ).loc main_arg2))
    (a3 : m' ((c.tc : Thread Cert.DenseRefIdeal.nD Cert.DenseRefIdeal.τ).loc Cert.DenseRefIdeal.main_arg3) = m ((c.tc : Thread nD τ).loc main_arg3))
    (a4 : m' ((c.tc : Thread Cert.DenseRefIdeal.nD Cert.DenseRefIdeal.τ).loc Cert.DenseRefIdeal.main_arg4) = m ((c.tc : Thread nD τ).loc main_arg4))
    (a5 : m' ((c.tc : Thread Cert.DenseRefIdeal.nD Cert.DenseRefIdeal.τ).loc Cert.DenseRefIdeal.main_arg5) = m ((c.tc : Thread nD τ).loc main_arg5))
    (a6 : m' ((c.tc : Thread Cert.DenseRefIdeal.nD Cert.DenseRefIdeal.τ).loc Cert.DenseRefIdeal.main_arg6) = m ((c.tc : Thread nD τ).loc main_arg6))
    (a7 : m' ((c.tc : Thread Cert.DenseRefIdeal.nD Cert.DenseRefIdeal.τ).loc Cert.DenseRefIdeal.main_arg7) = m ((c.tc : Thread nD τ).loc main_arg7))
    (a8 : m' ((c.tc : Thread Cert.DenseRefIdeal.nD Cert.DenseRefIdeal.τ).loc Cert.DenseRefIdeal.main_arg8) = m ((c.tc : Thread nD τ).loc main_arg8)) :
    Cert.DenseRefIdeal.Value.res_main_v46 (F := Ideal) m' c = arr m c := by
  refine funext fun (y : S16384x1024.Idx) => ?_
  obtain ⟨t, i, rfl⟩ : ∃ (t : Fin 16384) (i : Fin 1024), y = ValueIdx.ix2 t i := ⟨y 0, y 1, ValueIdx.eq_ix2 y⟩
  rw [res_eq, a0, a1, a2, a3, a4, a5, a6, a7, a8]
  exact ref_apply _ _ _ _ _ _ _ _ _ t i

/-- The reference's frame. -/
theorem frame_reference : Cert.quiescent_DenseRefIdeal := fun m g _ =>
  (θ_run _ _ _).mono (fun r e => ⟨fun c => (e c).2, sem_eq_zero_of_no_sems (by decide) r.2⟩) (Cert.DenseRefIdeal.Value.run m g)

/-- The value claim. -/
theorem algebraic : Cert.algebraic_DenseIdeal_DenseRefIdeal := by
  intro m g m' g' _ agree
  refine ⟨arr m, (θ_run _ _ _).mono (fun _ e c => ⟨(e c).1.trans (final m c), (e c).2⟩) (Value.run_blocks m g), ?_⟩
  refine (θ_run _ _ _).mono (fun _ e c => ?_) (Cert.DenseRefIdeal.Value.run m' g')
  obtain ⟨a0, a1, a2, a3, a4, a5, a6, a7, a8⟩ := agree c
  exact ⟨(e c).1.trans (same m m' c a0 a1 a2 a3 a4 a5 a6 a7 a8), (e c).2⟩

end Cert.DenseIdeal.Rows

end
-- ==== Proof.Sample.Value.lean ====
/-
  The finishing call's idealized program at the sample's shape, over the extended reals: its one store is the epilogue and the
  last normalisation of the rows, so the output's array is that function of the arguments.
-/
module

public import proofs.«01_k».proof.Proof.Finish.Value
public import proofs.«01_k».proof.Proof.Gen.FinishSampleIdeal.Value
public import Idealize.ShloMosaic.Lib.Pipeline.ValueKit

@[expose] public section

set_option maxRecDepth 16384

noncomputable section

namespace Cert.FinishSampleIdeal.Rows

open Idealize.ShloMosaic Idealize.ShloMosaic.TcCoe Idealize.SL.Sem
open Idealize.ShloMosaic.Pipeline (Dat Cfg Window)
open Cert.FinishSampleIdeal Cert.FinishSampleIdeal.Gen Cert.Rows
open Cert.FinishIdeal.Rows (finR)

/-- The block of 32 rows, finished. -/
def chunk (x : Vec Ideal S32x1024 .f32) (p : Vec Ideal S1x32x256 .f32) (g : Vec Ideal S1x1024 .f32) (G : Vec Ideal S1024x1024 .bf16)
    (P : Vec Ideal S256x1024 .bf16) (l : Vec Ideal S1x1024 .f32) : Vec Ideal S32x1024 .f32 :=
  rmsK (T := 32) reduces_S32x1024_S32 shapeCasts_S32_S32x1 broadcasts_S32x1_S32x1024 broadcasts_S1x1024_S32x1024
    (pleK (T := 32) reduces_S32x1024_S32 shapeCasts_S32_S32x1 broadcasts_S32x1_S32x1024 broadcasts_S1x1024_S32x1024
      shapeCasts_S1x32x256_S32x256 dot_S32x1024_S1024x1024_S32x1024_1_0_0_1_n_n_wf dot_S32x256_S256x1024_S32x1024_1_0_0_1_n_n_wf
      bitsLt_bf16_f32 x p g G P) l

theorem chunk_apply (x : Vec Ideal S32x1024 .f32) (p : Vec Ideal S1x32x256 .f32) (g : Vec Ideal S1x1024 .f32) (G : Vec Ideal S1024x1024 .bf16)
    (P : Vec Ideal S256x1024 .bf16) (l : Vec Ideal S1x1024 .f32) (r : Fin 32) (c : Fin 1024) :
    chunk x p g G P l (ValueIdx.ix2 r c) = finR (fun j => x (ValueIdx.ix2 r j)) (fun k => p (ValueIdx.ix3 0 r k)) (fun j => g (ValueIdx.ix2 0 j))
      (fun j c => G (ValueIdx.ix2 j c)) (fun k c => P (ValueIdx.ix2 k c)) (fun j => l (ValueIdx.ix2 0 j)) c := by
  refine (rmsK_apply (T := 32) (by decide) _ _ _ _ _ l r c).trans (congrArg (fun f => rmsR f (fun j => l (ValueIdx.ix2 0 j)) c) (funext fun j => ?_))
  exact pleK_apply (T := 32) (by decide) _ _ _ _ _ _ _ _ x p g G P r j

/-- The store is the chunk. -/
theorem store_0 (x : Vec Ideal S32x1024 .f32) (p : Vec Ideal S1x32x256 .f32) (g : Vec Ideal S1x1024 .f32) (G : Vec Ideal S1024x1024 .bf16)
    (P : Vec Ideal S256x1024 .bf16) (l : Vec Ideal S1x1024 .f32) : k0_pay1 (F := Ideal) x p g G P l = chunk x p g G P l := rfl

theorem z2 : (![0, 0] : Fin 2 → ℕ) = fun _ => 0 := funext fun a => by
  match a with
  | 0 => rfl
  | 1 => rfl

theorem z3 : (![0, 0, 0] : Fin 3 → ℕ) = fun _ => 0 := funext fun a => by
  match a with
  | 0 => rfl
  | 1 => rfl
  | 2 => rfl

/-- The output's block is the chunk of the blocks. -/
theorem out_eq (x0 : Vec Ideal S32x1024 .f32) (x1 : Vec Ideal S1x32x256 .f32) (x2 : Vec Ideal S1x1024 .f32) (x3 : Vec Ideal S1024x1024 .bf16)
    (x4 : Vec Ideal S256x1024 .bf16) (x5 : Vec Ideal S1x1024 .f32) : out0_6 x0 x1 x2 x3 x4 x5 = chunk x0 x1 x2 x3 x4 x5 := by
  unfold out0_6
  refine (View.canon_cons_unit_zero (S := S32x1024) z2 inb_S32x1024_S32x1024_0_0 _ _).trans ?_
  rw [View.ld_unit_zero (S := S32x1024) z2, View.ld_unit_zero (S := S1x32x256) z3, View.ld_unit_zero (S := S1x1024) z2,
    View.ld_unit_zero (S := S1024x1024) z2, View.ld_unit_zero (S := S256x1024) z2, View.ld_unit_zero (S := S1x1024) z2]
  exact store_0 _ _ _ _ _ _

/-! ## The blocks -/

variable (m : (ℓ : Loc nD τ sig) → Buf (Elt Ideal) ℓ) (c : Dev nD) (t : Fin grid0.N)

theorem coord_val : ∀ t : Fin grid0.N, (grid0.coords t 0).val = t.val := by decide +kernel

theorem point_lt (t : Fin grid0.N) : t.val < 1 := lt_of_lt_of_eq t.isLt N_0

/-- Token `p` of tile `t`. -/
def tok (t : Fin grid0.N) (p : Fin 32) : Fin 32 := ⟨t.val * 32 + p.val, by have := point_lt t; omega⟩

theorem coord_word (t : Fin grid0.N) : (BitVec.ofNat 32 (grid0.coords t 0).val).toNat = t.val := by
  have := point_lt t
  rw [coord_val, BitVec.toNat_ofNat]
  omega

/-- The tile's rows of the residual stream, -/
theorem read_0 (p : Fin 32) (i : Fin 1024) : iblk m c 0 t (ValueIdx.ix2 p i) = m ((c : Thread nD τ).loc main_arg0) (ValueIdx.ix2 (tok t p) i) := by
  refine congrArg (m ((c : Thread nD τ).loc main_arg0)) (funext fun a => Fin.ext ?_)
  refine ((cfg0.win 0).rect_emb_val t (ValueIdx.ix2 p i) a).trans ?_
  match a with
  | ⟨0, _⟩ => exact congrArg (fun k => k * 32 + p.val) (coord_word t)
  | ⟨1, _⟩ => exact Nat.zero_add _

/-- of the second layer's per-layer input, -/
theorem read_1 (p : Fin 32) (k : Fin 256) : iblk m c 1 t (ValueIdx.ix3 0 p k) = m ((c : Thread nD τ).loc main_arg1) (ValueIdx.ix3 1 (tok t p) k) := by
  refine congrArg (m ((c : Thread nD τ).loc main_arg1)) (funext fun a => Fin.ext ?_)
  refine ((cfg0.win 1).rect_emb_val t (ValueIdx.ix3 0 p k) a).trans ?_
  match a with
  | ⟨0, _⟩ => rfl
  | ⟨1, _⟩ => exact congrArg (fun k => k * 32 + p.val) (coord_word t)
  | ⟨2, _⟩ => exact Nat.zero_add _

/-- and the weights whole. -/
theorem read_2 : iblk m c 2 t = m ((c : Thread nD τ).loc main_arg2) := by
  refine funext fun y => congrArg (m ((c : Thread nD τ).loc main_arg2)) (funext fun b => Fin.ext ?_)
  refine ((cfg0.win 2).rect_emb_val t y b).trans ?_
  match b with
  | ⟨0, _⟩ => exact Nat.zero_add _
  | ⟨1, _⟩ => exact Nat.zero_add _
theorem read_3 : iblk m c 3 t = m ((c : Thread nD τ).loc main_arg3) := by
  refine funext fun y => congrArg (m ((c : Thread nD τ).loc main_arg3)) (funext fun b => Fin.ext ?_)
  refine ((cfg0.win 3).rect_emb_val t y b).trans ?_
  match b with
  | ⟨0, _⟩ => exact Nat.zero_add _
  | ⟨1, _⟩ => exact Nat.zero_add _
theorem read_4 : iblk m c 4 t = m ((c : Thread nD τ).loc main_arg4) := by
  refine funext fun y => congrArg (m ((c : Thread nD τ).loc main_arg4)) (funext fun b => Fin.ext ?_)
  refine ((cfg0.win 4).rect_emb_val t y b).trans ?_
  match b with
  | ⟨0, _⟩ => exact Nat.zero_add _
  | ⟨1, _⟩ => exact Nat.zero_add _
theorem read_5 : iblk m c 5 t = m ((c : Thread nD τ).loc main_arg5) := by
  refine funext fun y => congrArg (m ((c : Thread nD τ).loc main_arg5)) (funext fun b => Fin.ext ?_)
  refine ((cfg0.win 5).rect_emb_val t y b).trans ?_
  match b with
  | ⟨0, _⟩ => exact Nat.zero_add _
  | ⟨1, _⟩ => exact Nat.zero_add _

/-- The result at a token, of arguments. -/
def want (h : Vec Ideal S32x1024 .f32) (pm : Vec Ideal S2x32x256 .f32) (gp : Vec Ideal S1x1024 .f32) (wpg : Vec Ideal S1024x1024 .bf16)
    (wpp : Vec Ideal S256x1024 .bf16) (gf : Vec Ideal S1x1024 .f32) (t : Fin 32) (i : Fin 1024) : EReal :=
  finR (fun j => h (ValueIdx.ix2 t j)) (fun k => pm (ValueIdx.ix3 1 t k)) (fun j => gp (ValueIdx.ix2 0 j))
    (fun j c => wpg (ValueIdx.ix2 j c)) (fun k c => wpp (ValueIdx.ix2 k c)) (fun j => gf (ValueIdx.ix2 0 j)) i

/-- The result's array. -/
def arr : Buf (Elt Ideal) ((c : Thread nD τ).loc main_v0) := fun y =>
  want (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (y 0) (y 1)

/-- A block whose rows are a tile's gives the tile's results. -/
theorem block_want (h : Vec Ideal S32x1024 .f32) (pm : Vec Ideal S2x32x256 .f32) (gp : Vec Ideal S1x1024 .f32) (wpg : Vec Ideal S1024x1024 .bf16)
    (wpp : Vec Ideal S256x1024 .bf16) (gf : Vec Ideal S1x1024 .f32) (x0 : Vec Ideal S32x1024 .f32) (x1 : Vec Ideal S1x32x256 .f32)
    (h0 : ∀ p i, x0 (ValueIdx.ix2 p i) = h (ValueIdx.ix2 (tok t p) i)) (h1 : ∀ p k, x1 (ValueIdx.ix3 0 p k) = pm (ValueIdx.ix3 1 (tok t p) k)) (p : Fin 32) (i : Fin 1024) :
    chunk x0 x1 gp wpg wpp gf (ValueIdx.ix2 p i) = want h pm gp wpg wpp gf (tok t p) i := by
  rw [chunk_apply]
  unfold want
  simp only [h0, h1]

/-- What a point writes back. -/
theorem flushed (t : Fin cfg0.N) : (dats m 0 c).flushed 6 t = ((cfg0.win 6).blk t).view.read (Elt Ideal) (arr m c) := by
  rw [Value.flushed6, read_2, read_3, read_4, read_5]
  refine funext fun (y : S32x1024.Idx) => ?_
  obtain ⟨p, i, rfl⟩ : ∃ (p : Fin 32) (i : Fin 1024), y = ValueIdx.ix2 p i := ⟨y 0, y 1, ValueIdx.eq_ix2 y⟩
  refine (congrFun (out_eq _ _ _ _ _ _) (ValueIdx.ix2 p i)).trans ((block_want t _ _ _ _ _ _ _ _ (read_0 m c t) (read_1 m c t) p i).trans ?_)
  show _ = want _ _ _ _ _ _ (((cfg0.win 6).blk t).view.emb (ValueIdx.ix2 p i) (0 : Fin 2)) (((cfg0.win 6).blk t).view.emb (ValueIdx.ix2 p i) (1 : Fin 2))
  refine congrArg₂ (want _ _ _ _ _ _) (Fin.ext ?_) (Fin.ext ?_)
  · exact (((cfg0.win 6).rect_emb_val t (ValueIdx.ix2 p i) (0 : Fin 2)).trans (congrArg (fun k => k * 32 + p.val) (coord_word t))).symm
  · exact (((cfg0.win 6).rect_emb_val t (ValueIdx.ix2 p i) (1 : Fin 2)).trans (Nat.zero_add _)).symm

/-- The blocks cover the array. -/
theorem cover (y : S32x1024.Idx) : ∃ t : Fin cfg0.N, (cfg0.win 6).flush t = true ∧ y ∈ ((cfg0.win 6).blk t).view.set := by
  have h0 : (y 0 : ℕ) < 32 := (y 0).isLt
  have h1 : (y 1 : ℕ) < 1024 := (y 1).isLt
  let t : Fin grid0.N := ⟨(y 0 : ℕ) / 32, by rw [N_0]; omega⟩
  refine ⟨t, flush0_6 t, ?_⟩
  show y ∈ ((View.whole main_v0).slice ((cfg0.win 6).rect t)).set
  erw [View.set_slice_whole]
  refine (Pipeline.Window.mem_rect_iff (cfg0.win 6) t y (by rfl)).mpr fun a => ?_
  have e : (cfg0.win 6).index t (0 : Fin 2) * (cfg0.win 6).size (0 : Fin 2) = t.val * 32 := congrArg (· * 32) (coord_word t)
  have ht : t.val = (y 0 : ℕ) / 32 := rfl
  have g0 : t.val * 32 ≤ (y 0 : ℕ) := by omega
  have g1 : (y 0 : ℕ) < t.val * 32 + 32 := by omega
  match a with
  | ⟨0, _⟩ => exact ⟨le_of_eq_of_le e g0, lt_of_lt_of_eq g1 (congrArg (· + 32) e).symm⟩
  | ⟨1, _⟩ => exact ⟨le_of_eq_of_le (Nat.zero_mul 1024) (Nat.zero_le _), lt_of_lt_of_eq h1 (Nat.zero_add 1024).symm⟩

/-- So the array ends holding the function. -/
theorem final : (dats m 0 c).arrAt 6 cfg0.N = arr m c :=
  (dats m 0 c).arrAt_eq_of_cover 6 (arr m c) (fun t _ => flushed m c t) cover

end Cert.FinishSampleIdeal.Rows

end
-- ==== Proof.Sample.Ref.lean ====
/-
  The finishing reference at the sample's shape, over the extended reals: its result is the same function of the arguments, index by index.
-/
module

public import proofs.«01_k».proof.Proof.Sample.Value
public import proofs.«01_k».proof.Proof.Gen.FinishSampleRefIdeal.Run

@[expose] public section

set_option maxRecDepth 16384

noncomputable section

namespace Cert.FinishSampleRefIdeal.Rows

open Idealize.ShloMosaic Idealize.ShloMosaic.TcCoe Idealize.SL.Sem
open Cert.FinishSampleRefIdeal Cert.FinishSampleRefIdeal.Gen Cert.Rows
open Cert.FinishSampleIdeal.Rows (want)

attribute [local instance] Cert.FinishSampleRefIdeal.Gen.facts

/-- The reference's epilogue of the arguments. -/
def refP (h : Vec Ideal S32x1024 .f32) (pm : Vec Ideal S2x32x256 .f32) (gp : Vec Ideal S1x1024 .f32) (wpg : Vec Ideal S1024x1024 .bf16)
    (wpp : Vec Ideal S256x1024 .bf16) : Vec Ideal S32x1024 .f32 :=
  pleH (T := 32) reducesTo_S32x1024_S32_d1 h_S_ bcast_S32_S32x1_0 bcast_S_S32x1 bcast_S32x1_S32x1024_0_1
    bcast_S1x1024_S32x1024_0_1 bcast_S_S32x1024 shapeCasts_S1x32x256_S32x256 dot_S32x1024_S1024x1024_S32x1024_1_0_0_1_n_n_wf
    dot_S32x256_S256x1024_S32x1024_1_0_0_1_n_n_wf bitsLt_bf16_f32 h
    (extractStridedSlice S1x32x256 ![1, 0, 0] pm slices_S2x32x256_S1x32x256_1_0_0) gp wpg wpp

/-- The reference's result of the arguments. -/
def refF (h : Vec Ideal S32x1024 .f32) (pm : Vec Ideal S2x32x256 .f32) (gp : Vec Ideal S1x1024 .f32) (wpg : Vec Ideal S1024x1024 .bf16)
    (wpp : Vec Ideal S256x1024 .bf16) (gf : Vec Ideal S1x1024 .f32) : Vec Ideal S32x1024 .f32 :=
  rmsH (T := 32) reducesTo_S32x1024_S32_d1 h_S_ bcast_S32_S32x1_0 bcast_S_S32x1 bcast_S32x1_S32x1024_0_1
    bcast_S1x1024_S32x1024_0_1 (refP h pm gp wpg wpp) gf

theorem reduces_rows : (S32x1024).Reduces [1] S32 := by decide

/-- The layer's slice at an index. -/
theorem layer_apply (pm : Vec Ideal S2x32x256 .f32) (t : Fin 32) (k : Fin 256) :
    extractStridedSlice S1x32x256 ![1, 0, 0] pm slices_S2x32x256_S1x32x256_1_0_0 (ValueIdx.ix3 0 t k) = pm (ValueIdx.ix3 1 t k) := by
  refine congrArg pm (funext fun a => Fin.ext ?_)
  match a with
  | ⟨0, _⟩ => rfl
  | ⟨1, _⟩ => exact Nat.zero_add _
  | ⟨2, _⟩ => exact Nat.zero_add _

/-- The reference's result at an index. -/
theorem ref_apply (h : Vec Ideal S32x1024 .f32) (pm : Vec Ideal S2x32x256 .f32) (gp : Vec Ideal S1x1024 .f32) (wpg : Vec Ideal S1024x1024 .bf16)
    (wpp : Vec Ideal S256x1024 .bf16) (gf : Vec Ideal S1x1024 .f32) (t : Fin 32) (i : Fin 1024) :
    refF h pm gp wpg wpp gf (ValueIdx.ix2 t i) = want h pm gp wpg wpp gf t i := by
  refine (rmsH_apply (T := 32) (by decide) _ reduces_rows _ _ _ _ _ _ gf t i).trans
    (congrArg (fun f => rmsR f (fun j => gf (ValueIdx.ix2 0 j)) i) (funext fun j => ?_))
  refine (pleH_apply (T := 32) (by decide) _ reduces_rows _ _ _ _ _ _ _ _ _ _ h _ gp wpg wpp t j).trans ?_
  exact congrArg (fun p => pleR (fun j => h (ValueIdx.ix2 t j)) p (fun j => gp (ValueIdx.ix2 0 j)) (fun j c => wpg (ValueIdx.ix2 j c))
    (fun k c => wpp (ValueIdx.ix2 k c)) j) (funext fun k => layer_apply pm t k)

/-- The run's named term is that function of the arguments. -/
theorem res_eq (m : (ℓ : Loc nD τ sig) → Buf (Elt Ideal) ℓ) (c : Dev nD) :
    Value.res_main_v37 (F := Ideal) m c = refF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

end Cert.FinishSampleRefIdeal.Rows

end
-- ==== Proof.Sample.Claims.lean ====
/-
  The finishing call's claims at the sample's shape: the three frames, and over the extended reals the idealized program and the reference end
  with the same result.
-/
module

public import proofs.«01_k».proof.Defs
public import proofs.«01_k».proof.Proof.Sample.Ref
public import proofs.«01_k».proof.Proof.Gen.FinishSample.Frame

@[expose] public section

set_option maxRecDepth 16384

noncomputable section

namespace Cert.FinishSampleIdeal.Rows

open Idealize.ShloMosaic Idealize.ShloMosaic.TcCoe Idealize.SL.Sem
open Cert.FinishSampleRefIdeal.Rows (refF ref_apply res_eq)

attribute [local instance] Cert.FinishSample.Gen.facts Cert.FinishSampleIdeal.Gen.facts Cert.FinishSampleRefIdeal.Gen.facts

/-- The kernel's frame, from any memory. -/
theorem frame_bits : Cert.quiescent_FinishSample := fun m g _ => Cert.FinishSample.Gen.frame m g

/-- The idealized program's frame. -/
theorem frame_ideal : Cert.quiescent_FinishSampleIdeal := fun m g _ => Cert.FinishSampleIdeal.Gen.frame m g

/-- The reference's result where the arguments agree. -/
theorem same (m : (ℓ : Loc nD τ sig) → Buf (Elt Ideal) ℓ)
    (m' : (ℓ : Loc Cert.FinishSampleRefIdeal.nD Cert.FinishSampleRefIdeal.τ Cert.FinishSampleRefIdeal.sig) → Buf (Elt Ideal) ℓ) (c : Dev nD)
    (a0 : m' ((c.tc : Thread Cert.FinishSampleRefIdeal.nD Cert.FinishSampleRefIdeal.τ).loc Cert.FinishSampleRefIdeal.main_arg0) = m ((c.tc : Thread nD τ).loc main_arg0))
    (a1 : m' ((c.tc : Thread Cert.FinishSampleRefIdeal.nD Cert.FinishSampleRefIdeal.τ).loc Cert.FinishSampleRefIdeal.main_arg1) = m ((c.tc : Thread nD τ).loc main_arg1))
    (a2 : m' ((c.tc : Thread Cert.FinishSampleRefIdeal.nD Cert.FinishSampleRefIdeal.τ).loc Cert.FinishSampleRefIdeal.main_arg2) = m ((c.tc : Thread nD τ).loc main_arg2))
    (a3 : m' ((c.tc : Thread Cert.FinishSampleRefIdeal.nD Cert.FinishSampleRefIdeal.τ).loc Cert.FinishSampleRefIdeal.main_arg3) = m ((c.tc : Thread nD τ).loc main_arg3))
    (a4 : m' ((c.tc : Thread Cert.FinishSampleRefIdeal.nD Cert.FinishSampleRefIdeal.τ).loc Cert.FinishSampleRefIdeal.main_arg4) = m ((c.tc : Thread nD τ).loc main_arg4))
    (a5 : m' ((c.tc : Thread Cert.FinishSampleRefIdeal.nD Cert.FinishSampleRefIdeal.τ).loc Cert.FinishSampleRefIdeal.main_arg5) = m ((c.tc : Thread nD τ).loc main_arg5)) :
    Cert.FinishSampleRefIdeal.Value.res_main_v37 (F := Ideal) m' c = arr m c := by
  refine funext fun (y : S32x1024.Idx) => ?_
  obtain ⟨t, i, rfl⟩ : ∃ (t : Fin 32) (i : Fin 1024), y = ValueIdx.ix2 t i := ⟨y 0, y 1, ValueIdx.eq_ix2 y⟩
  rw [res_eq, a0, a1, a2, a3, a4, a5]
  exact ref_apply _ _ _ _ _ _ t i

/-- The reference's frame. -/
theorem frame_reference : Cert.quiescent_FinishSampleRefIdeal := fun m g _ =>
  (θ_run _ _ _).mono (fun r e => ⟨fun c => (e c).2, sem_eq_zero_of_no_sems (by decide) r.2⟩) (Cert.FinishSampleRefIdeal.Value.run m g)

/-- The value claim. -/
theorem algebraic : Cert.algebraic_FinishSampleIdeal_FinishSampleRefIdeal := by
  intro m g m' g' _ agree
  refine ⟨arr m, (θ_run _ _ _).mono (fun _ e c => ⟨(e c).1.trans (final m c), (e c).2⟩) (Value.run_blocks m g), ?_⟩
  refine (θ_run _ _ _).mono (fun _ e c => ?_) (Cert.FinishSampleRefIdeal.Value.run m' g')
  obtain ⟨a0, a1, a2, a3, a4, a5⟩ := agree c
  exact ⟨(e c).1.trans (same m m' c a0 a1 a2 a3 a4 a5), (e c).2⟩

end Cert.FinishSampleIdeal.Rows

end
-- ==== Proof.Qkv.Rope.lean ====
/-
  The rotary embedding of a head over the extended reals: the kernel's spelling, by rotations of the lanes, and the reference's,
  by slices of the head, read at an index.
-/
module

public import proofs.«01_k».proof.Proof.Rows.Norm
public import Idealize.ShloMosaic.Lib.KernelVsHost

@[expose] public section

set_option maxRecDepth 16384

noncomputable section

namespace Cert.Rope

open Idealize.ShloMosaic Idealize.ShloMosaic.TcCoe
open Cert.KernelIdeal.Moe (mat)

/-- A head's row rotated: its first 32 lanes in pairs 16 apart, the others kept. -/
def rot (hd : Fin 128 → EReal) (co si : Fin 16 → EReal) (l : Fin 128) : EReal :=
  if h : l.val < 16 then hd l * co ⟨l.val, h⟩ - hd ⟨l.val + 16, by omega⟩ * si ⟨l.val, h⟩
  else if h' : l.val < 32 then hd l * co ⟨l.val - 16, by omega⟩ + hd ⟨l.val - 16, by omega⟩ * si ⟨l.val - 16, by omega⟩
  else hd l

/-! ## The kernel's spelling -/

/-- A table of the lanes: two of the angles and a constant. -/
def table (h : Shape.Concatenates [mat 1 16, mat 1 16, mat 1 96] (mat 1 128) 1) (a b : FVec Ideal (mat 1 16) .f32) (r : FVec Ideal (mat 1 96) .f32) :
    FVec Ideal (mat 1 128) .f32 := concatenate (mat 1 128) 1 [⟨mat 1 16, a⟩, ⟨mat 1 16, b⟩, ⟨mat 1 96, r⟩] h

variable (h : Shape.Concatenates [mat 1 16, mat 1 16, mat 1 96] (mat 1 128) 1) (a b : FVec Ideal (mat 1 16) .f32) (r : FVec Ideal (mat 1 96) .f32)

theorem table_first (l : Fin 128) (hl : l.val < 16) : table h a b r (ValueIdx.ix2 0 l) = a (ValueIdx.ix2 0 ⟨l.val, hl⟩) := by
  refine concatenate_apply_piece (t := mat 1 128) 1 [⟨mat 1 16, a⟩, ⟨mat 1 16, b⟩, ⟨mat 1 96, r⟩] h (ValueIdx.ix2 0 l) 0 (by simp) (mat 1 16) a rfl rfl 0 rfl (ValueIdx.ix2 0 ⟨l.val, hl⟩) (fun d hd => ?_) (Nat.zero_add _)
  match d with
  | 0 => rfl
  | 1 => exact absurd rfl hd

theorem table_second (l : Fin 128) (hl : ¬ l.val < 16) (hl' : l.val < 32) :
    table h a b r (ValueIdx.ix2 0 l) = b (ValueIdx.ix2 0 ⟨l.val - 16, by omega⟩) := by
  refine concatenate_apply_piece (t := mat 1 128) 1 [⟨mat 1 16, a⟩, ⟨mat 1 16, b⟩, ⟨mat 1 96, r⟩] h (ValueIdx.ix2 0 l) 1 (by simp) (mat 1 16) b rfl rfl 16 rfl (ValueIdx.ix2 0 ⟨l.val - 16, by omega⟩) (fun d hd => ?_) ?_
  · match d with
    | 0 => rfl
    | 1 => exact absurd rfl hd
  · show 16 + (l.val - 16) = l.val
    omega

theorem table_rest (l : Fin 128) (hl' : ¬ l.val < 32) :
    table h a b r (ValueIdx.ix2 0 l) = r (ValueIdx.ix2 0 ⟨l.val - 32, by omega⟩) := by
  refine concatenate_apply_piece (t := mat 1 128) 1 [⟨mat 1 16, a⟩, ⟨mat 1 16, b⟩, ⟨mat 1 96, r⟩] h (ValueIdx.ix2 0 l) 2 (by simp) (mat 1 96) r rfl rfl 32 rfl (ValueIdx.ix2 0 ⟨l.val - 32, by omega⟩) (fun d hd => ?_) ?_
  · match d with
    | 0 => rfl
    | 1 => exact absurd rfl hd
  · show 32 + (l.val - 32) = l.val
    omega

/-- A head rotated by the tables. -/
def headK (hb : (mat 1 128).Broadcasts (mat 32 128)) (hi : (mat 32 128).Iotas .tc 32 [1]) (hr : (mat 32 128).Rotates 1 none)
    (y : FVec Ideal (mat 32 128) .f32) (C S : FVec Ideal (mat 1 128) .f32) : FVec Ideal (mat 32 128) .f32 :=
  addf (mulf y (broadcastTo (mat 32 128) C hb))
    (mulf (select (cmpi .slt (iota .tc (mat 32 128) 32 [1] hi) (broadcast (mat 32 128) 16#32)) (dynamicRotate 1 112#32 none y hr)
      (dynamicRotate 1 16#32 none y hr)) (broadcastTo (mat 32 128) S hb))

theorem row_apply (hb : (mat 1 128).Broadcasts (mat 32 128)) (C : FVec Ideal (mat 1 128) .f32) (t : Fin 32) (l : Fin 128) :
    broadcastTo (mat 32 128) C hb (ValueIdx.ix2 t l) = C (ValueIdx.ix2 0 l) := by
  refine broadcastTo_apply C hb (ValueIdx.ix2 t l) (ValueIdx.ix2 0 l) fun d => ?_
  match d with
  | 0 => rfl
  | 1 => rfl

/-- Which lanes are among the first 16. -/
theorem lane_bit : ∀ l : Fin 128, IntOp.cmpi .slt (BitVec.ofNat 32 l.val) 16#32 = if l.val < 16 then 1#1 else 0#1 := by decide

theorem bit_apply (hi : (mat 32 128).Iotas .tc 32 [1]) (t : Fin 32) (l : Fin 128) :
    cmpi .slt (iota .tc (mat 32 128) 32 [1] hi) (broadcast (mat 32 128) 16#32) (ValueIdx.ix2 t l) = if l.val < 16 then 1#1 else 0#1 :=
  (congrArg (IntOp.cmpi .slt · 16#32) (iota_single_apply .tc (mat 32 128) 32 1 hi (ValueIdx.ix2 t l))).trans (lane_bit l)

variable (hb : (mat 1 128).Broadcasts (mat 32 128)) (hi : (mat 32 128).Iotas .tc 32 [1]) (hr : (mat 32 128).Rotates 1 none)
  (y : FVec Ideal (mat 32 128) .f32)

theorem up_apply (t : Fin 32) (l : Fin 128) (hl : l.val < 16) :
    dynamicRotate 1 112#32 none y hr (ValueIdx.ix2 t l) = y (ValueIdx.ix2 t ⟨l.val + 16, by omega⟩) := by
  refine dynamicRotate_apply 1 112#32 y hr (ValueIdx.ix2 t l) (ValueIdx.ix2 t ⟨l.val + 16, by omega⟩) fun d => ?_
  match d with
  | 0 => rfl
  | 1 =>
    show l.val + 16 = (l.val + 128 - 112 % 128) % 128
    omega

theorem down_apply (t : Fin 32) (l : Fin 128) (hl : ¬ l.val < 16) :
    dynamicRotate 1 16#32 none y hr (ValueIdx.ix2 t l) = y (ValueIdx.ix2 t ⟨l.val - 16, by omega⟩) := by
  refine dynamicRotate_apply 1 16#32 y hr (ValueIdx.ix2 t l) (ValueIdx.ix2 t ⟨l.val - 16, by omega⟩) fun d => ?_
  match d with
  | 0 => rfl
  | 1 =>
    show l.val - 16 = (l.val + 128 - 16 % 128) % 128
    omega

/-- The partner of a lane. -/
theorem partner_apply (t : Fin 32) (l : Fin 128) :
    select (cmpi .slt (iota .tc (mat 32 128) 32 [1] hi) (broadcast (mat 32 128) 16#32)) (dynamicRotate 1 112#32 none y hr)
      (dynamicRotate 1 16#32 none y hr) (ValueIdx.ix2 t l)
      = if h : l.val < 16 then y (ValueIdx.ix2 t ⟨l.val + 16, by omega⟩) else y (ValueIdx.ix2 t ⟨l.val - 16, by omega⟩) := by
  rw [ValueIdx.select_apply, bit_apply]
  unfold Scalar.select
  by_cases hl : l.val < 16
  · rw [if_pos hl, dif_pos hl, if_pos (by decide), up_apply hr y t l hl]
  · rw [if_neg hl, dif_neg hl, if_neg (by decide), down_apply hr y t l hl]

/-- The kernel's head at an index. -/
theorem headK_apply (co si ns : FVec Ideal (mat 1 16) .f32) (one zero : FVec Ideal (mat 1 96) .f32) (hns : ∀ i, ns i = - si i)
    (h1 : ∀ i, one i = 1) (h0 : ∀ i, zero i = 0) (t : Fin 32) (l : Fin 128) :
    headK hb hi hr y (table h co co one) (table h ns si zero) (ValueIdx.ix2 t l)
      = rot (fun l => y (ValueIdx.ix2 t l)) (fun i => co (ValueIdx.ix2 0 i)) (fun i => si (ValueIdx.ix2 0 i)) l := by
  have e : headK hb hi hr y (table h co co one) (table h ns si zero) (ValueIdx.ix2 t l)
      = y (ValueIdx.ix2 t l) * table h co co one (ValueIdx.ix2 0 l)
        + (if h : l.val < 16 then y (ValueIdx.ix2 t ⟨l.val + 16, by omega⟩) else y (ValueIdx.ix2 t ⟨l.val - 16, by omega⟩)) * table h ns si zero (ValueIdx.ix2 0 l) :=
    congrArg₂ (· + ·) (congrArg (y (ValueIdx.ix2 t l) * ·) (row_apply hb _ t l)) (congrArg₂ (· * ·) (partner_apply hi hr y t l) (row_apply hb _ t l))
  rw [e]
  unfold rot
  by_cases hl : l.val < 16
  · rw [dif_pos hl, dif_pos hl, table_first h _ _ _ l hl, table_first h _ _ _ l hl, hns, mul_neg, sub_eq_add_neg]
  · rw [dif_neg hl, dif_neg hl]
    by_cases hl' : l.val < 32
    · rw [dif_pos hl', table_second h _ _ _ l hl hl', table_second h _ _ _ l hl hl']
    · rw [dif_neg hl', table_rest h _ _ _ l hl', table_rest h _ _ _ l hl', h1, h0, mul_one, mul_zero, add_zero]

/-! ## The reference's spelling -/

/-- The heads of a row, side by side. -/
abbrev cube (n k : ℕ) : Shape := ⟨3, ![32, n, k]⟩

variable {n : ℕ}

/-- The angles of every head. -/
def spread (g1 : (mat 1 16).BroadcastsInDim ⟨3, ![1, 1, 16]⟩ ![0, 2]) (g2 : (⟨3, ![1, 1, 16]⟩ : Shape).BroadcastsInDim (cube n 16) ![0, 1, 2])
    (x : FVec Ideal (mat 1 16) .f32) : FVec Ideal (cube n 16) .f32 :=
  broadcastInDim (cube n 16) ![0, 1, 2] g2 (broadcastInDim ⟨3, ![1, 1, 16]⟩ ![0, 2] g1 x)

theorem spread_apply (g1 : (mat 1 16).BroadcastsInDim ⟨3, ![1, 1, 16]⟩ ![0, 2]) (g2 : (⟨3, ![1, 1, 16]⟩ : Shape).BroadcastsInDim (cube n 16) ![0, 1, 2])
    (x : FVec Ideal (mat 1 16) .f32) (t : Fin 32) (k : Fin n) (i : Fin 16) : spread g1 g2 x (ValueIdx.ix3 t k i) = x (ValueIdx.ix2 0 i) := by
  refine (broadcastInDim_apply ![0, 1, 2] g2 _ (ValueIdx.ix3 t k i) (ValueIdx.ix3 0 0 i) fun d => ?_).trans
    (broadcastInDim_apply ![0, 2] g1 x (ValueIdx.ix3 0 0 i) (ValueIdx.ix2 0 i) fun d => ?_)
  · match d with
    | 0 => rfl
    | 1 => rfl
    | 2 => rfl
  · match d with
    | 0 => rfl
    | 1 => rfl

/-- The lanes of a head put together. -/
def joined (hc : Shape.Concatenates [cube n 16, cube n 16, cube n 96] (cube n 128) 2) (p q : FVec Ideal (cube n 16) .f32) (r : FVec Ideal (cube n 96) .f32) :
    FVec Ideal (cube n 128) .f32 := concatenate (cube n 128) 2 [⟨cube n 16, p⟩, ⟨cube n 16, q⟩, ⟨cube n 96, r⟩] hc

section Joined
variable (hc : Shape.Concatenates [cube n 16, cube n 16, cube n 96] (cube n 128) 2) (p q : FVec Ideal (cube n 16) .f32) (r : FVec Ideal (cube n 96) .f32)
  (t : Fin 32) (j : Fin n) (l : Fin 128)

theorem joined_piece (k : ℕ) (hk : k < 3) {w : ℕ} (x : FVec Ideal (cube n w) .f32) (pre : ℕ)
    (hx : ([⟨cube n 16, p⟩, ⟨cube n 16, q⟩, ⟨cube n 96, r⟩] : List ((s : Shape) × (s.Idx → Ideal .f32)))[k] = ⟨cube n w, x⟩)
    (hp : (((([⟨cube n 16, p⟩, ⟨cube n 16, q⟩, ⟨cube n 96, r⟩] : List ((s : Shape) × (s.Idx → Ideal .f32))).take k).map (·.1)).map
      fun s => if h : s.rank = (cube n 128).rank then s.size ((2 : Fin 3).cast h.symm) else 0).sum = pre) (i : Fin w) (hi : pre + i.val = l.val) :
    joined hc p q r (ValueIdx.ix3 t j l) = x (ValueIdx.ix3 t j i) := by
  refine concatenate_apply_piece (t := cube n 128) 2 [⟨cube n 16, p⟩, ⟨cube n 16, q⟩, ⟨cube n 96, r⟩] hc (ValueIdx.ix3 t j l) k hk (cube n w) x hx rfl pre hp
    (ValueIdx.ix3 t j i) (fun d hd => ?_) hi
  match d with
  | 0 => rfl
  | 1 => rfl
  | 2 => exact absurd rfl hd

end Joined

/-- The heads rotated. -/
def headsH (g1 : (mat 1 16).BroadcastsInDim ⟨3, ![1, 1, 16]⟩ ![0, 2]) (g2 : (⟨3, ![1, 1, 16]⟩ : Shape).BroadcastsInDim (cube n 16) ![0, 1, 2])
    (s0 : (cube n 128).Slices ![0, 0, 0] (cube n 16)) (s1 : (cube n 128).Slices ![0, 0, 16] (cube n 16)) (s2 : (cube n 128).Slices ![0, 0, 32] (cube n 96))
    (hc : Shape.Concatenates [cube n 16, cube n 16, cube n 96] (cube n 128) 2) (z : FVec Ideal (cube n 128) .f32) (co si : FVec Ideal (mat 1 16) .f32) :
    FVec Ideal (cube n 128) .f32 :=
  joined hc
    (subf (mulf (extractStridedSlice (cube n 16) ![0, 0, 0] z s0) (spread g1 g2 co)) (mulf (extractStridedSlice (cube n 16) ![0, 0, 16] z s1) (spread g1 g2 si)))
    (addf (mulf (extractStridedSlice (cube n 16) ![0, 0, 16] z s1) (spread g1 g2 co)) (mulf (extractStridedSlice (cube n 16) ![0, 0, 0] z s0) (spread g1 g2 si)))
    (extractStridedSlice (cube n 96) ![0, 0, 32] z s2)

theorem cut_apply {k : ℕ} (o : ℕ) (s : (cube n 128).Slices ![0, 0, o] (cube n k)) (z : FVec Ideal (cube n 128) .f32) (t : Fin 32) (j : Fin n) (i : Fin k)
    (l : Fin 128) (hl : l.val = o + i.val) : extractStridedSlice (cube n k) ![0, 0, o] z s (ValueIdx.ix3 t j i) = z (ValueIdx.ix3 t j l) := by
  refine extractStridedSlice_apply ![0, 0, o] z s (ValueIdx.ix3 t j i) (ValueIdx.ix3 t j l) fun d => ?_
  match d with
  | 0 => exact (Nat.zero_add _).symm
  | 1 => exact (Nat.zero_add _).symm
  | 2 => exact hl

theorem headsH_apply (g1 : (mat 1 16).BroadcastsInDim ⟨3, ![1, 1, 16]⟩ ![0, 2]) (g2 : (⟨3, ![1, 1, 16]⟩ : Shape).BroadcastsInDim (cube n 16) ![0, 1, 2])
    (s0 : (cube n 128).Slices ![0, 0, 0] (cube n 16)) (s1 : (cube n 128).Slices ![0, 0, 16] (cube n 16)) (s2 : (cube n 128).Slices ![0, 0, 32] (cube n 96))
    (hc : Shape.Concatenates [cube n 16, cube n 16, cube n 96] (cube n 128) 2) (z : FVec Ideal (cube n 128) .f32) (co si : FVec Ideal (mat 1 16) .f32)
    (t : Fin 32) (j : Fin n) (l : Fin 128) :
    headsH g1 g2 s0 s1 s2 hc z co si (ValueIdx.ix3 t j l)
      = rot (fun l => z (ValueIdx.ix3 t j l)) (fun i => co (ValueIdx.ix2 0 i)) (fun i => si (ValueIdx.ix2 0 i)) l := by
  unfold rot headsH
  by_cases hl : l.val < 16
  · rw [dif_pos hl]
    refine (joined_piece hc _ _ _ t j l 0 (by omega) _ 0 rfl rfl ⟨l.val, hl⟩ (Nat.zero_add _)).trans ?_
    exact congrArg₂ (· - ·)
      (congrArg₂ (· * ·) (cut_apply 0 s0 z t j ⟨l.val, hl⟩ l (Nat.zero_add _).symm) (spread_apply g1 g2 co t j _))
      (congrArg₂ (· * ·) (cut_apply 16 s1 z t j ⟨l.val, hl⟩ ⟨l.val + 16, by omega⟩ (Nat.add_comm _ _)) (spread_apply g1 g2 si t j _))
  · rw [dif_neg hl]
    by_cases hl' : l.val < 32
    · rw [dif_pos hl']
      refine (joined_piece hc _ _ _ t j l 1 (by omega) _ 16 rfl rfl ⟨l.val - 16, by omega⟩ (by show 16 + (l.val - 16) = l.val; omega)).trans ?_
      exact congrArg₂ (· + ·)
        (congrArg₂ (· * ·) (cut_apply 16 s1 z t j ⟨l.val - 16, by omega⟩ l (by show l.val = 16 + (l.val - 16); omega)) (spread_apply g1 g2 co t j _))
        (congrArg₂ (· * ·) (cut_apply 0 s0 z t j ⟨l.val - 16, by omega⟩ ⟨l.val - 16, by omega⟩ (Nat.zero_add _).symm) (spread_apply g1 g2 si t j _))
    · rw [dif_neg hl']
      refine (joined_piece hc _ _ _ t j l 2 (by omega) _ 32 rfl rfl ⟨l.val - 32, by omega⟩ (by show 32 + (l.val - 32) = l.val; omega)).trans ?_
      exact cut_apply 32 s2 z t j ⟨l.val - 32, by omega⟩ l (by show l.val = 32 + (l.val - 32); omega)

end Cert.Rope

end
-- ==== Proof.Qkv.Value.lean ====
/-
  The sample's projection call's idealized program over the extended reals: its three arrays are the rotated queries, the rotated
  keys and the values of the rows' projection.
-/
module

public import proofs.«01_k».proof.Proof.Qkv.Rope
public import proofs.«01_k».proof.Proof.Gen.QkvIdeal.Value
public import Idealize.ShloMosaic.Lib.Pipeline.ValueKit
public import Idealize.ShloMosaic.Lib.StableHlo.Run

@[expose] public section

set_option maxRecDepth 16384

noncomputable section

namespace Cert.QkvIdeal.Rows

open Idealize.ShloMosaic Idealize.ShloMosaic.TcCoe Idealize.SL.Sem Idealize.ShloMosaic.StableHlo
open Idealize.ShloMosaic.Pipeline (Dat Cfg Window)
open Cert.QkvIdeal Cert.QkvIdeal.Gen Cert.Rows Cert.Rope
open Cert.KernelIdeal.Moe (mat prod_apply)

/-- The projection of a normalised row. -/
def projR (row gain : Fin 1024 → EReal) (W : Fin 1024 → Fin 1536 → EReal) (c : Fin 1536) : EReal := ∑ j, rmsR row gain j * W j c

/-- The angle of a pair of lanes at the sample's position. -/
def ang : FVec Ideal S1x16 .f32 :=
  mulf (broadcastInDim S1x16 ![0, 1] bcast_S1x1_S1x16_0_1 (broadcastInDim S1x1 ![0] bcast_S1_S1x1_0
      (sitofp .f32 (broadcastInDim S1 ![] bcast_S_S1 (constantI S_ 32 8192#32)))))
    (broadcastInDim S1x16 ![1] bcast_S16_S1x16_1 (Host.powf (broadcastInDim S16 ![] bcast_S_S16 (constant (F := Ideal) S_ .f32 0x48F42400#32))
      (Host.divf (Host.negf (sitofp .f32 (iotaInDim S16 32 0))) (broadcastInDim S16 ![] bcast_S_S16 (constant S_ .f32 0x41800000#32)))))

/-- Its cosine and sine. -/
def co (i : Fin 16) : EReal := (Host.cos ang : FVec Ideal S1x16 .f32) (ValueIdx.ix2 0 i)
def si (i : Fin 16) : EReal := (Host.sin ang : FVec Ideal S1x16 .f32) (ValueIdx.ix2 0 i)

/-- The kernel's tables. -/
def cosT : Vec Ideal S1x128 .f32 :=
  table concatenates_S1x16_S1x16_S1x96_S1x128_d1 (Host.cos ang) (Host.cos ang) (broadcastInDim S1x96 ![] bcast_S_S1x96 (constant (F := Ideal) S_ .f32 0x3F800000#32))
def sinT : Vec Ideal S1x128 .f32 :=
  table concatenates_S1x16_S1x16_S1x96_S1x128_d1 (Host.negf (Host.sin ang)) (Host.sin ang) (broadcastInDim S1x96 ![] bcast_S_S1x96 (constant (F := Ideal) S_ .f32 0x00000000#32))

/-- The kernel's projection. -/
theorem proj_apply (x : Vec Ideal S32x1024 .f32) (g : Vec Ideal S1x1024 .f32) (W : Vec Ideal S1024x1536 .bf16) (t : Fin 32) (c : Fin 1536) :
    k0_pay3 x g W (ValueIdx.ix2 t c) = projR (fun j => x (ValueIdx.ix2 t j)) (fun j => g (ValueIdx.ix2 0 j)) (fun j c => W (ValueIdx.ix2 j c)) c := by
  refine (prod_apply dot_S32x1024_S1024x1536_S32x1536_1_0_0_1_n_n_wf _ W t c).trans (Finset.sum_congr rfl fun j _ => congrArg (· * W (ValueIdx.ix2 j c)) ?_)
  exact rmsK_apply (T := 32) (by decide) reduces_S32x1024_S32 shapeCasts_S32_S32x1 broadcasts_S32x1_S32x1024 broadcasts_S1x1024_S32x1024 x g t j

/-- A head's lanes lie in the projection. -/
theorem slices_head (o : ℕ) (ho : o + 128 ≤ 1536) : S32x1536.Slices ![0, o] S32x128 :=
  ⟨rfl, fun a => match a with
    | 0 => by show 0 + 32 ≤ 32; omega
    | 1 => ho⟩

/-- A head of the projection, rotated. -/
def head (X : Vec Ideal S32x1536 .f32) (C S : Vec Ideal S1x128 .f32) (o : ℕ) (ho : o + 128 ≤ 1536) : FVec Ideal S32x128 .f32 :=
  headK broadcasts_S1x128_S32x128 iota_S32x128_d1_w32 rotates_S32x128_d1 (extractStridedSlice S32x128 ![0, o] X (slices_head o ho)) C S

theorem neg_apply (x : FVec Ideal S1x16 .f32) (i : S1x16.Idx) : (Host.negf x : FVec Ideal S1x16 .f32) i = - x i := rfl

theorem one_apply (i : S1x96.Idx) : broadcastInDim S1x96 ![] bcast_S_S1x96 (constant (F := Ideal) S_ .f32 0x3F800000#32) i = (1 : EReal) :=
  Ideal.ofBits_one_f32

theorem zero_apply (i : S1x96.Idx) : broadcastInDim S1x96 ![] bcast_S_S1x96 (constant (F := Ideal) S_ .f32 0x00000000#32) i = (0 : EReal) :=
  Ideal.ofBits_zero_f32

theorem head_apply (X : Vec Ideal S32x1536 .f32) (o : ℕ) (ho : o + 128 ≤ 1536) (t : Fin 32) (l : Fin 128) :
    head X cosT sinT o ho (ValueIdx.ix2 t l) = rot (fun l => X (ValueIdx.ix2 t ⟨o + l.val, by omega⟩)) co si l := by
  refine (headK_apply concatenates_S1x16_S1x16_S1x96_S1x128_d1 broadcasts_S1x128_S32x128 iota_S32x128_d1_w32 rotates_S32x128_d1
    (extractStridedSlice S32x128 ![0, o] X (slices_head o ho)) (Host.cos ang) (Host.sin ang) (Host.negf (Host.sin ang)) _ _
    (neg_apply _) one_apply zero_apply t l).trans ?_
  refine congrArg (fun f => rot f co si l) (funext fun l => ?_)
  refine extractStridedSlice_apply ![0, o] X (slices_head o ho) (ValueIdx.ix2 t l) (ValueIdx.ix2 t ⟨o + l.val, by omega⟩) fun d => ?_
  match d with
  | 0 => exact (Nat.zero_add _).symm
  | 1 => rfl

/-- The kernel's queries: eight heads, scaled. -/
def qArr (X : Vec Ideal S32x1536 .f32) (C S : Vec Ideal S1x128 .f32) : Vec Ideal S32x1024 .f32 :=
  concatenate S32x1024 1 (List.ofFn fun n : Fin 8 => (⟨S32x128, mulf (head X C S (n.val * 128) (by omega)) (broadcast S32x128 (Scalar.ofBits .f32 0x3DB504F3#32))⟩ : (s : Shape) × (s.Idx → Ideal .f32)))
    concatenates_S32x128_S32x128_S32x128_S32x128_S32x128_S32x128_S32x128_S32x128_S32x1024_d1

/-- The kernel's keys: two heads. -/
def kArr (X : Vec Ideal S32x1536 .f32) (C S : Vec Ideal S1x128 .f32) : Vec Ideal S32x256 .f32 :=
  concatenate S32x256 1 (List.ofFn fun n : Fin 2 => (⟨S32x128, head X C S (1024 + n.val * 128) (by omega)⟩ : (s : Shape) × (s.Idx → Ideal .f32)))
    concatenates_S32x128_S32x128_S32x256_d1

/-- A query, a key and a value of a row's projection. -/
def qR (p : Fin 1536 → EReal) (i : Fin 1024) : EReal :=
  rot (fun l => p ⟨i.val / 128 * 128 + l.val, by omega⟩) co si ⟨i.val % 128, Nat.mod_lt _ (by omega)⟩ * Ideal.ofBits .f32 0x3DB504F3#32
def kR (p : Fin 1536 → EReal) (i : Fin 256) : EReal :=
  rot (fun l => p ⟨1024 + i.val / 128 * 128 + l.val, by omega⟩) co si ⟨i.val % 128, Nat.mod_lt _ (by omega)⟩
def vR (p : Fin 1536 → EReal) (i : Fin 256) : EReal := p ⟨1280 + i.val, by omega⟩

theorem qArr_apply (X : Vec Ideal S32x1536 .f32) (t : Fin 32) (i : Fin 1024) :
    qArr X cosT sinT (ValueIdx.ix2 t i) = qR (fun c => X (ValueIdx.ix2 t c)) i := by
  refine (concatenate_ofFn_apply (t := S32x1024) (s₁ := S32x128) 1
    (fun n : Fin 8 => mulf (head X cosT sinT (n.val * 128) (by omega)) (broadcast S32x128 (Scalar.ofBits .f32 0x3DB504F3#32)))
    _ rfl 128 rfl (ValueIdx.ix2 t i) ⟨i.val / 128, by omega⟩ rfl (ValueIdx.ix2 t ⟨i.val % 128, Nat.mod_lt _ (by omega)⟩) rfl (fun d hd => ?_)).trans ?_
  · match d with
    | 0 => rfl
    | 1 => exact absurd rfl hd
  · exact congrArg (· * Ideal.ofBits .f32 0x3DB504F3#32) (head_apply X _ _ t _)

theorem kArr_apply (X : Vec Ideal S32x1536 .f32) (t : Fin 32) (i : Fin 256) :
    kArr X cosT sinT (ValueIdx.ix2 t i) = kR (fun c => X (ValueIdx.ix2 t c)) i := by
  refine (concatenate_ofFn_apply (t := S32x256) (s₁ := S32x128) 1
    (fun n : Fin 2 => head X cosT sinT (1024 + n.val * 128) (by omega))
    _ rfl 128 rfl (ValueIdx.ix2 t i) ⟨i.val / 128, by omega⟩ rfl (ValueIdx.ix2 t ⟨i.val % 128, Nat.mod_lt _ (by omega)⟩) rfl (fun d hd => ?_)).trans ?_
  · match d with
    | 0 => rfl
    | 1 => exact absurd rfl hd
  · exact head_apply X _ _ t _

/-! ## The body's stores -/

theorem z2 : (![0, 0] : Fin 2 → ℕ) = fun _ => 0 := funext fun a => by
  match a with
  | 0 => rfl
  | 1 => rfl

variable (x0 : Vec Ideal S32x1024 .f32) (x1 : Vec Ideal S1x1024 .f32) (x2 : Vec Ideal S1024x1536 .bf16) (x3 x4 : Vec Ideal S1x128 .f32)

theorem same_table (x : Vec Ideal S1x128 .f32) : shapeCast S1x128 x shapeCasts_S1x128_S1x128 = x := shapeCast_self _ _

theorem q_eq : out0_5 x0 x1 x2 x3 x4 = qArr (k0_pay3 x0 x1 x2) x3 x4 := by
  unfold out0_5 k0_pay18 k0_pay19 k0_pay20 k0_pay21
  refine (View.canon_cons_unit_zero (S := S32x1024) z2 inb_S32x1024_S32x1024_0_0 _ _).trans ?_
  rw [View.ld_unit_zero (S := S32x1024) z2, View.ld_unit_zero (S := S1x1024) z2, View.ld_unit_zero (S := S1024x1536) z2,
    View.ld_unit_zero (S := S1x128) z2, View.ld_unit_zero (S := S1x128) z2]
  have e : qArr (k0_pay3 x0 x1 x2) (k0_pay4 x3) (k0_pay5 x4) = qArr (k0_pay3 x0 x1 x2) x3 x4 :=
    congrArg₂ (qArr (k0_pay3 x0 x1 x2)) (same_table x3) (same_table x4)
  refine Eq.trans ?_ e
  unfold k0_pay6 k0_pay7 k0_pay9 k0_pay7
  generalize k0_pay3 x0 x1 x2 = X
  rfl

theorem k_eq : out0_6 x0 x1 x2 x3 x4 = kArr (k0_pay3 x0 x1 x2) x3 x4 := by
  unfold out0_6 k0_pay18 k0_pay19 k0_pay20 k0_pay21
  refine (View.canon_cons_unit_zero (S := S32x256) z2 inb_S32x256_S32x256_0_0 _ _).trans ?_
  rw [View.ld_unit_zero (S := S32x1024) z2, View.ld_unit_zero (S := S1x1024) z2, View.ld_unit_zero (S := S1024x1536) z2,
    View.ld_unit_zero (S := S1x128) z2, View.ld_unit_zero (S := S1x128) z2]
  have e : kArr (k0_pay3 x0 x1 x2) (k0_pay4 x3) (k0_pay5 x4) = kArr (k0_pay3 x0 x1 x2) x3 x4 :=
    congrArg₂ (kArr (k0_pay3 x0 x1 x2)) (same_table x3) (same_table x4)
  exact Eq.trans rfl e

theorem v_eq (t : Fin 32) (i : Fin 256) : out0_7 x0 x1 x2 x3 x4 (ValueIdx.ix2 t i) = vR (fun c => k0_pay3 x0 x1 x2 (ValueIdx.ix2 t c)) i := by
  unfold out0_7 k0_pay19
  refine (congrFun (View.canon_cons_unit_zero (S := S32x256) z2 inb_S32x256_S32x256_0_0 _ _) (ValueIdx.ix2 t i)).trans ?_
  rw [View.ld_unit_zero (S := S32x1024) z2, View.ld_unit_zero (S := S1x1024) z2, View.ld_unit_zero (S := S1024x1536) z2]
  refine extractStridedSlice_apply ![0, 1280] (k0_pay3 x0 x1 x2) slices_S32x1536_o0_1280_S32x256 (ValueIdx.ix2 t i) (ValueIdx.ix2 t ⟨1280 + i.val, by omega⟩) fun d => ?_
  match d with
  | 0 => exact (Nat.zero_add _).symm
  | 1 => rfl

/-! ## The blocks: every array whole -/

variable (m : (ℓ : Loc nD τ sig) → Buf (Elt Ideal) ℓ) (c : Dev nD) (t : Fin grid0.N)

theorem V_cos : V m c main_v15 = cosT := by
  show StableHlo.after hostOps0 _ _ = _
  unfold hostOps0
  after_results_simp <;> (try dsimp only [Matrix.cons_val]) <;> (try after_results_simp) <;> rfl

theorem V_sin : V m c main_v18 = sinT := by
  show StableHlo.after hostOps0 _ _ = _
  unfold hostOps0
  after_results_simp <;> (try dsimp only [Matrix.cons_val]) <;> (try after_results_simp) <;> rfl

theorem read_0 : iblk m c 0 t = m ((c : Thread nD τ).loc main_arg0) := by
  refine Eq.trans (funext fun y => congrArg (V m c main_arg0) (funext fun b => Fin.ext ?_)) (V_main_arg0 m c)
  refine ((cfg0.win 0).rect_emb_val t y b).trans ?_
  match b with
  | ⟨0, _⟩ => exact Nat.zero_add _
  | ⟨1, _⟩ => exact Nat.zero_add _
theorem read_1 : iblk m c 1 t = m ((c : Thread nD τ).loc main_arg1) := by
  refine Eq.trans (funext fun y => congrArg (V m c main_arg1) (funext fun b => Fin.ext ?_)) (V_main_arg1 m c)
  refine ((cfg0.win 1).rect_emb_val t y b).trans ?_
  match b with
  | ⟨0, _⟩ => exact Nat.zero_add _
  | ⟨1, _⟩ => exact Nat.zero_add _
theorem read_2 : iblk m c 2 t = m ((c : Thread nD τ).loc main_arg2) := by
  refine Eq.trans (funext fun y => congrArg (V m c main_arg2) (funext fun b => Fin.ext ?_)) (V_main_arg2 m c)
  refine ((cfg0.win 2).rect_emb_val t y b).trans ?_
  match b with
  | ⟨0, _⟩ => exact Nat.zero_add _
  | ⟨1, _⟩ => exact Nat.zero_add _
theorem read_3 : iblk m c 3 t = cosT := by
  refine Eq.trans (funext fun y => congrArg (V m c main_v15) (funext fun b => Fin.ext ?_)) (V_cos m c)
  refine ((cfg0.win 3).rect_emb_val t y b).trans ?_
  match b with
  | ⟨0, _⟩ => exact Nat.zero_add _
  | ⟨1, _⟩ => exact Nat.zero_add _
theorem read_4 : iblk m c 4 t = sinT := by
  refine Eq.trans (funext fun y => congrArg (V m c main_v18) (funext fun b => Fin.ext ?_)) (V_sin m c)
  refine ((cfg0.win 4).rect_emb_val t y b).trans ?_
  match b with
  | ⟨0, _⟩ => exact Nat.zero_add _
  | ⟨1, _⟩ => exact Nat.zero_add _

/-- A row's projection, of arguments. -/
def want (x : Vec Ideal S32x1024 .f32) (g : Vec Ideal S1x1024 .f32) (W : Vec Ideal S1024x1536 .bf16) (t : Fin 32) : Fin 1536 → EReal :=
  projR (fun j => x (ValueIdx.ix2 t j)) (fun j => g (ValueIdx.ix2 0 j)) (fun j c => W (ValueIdx.ix2 j c))

theorem want_eq (x : Vec Ideal S32x1024 .f32) (g : Vec Ideal S1x1024 .f32) (W : Vec Ideal S1024x1536 .bf16) (t : Fin 32) :
    (fun c => k0_pay3 x g W (ValueIdx.ix2 t c)) = want x g W t := funext fun c => proj_apply x g W t c

/-- The results' arrays. -/
def arrQ : Buf (Elt Ideal) ((c : Thread nD τ).loc main_v19_0) := fun y =>
  qR (want (m ((c : Thread nD τ).loc main_arg0)) (m ((c : Thread nD τ).loc main_arg1)) (m ((c : Thread nD τ).loc main_arg2)) (y 0)) (y 1)
def arrK : Buf (Elt Ideal) ((c : Thread nD τ).loc main_v19_1) := fun y =>
  kR (want (m ((c : Thread nD τ).loc main_arg0)) (m ((c : Thread nD τ).loc main_arg1)) (m ((c : Thread nD τ).loc main_arg2)) (y 0)) (y 1)
def arrV : Buf (Elt Ideal) ((c : Thread nD τ).loc main_v19_2) := fun y =>
  vR (want (m ((c : Thread nD τ).loc main_arg0)) (m ((c : Thread nD τ).loc main_arg1)) (m ((c : Thread nD τ).loc main_arg2)) (y 0)) (y 1)

/-- What the point writes back. -/
theorem flushed_q (t : Fin cfg0.N) : (dats m 0 c).flushed 5 t = ((cfg0.win 5).blk t).view.read (Elt Ideal) (arrQ m c) := by
  rw [Value.flushed5, read_0, read_1, read_2, read_3, read_4]
  refine funext fun (y : S32x1024.Idx) => ?_
  obtain ⟨p, i, rfl⟩ : ∃ (p : Fin 32) (i : Fin 1024), y = ValueIdx.ix2 p i := ⟨y 0, y 1, ValueIdx.eq_ix2 y⟩
  refine (congrFun (q_eq _ _ _ _ _) (ValueIdx.ix2 p i)).trans ((qArr_apply _ p i).trans ?_)
  rw [want_eq]
  show _ = qR (want _ _ _ (((cfg0.win 5).blk t).view.emb (ValueIdx.ix2 p i) (0 : Fin 2))) (((cfg0.win 5).blk t).view.emb (ValueIdx.ix2 p i) (1 : Fin 2))
  refine congrArg₂ (fun a b => qR (want _ _ _ a) b) (Fin.ext ?_) (Fin.ext ?_)
  · exact (((cfg0.win 5).rect_emb_val t (ValueIdx.ix2 p i) (0 : Fin 2)).trans (Nat.zero_add _)).symm
  · exact (((cfg0.win 5).rect_emb_val t (ValueIdx.ix2 p i) (1 : Fin 2)).trans (Nat.zero_add _)).symm

theorem flushed_k (t : Fin cfg0.N) : (dats m 0 c).flushed 6 t = ((cfg0.win 6).blk t).view.read (Elt Ideal) (arrK m c) := by
  rw [Value.flushed6, read_0, read_1, read_2, read_3, read_4]
  refine funext fun (y : S32x256.Idx) => ?_
  obtain ⟨p, i, rfl⟩ : ∃ (p : Fin 32) (i : Fin 256), y = ValueIdx.ix2 p i := ⟨y 0, y 1, ValueIdx.eq_ix2 y⟩
  refine (congrFun (k_eq _ _ _ _ _) (ValueIdx.ix2 p i)).trans ((kArr_apply _ p i).trans ?_)
  rw [want_eq]
  show _ = kR (want _ _ _ (((cfg0.win 6).blk t).view.emb (ValueIdx.ix2 p i) (0 : Fin 2))) (((cfg0.win 6).blk t).view.emb (ValueIdx.ix2 p i) (1 : Fin 2))
  refine congrArg₂ (fun a b => kR (want _ _ _ a) b) (Fin.ext ?_) (Fin.ext ?_)
  · exact (((cfg0.win 6).rect_emb_val t (ValueIdx.ix2 p i) (0 : Fin 2)).trans (Nat.zero_add _)).symm
  · exact (((cfg0.win 6).rect_emb_val t (ValueIdx.ix2 p i) (1 : Fin 2)).trans (Nat.zero_add _)).symm

theorem flushed_v (t : Fin cfg0.N) : (dats m 0 c).flushed 7 t = ((cfg0.win 7).blk t).view.read (Elt Ideal) (arrV m c) := by
  rw [Value.flushed7, read_0, read_1, read_2, read_3, read_4]
  refine funext fun (y : S32x256.Idx) => ?_
  obtain ⟨p, i, rfl⟩ : ∃ (p : Fin 32) (i : Fin 256), y = ValueIdx.ix2 p i := ⟨y 0, y 1, ValueIdx.eq_ix2 y⟩
  refine (v_eq _ _ _ _ _ p i).trans ?_
  rw [want_eq]
  show _ = vR (want _ _ _ (((cfg0.win 7).blk t).view.emb (ValueIdx.ix2 p i) (0 : Fin 2))) (((cfg0.win 7).blk t).view.emb (ValueIdx.ix2 p i) (1 : Fin 2))
  refine congrArg₂ (fun a b => vR (want _ _ _ a) b) (Fin.ext ?_) (Fin.ext ?_)
  · exact (((cfg0.win 7).rect_emb_val t (ValueIdx.ix2 p i) (0 : Fin 2)).trans (Nat.zero_add _)).symm
  · exact (((cfg0.win 7).rect_emb_val t (ValueIdx.ix2 p i) (1 : Fin 2)).trans (Nat.zero_add _)).symm

/-- The one point. -/
def pt : Fin cfg0.N := ⟨0, by decide⟩

/-- Its blocks cover the arrays. -/
theorem cover_q (y : S32x1024.Idx) : ∃ t : Fin cfg0.N, (cfg0.win 5).flush t = true ∧ y ∈ ((cfg0.win 5).blk t).view.set := by
  refine ⟨pt, flush0_5 pt, ?_⟩
  show y ∈ ((View.whole main_v19_0).slice ((cfg0.win 5).rect pt)).set
  erw [View.set_slice_whole]
  refine (Pipeline.Window.mem_rect_iff (cfg0.win 5) pt y (by rfl)).mpr fun a => ?_
  match a with
  | ⟨0, _⟩ => exact ⟨le_of_eq_of_le (Nat.zero_mul 32) (Nat.zero_le _), lt_of_lt_of_eq (y 0).isLt (Nat.zero_add 32).symm⟩
  | ⟨1, _⟩ => exact ⟨le_of_eq_of_le (Nat.zero_mul 1024) (Nat.zero_le _), lt_of_lt_of_eq (y 1).isLt (Nat.zero_add 1024).symm⟩

theorem cover_k (y : S32x256.Idx) : ∃ t : Fin cfg0.N, (cfg0.win 6).flush t = true ∧ y ∈ ((cfg0.win 6).blk t).view.set := by
  refine ⟨pt, flush0_6 pt, ?_⟩
  show y ∈ ((View.whole main_v19_1).slice ((cfg0.win 6).rect pt)).set
  erw [View.set_slice_whole]
  refine (Pipeline.Window.mem_rect_iff (cfg0.win 6) pt y (by rfl)).mpr fun a => ?_
  match a with
  | ⟨0, _⟩ => exact ⟨le_of_eq_of_le (Nat.zero_mul 32) (Nat.zero_le _), lt_of_lt_of_eq (y 0).isLt (Nat.zero_add 32).symm⟩
  | ⟨1, _⟩ => exact ⟨le_of_eq_of_le (Nat.zero_mul 256) (Nat.zero_le _), lt_of_lt_of_eq (y 1).isLt (Nat.zero_add 256).symm⟩

theorem cover_v (y : S32x256.Idx) : ∃ t : Fin cfg0.N, (cfg0.win 7).flush t = true ∧ y ∈ ((cfg0.win 7).blk t).view.set := by
  refine ⟨pt, flush0_7 pt, ?_⟩
  show y ∈ ((View.whole main_v19_2).slice ((cfg0.win 7).rect pt)).set
  erw [View.set_slice_whole]
  refine (Pipeline.Window.mem_rect_iff (cfg0.win 7) pt y (by rfl)).mpr fun a => ?_
  match a with
  | ⟨0, _⟩ => exact ⟨le_of_eq_of_le (Nat.zero_mul 32) (Nat.zero_le _), lt_of_lt_of_eq (y 0).isLt (Nat.zero_add 32).symm⟩
  | ⟨1, _⟩ => exact ⟨le_of_eq_of_le (Nat.zero_mul 256) (Nat.zero_le _), lt_of_lt_of_eq (y 1).isLt (Nat.zero_add 256).symm⟩

/-- So the arrays end holding the functions. -/
theorem final_q : (dats m 0 c).arrAt 5 cfg0.N = arrQ m c := (dats m 0 c).arrAt_eq_of_cover 5 (arrQ m c) (fun t _ => flushed_q m c t) cover_q
theorem final_k : (dats m 0 c).arrAt 6 cfg0.N = arrK m c := (dats m 0 c).arrAt_eq_of_cover 6 (arrK m c) (fun t _ => flushed_k m c t) cover_k
theorem final_v : (dats m 0 c).arrAt 7 cfg0.N = arrV m c := (dats m 0 c).arrAt_eq_of_cover 7 (arrV m c) (fun t _ => flushed_v m c t) cover_v

end Cert.QkvIdeal.Rows

end
-- ==== Proof.Qkv.Ref.lean ====
/-
  The projection's reference over the extended reals: its three results are the same functions of the arguments, index by index.
-/
module

public import proofs.«01_k».proof.Proof.Qkv.Value
public import proofs.«01_k».proof.Proof.Gen.QkvRefIdeal.Run

@[expose] public section

set_option maxRecDepth 16384

noncomputable section

namespace Cert.QkvRefIdeal.Rows

open Idealize.ShloMosaic Idealize.ShloMosaic.TcCoe Idealize.SL.Sem
open Cert.QkvRefIdeal Cert.QkvRefIdeal.Gen Cert.Rows Cert.Rope
open Cert.KernelIdeal.Moe (mat)
open Cert.ReferenceIdeal.Moe (dot_apply)
open Cert.QkvIdeal.Rows (want qR kR vR ang co si)

attribute [local instance] Cert.QkvRefIdeal.Gen.facts

/-- The reference's angles. -/
def angH : FVec Ideal S1x16 .f32 :=
  mulf (broadcastInDim S1x16 ![0, 1] bcast_S1x1_S1x16_0_1 (broadcastInDim S1x1 ![0] bcast_S1_S1x1_0
      (sitofp .f32 (addi (broadcastInDim S1 ![] bcast_S_S1 (constantI S_ 32 8192#32)) (iotaInDim S1 32 0)))))
    (broadcastInDim S1x16 ![1] bcast_S16_S1x16_1 (Host.powf (broadcastInDim S16 ![] bcast_S_S16 (constant (F := Ideal) S_ .f32 0x48F42400#32))
      (Host.divf (Host.negf (sitofp .f32 (iotaInDim S16 32 0))) (broadcastInDim S16 ![] bcast_S_S16 (constant S_ .f32 0x41800000#32)))))

/-- The one position is the sample's. -/
theorem position : addi (broadcastInDim S1 ![] bcast_S_S1 (constantI S_ 32 8192#32)) (iotaInDim S1 32 0) = broadcastInDim S1 ![] bcast_S_S1 (constantI S_ 32 8192#32) := by
  refine funext fun i => ?_
  have h : (i 0).val = 0 := Nat.lt_one_iff.mp (i 0).isLt
  show 8192#32 + BitVec.ofNat 32 (i 0).val = 8192#32
  rw [h]
  rfl

theorem angH_eq : angH = ang := by
  unfold angH
  rw [position]
  rfl

/-- The reference's projection. -/
def projH (x : FVec Ideal S32x1024 .f32) (g : FVec Ideal S1x1024 .f32) (W : FVec Ideal S1024x1536 .bf16) : FVec Ideal S32x1536 .f32 :=
  Host.dotGeneral (φ₁ := .f32) dot_S32x1024_S1024x1536_S32x1536_1_0_0_1_n_n none
    (rmsH (T := 32) reducesTo_S32x1024_S32_d1 h_S_ bcast_S32_S32x1_0 bcast_S_S32x1 bcast_S32x1_S32x1024_0_1 bcast_S1x1024_S32x1024_0_1 x g)
    (extf .f32 W bitsLt_bf16_f32)

theorem reduces_rows : (S32x1024).Reduces [1] S32 := by decide

theorem projH_apply (x : FVec Ideal S32x1024 .f32) (g : FVec Ideal S1x1024 .f32) (W : FVec Ideal S1024x1536 .bf16) (t : Fin 32) (c : Fin 1536) :
    projH x g W (ValueIdx.ix2 t c) = want x g W t c := by
  refine (dot_apply dot_S32x1024_S1024x1536_S32x1536_1_0_0_1_n_n_wf _ _ t c).trans (Finset.sum_congr rfl fun j _ => congrArg (· * W (ValueIdx.ix2 j c)) ?_)
  exact rmsH_apply (T := 32) (by decide) _ reduces_rows _ _ _ _ _ x g t j

/-- The queries of a projection. -/
def refQ (X : FVec Ideal S32x1536 .f32) : FVec Ideal S32x1024 .f32 :=
  shapeCast S32x1024 (mulf (headsH (n := 8) bcast_S1x16_S1x1x16_0_2 bcast_S1x1x16_S32x8x16_0_1_2 slices_S32x8x128_S32x8x16_0_0_0
    slices_S32x8x128_S32x8x16_0_0_16 slices_S32x8x128_S32x8x96_0_0_32 concatenates_S32x8x16_S32x8x16_S32x8x96_S32x8x128_d2
    (shapeCast S32x8x128 (extractStridedSlice S32x1024 ![0, 0] X slices_S32x1536_S32x1024_0_0) shapeCasts_S32x1024_S32x8x128) (Host.cos angH) (Host.sin angH))
    (broadcastInDim S32x8x128 ![] bcast_S_S32x8x128 (constant S_ .f32 0x3DB504F3#32))) shapeCasts_S32x8x128_S32x1024

/-- The keys of a projection. -/
def refK (X : FVec Ideal S32x1536 .f32) : FVec Ideal S32x256 .f32 :=
  shapeCast S32x256 (headsH (n := 2) bcast_S1x16_S1x1x16_0_2 bcast_S1x1x16_S32x2x16_0_1_2 slices_S32x2x128_S32x2x16_0_0_0
    slices_S32x2x128_S32x2x16_0_0_16 slices_S32x2x128_S32x2x96_0_0_32 concatenates_S32x2x16_S32x2x16_S32x2x96_S32x2x128_d2
    (shapeCast S32x2x128 (extractStridedSlice S32x256 ![0, 1024] X slices_S32x1536_S32x256_0_1024) shapeCasts_S32x256_S32x2x128) (Host.cos angH) (Host.sin angH))
    shapeCasts_S32x2x128_S32x256

theorem refQ_apply (X : FVec Ideal S32x1536 .f32) (t : Fin 32) (i : Fin 1024) : refQ X (ValueIdx.ix2 t i) = qR (fun c => X (ValueIdx.ix2 t c)) i := by
  refine (shapeCast_apply _ shapeCasts_S32x8x128_S32x1024 (ValueIdx.ix2 t i)
    (ValueIdx.ix3 t (⟨i.val / 128, by omega⟩ : Fin 8) (⟨i.val % 128, Nat.mod_lt _ (by omega)⟩ : Fin 128)) ?_).trans ?_
  · rw [rowMajor_val3 _ (8 * 128) 128 rfl rfl, rowMajor_val2 _ 1024 rfl]
    show t.val * (8 * 128) + i.val / 128 * 128 + i.val % 128 = t.val * 1024 + i.val
    omega
  · refine congrArg (· * Ideal.ofBits .f32 0x3DB504F3#32) ((headsH_apply _ _ _ _ _ _ _ _ _ t _ _).trans ?_)
    rw [angH_eq]
    refine congrArg (fun f => rot f co si _) (funext fun l => ?_)
    refine (shapeCast_apply _ shapeCasts_S32x1024_S32x8x128 (ValueIdx.ix3 t (⟨i.val / 128, by omega⟩ : Fin 8) l)
      (ValueIdx.ix2 t (⟨i.val / 128 * 128 + l.val, by omega⟩ : Fin 1024)) ?_).trans ?_
    · rw [rowMajor_val3 _ (8 * 128) 128 rfl rfl, rowMajor_val2 _ 1024 rfl]
      show t.val * 1024 + (i.val / 128 * 128 + l.val) = t.val * (8 * 128) + i.val / 128 * 128 + l.val
      omega
    · refine extractStridedSlice_apply ![0, 0] X slices_S32x1536_S32x1024_0_0 _ (ValueIdx.ix2 t ⟨i.val / 128 * 128 + l.val, by omega⟩) fun d => ?_
      match d with
      | 0 => exact (Nat.zero_add _).symm
      | 1 => exact (Nat.zero_add _).symm

theorem refK_apply (X : FVec Ideal S32x1536 .f32) (t : Fin 32) (i : Fin 256) : refK X (ValueIdx.ix2 t i) = kR (fun c => X (ValueIdx.ix2 t c)) i := by
  refine (shapeCast_apply _ shapeCasts_S32x2x128_S32x256 (ValueIdx.ix2 t i)
    (ValueIdx.ix3 t (⟨i.val / 128, by omega⟩ : Fin 2) (⟨i.val % 128, Nat.mod_lt _ (by omega)⟩ : Fin 128)) ?_).trans ?_
  · rw [rowMajor_val3 _ (2 * 128) 128 rfl rfl, rowMajor_val2 _ 256 rfl]
    show t.val * (2 * 128) + i.val / 128 * 128 + i.val % 128 = t.val * 256 + i.val
    omega
  · refine (headsH_apply _ _ _ _ _ _ _ _ _ t _ _).trans ?_
    rw [angH_eq]
    refine congrArg (fun f => rot f co si _) (funext fun l => ?_)
    refine (shapeCast_apply _ shapeCasts_S32x256_S32x2x128 (ValueIdx.ix3 t (⟨i.val / 128, by omega⟩ : Fin 2) l)
      (ValueIdx.ix2 t (⟨i.val / 128 * 128 + l.val, by omega⟩ : Fin 256)) ?_).trans ?_
    · rw [rowMajor_val3 _ (2 * 128) 128 rfl rfl, rowMajor_val2 _ 256 rfl]
      show t.val * 256 + (i.val / 128 * 128 + l.val) = t.val * (2 * 128) + i.val / 128 * 128 + l.val
      omega
    · refine extractStridedSlice_apply ![0, 1024] X slices_S32x1536_S32x256_0_1024 _ (ValueIdx.ix2 t ⟨1024 + i.val / 128 * 128 + l.val, by omega⟩) fun d => ?_
      match d with
      | 0 => exact (Nat.zero_add _).symm
      | 1 =>
        show 1024 + i.val / 128 * 128 + l.val = 1024 + (i.val / 128 * 128 + l.val)
        omega

theorem refV_apply (X : FVec Ideal S32x1536 .f32) (t : Fin 32) (i : Fin 256) :
    extractStridedSlice S32x256 ![0, 1280] X slices_S32x1536_S32x256_0_1280 (ValueIdx.ix2 t i) = vR (fun c => X (ValueIdx.ix2 t c)) i := by
  refine extractStridedSlice_apply ![0, 1280] X slices_S32x1536_S32x256_0_1280 (ValueIdx.ix2 t i) (ValueIdx.ix2 t ⟨1280 + i.val, by omega⟩) fun d => ?_
  match d with
  | 0 => exact (Nat.zero_add _).symm
  | 1 => rfl

variable (m : (ℓ : Loc nD τ sig) → Buf (Elt Ideal) ℓ) (c : Dev nD)

/-- The projection of the arguments. -/
def proj : FVec Ideal S32x1536 .f32 :=
  projH (m ((c.tc : Thread nD τ).loc main_arg0)) (m ((c.tc : Thread nD τ).loc main_arg1)) (m ((c.tc : Thread nD τ).loc main_arg2))

/-- The run's named terms are those functions of the arguments. -/
theorem res_q : Value.res_main_v84 (F := Ideal) m c = refQ (proj m c) := rfl
theorem res_k : Value.res_main_v85 (F := Ideal) m c = refK (proj m c) := rfl

end Cert.QkvRefIdeal.Rows

end
-- ==== Proof.Qkv.Claims.lean ====
/-
  The sample's projection call's claims: the three frames, and over the extended reals the idealized program and the reference end
  with the same queries, keys and values.
-/
module

public import proofs.«01_k».proof.Defs
public import proofs.«01_k».proof.Proof.Qkv.Ref
public import proofs.«01_k».proof.Proof.Gen.Qkv.Frame

@[expose] public section

set_option maxRecDepth 16384

noncomputable section

namespace Cert.QkvIdeal.Rows

open Idealize.ShloMosaic Idealize.ShloMosaic.TcCoe Idealize.SL.Sem
open Cert.QkvRefIdeal.Rows (refQ refK refQ_apply refK_apply refV_apply projH projH_apply proj res_q res_k)

attribute [local instance] Cert.Qkv.Gen.facts Cert.QkvIdeal.Gen.facts Cert.QkvRefIdeal.Gen.facts

/-- The kernel's frame, from any memory. -/
theorem frame_bits : Cert.quiescent_Qkv := fun m g _ => Cert.Qkv.Gen.frame m g

/-- The idealized program's frame. -/
theorem frame_ideal : Cert.quiescent_QkvIdeal := fun m g _ => Cert.QkvIdeal.Gen.frame m g

/-- The reference's frame. -/
theorem frame_reference : Cert.quiescent_QkvRefIdeal := fun m g _ =>
  (θ_run _ _ _).mono (fun r e => ⟨fun c => (e c).2.2.2, sem_eq_zero_of_no_sems (by decide) r.2⟩) (Cert.QkvRefIdeal.Value.run m g)

section Same
variable (m : (ℓ : Loc nD τ sig) → Buf (Elt Ideal) ℓ)
  (m' : (ℓ : Loc Cert.QkvRefIdeal.nD Cert.QkvRefIdeal.τ Cert.QkvRefIdeal.sig) → Buf (Elt Ideal) ℓ) (c : Dev nD)
  (a0 : m' ((c.tc : Thread Cert.QkvRefIdeal.nD Cert.QkvRefIdeal.τ).loc Cert.QkvRefIdeal.main_arg0) = m ((c.tc : Thread nD τ).loc main_arg0))
  (a1 : m' ((c.tc : Thread Cert.QkvRefIdeal.nD Cert.QkvRefIdeal.τ).loc Cert.QkvRefIdeal.main_arg1) = m ((c.tc : Thread nD τ).loc main_arg1))
  (a2 : m' ((c.tc : Thread Cert.QkvRefIdeal.nD Cert.QkvRefIdeal.τ).loc Cert.QkvRefIdeal.main_arg2) = m ((c.tc : Thread nD τ).loc main_arg2))

include a0 a1 a2

/-- The reference's projection where the arguments agree. -/
theorem same_proj (t : Fin 32) : (fun k => proj m' c (ValueIdx.ix2 t k))
    = want (m ((c.tc : Thread nD τ).loc main_arg0)) (m ((c.tc : Thread nD τ).loc main_arg1)) (m ((c.tc : Thread nD τ).loc main_arg2)) t := by
  unfold proj
  rw [a0, a1, a2]
  exact funext fun k => projH_apply _ _ _ t k

/-- The reference's results. -/
theorem same_q : Cert.QkvRefIdeal.Value.res_main_v84 (F := Ideal) m' c = arrQ m c := by
  refine funext fun (y : S32x1024.Idx) => ?_
  obtain ⟨t, i, rfl⟩ : ∃ (t : Fin 32) (i : Fin 1024), y = ValueIdx.ix2 t i := ⟨y 0, y 1, ValueIdx.eq_ix2 y⟩
  rw [res_q]
  exact (refQ_apply _ t i).trans (congrArg (qR · i) (same_proj m m' c a0 a1 a2 t))

theorem same_k : Cert.QkvRefIdeal.Value.res_main_v85 (F := Ideal) m' c = arrK m c := by
  refine funext fun (y : S32x256.Idx) => ?_
  obtain ⟨t, i, rfl⟩ : ∃ (t : Fin 32) (i : Fin 256), y = ValueIdx.ix2 t i := ⟨y 0, y 1, ValueIdx.eq_ix2 y⟩
  rw [res_k]
  exact (refK_apply _ t i).trans (congrArg (kR · i) (same_proj m m' c a0 a1 a2 t))

theorem same_v : extractStridedSlice Cert.QkvRefIdeal.S32x256 ![0, 1280] (proj m' c) Cert.QkvRefIdeal.Facts₀.slices_S32x1536_S32x256_0_1280 = arrV m c := by
  refine funext fun (y : S32x256.Idx) => ?_
  obtain ⟨t, i, rfl⟩ : ∃ (t : Fin 32) (i : Fin 256), y = ValueIdx.ix2 t i := ⟨y 0, y 1, ValueIdx.eq_ix2 y⟩
  exact (refV_apply _ t i).trans (congrArg (vR · i) (same_proj m m' c a0 a1 a2 t))

end Same

/-- The value claim. -/
theorem algebraic : Cert.algebraic_QkvIdeal_QkvRefIdeal := by
  intro m g m' g' _ agree
  refine ⟨arrQ m, arrK m, arrV m, (θ_run _ _ _).mono (fun _ e c => ?_) (Value.run_blocks m g), ?_⟩
  · exact ⟨(e c).1.trans (final_q m c), (e c).2.1.trans (final_k m c), (e c).2.2.1.trans (final_v m c), (e c).2.2.2⟩
  · refine (θ_run _ _ _).mono (fun _ e c => ?_) (Cert.QkvRefIdeal.Value.run m' g')
    obtain ⟨a0, a1, a2⟩ := agree c
    exact ⟨(e c).1.trans (same_q m m' c a0 a1 a2), (e c).2.1.trans (same_k m m' c a0 a1 a2), (e c).2.2.1.trans (same_v m m' c a0 a1 a2), (e c).2.2.2⟩

end Cert.QkvIdeal.Rows

end
-- ==== Proof.lean ====
module

public import proofs.«01_k».proof.Defs
public import proofs.«01_k».proof.Proof.Gen.Kernel
public import proofs.«01_k».proof.Proof.Gen.KernelIdeal
public import proofs.«01_k».proof.Proof.Gen.Kernel.Skeleton
public import proofs.«01_k».proof.Proof.Gen.Kernel.Launch
public import proofs.«01_k».proof.Proof.Gen.KernelIdeal.Skeleton
public import proofs.«01_k».proof.Proof.Gen.KernelIdeal.Launch
public import proofs.«01_k».proof.Proof.Gen.Pre_routed
public import proofs.«01_k».proof.Proof.Gen.Finish
public import proofs.«01_k».proof.Proof.Gen.FinishIdeal
public import proofs.«01_k».proof.Proof.Gen.FinishRefIdeal
public import proofs.«01_k».proof.Proof.Gen.Dense
public import proofs.«01_k».proof.Proof.Gen.DenseIdeal
public import proofs.«01_k».proof.Proof.Gen.DenseRefIdeal
public import proofs.«01_k».proof.Proof.Gen.FinishSample
public import proofs.«01_k».proof.Proof.Gen.FinishSampleIdeal
public import proofs.«01_k».proof.Proof.Gen.FinishSampleRefIdeal
public import proofs.«01_k».proof.Proof.Gen.Qkv
public import proofs.«01_k».proof.Proof.Gen.QkvIdeal
public import proofs.«01_k».proof.Proof.Gen.QkvRefIdeal
public import proofs.«01_k».proof.Proof.Gen.ReferenceIdeal
public import proofs.«01_k».proof.Proof.Moe.Frames
public import proofs.«01_k».proof.Proof.Moe.Algebra
public import proofs.«01_k».proof.Proof.Finish.Claims
public import proofs.«01_k».proof.Proof.Dense.Claims
public import proofs.«01_k».proof.Proof.Sample.Claims
public import proofs.«01_k».proof.Proof.Qkv.Claims

@[expose] public section

open Cert.KernelIdeal.Moe in
/-- Every claim: the frames, that idealizing applied no rule, and the value. -/
theorem Cert.Proof.claim : Cert.Claim :=
  ⟨Cert.Kernel.Gen.facts, Cert.KernelIdeal.Gen.facts, Cert.ReferenceIdeal.Gen.facts,
    Cert.Finish.Gen.facts, Cert.FinishIdeal.Gen.facts, Cert.FinishRefIdeal.Gen.facts,
    Cert.Dense.Gen.facts, Cert.DenseIdeal.Gen.facts, Cert.DenseRefIdeal.Gen.facts,
    Cert.FinishSample.Gen.facts, Cert.FinishSampleIdeal.Gen.facts, Cert.FinishSampleRefIdeal.Gen.facts,
    Cert.Qkv.Gen.facts, Cert.QkvIdeal.Gen.facts, Cert.QkvRefIdeal.Gen.facts, Cert.Pre_routed.Gen.facts,
    frame_bits, frame_ideal, frame_reference, frame_reference_pre,
    Cert.FinishIdeal.Rows.frame_bits, Cert.FinishIdeal.Rows.frame_ideal, Cert.FinishIdeal.Rows.frame_reference,
    Cert.DenseIdeal.Rows.frame_bits, Cert.DenseIdeal.Rows.frame_ideal, Cert.DenseIdeal.Rows.frame_reference,
    Cert.FinishSampleIdeal.Rows.frame_bits, Cert.FinishSampleIdeal.Rows.frame_ideal, Cert.FinishSampleIdeal.Rows.frame_reference,
    Cert.QkvIdeal.Rows.frame_bits, Cert.QkvIdeal.Rows.frame_ideal, Cert.QkvIdeal.Rows.frame_reference,
    trivial, algebraic, trivial, Cert.FinishIdeal.Rows.algebraic, trivial, Cert.DenseIdeal.Rows.algebraic,
    trivial, Cert.FinishSampleIdeal.Rows.algebraic, trivial, Cert.QkvIdeal.Rows.algebraic⟩

end
